-- ==== Defs.lean ====
def Pre_MixerA (m : (ℓ : Loc Cert.MixerA.nD Cert.MixerA.τ Cert.MixerA.sig) → Buf (Elt Bits) ℓ) : Prop :=
  True

def Pre_MixerAIdeal (m : (ℓ : Loc Cert.MixerAIdeal.nD Cert.MixerAIdeal.τ Cert.MixerAIdeal.sig) → Buf (Elt Ideal) ℓ) : Prop :=
  True

def Pre_MixerAIdeal_finite_scores [hPre_finite_scores : Cert.Pre_finite_scores.Facts] (m : (ℓ : Loc Cert.MixerAIdeal.nD Cert.MixerAIdeal.τ Cert.MixerAIdeal.sig) → Buf (Elt Ideal) ℓ) : Prop :=
  ∀ c : Dev Cert.MixerAIdeal.nD,
    (Cert.Pre_finite_scores.fn (F := Ideal) (m ((c.tc : Thread Cert.MixerAIdeal.nD Cert.MixerAIdeal.τ).loc Cert.MixerAIdeal.main_arg0)) (m ((c.tc : Thread Cert.MixerAIdeal.nD Cert.MixerAIdeal.τ).loc Cert.MixerAIdeal.main_arg1)) (m ((c.tc : Thread Cert.MixerAIdeal.nD Cert.MixerAIdeal.τ).loc Cert.MixerAIdeal.main_arg2)) (m ((c.tc : Thread Cert.MixerAIdeal.nD Cert.MixerAIdeal.τ).loc Cert.MixerAIdeal.main_arg3)) (m ((c.tc : Thread Cert.MixerAIdeal.nD Cert.MixerAIdeal.τ).loc Cert.MixerAIdeal.main_arg4))).1 = (fun _ => 1#1)
    ∧ (Cert.Pre_finite_scores.fn (F := Ideal) (m ((c.tc : Thread Cert.MixerAIdeal.nD Cert.MixerAIdeal.τ).loc Cert.MixerAIdeal.main_arg0)) (m ((c.tc : Thread Cert.MixerAIdeal.nD Cert.MixerAIdeal.τ).loc Cert.MixerAIdeal.main_arg1)) (m ((c.tc : Thread Cert.MixerAIdeal.nD Cert.MixerAIdeal.τ).loc Cert.MixerAIdeal.main_arg2)) (m ((c.tc : Thread Cert.MixerAIdeal.nD Cert.MixerAIdeal.τ).loc Cert.MixerAIdeal.main_arg3)) (m ((c.tc : Thread Cert.MixerAIdeal.nD Cert.MixerAIdeal.τ).loc Cert.MixerAIdeal.main_arg4))).2.1 = (fun _ => 1#1)
    ∧ (Cert.Pre_finite_scores.fn (F := Ideal) (m ((c.tc : Thread Cert.MixerAIdeal.nD Cert.MixerAIdeal.τ).loc Cert.MixerAIdeal.main_arg0)) (m ((c.tc : Thread Cert.MixerAIdeal.nD Cert.MixerAIdeal.τ).loc Cert.MixerAIdeal.main_arg1)) (m ((c.tc : Thread Cert.MixerAIdeal.nD Cert.MixerAIdeal.τ).loc Cert.MixerAIdeal.main_arg2)) (m ((c.tc : Thread Cert.MixerAIdeal.nD Cert.MixerAIdeal.τ).loc Cert.MixerAIdeal.main_arg3)) (m ((c.tc : Thread Cert.MixerAIdeal.nD Cert.MixerAIdeal.τ).loc Cert.MixerAIdeal.main_arg4))).2.2 = (fun _ => 1#1)

def Pre_MixerARefIdeal (m : (ℓ : Loc Cert.MixerARefIdeal.nD Cert.MixerARefIdeal.τ Cert.MixerARefIdeal.sig) → Buf (Elt Ideal) ℓ) : Prop :=
  True

def Pre_MixerARefIdeal_finite_scores [hPre_finite_scores : Cert.Pre_finite_scores.Facts] (m : (ℓ : Loc Cert.MixerARefIdeal.nD Cert.MixerARefIdeal.τ Cert.MixerARefIdeal.sig) → Buf (Elt Ideal) ℓ) : Prop :=
  ∀ c : Dev Cert.MixerARefIdeal.nD,
    (Cert.Pre_finite_scores.fn (F := Ideal) (m ((c.tc : Thread Cert.MixerARefIdeal.nD Cert.MixerARefIdeal.τ).loc Cert.MixerARefIdeal.main_arg0)) (m ((c.tc : Thread Cert.MixerARefIdeal.nD Cert.MixerARefIdeal.τ).loc Cert.MixerARefIdeal.main_arg1)) (m ((c.tc : Thread Cert.MixerARefIdeal.nD Cert.MixerARefIdeal.τ).loc Cert.MixerARefIdeal.main_arg2)) (m ((c.tc : Thread Cert.MixerARefIdeal.nD Cert.MixerARefIdeal.τ).loc Cert.MixerARefIdeal.main_arg3)) (m ((c.tc : Thread Cert.MixerARefIdeal.nD Cert.MixerARefIdeal.τ).loc Cert.MixerARefIdeal.main_arg4))).1 = (fun _ => 1#1)
    ∧ (Cert.Pre_finite_scores.fn (F := Ideal) (m ((c.tc : Thread Cert.MixerARefIdeal.nD Cert.MixerARefIdeal.τ).loc Cert.MixerARefIdeal.main_arg0)) (m ((c.tc : Thread Cert.MixerARefIdeal.nD Cert.MixerARefIdeal.τ).loc Cert.MixerARefIdeal.main_arg1)) (m ((c.tc : Thread Cert.MixerARefIdeal.nD Cert.MixerARefIdeal.τ).loc Cert.MixerARefIdeal.main_arg2)) (m ((c.tc : Thread Cert.MixerARefIdeal.nD Cert.MixerARefIdeal.τ).loc Cert.MixerARefIdeal.main_arg3)) (m ((c.tc : Thread Cert.MixerARefIdeal.nD Cert.MixerARefIdeal.τ).loc Cert.MixerARefIdeal.main_arg4))).2.1 = (fun _ => 1#1)
    ∧ (Cert.Pre_finite_scores.fn (F := Ideal) (m ((c.tc : Thread Cert.MixerARefIdeal.nD Cert.MixerARefIdeal.τ).loc Cert.MixerARefIdeal.main_arg0)) (m ((c.tc : Thread Cert.MixerARefIdeal.nD Cert.MixerARefIdeal.τ).loc Cert.MixerARefIdeal.main_arg1)) (m ((c.tc : Thread Cert.MixerARefIdeal.nD Cert.MixerARefIdeal.τ).loc Cert.MixerARefIdeal.main_arg2)) (m ((c.tc : Thread Cert.MixerARefIdeal.nD Cert.MixerARefIdeal.τ).loc Cert.MixerARefIdeal.main_arg3)) (m ((c.tc : Thread Cert.MixerARefIdeal.nD Cert.MixerARefIdeal.τ).loc Cert.MixerARefIdeal.main_arg4))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def quiescent_MixerA [hMixerA : Cert.MixerA.Facts] : Prop :=
  ∀ (m : (ℓ : Loc Cert.MixerA.nD Cert.MixerA.τ Cert.MixerA.sig) → Buf (Elt Bits) ℓ) (g : Dev Cert.MixerA.nD → PrngReg), Pre_MixerA m →
    θ_run (Cert.MixerA.defs (F := Bits)) (onTc (τ := Cert.MixerA.τ) (Cert.MixerA.main (F := Bits))) ⟨m, fun _ => 0, g⟩ (fun r => (∀ c : Dev Cert.MixerA.nD,
      r.2.mem ((c.tc : Thread Cert.MixerA.nD Cert.MixerA.τ).loc Cert.MixerA.main_arg0) = m ((c.tc : Thread Cert.MixerA.nD Cert.MixerA.τ).loc Cert.MixerA.main_arg0)
      ∧ r.2.mem ((c.tc : Thread Cert.MixerA.nD Cert.MixerA.τ).loc Cert.MixerA.main_arg1) = m ((c.tc : Thread Cert.MixerA.nD Cert.MixerA.τ).loc Cert.MixerA.main_arg1)
      ∧ r.2.mem ((c.tc : Thread Cert.MixerA.nD Cert.MixerA.τ).loc Cert.MixerA.main_arg2) = m ((c.tc : Thread Cert.MixerA.nD Cert.MixerA.τ).loc Cert.MixerA.main_arg2)
      ∧ r.2.mem ((c.tc : Thread Cert.MixerA.nD Cert.MixerA.τ).loc Cert.MixerA.main_arg3) = m ((c.tc : Thread Cert.MixerA.nD Cert.MixerA.τ).loc Cert.MixerA.main_arg3)
      ∧ r.2.mem ((c.tc : Thread Cert.MixerA.nD Cert.MixerA.τ).loc Cert.MixerA.main_arg4) = m ((c.tc : Thread Cert.MixerA.nD Cert.MixerA.τ).loc Cert.MixerA.main_arg4))
      ∧ r.2.sem = fun _ => 0)

def quiescent_MixerAIdeal [hMixerAIdeal : Cert.MixerAIdeal.Facts] : Prop :=
  ∀ (m : (ℓ : Loc Cert.MixerAIdeal.nD Cert.MixerAIdeal.τ Cert.MixerAIdeal.sig) → Buf (Elt Ideal) ℓ) (g : Dev Cert.MixerAIdeal.nD → PrngReg), Pre_MixerAIdeal m →
    θ_run (Cert.MixerAIdeal.defs (F := Ideal)) (onTc (τ := Cert.MixerAIdeal.τ) (Cert.MixerAIdeal.main (F := Ideal))) ⟨m, fun _ => 0, g⟩ (fun r => (∀ c : Dev Cert.MixerAIdeal.nD,
      r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
      ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
      ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
      ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3)
      ∧ r.2.mem ((c.tc : Thread Cert.MixerAIdeal.nD Cert.MixerAIdeal.τ).loc Cert.MixerAIdeal.main_arg4) = m ((c.tc : Thread Cert.MixerAIdeal.nD Cert.MixerAIdeal.τ).loc Cert.MixerAIdeal.main_arg4))
      ∧ r.2.sem = fun _ => 0)

def quiescent_MixerAIdeal_pre_finite_scores [hMixerAIdeal : Cert.MixerAIdeal.Facts] [hPre_finite_scores : Cert.Pre_finite_scores.Facts] : Prop :=
  ∀ (m : (ℓ : Loc Cert.MixerAIdeal.nD Cert.MixerAIdeal.τ Cert.MixerAIdeal.sig) → Buf (Elt Ideal) ℓ) (g : Dev Cert.MixerAIdeal.nD → PrngReg), Pre_MixerAIdeal_finite_scores m →
    θ_run (Cert.MixerAIdeal.defs (F := Ideal)) (onTc (τ := Cert.MixerAIdeal.τ) (Cert.MixerAIdeal.main (F := Ideal))) ⟨m, fun _ => 0, g⟩ (fun r => (∀ c : Dev Cert.MixerAIdeal.nD,
      r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
      ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
      ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
      ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3)
      ∧ r.2.mem ((c.tc : Thread Cert.MixerAIdeal.nD Cert.MixerAIdeal.τ).loc Cert.MixerAIdeal.main_arg4) = m ((c.tc : Thread Cert.MixerAIdeal.nD Cert.MixerAIdeal.τ).loc Cert.MixerAIdeal.main_arg4))
      ∧ r.2.sem = fun _ => 0)

def quiescent_MixerARefIdeal [hMixerARefIdeal : Cert.MixerARefIdeal.Facts] : Prop :=
  ∀ (m : (ℓ : Loc Cert.MixerARefIdeal.nD Cert.MixerARefIdeal.τ Cert.MixerARefIdeal.sig) → Buf (Elt Ideal) ℓ) (g : Dev Cert.MixerARefIdeal.nD → PrngReg), Pre_MixerARefIdeal m →
    θ_run (Cert.MixerARefIdeal.defs (F := Ideal)) (onTc (τ := Cert.MixerARefIdeal.τ) (Cert.MixerARefIdeal.main (F := Ideal))) ⟨m, fun _ => 0, g⟩ (fun r => (∀ c : Dev Cert.MixerARefIdeal.nD,
      r.2.mem ((c.tc : Thread Cert.MixerARefIdeal.nD Cert.MixerARefIdeal.τ).loc Cert.MixerARefIdeal.main_arg0) = m ((c.tc : Thread Cert.MixerARefIdeal.nD Cert.MixerARefIdeal.τ).loc Cert.MixerARefIdeal.main_arg0)
      ∧ r.2.mem ((c.tc : Thread Cert.MixerARefIdeal.nD Cert.MixerARefIdeal.τ).loc Cert.MixerARefIdeal.main_arg1) = m ((c.tc : Thread Cert.MixerARefIdeal.nD Cert.MixerARefIdeal.τ).loc Cert.MixerARefIdeal.main_arg1)
      ∧ r.2.mem ((c.tc : Thread Cert.MixerARefIdeal.nD Cert.MixerARefIdeal.τ).loc Cert.MixerARefIdeal.main_arg2) = m ((c.tc : Thread Cert.MixerARefIdeal.nD Cert.MixerARefIdeal.τ).loc Cert.MixerARefIdeal.main_arg2)
      ∧ r.2.mem ((c.tc : Thread Cert.MixerARefIdeal.nD Cert.MixerARefIdeal.τ).loc Cert.MixerARefIdeal.main_arg3) = m ((c.tc : Thread Cert.MixerARefIdeal.nD Cert.MixerARefIdeal.τ).loc Cert.MixerARefIdeal.main_arg3)
      ∧ r.2.mem ((c.tc : Thread Cert.MixerARefIdeal.nD Cert.MixerARefIdeal.τ).loc Cert.MixerARefIdeal.main_arg4) = m ((c.tc : Thread Cert.MixerARefIdeal.nD Cert.MixerARefIdeal.τ).loc Cert.MixerARefIdeal.main_arg4))
      ∧ r.2.sem = fun _ => 0)

def quiescent_MixerARefIdeal_pre_finite_scores [hMixerARefIdeal : Cert.MixerARefIdeal.Facts] [hPre_finite_scores : Cert.Pre_finite_scores.Facts] : Prop :=
  ∀ (m : (ℓ : Loc Cert.MixerARefIdeal.nD Cert.MixerARefIdeal.τ Cert.MixerARefIdeal.sig) → Buf (Elt Ideal) ℓ) (g : Dev Cert.MixerARefIdeal.nD → PrngReg), Pre_MixerARefIdeal_finite_scores m →
    θ_run (Cert.MixerARefIdeal.defs (F := Ideal)) (onTc (τ := Cert.MixerARefIdeal.τ) (Cert.MixerARefIdeal.main (F := Ideal))) ⟨m, fun _ => 0, g⟩ (fun r => (∀ c : Dev Cert.MixerARefIdeal.nD,
      r.2.mem ((c.tc : Thread Cert.MixerARefIdeal.nD Cert.MixerARefIdeal.τ).loc Cert.MixerARefIdeal.main_arg0) = m ((c.tc : Thread Cert.MixerARefIdeal.nD Cert.MixerARefIdeal.τ).loc Cert.MixerARefIdeal.main_arg0)
      ∧ r.2.mem ((c.tc : Thread Cert.MixerARefIdeal.nD Cert.MixerARefIdeal.τ).loc Cert.MixerARefIdeal.main_arg1) = m ((c.tc : Thread Cert.MixerARefIdeal.nD Cert.MixerARefIdeal.τ).loc Cert.MixerARefIdeal.main_arg1)
      ∧ r.2.mem ((c.tc : Thread Cert.MixerARefIdeal.nD Cert.MixerARefIdeal.τ).loc Cert.MixerARefIdeal.main_arg2) = m ((c.tc : Thread Cert.MixerARefIdeal.nD Cert.MixerARefIdeal.τ).loc Cert.MixerARefIdeal.main_arg2)
      ∧ r.2.mem ((c.tc : Thread Cert.MixerARefIdeal.nD Cert.MixerARefIdeal.τ).loc Cert.MixerARefIdeal.main_arg3) = m ((c.tc : Thread Cert.MixerARefIdeal.nD Cert.MixerARefIdeal.τ).loc Cert.MixerARefIdeal.main_arg3)
      ∧ r.2.mem ((c.tc : Thread Cert.MixerARefIdeal.nD Cert.MixerARefIdeal.τ).loc Cert.MixerARefIdeal.main_arg4) = m ((c.tc : Thread Cert.MixerARefIdeal.nD Cert.MixerARefIdeal.τ).loc Cert.MixerARefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6)
      ∧ r.2.mem ((c.tc : Thread Cert.Ffn1.nD Cert.Ffn1.τ).loc Cert.Ffn1.main_arg7) = m ((c.tc : Thread Cert.Ffn1.nD Cert.Ffn1.τ).loc Cert.Ffn1.main_arg7)
      ∧ r.2.mem ((c.tc : Thread Cert.Ffn1.nD Cert.Ffn1.τ).loc Cert.Ffn1.main_arg8) = m ((c.tc : Thread Cert.Ffn1.nD Cert.Ffn1.τ).loc Cert.Ffn1.main_arg8)
      ∧ r.2.mem ((c.tc : Thread Cert.Ffn1.nD Cert.Ffn1.τ).loc Cert.Ffn1.main_arg9) = m ((c.tc : Thread Cert.Ffn1.nD Cert.Ffn1.τ).loc Cert.Ffn1.main_arg9))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
      ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6)
      ∧ r.2.mem ((c.tc : Thread Cert.Ffn1RefIdeal.nD Cert.Ffn1RefIdeal.τ).loc Cert.Ffn1RefIdeal.main_arg7) = m ((c.tc : Thread Cert.Ffn1RefIdeal.nD Cert.Ffn1RefIdeal.τ).loc Cert.Ffn1RefIdeal.main_arg7)
      ∧ r.2.mem ((c.tc : Thread Cert.Ffn1RefIdeal.nD Cert.Ffn1RefIdeal.τ).loc Cert.Ffn1RefIdeal.main_arg8) = m ((c.tc : Thread Cert.Ffn1RefIdeal.nD Cert.Ffn1RefIdeal.τ).loc Cert.Ffn1RefIdeal.main_arg8)
      ∧ r.2.mem ((c.tc : Thread Cert.Ffn1RefIdeal.nD Cert.Ffn1RefIdeal.τ).loc Cert.Ffn1RefIdeal.main_arg9) = m ((c.tc : Thread Cert.Ffn1RefIdeal.nD Cert.Ffn1RefIdeal.τ).loc Cert.Ffn1RefIdeal.main_arg9))
      ∧ r.2.sem = fun _ => 0)

def preserves_MixerA_MixerAIdeal : Prop :=
  IdealRules.named_const.Statement Cert.MixerAIdeal.κ "q_scale" .f32 0x3E38AA3B#32 ((8⁻¹ * (Real.log 2)⁻¹ : ℝ) : EReal)
  ∧ IdealRules.named_const.Statement Cert.MixerAIdeal.κ "log2e" .f32 0x3FB8AA3B#32 (((Real.log 2)⁻¹ : ℝ) : EReal)

def algebraic_MixerAIdeal_MixerARefIdeal_pre_finite_scores [hMixerAIdeal : Cert.MixerAIdeal.Facts] [hMixerARefIdeal : Cert.MixerARefIdeal.Facts] [hPre_finite_scores : Cert.Pre_finite_scores.Facts] : Prop :=
  ∀ (m : (ℓ : Loc Cert.MixerAIdeal.nD Cert.MixerAIdeal.τ Cert.MixerAIdeal.sig) → Buf (Elt Ideal) ℓ) (g : Dev Cert.MixerAIdeal.nD → PrngReg)
    (m' : (ℓ : Loc Cert.MixerARefIdeal.nD Cert.MixerARefIdeal.τ Cert.MixerARefIdeal.sig) → Buf (Elt Ideal) ℓ) (g' : Dev Cert.MixerARefIdeal.nD → PrngReg), Pre_MixerAIdeal_finite_scores m →
    (∀ c : Dev Cert.MixerAIdeal.nD,
      m' ((c.tc : Thread Cert.MixerARefIdeal.nD Cert.MixerARefIdeal.τ).loc Cert.MixerARefIdeal.main_arg0) = m ((c.tc : Thread Cert.MixerAIdeal.nD Cert.MixerAIdeal.τ).loc Cert.MixerAIdeal.main_arg0)
      ∧ m' ((c.tc : Thread Cert.MixerARefIdeal.nD Cert.MixerARefIdeal.τ).loc Cert.MixerARefIdeal.main_arg1) = m ((c.tc : Thread Cert.MixerAIdeal.nD Cert.MixerAIdeal.τ).loc Cert.MixerAIdeal.main_arg1)
      ∧ m' ((c.tc : Thread Cert.MixerARefIdeal.nD Cert.MixerARefIdeal.τ).loc Cert.MixerARefIdeal.main_arg2) = m ((c.tc : Thread Cert.MixerAIdeal.nD Cert.MixerAIdeal.τ).loc Cert.MixerAIdeal.main_arg2)
      ∧ m' ((c.tc : Thread Cert.MixerARefIdeal.nD Cert.MixerARefIdeal.τ).loc Cert.MixerARefIdeal.main_arg3) = m ((c.tc : Thread Cert.MixerAIdeal.nD Cert.MixerAIdeal.τ).loc Cert.MixerAIdeal.main_arg3)
      ∧ m' ((c.tc : Thread Cert.MixerARefIdeal.nD Cert.MixerARefIdeal.τ).loc Cert.MixerARefIdeal.main_arg4) = m ((c.tc : Thread Cert.MixerAIdeal.nD Cert.MixerAIdeal.τ).loc Cert.MixerAIdeal.main_arg4)) →
    ∃ (v0 : (c : Dev Cert.MixerAIdeal.nD) → Buf (Elt Ideal) ((c.tc : Thread Cert.MixerAIdeal.nD Cert.MixerAIdeal.τ).loc Cert.MixerAIdeal.main_v32)),
      θ_run (Cert.MixerAIdeal.defs (F := Ideal)) (onTc (τ := Cert.MixerAIdeal.τ) (Cert.MixerAIdeal.main (F := Ideal))) ⟨m, fun _ => 0, g⟩ (fun r => ∀ c : Dev Cert.MixerAIdeal.nD,
          r.2.mem ((c.tc : Thread Cert.MixerAIdeal.nD Cert.MixerAIdeal.τ).loc Cert.MixerAIdeal.main_v32) = v0 c
          ∧ r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
          ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
          ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
          ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3)
          ∧ r.2.mem ((c.tc : Thread Cert.MixerAIdeal.nD Cert.MixerAIdeal.τ).loc Cert.MixerAIdeal.main_arg4) = m ((c.tc : Thread Cert.MixerAIdeal.nD Cert.MixerAIdeal.τ).loc Cert.MixerAIdeal.main_arg4))
      ∧ θ_run (Cert.MixerARefIdeal.defs (F := Ideal)) (onTc (τ := Cert.MixerARefIdeal.τ) (Cert.MixerARefIdeal.main (F := Ideal))) ⟨m', fun _ => 0, g'⟩ (fun r => ∀ c : Dev Cert.MixerARefIdeal.nD,
          r.2.mem ((c.tc : Thread Cert.MixerARefIdeal.nD Cert.MixerARefIdeal.τ).loc Cert.MixerARefIdeal.main_v52) = v0 c
          ∧ r.2.mem ((c.tc : Thread Cert.MixerARefIdeal.nD Cert.MixerARefIdeal.τ).loc Cert.MixerARefIdeal.main_arg0) = m' ((c.tc : Thread Cert.MixerARefIdeal.nD Cert.MixerARefIdeal.τ).loc Cert.MixerARefIdeal.main_arg0)
          ∧ r.2.mem ((c.tc : Thread Cert.MixerARefIdeal.nD Cert.MixerARefIdeal.τ).loc Cert.MixerARefIdeal.main_arg1) = m' ((c.tc : Thread Cert.MixerARefIdeal.nD Cert.MixerARefIdeal.τ).loc Cert.MixerARefIdeal.main_arg1)
          ∧ r.2.mem ((c.tc : Thread Cert.MixerARefIdeal.nD Cert.MixerARefIdeal.τ).loc Cert.MixerARefIdeal.main_arg2) = m' ((c.tc : Thread Cert.MixerARefIdeal.nD Cert.MixerARefIdeal.τ).loc Cert.MixerARefIdeal.main_arg2)
          ∧ r.2.mem ((c.tc : Thread Cert.MixerARefIdeal.nD Cert.MixerARefIdeal.τ).loc Cert.MixerARefIdeal.main_arg3) = m' ((c.tc : Thread Cert.MixerARefIdeal.nD Cert.MixerARefIdeal.τ).loc Cert.MixerARefIdeal.main_arg3)
          ∧ r.2.mem ((c.tc : Thread Cert.MixerARefIdeal.nD Cert.MixerARefIdeal.τ).loc Cert.MixerARefIdeal.main_arg4) = m' ((c.tc : Thread Cert.MixerARefIdeal.nD Cert.MixerARefIdeal.τ).loc Cert.MixerARefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v33)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v33) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v92) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)
      ∧ m' ((c.tc : Thread Cert.Ffn1RefIdeal.nD Cert.Ffn1RefIdeal.τ).loc Cert.Ffn1RefIdeal.main_arg6) = m ((c.tc : Thread Cert.Ffn1Ideal.nD Cert.Ffn1Ideal.τ).loc Cert.Ffn1Ideal.main_arg6)
      ∧ m' ((c.tc : Thread Cert.Ffn1RefIdeal.nD Cert.Ffn1RefIdeal.τ).loc Cert.Ffn1RefIdeal.main_arg7) = m ((c.tc : Thread Cert.Ffn1Ideal.nD Cert.Ffn1Ideal.τ).loc Cert.Ffn1Ideal.main_arg7)
      ∧ m' ((c.tc : Thread Cert.Ffn1RefIdeal.nD Cert.Ffn1RefIdeal.τ).loc Cert.Ffn1RefIdeal.main_arg8) = m ((c.tc : Thread Cert.Ffn1Ideal.nD Cert.Ffn1Ideal.τ).loc Cert.Ffn1Ideal.main_arg8)
      ∧ m' ((c.tc : Thread Cert.Ffn1RefIdeal.nD Cert.Ffn1RefIdeal.τ).loc Cert.Ffn1RefIdeal.main_arg9) = m ((c.tc : Thread Cert.Ffn1Ideal.nD Cert.Ffn1Ideal.τ).loc Cert.Ffn1Ideal.main_arg9)) →
    ∃ (v0 : (c : Dev Cert.Ffn1Ideal.nD) → Buf (Elt Ideal) ((c.tc : Thread Cert.Ffn1Ideal.nD Cert.Ffn1Ideal.τ).loc Cert.Ffn1Ideal.main_v36_0)) (v1 : (c : Dev Cert.Ffn1Ideal.nD) → Buf (Elt Ideal) ((c.tc : Thread Cert.Ffn1Ideal.nD Cert.Ffn1Ideal.τ).loc Cert.Ffn1Ideal.main_v36_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v36_0) = v0 c
          ∧ r.2.mem ((c.tc : Thread Cert.Ffn1Ideal.nD Cert.Ffn1Ideal.τ).loc Cert.Ffn1Ideal.main_v36_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
          ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
          ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
          ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v119) = v0 c
          ∧ r.2.mem ((c.tc : Thread Cert.Ffn1RefIdeal.nD Cert.Ffn1RefIdeal.τ).loc Cert.Ffn1RefIdeal.main_v121) = v1 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5)
          ∧ r.2.mem ((c.tc : Thread Cert.Ffn1RefIdeal.nD Cert.Ffn1RefIdeal.τ).loc Cert.Ffn1RefIdeal.main_arg6) = m' ((c.tc : Thread Cert.Ffn1RefIdeal.nD Cert.Ffn1RefIdeal.τ).loc Cert.Ffn1RefIdeal.main_arg6)
          ∧ r.2.mem ((c.tc : Thread Cert.Ffn1RefIdeal.nD Cert.Ffn1RefIdeal.τ).loc Cert.Ffn1RefIdeal.main_arg7) = m' ((c.tc : Thread Cert.Ffn1RefIdeal.nD Cert.Ffn1RefIdeal.τ).loc Cert.Ffn1RefIdeal.main_arg7)
          ∧ r.2.mem ((c.tc : Thread Cert.Ffn1RefIdeal.nD Cert.Ffn1RefIdeal.τ).loc Cert.Ffn1RefIdeal.main_arg8) = m' ((c.tc : Thread Cert.Ffn1RefIdeal.nD Cert.Ffn1RefIdeal.τ).loc Cert.Ffn1RefIdeal.main_arg8)
          ∧ r.2.mem ((c.tc : Thread Cert.Ffn1RefIdeal.nD Cert.Ffn1RefIdeal.τ).loc Cert.Ffn1RefIdeal.main_arg9) = m' ((c.tc : Thread Cert.Ffn1RefIdeal.nD Cert.Ffn1RefIdeal.τ).loc Cert.Ffn1RefIdeal.main_arg9))

def Claim : Prop :=
  ∃ (hMixerA : Cert.MixerA.Facts) (hMixerAIdeal : Cert.MixerAIdeal.Facts) (hMixerARefIdeal : Cert.MixerARefIdeal.Facts) (hMerge : Cert.Merge.Facts) (hMergeIdeal : Cert.MergeIdeal.Facts) (hMergeRefIdeal : Cert.MergeRefIdeal.Facts) (hFfn1 : Cert.Ffn1.Facts) (hFfn1Ideal : Cert.Ffn1Ideal.Facts) (hFfn1RefIdeal : Cert.Ffn1RefIdeal.Facts) (hPre_finite_scores : Cert.Pre_finite_scores.Facts),
    quiescent_MixerA (hMixerA := hMixerA)
    ∧ quiescent_MixerAIdeal (hMixerAIdeal := hMixerAIdeal)
    ∧ quiescent_MixerAIdeal_pre_finite_scores (hMixerAIdeal := hMixerAIdeal) (hPre_finite_scores := hPre_finite_scores)
    ∧ quiescent_MixerARefIdeal (hMixerARefIdeal := hMixerARefIdeal)
    ∧ quiescent_MixerARefIdeal_pre_finite_scores (hMixerARefIdeal := hMixerARefIdeal) (hPre_finite_scores := hPre_finite_scores)
    ∧ quiescent_Merge (hMerge := hMerge)
    ∧ quiescent_MergeIdeal (hMergeIdeal := hMergeIdeal)
    ∧ quiescent_MergeRefIdeal (hMergeRefIdeal := hMergeRefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ preserves_MixerA_MixerAIdeal
    ∧ algebraic_MixerAIdeal_MixerARefIdeal_pre_finite_scores (hMixerAIdeal := hMixerAIdeal) (hMixerARefIdeal := hMixerARefIdeal) (hPre_finite_scores := hPre_finite_scores)
    ∧ preserves_Merge_MergeIdeal
    ∧ algebraic_MergeIdeal_MergeRefIdeal (hMergeIdeal := hMergeIdeal) (hMergeRefIdeal := hMergeRefIdeal)
    ∧ preserves_Ffn1_Ffn1Ideal
    ∧ algebraic_Ffn1Ideal_Ffn1RefIdeal (hFfn1Ideal := hFfn1Ideal) (hFfn1RefIdeal := hFfn1RefIdeal)
-- ==== Pre_finite_scores.lean ====
abbrev S16x2048x512 : Shape := ⟨3, ![16, 2048, 512]⟩
abbrev S16x2048x768 : Shape := ⟨3, ![16, 2048, 768]⟩
abbrev S1x8x257 : Shape := ⟨3, ![1, 8, 257]⟩
abbrev S_ : Shape := ⟨0, ![]⟩

class Facts : Prop where
  bcast_S_S16x2048x512 : S_.BroadcastsInDim S16x2048x512 (![] : Fin 0 → Fin S16x2048x512.rank)
  bcast_S_S1x8x257 : S_.BroadcastsInDim S1x8x257 (![] : Fin 0 → Fin S1x8x257.rank)

variable [Facts]

def fn {F : FTy → Type} [FloatOps F] (main_arg0 : FVec F S16x2048x512 .f32) (main_arg1 : FVec F S16x2048x512 .f32) (main_arg2 : FVec F S16x2048x512 .f32) (main_arg3 : FVec F S16x2048x768 .f32) (main_arg4 : FVec F S1x8x257 .f32) : IVec S16x2048x512 1 × IVec S16x2048x512 1 × IVec S1x8x257 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_v3 : FVec F S16x2048x512 .f32 := Host.absf main_arg1
  let main_cst_0 : FVec F S_ .f32 := constant S_ .f32 0x7F800000#32
  let main_v4 : FVec F S16x2048x512 .f32 := broadcastInDim S16x2048x512 ![] bcast_S_S16x2048x512 main_cst_0
  let main_v5 : IVec S16x2048x512 1 := cmpf .olt main_v3 main_v4
  let main_v6 : FVec F S1x8x257 .f32 := Host.absf main_arg4
  let main_cst_1 : FVec F S_ .f32 := constant S_ .f32 0x7F800000#32
  let main_v7 : FVec F S1x8x257 .f32 := broadcastInDim S1x8x257 ![] bcast_S_S1x8x257 main_cst_1
  let main_v8 : IVec S1x8x257 1 := cmpf .olt main_v6 main_v7
  (main_v2, main_v5, main_v8)
-- ==== MixerA.lean ====
abbrev S16x2048x512 : Shape := ⟨3, ![16, 2048, 512]⟩
abbrev S16x2048x768 : Shape := ⟨3, ![16, 2048, 768]⟩
abbrev S1x8x257 : Shape := ⟨3, ![1, 8, 257]⟩
abbrev S16x2048x2304 : Shape := ⟨3, ![16, 2048, 2304]⟩
abbrev S128x640 : Shape := ⟨2, ![128, 640]⟩
abbrev S_ : Shape := ⟨0, ![]⟩
abbrev S8x257 : Shape := ⟨2, ![8, 257]⟩
abbrev S8x256 : Shape := ⟨2, ![8, 256]⟩
abbrev S8x1 : Shape := ⟨2, ![8, 1]⟩
abbrev S8x511 : Shape := ⟨2, ![8, 511]⟩
abbrev S8x767 : Shape := ⟨2, ![8, 767]⟩
abbrev S1x8x1x767 : Shape := ⟨4, ![1, 8, 1, 767]⟩
abbrev S1x8x129x767 : Shape := ⟨4, ![1, 8, 129, 767]⟩
abbrev S8x98943 : Shape := ⟨2, ![8, 98943]⟩
abbrev S8x98304 : Shape := ⟨2, ![8, 98304]⟩
abbrev S8x128x768 : Shape := ⟨3, ![8, 128, 768]⟩
abbrev S8x128x640 : Shape := ⟨3, ![8, 128, 640]⟩
abbrev S1x128x640 : Shape := ⟨3, ![1, 128, 640]⟩
abbrev S1x2048x512 : Shape := ⟨3, ![1, 2048, 512]⟩
abbrev S128x128 : Shape := ⟨2, ![128, 128]⟩
abbrev S640x128 : Shape := ⟨2, ![640, 128]⟩
abbrev S1x128x128 : Shape := ⟨3, ![1, 128, 128]⟩
abbrev S256x128 : Shape := ⟨2, ![256, 128]⟩
abbrev S2x128x128 : Shape := ⟨3, ![2, 128, 128]⟩
abbrev S128x256 : Shape := ⟨2, ![128, 256]⟩
abbrev S256 : Shape := ⟨1, ![256]⟩
abbrev S256x1 : Shape := ⟨2, ![256, 1]⟩
abbrev S256x256 : Shape := ⟨2, ![256, 256]⟩
abbrev S1x256x128 : Shape := ⟨3, ![1, 256, 128]⟩
abbrev S2x128x256 : Shape := ⟨3, ![2, 128, 256]⟩
abbrev S1x384x128 : Shape := ⟨3, ![1, 384, 128]⟩
abbrev S384x128 : Shape := ⟨2, ![384, 128]⟩
abbrev S256x384 : Shape := ⟨2, ![256, 384]⟩
abbrev S2x128x384 : Shape := ⟨3, ![2, 128, 384]⟩
abbrev S384x256 : Shape := ⟨2, ![384, 256]⟩
abbrev S1x512x128 : Shape := ⟨3, ![1, 512, 128]⟩
abbrev S512x128 : Shape := ⟨2, ![512, 128]⟩
abbrev S256x512 : Shape := ⟨2, ![256, 512]⟩
abbrev S2x128x512 : Shape := ⟨3, ![2, 128, 512]⟩
abbrev S512x256 : Shape := ⟨2, ![512, 256]⟩
abbrev S1x640x128 : Shape := ⟨3, ![1, 640, 128]⟩
abbrev S256x640 : Shape := ⟨2, ![256, 640]⟩
abbrev S2x128x640 : Shape := ⟨3, ![2, 128, 640]⟩
abbrev S640x256 : Shape := ⟨2, ![640, 256]⟩

abbrev nBuf : Space → Nat
  | .hbm => 43
  | .vmem => 9
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x768, .f32⟩
  | .hbm, ⟨4, _⟩ => ⟨S1x8x257, .f32⟩
  | .hbm, ⟨5, _⟩ => ⟨S16x2048x2304, .f32⟩
  | .hbm, ⟨6, _⟩ => ⟨S16x2048x2304, .bf16⟩
  | .hbm, ⟨7, _⟩ => ⟨S128x640, .i32⟩
  | .hbm, ⟨8, _⟩ => ⟨S128x640, .i32⟩
  | .hbm, ⟨9, _⟩ => ⟨S_, .i32⟩
  | .hbm, ⟨10, _⟩ => ⟨S128x640, .i32⟩
  | .hbm, ⟨11, _⟩ => ⟨S128x640, .i32⟩
  | .hbm, ⟨12, _⟩ => ⟨S128x640, .i32⟩
  | .hbm, ⟨13, _⟩ => ⟨S_, .i32⟩
  | .hbm, ⟨14, _⟩ => ⟨S128x640, .i32⟩
  | .hbm, ⟨15, _⟩ => ⟨S128x640, .i32⟩
  | .hbm, ⟨16, _⟩ => ⟨S_, .i32⟩
  | .hbm, ⟨17, _⟩ => ⟨S128x640, .i32⟩
  | .hbm, ⟨18, _⟩ => ⟨S128x640, .i32⟩
  | .hbm, ⟨19, _⟩ => ⟨S128x640, .i1⟩
  | .hbm, ⟨20, _⟩ => ⟨S_, .i32⟩
  | .hbm, ⟨21, _⟩ => ⟨S128x640, .i32⟩
  | .hbm, ⟨22, _⟩ => ⟨S128x640, .i32⟩
  | .hbm, ⟨23, _⟩ => ⟨S128x640, .i1⟩
  | .hbm, ⟨24, _⟩ => ⟨S128x640, .i1⟩
  | .hbm, ⟨25, _⟩ => ⟨S8x257, .f32⟩
  | .hbm, ⟨26, _⟩ => ⟨S8x256, .f32⟩
  | .hbm, ⟨27, _⟩ => ⟨S8x1, .f32⟩
  | .hbm, ⟨28, _⟩ => ⟨S8x511, .f32⟩
  | .hbm, ⟨29, _⟩ => ⟨S8x767, .f32⟩
  | .hbm, ⟨30, _⟩ => ⟨S1x8x1x767, .f32⟩
  | .hbm, ⟨31, _⟩ => ⟨S1x8x129x767, .f32⟩
  | .hbm, ⟨32, _⟩ => ⟨S8x98943, .f32⟩
  | .hbm, ⟨33, _⟩ => ⟨S8x98304, .f32⟩
  | .hbm, ⟨34, _⟩ => ⟨S8x128x768, .f32⟩
  | .hbm, ⟨35, _⟩ => ⟨S8x128x640, .f32⟩
  | .hbm, ⟨36, _⟩ => ⟨S8x128x640, .f32⟩
  | .hbm, ⟨37, _⟩ => ⟨S1x128x640, .i1⟩
  | .hbm, ⟨38, _⟩ => ⟨S8x128x640, .i1⟩
  | .hbm, ⟨39, _⟩ => ⟨S_, .f32⟩
  | .hbm, ⟨40, _⟩ => ⟨S8x128x640, .f32⟩
  | .hbm, ⟨41, _⟩ => ⟨S8x128x640, .f32⟩
  | .hbm, ⟨42, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S8x128x640, .f32⟩
  | .local _ .vmem, ⟨7, _⟩ => ⟨S1x2048x512, .bf16⟩
  | .local _ .vmem, ⟨8, _⟩ => ⟨S1x2048x512, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixerAIdeal.lean ====
variable {F : FTy → Type} [FloatOps F] [Named F]
def κ : String → Option EReal := fun
  | "log2e" => some (((Real.log 2)⁻¹ : ℝ) : EReal)
  | "q_scale" => some ((8⁻¹ * (Real.log 2)⁻¹ : ℝ) : EReal)
  | _ => none
-- ==== MixerARefIdeal.lean ====
abbrev S16x2048x512 : Shape := ⟨3, ![16, 2048, 512]⟩
abbrev S16x2048x768 : Shape := ⟨3, ![16, 2048, 768]⟩
abbrev S1x8x257 : Shape := ⟨3, ![1, 8, 257]⟩
abbrev S2048x2048 : Shape := ⟨2, ![2048, 2048]⟩
abbrev S_ : Shape := ⟨0, ![]⟩
abbrev S8x257 : Shape := ⟨2, ![8, 257]⟩
abbrev S2048x2048x1 : Shape := ⟨3, ![2048, 2048, 1]⟩
abbrev S8x2048x2048 : Shape := ⟨3, ![8, 2048, 2048]⟩
abbrev S16x2048x8x64 : Shape := ⟨4, ![16, 2048, 8, 64]⟩
abbrev S16x8x2048x64 : Shape := ⟨4, ![16, 8, 2048, 64]⟩
abbrev S16x8x2048x2048 : Shape := ⟨4, ![16, 8, 2048, 2048]⟩
abbrev S1x8x2048x2048 : Shape := ⟨4, ![1, 8, 2048, 2048]⟩
abbrev S16x8x2048 : Shape := ⟨3, ![16, 8, 2048]⟩
abbrev S16x8x2048x1 : Shape := ⟨4, ![16, 8, 2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x768, .f32⟩
  | .hbm, ⟨4, _⟩ => ⟨S1x8x257, .f32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S8x257, .f32⟩
  | .hbm, ⟨20, _⟩ => ⟨S2048x2048x1, .i32⟩
  | .hbm, ⟨21, _⟩ => ⟨S8x2048x2048, .f32⟩
  | .hbm, ⟨22, _⟩ => ⟨S16x2048x8x64, .f32⟩
  | .hbm, ⟨23, _⟩ => ⟨S16x8x2048x64, .f32⟩
  | .hbm, ⟨24, _⟩ => ⟨S16x2048x8x64, .f32⟩
  | .hbm, ⟨25, _⟩ => ⟨S16x8x2048x64, .f32⟩
  | .hbm, ⟨26, _⟩ => ⟨S16x2048x8x64, .f32⟩
  | .hbm, ⟨27, _⟩ => ⟨S16x8x2048x64, .f32⟩
  | .hbm, ⟨28, _⟩ => ⟨S2048x2048, .i32⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S_, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S_, .i32⟩
  | .hbm, ⟨38, _⟩ => ⟨S2048x2048, .i32⟩
  | .hbm, ⟨39, _⟩ => ⟨S2048x2048, .i32⟩
  | .hbm, ⟨40, _⟩ => ⟨S_, .i32⟩
  | .hbm, ⟨41, _⟩ => ⟨S2048x2048, .i32⟩
  | .hbm, ⟨42, _⟩ => ⟨S2048x2048, .i32⟩
  | .hbm, ⟨43, _⟩ => ⟨S_, .i32⟩
  | .hbm, ⟨44, _⟩ => ⟨S2048x2048, .i32⟩
  | .hbm, ⟨45, _⟩ => ⟨S2048x2048, .i32⟩
  | .hbm, ⟨46, _⟩ => ⟨S2048x2048, .i1⟩
  | .hbm, ⟨47, _⟩ => ⟨S2048x2048, .i1⟩
  | .hbm, ⟨48, _⟩ => ⟨S16x8x2048x2048, .f32⟩
  | .hbm, ⟨49, _⟩ => ⟨S_, .f32⟩
  | .hbm, ⟨50, _⟩ => ⟨S16x8x2048x2048, .f32⟩
  | .hbm, ⟨51, _⟩ => ⟨S16x8x2048x2048, .f32⟩
  | .hbm, ⟨52, _⟩ => ⟨S1x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .i1⟩
  | .hbm, ⟨56, _⟩ => ⟨S_, .f32⟩
  | .hbm, ⟨57, _⟩ => ⟨S16x8x2048x2048, .f32⟩
  | .hbm, ⟨58, _⟩ => ⟨S16x8x2048x2048, .f32⟩
  | .hbm, ⟨59, _⟩ => ⟨S_, .f32⟩
  | .hbm, ⟨60, _⟩ => ⟨S16x8x2048, .f32⟩
  | .hbm, ⟨61, _⟩ => ⟨S_, .f32⟩
  | .hbm, ⟨62, _⟩ => ⟨S16x8x2048, .f32⟩
  | .hbm, ⟨63, _⟩ => ⟨S16x8x2048, .f32⟩
  | .hbm, ⟨64, _⟩ => ⟨S16x8x2048x1, .f32⟩
  | .hbm, ⟨65, _⟩ => ⟨S16x8x2048x2048, .f32⟩
  | .hbm, ⟨66, _⟩ => ⟨S16x8x2048x2048, .f32⟩
  | .hbm, ⟨67, _⟩ => ⟨S16x8x2048x2048, .f32⟩
  | .hbm, ⟨68, _⟩ => ⟨S_, .f32⟩
  | .hbm, ⟨69, _⟩ => ⟨S16x8x2048, .f32⟩
  | .hbm, ⟨70, _⟩ => ⟨S16x8x2048x1, .f32⟩
  | .hbm, ⟨71, _⟩ => ⟨S16x8x2048x2048, .f32⟩
  | .hbm, ⟨72, _⟩ => ⟨S16x8x2048x2048, .f32⟩
  | .hbm, ⟨73, _⟩ => ⟨S16x8x2048x64, .f32⟩
  | .hbm, ⟨74, _⟩ => ⟨S16x2048x8x64, .f32⟩
  | .hbm, ⟨75, _⟩ => ⟨S16x2048x512, .f32⟩
  | .hbm, ⟨76, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1x1024 : Shape := ⟨2, ![1, 1024]⟩
abbrev S1x1024x2048 : Shape := ⟨3, ![1, 1024, 2048]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S32768x1024 : Shape := ⟨2, ![32768, 1024]⟩
abbrev S16x2048x2x4x64 : Shape := ⟨5, ![16, 2048, 2, 4, 64]⟩
abbrev S16x2048x4x2x64 : Shape := ⟨5, ![16, 2048, 4, 2, 64]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S32768x512 : Shape := ⟨2, ![32768, 512]⟩
abbrev S16x2048x256 : Shape := ⟨3, ![16, 2048, 256]⟩
abbrev S32768x256 : Shape := ⟨2, ![32768, 256]⟩
abbrev S1024 : Shape := ⟨1, ![1024]⟩
abbrev S1024x2048 : Shape := ⟨2, ![1024, 2048]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S512x512 : Shape := ⟨2, ![512, 512]⟩
abbrev S512x256 : Shape := ⟨2, ![512, 256]⟩
abbrev S512x2816 : Shape := ⟨2, ![512, 2816]⟩
abbrev S2x128x5632 : Shape := ⟨3, ![2, 128, 5632]⟩
abbrev S2x256x1024 : Shape := ⟨3, ![2, 256, 1024]⟩
abbrev S2x2 : Shape := ⟨2, ![2, 2]⟩
abbrev S1x1 : Shape := ⟨2, ![1, 1]⟩
abbrev S_ : Shape := ⟨0, ![]⟩
abbrev S1x128x5632 : Shape := ⟨3, ![1, 128, 5632]⟩
abbrev S128x5632 : Shape := ⟨2, ![128, 5632]⟩
abbrev S512 : Shape := ⟨1, ![512]⟩
abbrev S512x1 : Shape := ⟨2, ![512, 1]⟩
abbrev S1024x256 : Shape := ⟨2, ![1024, 256]⟩

abbrev nBuf : Space → Nat
  | .hbm => 49
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x16x2048x256, .f32⟩
  | .hbm, ⟨4, _⟩ => ⟨S1x1024, .f32⟩
  | .hbm, ⟨5, _⟩ => ⟨S1x1024x2048, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x5632, .f32⟩
  | .hbm, ⟨11, _⟩ => ⟨S1x2816x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S32768x1024, .f32⟩
  | .hbm, ⟨16, _⟩ => ⟨S16x2048x512, .bf16⟩
  | .hbm, ⟨17, _⟩ => ⟨S16x2048x512, .bf16⟩
  | .hbm, ⟨18, _⟩ => ⟨S16x2048x2x4x64, .bf16⟩
  | .hbm, ⟨19, _⟩ => ⟨S16x2048x4x2x64, .bf16⟩
  | .hbm, ⟨20, _⟩ => ⟨S16x2048x512, .bf16⟩
  | .hbm, ⟨21, _⟩ => ⟨S512x1024, .f32⟩
  | .hbm, ⟨22, _⟩ => ⟨S512x1024, .bf16⟩
  | .hbm, ⟨23, _⟩ => ⟨S2x4x64x1024, .bf16⟩
  | .hbm, ⟨24, _⟩ => ⟨S4x2x64x1024, .bf16⟩
  | .hbm, ⟨25, _⟩ => ⟨S512x1024, .bf16⟩
  | .hbm, ⟨26, _⟩ => ⟨S32768x512, .bf16⟩
  | .hbm, ⟨27, _⟩ => ⟨S32768x512, .bf16⟩
  | .hbm, ⟨28, _⟩ => ⟨S16x2048x256, .f32⟩
  | .hbm, ⟨29, _⟩ => ⟨S32768x256, .f32⟩
  | .hbm, ⟨30, _⟩ => ⟨S1024, .f32⟩
  | .hbm, ⟨31, _⟩ => ⟨S1x1024, .f32⟩
  | .hbm, ⟨32, _⟩ => ⟨S1024x2048, .f32⟩
  | .hbm, ⟨33, _⟩ => ⟨S1024x2048, .bf16⟩
  | .hbm, ⟨34, _⟩ => ⟨S512x1024, .f32⟩
  | .hbm, ⟨35, _⟩ => ⟨S512x1024, .bf16⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S1024x5632, .f32⟩
  | .hbm, ⟨41, _⟩ => ⟨S2816x1024, .f32⟩
  | .hbm, ⟨42, _⟩ => ⟨S1024, .f32⟩
  | .hbm, ⟨43, _⟩ => ⟨S1x1024, .f32⟩
  | .hbm, ⟨44, _⟩ => ⟨S1024x1024, .f32⟩
  | .hbm, ⟨45, _⟩ => ⟨S1024x1024, .bf16⟩
  | .hbm, ⟨46, _⟩ => ⟨S256x1024, .f32⟩
  | .hbm, ⟨47, _⟩ => ⟨S256x1024, .bf16⟩
  | .hbm, ⟨48, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x2048, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S512x1024, .f32⟩
  | .local _ .vmem, ⟨18, _⟩ => ⟨S512x1024, .f32⟩
  | .local _ .vmem, ⟨19, _⟩ => ⟨S512x2816, .bf16⟩
  | .local _ .vmem, ⟨20, _⟩ => ⟨S1024x5632, .bf16⟩
  | .local _ .vmem, ⟨21, _⟩ => ⟨S2816x1024, .bf16⟩
  | .local _ .vmem, ⟨22, _⟩ => ⟨S2x128x5632, .f32⟩
  | .local _ .vmem, ⟨23, _⟩ => ⟨S2x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1x1024 : Shape := ⟨2, ![1, 1024]⟩
abbrev S1x1024x2048 : Shape := ⟨3, ![1, 1024, 2048]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2048 : Shape := ⟨2, ![1024, 2048]⟩
abbrev S16x2048x2048 : Shape := ⟨3, ![16, 2048, 2048]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S16x2048x256 : Shape := ⟨3, ![16, 2048, 256]⟩
abbrev S256x1024 : Shape := ⟨2, ![256, 1024]⟩
abbrev S32768x1024 : Shape := ⟨2, ![32768, 1024]⟩

abbrev nBuf : Space → Nat
  | .hbm => 124
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x16x2048x256, .f32⟩
  | .hbm, ⟨4, _⟩ => ⟨S1x1024, .f32⟩
  | .hbm, ⟨5, _⟩ => ⟨S1x1024x2048, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x5632, .f32⟩
  | .hbm, ⟨11, _⟩ => ⟨S1x2816x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S1024x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048x2048, .f32⟩
  | .hbm, ⟨41, _⟩ => ⟨S16x2048x2048, .f32⟩
  | .hbm, ⟨42, _⟩ => ⟨S16x2048x1024, .f32⟩
  | .hbm, ⟨43, _⟩ => ⟨S16x2048x1024, .f32⟩
  | .hbm, ⟨44, _⟩ => ⟨S512x1024, .f32⟩
  | .hbm, ⟨45, _⟩ => ⟨S16x2048x1024, .f32⟩
  | .hbm, ⟨46, _⟩ => ⟨S16x2048x1024, .f32⟩
  | .hbm, ⟨47, _⟩ => ⟨S512x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S1024x1024, .f32⟩
  | .hbm, ⟨52, _⟩ => ⟨S16x2048x1024, .f32⟩
  | .hbm, ⟨53, _⟩ => ⟨S16x2048x1024, .f32⟩
  | .hbm, ⟨54, _⟩ => ⟨S1024, .f32⟩
  | .hbm, ⟨55, _⟩ => ⟨S16x2048x1024, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S_, .f32⟩
  | .hbm, ⟨63, _⟩ => ⟨S16x2048x1, .f32⟩
  | .hbm, ⟨64, _⟩ => ⟨S16x2048x1, .f32⟩
  | .hbm, ⟨65, _⟩ => ⟨S16x2048x1, .f32⟩
  | .hbm, ⟨66, _⟩ => ⟨S16x2048x1024, .f32⟩
  | .hbm, ⟨67, _⟩ => ⟨S16x2048x1024, .f32⟩
  | .hbm, ⟨68, _⟩ => ⟨S1x1x1024, .f32⟩
  | .hbm, ⟨69, _⟩ => ⟨S16x2048x1024, .f32⟩
  | .hbm, ⟨70, _⟩ => ⟨S16x2048x1024, .f32⟩
  | .hbm, ⟨71, _⟩ => ⟨S1024x5632, .f32⟩
  | .hbm, ⟨72, _⟩ => ⟨S2816x1024, .f32⟩
  | .hbm, ⟨73, _⟩ => ⟨S16x2048x5632, .f32⟩
  | .hbm, ⟨74, _⟩ => ⟨S16x2048x2816, .f32⟩
  | .hbm, ⟨75, _⟩ => ⟨S16x2048x2816, .f32⟩
  | .hbm, ⟨76, _⟩ => ⟨S16x2048x2816, .f32⟩
  | .hbm, ⟨77, _⟩ => ⟨S16x2048x2816, .f32⟩
  | .hbm, ⟨78, _⟩ => ⟨S_, .f32⟩
  | .hbm, ⟨79, _⟩ => ⟨S16x2048x2816, .f32⟩
  | .hbm, ⟨80, _⟩ => ⟨S16x2048x2816, .f32⟩
  | .hbm, ⟨81, _⟩ => ⟨S_, .f32⟩
  | .hbm, ⟨82, _⟩ => ⟨S16x2048x2816, .f32⟩
  | .hbm, ⟨83, _⟩ => ⟨S16x2048x2816, .f32⟩
  | .hbm, ⟨84, _⟩ => ⟨S16x2048x2816, .f32⟩
  | .hbm, ⟨85, _⟩ => ⟨S16x2048x2816, .f32⟩
  | .hbm, ⟨86, _⟩ => ⟨S16x2048x1024, .f32⟩
  | .hbm, ⟨87, _⟩ => ⟨S_, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S1024, .f32⟩
  | .hbm, ⟨92, _⟩ => ⟨S16x2048x1024, .f32⟩
  | .hbm, ⟨93, _⟩ => ⟨S_, .f32⟩
  | .hbm, ⟨94, _⟩ => ⟨S16x2048, .f32⟩
  | .hbm, ⟨95, _⟩ => ⟨S16x2048x1, .f32⟩
  | .hbm, ⟨96, _⟩ => ⟨S_, .f32⟩
  | .hbm, ⟨97, _⟩ => ⟨S16x2048x1, .f32⟩
  | .hbm, ⟨98, _⟩ => ⟨S16x2048x1, .f32⟩
  | .hbm, ⟨99, _⟩ => ⟨S_, .f32⟩
  | .hbm, ⟨100, _⟩ => ⟨S16x2048x1, .f32⟩
  | .hbm, ⟨101, _⟩ => ⟨S16x2048x1, .f32⟩
  | .hbm, ⟨102, _⟩ => ⟨S16x2048x1, .f32⟩
  | .hbm, ⟨103, _⟩ => ⟨S16x2048x1024, .f32⟩
  | .hbm, ⟨104, _⟩ => ⟨S16x2048x1024, .f32⟩
  | .hbm, ⟨105, _⟩ => ⟨S1x1x1024, .f32⟩
  | .hbm, ⟨106, _⟩ => ⟨S16x2048x1024, .f32⟩
  | .hbm, ⟨107, _⟩ => ⟨S16x2048x1024, .f32⟩
  | .hbm, ⟨108, _⟩ => ⟨S1024x1024, .f32⟩
  | .hbm, ⟨109, _⟩ => ⟨S16x2048x1024, .f32⟩
  | .hbm, ⟨110, _⟩ => ⟨S16x2048x1024, .f32⟩
  | .hbm, ⟨111, _⟩ => ⟨S16x2048x1024, .f32⟩
  | .hbm, ⟨112, _⟩ => ⟨S_, .f32⟩
  | .hbm, ⟨113, _⟩ => ⟨S16x2048x1024, .f32⟩
  | .hbm, ⟨114, _⟩ => ⟨S16x2048x1024, .f32⟩
  | .hbm, ⟨115, _⟩ => ⟨S_, .f32⟩
  | .hbm, ⟨116, _⟩ => ⟨S16x2048x1024, .f32⟩
  | .hbm, ⟨117, _⟩ => ⟨S16x2048x1024, .f32⟩
  | .hbm, ⟨118, _⟩ => ⟨S16x2048x256, .f32⟩
  | .hbm, ⟨119, _⟩ => ⟨S256x1024, .f32⟩
  | .hbm, ⟨120, _⟩ => ⟨S16x2048x1024, .f32⟩
  | .hbm, ⟨121, _⟩ => ⟨S16x2048x1024, .f32⟩
  | .hbm, ⟨122, _⟩ => ⟨S16x2048x1024, .f32⟩
  | .hbm, ⟨123, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== Ffn1.lean ====
abbrev S16x2048x1024 : Shape := ⟨3, ![16, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x2304 : Shape := ⟨3, ![1, 1024, 2304]⟩
abbrev S1x64 : Shape := ⟨2, ![1, 64]⟩
abbrev S32768x1024 : Shape := ⟨2, ![32768, 1024]⟩
abbrev S64 : Shape := ⟨1, ![64]⟩
abbrev S8x64 : Shape := ⟨2, ![8, 64]⟩
abbrev S512 : Shape := ⟨1, ![512]⟩
abbrev S_ : Shape := ⟨0, ![]⟩
abbrev S2x64 : Shape := ⟨2, ![2, 64]⟩
abbrev S128 : Shape := ⟨1, ![128]⟩
abbrev S2304 : Shape := ⟨1, ![2304]⟩
abbrev S1x2304 : Shape := ⟨2, ![1, 2304]⟩
abbrev S1024x2304 : Shape := ⟨2, ![1024, 2304]⟩
abbrev S1024x512 : Shape := ⟨2, ![1024, 512]⟩
abbrev S1024x2x4x64 : Shape := ⟨4, ![1024, 2, 4, 64]⟩
abbrev S1024x1536 : Shape := ⟨2, ![1024, 1536]⟩
abbrev S1024x4x2x64 : Shape := ⟨4, ![1024, 4, 2, 64]⟩
abbrev S1024x256 : Shape := ⟨2, ![1024, 256]⟩
abbrev S1024 : Shape := ⟨1, ![1024]⟩
abbrev S1024x5632 : Shape := ⟨2, ![1024, 5632]⟩
abbrev S2816x1024 : Shape := ⟨2, ![2816, 1024]⟩
abbrev S32768x2304 : Shape := ⟨2, ![32768, 2304]⟩
abbrev S512x1024 : Shape := ⟨2, ![512, 1024]⟩
abbrev S512x2304 : Shape := ⟨2, ![512, 2304]⟩
abbrev S512x2816 : Shape := ⟨2, ![512, 2816]⟩
abbrev S2x128x5632 : Shape := ⟨3, ![2, 128, 5632]⟩
abbrev S2x256x1024 : Shape := ⟨3, ![2, 256, 1024]⟩
abbrev S2x2 : Shape := ⟨2, ![2, 2]⟩
abbrev S1x1 : Shape := ⟨2, ![1, 1]⟩
abbrev S1x128x5632 : Shape := ⟨3, ![1, 128, 5632]⟩
abbrev S128x5632 : Shape := ⟨2, ![128, 5632]⟩
abbrev S1x256x1024 : Shape := ⟨3, ![1, 256, 1024]⟩
abbrev S256x1024 : Shape := ⟨2, ![256, 1024]⟩
abbrev S512x1 : Shape := ⟨2, ![512, 1]⟩
abbrev S512x256 : Shape := ⟨2, ![512, 256]⟩
abbrev S1024x1024 : Shape := ⟨2, ![1024, 1024]⟩
abbrev S512x512 : Shape := ⟨2, ![512, 512]⟩
abbrev S256x256 : Shape := ⟨2, ![256, 256]⟩
abbrev S512x128 : Shape := ⟨2, ![512, 128]⟩
abbrev S1x128 : Shape := ⟨2, ![1, 128]⟩

abbrev nBuf : Space → Nat
  | .hbm => 50
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x2304, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S32768x1024, .f32⟩
  | .hbm, ⟨11, _⟩ => ⟨S64, .f32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S64, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S64, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S64, .f32⟩
  | .hbm, ⟨26, _⟩ => ⟨S1x64, .f32⟩
  | .hbm, ⟨27, _⟩ => ⟨S2x64, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S2304, .f32⟩
  | .hbm, ⟨32, _⟩ => ⟨S1x2304, .f32⟩
  | .hbm, ⟨33, _⟩ => ⟨S1024x2304, .f32⟩
  | .hbm, ⟨34, _⟩ => ⟨S1024x2304, .bf16⟩
  | .hbm, ⟨35, _⟩ => ⟨S1024x512, .bf16⟩
  | .hbm, ⟨36, _⟩ => ⟨S1024x2x4x64, .bf16⟩
  | .hbm, ⟨37, _⟩ => ⟨S1024x1536, .bf16⟩
  | .hbm, ⟨38, _⟩ => ⟨S1024x4x2x64, .bf16⟩
  | .hbm, ⟨39, _⟩ => ⟨S1024x512, .bf16⟩
  | .hbm, ⟨40, _⟩ => ⟨S1024x256, .bf16⟩
  | .hbm, ⟨41, _⟩ => ⟨S1024x2304, .bf16⟩
  | .hbm, ⟨42, _⟩ => ⟨S1024, .f32⟩
  | .hbm, ⟨43, _⟩ => ⟨S1x1024, .f32⟩
  | .hbm, ⟨44, _⟩ => ⟨S1024x5632, .f32⟩
  | .hbm, ⟨45, _⟩ => ⟨S2816x1024, .f32⟩
  | .hbm, ⟨46, _⟩ => ⟨S1024, .f32⟩
  | .hbm, ⟨47, _⟩ => ⟨S1x1024, .f32⟩
  | .hbm, ⟨48, _⟩ => ⟨S32768x1024, .f32⟩
  | .hbm, ⟨49, _⟩ => ⟨S32768x2304, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2304, .bf16⟩
  | .local _ .vmem, ⟨5, _⟩ => ⟨S1x2304, .f32⟩
  | .local _ .vmem, ⟨6, _⟩ => ⟨S512x1024, .f32⟩
  | .local _ .vmem, ⟨7, _⟩ => ⟨S512x1024, .f32⟩
  | .local _ .vmem, ⟨8, _⟩ => ⟨S512x2304, .bf16⟩
  | .local _ .vmem, ⟨9, _⟩ => ⟨S512x2304, .bf16⟩
  | .local _ .vmem, ⟨10, _⟩ => ⟨S512x2816, .bf16⟩
  | .local _ .vmem, ⟨11, _⟩ => ⟨S512x2304, .f32⟩
  | .local _ .vmem, ⟨12, _⟩ => ⟨S1024x5632, .bf16⟩
  | .local _ .vmem, ⟨13, _⟩ => ⟨S2816x1024, .bf16⟩
  | .local _ .vmem, ⟨14, _⟩ => ⟨S2x128x5632, .f32⟩
  | .local _ .vmem, ⟨15, _⟩ => ⟨S2x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ffn1RefIdeal.lean ====
abbrev S16x2048x1024 : Shape := ⟨3, ![16, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x2304 : Shape := ⟨3, ![1, 1024, 2304]⟩
abbrev S1x64 : Shape := ⟨2, ![1, 64]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5632 : Shape := ⟨2, ![1024, 5632]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S1024x2304 : Shape := ⟨2, ![1024, 2304]⟩
abbrev S16x2048x2304 : Shape := ⟨3, ![16, 2048, 2304]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x2x4x64 : Shape := ⟨5, ![16, 2048, 2, 4, 64]⟩
abbrev S16x2048x2x4 : Shape := ⟨4, ![16, 2048, 2, 4]⟩
abbrev S16x2048x2x4x1 : Shape := ⟨5, ![16, 2048, 2, 4, 1]⟩
abbrev S1x1x1x1x64 : Shape := ⟨5, ![1, 1, 1, 1, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x4x2x64 : Shape := ⟨5, ![16, 2048, 4, 2, 64]⟩
abbrev S32768x1024 : Shape := ⟨2, ![32768, 1024]⟩
abbrev S32768x2304 : Shape := ⟨2, ![32768, 2304]⟩

abbrev nBuf : Space → Nat
  | .hbm => 153
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x5632, .f32⟩
  | 3 => ⟨S1x2816x1024, .f32⟩
  | 4 => ⟨S1x1024, .f32⟩
  | 5 => ⟨S1x1024x2304, .f32⟩
  | 6 => ⟨S1x64, .f32⟩
  | 7 => ⟨S1x64, .f32⟩
  | 8 => ⟨S1x64, .f32⟩
  | 9 => ⟨S1x64, .f32⟩
  | 10 => ⟨S1024, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S1024x5632, .f32⟩
  | 28 => ⟨S2816x1024, .f32⟩
  | 29 => ⟨S16x2048x5632, .f32⟩
  | 30 => ⟨S16x2048x2816, .f32⟩
  | 31 => ⟨S16x2048x2816, .f32⟩
  | 32 => ⟨S16x2048x2816, .f32⟩
  | 33 => ⟨S16x2048x2816, .f32⟩
  | 34 => ⟨S_, .f32⟩
  | 35 => ⟨S16x2048x2816, .f32⟩
  | 36 => ⟨S16x2048x2816, .f32⟩
  | 37 => ⟨S_, .f32⟩
  | 38 => ⟨S16x2048x2816, .f32⟩
  | 39 => ⟨S16x2048x2816, .f32⟩
  | 40 => ⟨S16x2048x2816, .f32⟩
  | 41 => ⟨S16x2048x2816, .f32⟩
  | 42 => ⟨S16x2048x1024, .f32⟩
  | 43 => ⟨S_, .f32⟩
  | 44 => ⟨S16x2048x1024, .f32⟩
  | 45 => ⟨S16x2048x1024, .f32⟩
  | 46 => ⟨S16x2048x1024, .f32⟩
  | 47 => ⟨S1024, .f32⟩
  | 48 => ⟨S16x2048x1024, .f32⟩
  | 49 => ⟨S_, .f32⟩
  | 50 => ⟨S16x2048, .f32⟩
  | 51 => ⟨S16x2048x1, .f32⟩
  | 52 => ⟨S_, .f32⟩
  | 53 => ⟨S16x2048x1, .f32⟩
  | 54 => ⟨S16x2048x1, .f32⟩
  | 55 => ⟨S_, .f32⟩
  | 56 => ⟨S16x2048x1, .f32⟩
  | 57 => ⟨S16x2048x1, .f32⟩
  | 58 => ⟨S16x2048x1, .f32⟩
  | 59 => ⟨S16x2048x1024, .f32⟩
  | 60 => ⟨S16x2048x1024, .f32⟩
  | 61 => ⟨S1x1x1024, .f32⟩
  | 62 => ⟨S16x2048x1024, .f32⟩
  | 63 => ⟨S16x2048x1024, .f32⟩
  | 64 => ⟨S1024x2304, .f32⟩
  | 65 => ⟨S16x2048x2304, .f32⟩
  | 66 => ⟨S16x2048x512, .f32⟩
  | 67 => ⟨S16x2048x512, .f32⟩
  | 68 => ⟨S16x2048x512, .f32⟩
  | 69 => ⟨S16x2048x512, .f32⟩
  | 70 => ⟨S16x2048x128, .f32⟩
  | 71 => ⟨S16x2048x128, .f32⟩
  | 72 => ⟨S16x2048x8x64, .f32⟩
  | 73 => ⟨S64, .f32⟩
  | 74 => ⟨S16x2048x8x64, .f32⟩
  | 75 => ⟨S_, .f32⟩
  | 76 => ⟨S16x2048x8, .f32⟩
  | 77 => ⟨S16x2048x8x1, .f32⟩
  | 78 => ⟨S_, .f32⟩
  | 79 => ⟨S16x2048x8x1, .f32⟩
  | 80 => ⟨S16x2048x8x1, .f32⟩
  | 81 => ⟨S_, .f32⟩
  | 82 => ⟨S16x2048x8x1, .f32⟩
  | 83 => ⟨S16x2048x8x1, .f32⟩
  | 84 => ⟨S16x2048x8x1, .f32⟩
  | 85 => ⟨S16x2048x8x64, .f32⟩
  | 86 => ⟨S16x2048x8x64, .f32⟩
  | 87 => ⟨S1x1x1x64, .f32⟩
  | 88 => ⟨S16x2048x8x64, .f32⟩
  | 89 => ⟨S16x2048x8x64, .f32⟩
  | 90 => ⟨S16x2048x512, .f32⟩
  | 91 => ⟨S16x2048x8x64, .f32⟩
  | 92 => ⟨S64, .f32⟩
  | 93 => ⟨S16x2048x8x64, .f32⟩
  | 94 => ⟨S_, .f32⟩
  | 95 => ⟨S16x2048x8, .f32⟩
  | 96 => ⟨S16x2048x8x1, .f32⟩
  | 97 => ⟨S_, .f32⟩
  | 98 => ⟨S16x2048x8x1, .f32⟩
  | 99 => ⟨S16x2048x8x1, .f32⟩
  | 100 => ⟨S_, .f32⟩
  | 101 => ⟨S16x2048x8x1, .f32⟩
  | 102 => ⟨S16x2048x8x1, .f32⟩
  | 103 => ⟨S16x2048x8x1, .f32⟩
  | 104 => ⟨S16x2048x8x64, .f32⟩
  | 105 => ⟨S16x2048x8x64, .f32⟩
  | 106 => ⟨S1x1x1x64, .f32⟩
  | 107 => ⟨S16x2048x8x64, .f32⟩
  | 108 => ⟨S16x2048x8x64, .f32⟩
  | 109 => ⟨S16x2048x512, .f32⟩
  | 110 => ⟨S16x2048x2x4x64, .f32⟩
  | 111 => ⟨S64, .f32⟩
  | 112 => ⟨S16x2048x2x4x64, .f32⟩
  | 113 => ⟨S_, .f32⟩
  | 114 => ⟨S16x2048x2x4, .f32⟩
  | 115 => ⟨S16x2048x2x4x1, .f32⟩
  | 116 => ⟨S_, .f32⟩
  | 117 => ⟨S16x2048x2x4x1, .f32⟩
  | 118 => ⟨S16x2048x2x4x1, .f32⟩
  | 119 => ⟨S_, .f32⟩
  | 120 => ⟨S16x2048x2x4x1, .f32⟩
  | 121 => ⟨S16x2048x2x4x1, .f32⟩
  | 122 => ⟨S16x2048x2x4x1, .f32⟩
  | 123 => ⟨S16x2048x2x4x64, .f32⟩
  | 124 => ⟨S16x2048x2x4x64, .f32⟩
  | 125 => ⟨S1x1x1x1x64, .f32⟩
  | 126 => ⟨S16x2048x2x4x64, .f32⟩
  | 127 => ⟨S16x2048x2x4x64, .f32⟩
  | _ => ⟨S16x2048x1024, .f32⟩

abbrev hbmTy0_1 (i : Nat) : BufTy := match i % 128 with
  | 0 => ⟨S16x2048x2x64, .f32⟩
  | 1 => ⟨S64, .f32⟩
  | 2 => ⟨S16x2048x2x64, .f32⟩
  | 3 => ⟨S_, .f32⟩
  | 4 => ⟨S16x2048x2, .f32⟩
  | 5 => ⟨S16x2048x2x1, .f32⟩
  | 6 => ⟨S_, .f32⟩
  | 7 => ⟨S16x2048x2x1, .f32⟩
  | 8 => ⟨S16x2048x2x1, .f32⟩
  | 9 => ⟨S_, .f32⟩
  | 10 => ⟨S16x2048x2x1, .f32⟩
  | 11 => ⟨S16x2048x2x1, .f32⟩
  | 12 => ⟨S16x2048x2x1, .f32⟩
  | 13 => ⟨S16x2048x2x64, .f32⟩
  | 14 => ⟨S16x2048x2x64, .f32⟩
  | 15 => ⟨S1x1x1x64, .f32⟩
  | 16 => ⟨S16x2048x2x64, .f32⟩
  | 17 => ⟨S16x2048x2x64, .f32⟩
  | 18 => ⟨S16x2048x128, .f32⟩
  | 19 => ⟨S16x2048x4x2x64, .f32⟩
  | 20 => ⟨S16x2048x512, .f32⟩
  | 21 => ⟨S16x2048x2304, .f32⟩
  | 22 => ⟨S32768x1024, .f32⟩
  | 23 => ⟨S32768x2304, .f32⟩
  | 24 => ⟨S32768x2304, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_v90 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_17 : Ref sig .tc := ⟨.hbm, 131, rfl⟩
abbrev main_v103 : Ref sig .tc := ⟨.hbm, 132, rfl⟩
abbrev main_v104 : Ref sig .tc := ⟨.hbm, 133, rfl⟩
abbrev main_cst_18 : Ref sig .tc := ⟨.hbm, 134, rfl⟩
abbrev main_v105 : Ref sig .tc := ⟨.hbm, 135, rfl⟩
abbrev main_v106 : Ref sig .tc := ⟨.hbm, 136, rfl⟩
abbrev main_cst_19 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩

abbrev nD : Nat := 1
abbrev τ : Topo := Topo.v7x

variable {F : FTy → Type} [FloatOps F]
-- ==== Proof.AttnUnit.lean ====
/- One tile of the banded attention: 128 queries of a pair of heads against a window of `W` keys,
   read at an output coordinate. The window width is a variable, so the same reading serves every tile. -/
module

public import Idealize.ShloMosaic.Lib.MatmulPlain
public import Idealize.ShloMosaic.Lib.ValueIdx
public import Idealize.ShloMosaic.Lib.Pipeline.Value

@[expose] public section

noncomputable section

namespace Cert.AttnUnit

open Idealize.ShloMosaic
open Idealize.ShloMosaic.ValueIdx

/-- The lanes of a head pair that belong to its first head. -/
def firstHead : IVec ⟨2, ![128, 128]⟩ 1 :=
  cmpi .slt (iota .tc ⟨2, ![128, 128]⟩ 32 [1] (by decide)) (broadcast ⟨2, ![128, 128]⟩ 64#32)

/-- A lane belongs to the first head exactly when it is below 64. -/
theorem firstHead_apply (r c : Fin 128) : firstHead (ix2 r c) = if c.val < 64 then 1#1 else 0#1 := by
  show IntOp.cmpi .slt (BitVec.ofNat 32 (0 * 128 + c.val)) 64#32 = _
  revert c; decide

/-- The scores of one tile: the two masked copies of the queries scaled by `qs`, stacked, times the keys, plus the bias
    scaled by `l`. -/
def scores (W : Nat) (qs l : Ideal .f32) (q : FVec Ideal ⟨3, ![1, 128, 128]⟩ .bf16) (k : FVec Ideal ⟨3, ![1, W, 128]⟩ .bf16)
    (b : FVec Ideal ⟨3, ![2, 128, W]⟩ .f32)
    (hq : (⟨3, ![1, 128, 128]⟩ : Shape).ShapeCasts ⟨2, ![128, 128]⟩)
    (hc : Shape.Concatenates [⟨2, ![128, 128]⟩, ⟨2, ![128, 128]⟩] ⟨2, ![256, 128]⟩ 0)
    (hb : FTy.bits .bf16 < FTy.bits .f32)
    (hk : (⟨3, ![1, W, 128]⟩ : Shape).ShapeCasts ⟨2, ![W, 128]⟩)
    (hw : (⟨3, ![2, 128, W]⟩ : Shape).ShapeCasts ⟨3, ![2, 128, W]⟩)
    (hw' : (⟨3, ![2, 128, W]⟩ : Shape).ShapeCasts ⟨2, ![256, W]⟩) : FVec Ideal ⟨2, ![256, W]⟩ .f32 :=
  addf
    (matmul (DotDims.transposedRhs 256 128 W) none
      (truncf .bf16
        (concatenate ⟨2, ![256, 128]⟩ 0
          [⟨⟨2, ![128, 128]⟩, select firstHead (mulf (F := Ideal) (extf .f32 (shapeCast ⟨2, ![128, 128]⟩ q hq) hb) (broadcast ⟨2, ![128, 128]⟩ qs))
              (broadcast ⟨2, ![128, 128]⟩ (Scalar.ofBits .f32 0x00000000#32))⟩,
           ⟨⟨2, ![128, 128]⟩, select firstHead (broadcast ⟨2, ![128, 128]⟩ (Scalar.ofBits .f32 0x00000000#32))
              (mulf (F := Ideal) (extf .f32 (shapeCast ⟨2, ![128, 128]⟩ q hq) hb) (broadcast ⟨2, ![128, 128]⟩ qs))⟩] hc) hb)
      (shapeCast ⟨2, ![W, 128]⟩ k hk) (constant ⟨2, ![256, W]⟩ .f32 0x00000000#32))
    (shapeCast ⟨2, ![256, W]⟩ (mulf (F := Ideal) (shapeCast ⟨3, ![2, 128, W]⟩ b hw) (broadcast ⟨3, ![2, 128, W]⟩ l)) hw')

/-- The weights of one tile against values and ones side by side. -/
def weighted (W : Nat) (s : FVec Ideal ⟨2, ![256, W]⟩ .f32) (v : FVec Ideal ⟨3, ![1, W, 128]⟩ .bf16)
    (ones : FVec Ideal ⟨2, ![W, 128]⟩ .bf16)
    (hk : (⟨3, ![1, W, 128]⟩ : Shape).ShapeCasts ⟨2, ![W, 128]⟩)
    (hc : Shape.Concatenates [⟨2, ![W, 128]⟩, ⟨2, ![W, 128]⟩] ⟨2, ![W, 256]⟩ 1)
    (hr : (⟨2, ![256, W]⟩ : Shape).Reduces [1] ⟨1, ![256]⟩)
    (hφ : FKind.Formats .f32) (hn : (0xFF800000#32 : BitVec (FTy.bits .f32)) = FKind.maximumf.neutral .f32 hφ)
    (h1 : (⟨1, ![256]⟩ : Shape).ShapeCasts ⟨2, ![256, 1]⟩)
    (h2 : (⟨2, ![256, 1]⟩ : Shape).Broadcasts ⟨2, ![256, W]⟩)
    (hb : FTy.bits .bf16 < FTy.bits .f32) : FVec Ideal ⟨2, ![256, 256]⟩ .f32 :=
  matmul (DotDims.plain 256 W 256) none
    (truncf .bf16 (exp2 (subf s (broadcastTo ⟨2, ![256, W]⟩ (shapeCast ⟨2, ![256, 1]⟩
      (multiReduction .maximumf [1] ⟨1, ![256]⟩ s 0xFF800000#32 hr hφ hn) h1) h2))) hb)
    (concatenate ⟨2, ![W, 256]⟩ 1 [⟨⟨2, ![W, 128]⟩, shapeCast ⟨2, ![W, 128]⟩ v hk⟩, ⟨⟨2, ![W, 128]⟩, ones⟩] hc)
    (constant ⟨2, ![256, 256]⟩ .f32 0x00000000#32)

/-- The weighted values over the weights' sums. -/
def divided (o : FVec Ideal ⟨2, ![256, 256]⟩ .f32)
    (e1 : (⟨2, ![256, 256]⟩ : Shape).Slices ![0, 128] ⟨2, ![256, 128]⟩)
    (e0 : (⟨2, ![256, 256]⟩ : Shape).Slices ![0, 0] ⟨2, ![256, 128]⟩) : FVec Ideal ⟨2, ![256, 128]⟩ .f32 :=
  divf (extractStridedSlice ⟨2, ![256, 128]⟩ ![0, 0] o e0) (extractStridedSlice ⟨2, ![256, 128]⟩ ![0, 128] o e1)

/-- The result of one tile from its scores: the weighted means, the two heads' halves put together. -/
def result (W : Nat) (s : FVec Ideal ⟨2, ![256, W]⟩ .f32) (v : FVec Ideal ⟨3, ![1, W, 128]⟩ .bf16)
    (ones : FVec Ideal ⟨2, ![W, 128]⟩ .bf16)
    (hk : (⟨3, ![1, W, 128]⟩ : Shape).ShapeCasts ⟨2, ![W, 128]⟩)
    (hc : Shape.Concatenates [⟨2, ![W, 128]⟩, ⟨2, ![W, 128]⟩] ⟨2, ![W, 256]⟩ 1)
    (hr : (⟨2, ![256, W]⟩ : Shape).Reduces [1] ⟨1, ![256]⟩)
    (hφ : FKind.Formats .f32) (hn : (0xFF800000#32 : BitVec (FTy.bits .f32)) = FKind.maximumf.neutral .f32 hφ)
    (h1 : (⟨1, ![256]⟩ : Shape).ShapeCasts ⟨2, ![256, 1]⟩)
    (h2 : (⟨2, ![256, 1]⟩ : Shape).Broadcasts ⟨2, ![256, W]⟩)
    (hb : FTy.bits .bf16 < FTy.bits .f32)
    (e1 : (⟨2, ![256, 256]⟩ : Shape).Slices ![0, 128] ⟨2, ![256, 128]⟩)
    (e0 : (⟨2, ![256, 256]⟩ : Shape).Slices ![0, 0] ⟨2, ![256, 128]⟩)
    (f0 : (⟨2, ![256, 128]⟩ : Shape).Slices ![0, 0] ⟨2, ![128, 128]⟩)
    (f1 : (⟨2, ![256, 128]⟩ : Shape).Slices ![128, 0] ⟨2, ![128, 128]⟩)
    (ho : (⟨2, ![128, 128]⟩ : Shape).ShapeCasts ⟨3, ![1, 128, 128]⟩) : FVec Ideal ⟨3, ![1, 128, 128]⟩ .bf16 :=
  shapeCast ⟨3, ![1, 128, 128]⟩ (truncf .bf16 (select firstHead
    (extractStridedSlice ⟨2, ![128, 128]⟩ ![0, 0] (divided (weighted W s v ones hk hc hr hφ hn h1 h2 hb) e1 e0) f0)
    (extractStridedSlice ⟨2, ![128, 128]⟩ ![128, 0] (divided (weighted W s v ones hk hc hr hφ hn h1 h2 hb) e1 e0) f1)) hb) ho

/-- The weighted mean of `v` under the weights `2 ^ (s - max s)`, over the window. -/
def softmean {W : Nat} (s v : Fin W → EReal) : EReal :=
  let m := (Finset.univ : Finset (Fin W)).fold max ⊥ s
  Ideal.div (∑ j, Ideal.exp2 (s j - m) * v j) (∑ j, Ideal.exp2 (s j - m))

/-- The bit pattern of minus infinity is the least extended real. -/
theorem ofBits_ninf : Ideal.ofBits .f32 0xFF800000#32 = ⊥ := by simp [Ideal.ofBits, Ideal.ieee]

/-- A score: the inner product over the lanes of the row's own head, plus the scaled bias. -/
theorem scores_apply (W : Nat) (qs l : EReal) (q : FVec Ideal ⟨3, ![1, 128, 128]⟩ .bf16) (k : FVec Ideal ⟨3, ![1, W, 128]⟩ .bf16)
    (b : FVec Ideal ⟨3, ![2, 128, W]⟩ .f32) (hq hc hb hk hw hw') (h : Fin 2) (r : Fin 128) (j : Fin W) :
    scores W qs l q k b hq hc hb hk hw hw' (ix2 ⟨h.val * 128 + r.val, by omega⟩ j)
      = (∑ d : Fin 128, (if (d.val < 64 ↔ h.val = 0) then q (ix3 0 r d) * qs else 0) * k (ix3 0 j d)) + b (ix3 h r j) * l := by
  unfold scores
  rw [addf_apply, matmul, Ideal.matmul_transposedRhs_apply, constant_apply]
  rw [show Ideal.ofBits .f32 0x00000000#32 = 0 from Ideal.ofBits_zero_f32, zero_add]
  congr 1
  · refine Finset.sum_congr rfl fun d _ => ?_
    congr 1
    · rw [truncf_apply]
      have hQ : shapeCast ⟨2, ![128, 128]⟩ q hq (ix2 r d) = q (ix3 0 r d) :=
        shapeCast_apply q hq (ix2 r d) (ix3 0 r d) (by
          rw [Shape.rowMajor_val_three, Shape.rowMajor_val_two]; show (0 * 128 + r.val) * 128 + d.val = r.val * 128 + d.val; omega)
      obtain ⟨h, hh⟩ := h
      rcases (by omega : h = 0 ∨ h = 1) with rfl | rfl
      · rw [concatenate_pair_apply_left 0 _ _ hc _ rfl (ix2 r d) (fun b => match b with
          | ⟨0, _⟩ => by show r.val = 0 * 128 + r.val; omega
          | ⟨1, _⟩ => rfl)]
        rw [select_apply, firstHead_apply]
        by_cases hd : d.val < 64
        · rw [if_pos hd, select_one, mulf_apply, extf_apply, hQ, if_pos (by simp [hd])]; rfl
        · rw [if_neg hd, select_zero, if_neg (by simp [hd])]
          exact Ideal.ofBits_zero_f32
      · rw [concatenate_pair_apply_right 0 _ _ hc _ rfl rfl (ix2 r d) (fun b => match b with
          | ⟨0, _⟩ => fun hne => absurd rfl hne
          | ⟨1, _⟩ => fun _ => rfl) (by show r.val + 128 = 1 * 128 + r.val; omega)]
        rw [select_apply, firstHead_apply]
        by_cases hd : d.val < 64
        · rw [if_pos hd, select_one, if_neg (by simp [hd])]
          exact Ideal.ofBits_zero_f32
        · rw [if_neg hd, select_zero, mulf_apply, extf_apply, hQ, if_pos (by simp [hd])]; rfl
    · exact shapeCast_apply k hk (ix2 j d) (ix3 0 j d) (by
        rw [Shape.rowMajor_val_three, Shape.rowMajor_val_two]; show (0 * W + j.val) * 128 + d.val = j.val * 128 + d.val; omega)
  · rw [shapeCast_apply _ hw' _ (ix3 h r j) (by
      rw [Shape.rowMajor_val_three, Shape.rowMajor_val_two]; rfl)]
    rw [mulf_apply, shapeCast_apply b hw _ _ rfl]
    rfl

/-- The result at a row and a lane: the weighted mean of the lane's values under the scores of the lane's head. -/
theorem result_apply (W : Nat) (s : FVec Ideal ⟨2, ![256, W]⟩ .f32) (v : FVec Ideal ⟨3, ![1, W, 128]⟩ .bf16)
    (ones : FVec Ideal ⟨2, ![W, 128]⟩ .bf16) (h1s : ∀ i, ones i = 1)
    (hk hc hr hφ hn h1 h2 hb e1 e0 f0 f1 ho) (r c : Fin 128) :
    result W s v ones hk hc hr hφ hn h1 h2 hb e1 e0 f0 f1 ho (ix3 0 r c)
      = softmean (fun j => s (ix2 ⟨(if c.val < 64 then 0 else 1) * 128 + r.val, by split <;> omega⟩ j)) (fun j => v (ix3 0 j c)) := by
  unfold result
  generalize hO : weighted W s v ones hk hc hr hφ hn h1 h2 hb = o
  generalize hD : divided o e1 e0 = d
  have hd : ∀ R : Fin 256, d (ix2 R c) = softmean (fun j => s (ix2 R j)) (fun j => v (ix3 0 j c)) := by
    intro R
    have hm : ∀ j : Fin W, broadcastTo ⟨2, ![256, W]⟩ (shapeCast ⟨2, ![256, 1]⟩
        (multiReduction .maximumf [1] ⟨1, ![256]⟩ s 0xFF800000#32 hr hφ hn) h1) h2 (ix2 R j)
        = (Finset.univ : Finset (Fin W)).fold max ⊥ (fun j => s (ix2 R j)) := by
      intro j
      rw [broadcastTo_apply _ h2 (ix2 R j) (ix2 R 0) (fun a => match a with
        | ⟨0, _⟩ => rfl
        | ⟨1, _⟩ => rfl)]
      rw [shapeCast_apply _ h1 _ (ix1 R) (by
        rw [Shape.rowMajor_val_two, Shape.rowMajor_val_one]; show R.val = R.val * 1 + 0; omega)]
      rw [Ideal.multiReduction_maximumf_single]
      show Finset.fold max (Ideal.ofBits .f32 0xFF800000#32) _ _ = _
      rw [ofBits_ninf]
      congr 1
      funext k
      show s (hr.lift (ix1 R) k) = s (ix2 R k)
      exact congrArg s (funext fun a => Fin.ext (match a with
        | ⟨0, _⟩ => rfl
        | ⟨1, _⟩ => rfl))
    have ho' : ∀ C : Fin 256, o (ix2 R C) = ∑ j : Fin W,
        Ideal.exp2 (s (ix2 R j) - (Finset.univ : Finset (Fin W)).fold max ⊥ (fun j => s (ix2 R j)))
          * concatenate ⟨2, ![W, 256]⟩ 1 [⟨⟨2, ![W, 128]⟩, shapeCast ⟨2, ![W, 128]⟩ v hk⟩, ⟨⟨2, ![W, 128]⟩, ones⟩] hc (ix2 j C) := by
      intro C
      rw [← hO, weighted, matmul, Ideal.matmul_plain_apply, constant_apply]
      rw [show Ideal.ofBits .f32 0x00000000#32 = 0 from Ideal.ofBits_zero_f32, zero_add]
      refine Finset.sum_congr rfl fun j _ => ?_
      congr 1
      rw [truncf_apply]
      show Ideal.exp2 (s (ix2 R j) - _) = _
      rw [hm j]
    rw [← hD]
    show Ideal.div (extractStridedSlice ⟨2, ![256, 128]⟩ ![0, 0] o e0 (ix2 R c)) (extractStridedSlice ⟨2, ![256, 128]⟩ ![0, 128] o e1 (ix2 R c)) = _
    rw [extractStridedSlice_apply _ o e0 _ (ix2 R ⟨c.val, by omega⟩) (fun a => match a with
        | ⟨0, _⟩ => by show R.val = 0 + R.val; omega
        | ⟨1, _⟩ => by show c.val = 0 + c.val; omega),
      extractStridedSlice_apply _ o e1 _ (ix2 R ⟨128 + c.val, by omega⟩) (fun a => match a with
        | ⟨0, _⟩ => by show R.val = 0 + R.val; omega
        | ⟨1, _⟩ => by show 128 + c.val = 128 + c.val; omega), ho', ho']
    unfold softmean
    dsimp only
    congr 1
    · refine Finset.sum_congr rfl fun j _ => ?_
      congr 1
      rw [concatenate_pair_apply_left 1 _ _ hc _ rfl (ix2 j c) (fun b => match b with
          | ⟨0, _⟩ => rfl
          | ⟨1, _⟩ => rfl)]
      exact shapeCast_apply v hk (ix2 j c) (ix3 0 j c) (by
        rw [Shape.rowMajor_val_three, Shape.rowMajor_val_two]; show (0 * W + j.val) * 128 + c.val = j.val * 128 + c.val; omega)
    · refine Finset.sum_congr rfl fun j _ => ?_
      rw [concatenate_pair_apply_right 1 _ _ hc _ rfl rfl (ix2 j c) (fun b => match b with
          | ⟨0, _⟩ => fun _ => rfl
          | ⟨1, _⟩ => fun hne => absurd rfl hne) (by show c.val + 128 = 128 + c.val; omega), h1s, mul_one]
  rw [shapeCast_apply _ ho _ (ix2 r c) (by
    rw [Shape.rowMajor_val_three, Shape.rowMajor_val_two]; show r.val * 128 + c.val = (0 * 128 + r.val) * 128 + c.val; omega)]
  rw [truncf_apply, select_apply, firstHead_apply]
  by_cases hc' : c.val < 64
  · rw [if_pos hc', select_one, extractStridedSlice_apply _ d f0 _ (ix2 ⟨r.val, by omega⟩ c) (fun a => match a with
      | ⟨0, _⟩ => by show r.val = 0 + r.val; omega
      | ⟨1, _⟩ => by show c.val = 0 + c.val; omega), hd]
    simp only [if_pos hc']
    congr 1
    funext j
    congr 1
    simp
  · rw [if_neg hc', select_zero, extractStridedSlice_apply _ d f1 _ (ix2 ⟨128 + r.val, by omega⟩ c) (fun a => match a with
      | ⟨0, _⟩ => by show 128 + r.val = 128 + r.val; omega
      | ⟨1, _⟩ => by show c.val = 0 + c.val; omega), hd]
    simp only [if_neg hc']

end Cert.AttnUnit

end
-- ==== Proof.MixerAHost.lean ====
module
public import proofs.«01_k».proof.Proof.Gen.MixerAIdeal.Frame.Runs
public import Idealize.ShloMosaic.Lib.ValueIdx
public import Idealize.ShloMosaic.Lib.Claim
public import proofs.«01_k».proof.Proof.AttnUnit
public import Idealize.ShloMosaic.Lib.Pipeline.Value
@[expose] public section

/-! # The arrays the chunked attention is launched with

The joined projections at an index, and the bias table: the relative position bias of a query row and a key column inside
the band, minus infinity outside it.
-/

set_option maxRecDepth 16384

noncomputable section
open scoped BigOperators
open Idealize.ShloMosaic Idealize.ShloMosaic.TcCoe Idealize.ShloMosaic.ValueIdx Idealize.SL.Sem
open Cert.MixerAIdeal Cert.MixerAIdeal.Gen

namespace Cert.MixerAHost

variable (m : (ℓ : Loc nD τ sig) → Buf (Elt Ideal) ℓ)

/-- The joined projections. -/
def joined (x0 x1 x2 : S16x2048x512.Idx → EReal) (x3 : S16x2048x768.Idx → EReal) : S16x2048x2304.Idx → EReal :=
  concatenate S16x2048x2304 2 [⟨S16x2048x512, x0⟩, ⟨S16x2048x512, x1⟩, ⟨S16x2048x512, x2⟩, ⟨S16x2048x768, x3⟩]
    concatenates_S16x2048x512_S16x2048x512_S16x2048x512_S16x2048x768_S16x2048x2304_d2

theorem V_joined (c : Dev nD) : (V m c main_v1 : S16x2048x2304.Idx → EReal)
    = joined (m ((c.tc : Thread nD τ).loc main_arg0)) (m ((c.tc : Thread nD τ).loc main_arg1)) (m ((c.tc : Thread nD τ).loc main_arg2))
        (m ((c.tc : Thread nD τ).loc main_arg3)) := by
  entry_read
  rfl

variable (x0 x1 x2 : S16x2048x512.Idx → EReal) (x3 : S16x2048x768.Idx → EReal)

theorem joined_q (b : Fin 16) (r : Fin 2048) (d : Fin 512) (n : Fin 2304) (hn : n.val = d.val) :
    joined x0 x1 x2 x3 (ix3 b r n) = x0 (ix3 b r d) := by
  unfold joined
  refine concatenate_apply_piece (t := S16x2048x2304) 2 [⟨S16x2048x512, x0⟩, ⟨S16x2048x512, x1⟩, ⟨S16x2048x512, x2⟩, ⟨S16x2048x768, x3⟩] _ _ 0 (by show _ < 4; omega) S16x2048x512 x0 rfl rfl 0 rfl _ (fun a ha => ?_) ?_
  · match a with
    | ⟨0, _⟩ => rfl
    | ⟨1, _⟩ => rfl
    | ⟨2, _⟩ => exact absurd rfl ha
  · show 0 + d.val = n.val; omega

theorem joined_k (b : Fin 16) (r : Fin 2048) (d : Fin 512) (n : Fin 2304) (hn : n.val = 512 + d.val) :
    joined x0 x1 x2 x3 (ix3 b r n) = x1 (ix3 b r d) := by
  unfold joined
  refine concatenate_apply_piece (t := S16x2048x2304) 2 [⟨S16x2048x512, x0⟩, ⟨S16x2048x512, x1⟩, ⟨S16x2048x512, x2⟩, ⟨S16x2048x768, x3⟩] _ _ 1 (by show _ < 4; omega) S16x2048x512 x1 rfl rfl 512 rfl _ (fun a ha => ?_) ?_
  · match a with
    | ⟨0, _⟩ => rfl
    | ⟨1, _⟩ => rfl
    | ⟨2, _⟩ => exact absurd rfl ha
  · show 512 + d.val = n.val; omega

theorem joined_v (b : Fin 16) (r : Fin 2048) (d : Fin 512) (n : Fin 2304) (hn : n.val = 1024 + d.val) :
    joined x0 x1 x2 x3 (ix3 b r n) = x2 (ix3 b r d) := by
  unfold joined
  refine concatenate_apply_piece (t := S16x2048x2304) 2 [⟨S16x2048x512, x0⟩, ⟨S16x2048x512, x1⟩, ⟨S16x2048x512, x2⟩, ⟨S16x2048x768, x3⟩] _ _ 2 (by show _ < 4; omega) S16x2048x512 x2 rfl rfl 1024 rfl _ (fun a ha => ?_) ?_
  · match a with
    | ⟨0, _⟩ => rfl
    | ⟨1, _⟩ => rfl
    | ⟨2, _⟩ => exact absurd rfl ha
  · show 1024 + d.val = n.val; omega

/-! ## The bias table -/

/-- The table of a head without its first entry, its last entry repeated to 767 entries. -/
def extended (x4 : S1x8x257.Idx → EReal) : S8x767.Idx → EReal :=
  concatenate S8x767 1 [⟨S8x256, extractStridedSlice S8x256 ![0, 1] (shapeCast S8x257 x4 shapeCasts_S1x8x257_S8x257) slices_S8x257_S8x256_0_1⟩,
    ⟨S8x511, broadcastInDim S8x511 ![0, 1] bcast_S8x1_S8x511_0_1 (extractStridedSlice S8x1 ![0, 256] (shapeCast S8x257 x4 shapeCasts_S1x8x257_S8x257) slices_S8x257_S8x1_0_256)⟩]
    concatenates_S8x256_S8x511_S8x767_d1

/-- Row `i` of a head is the extended table moved `i` entries, read backwards. -/
def skewed (e : S8x767.Idx → EReal) : S8x128x640.Idx → EReal :=
  Host.reverse [2] (extractStridedSlice S8x128x640 ![0, 0, 0] (shapeCast S8x128x768 (extractStridedSlice S8x98304 ![0, 0]
    (shapeCast S8x98943 (broadcastInDim S1x8x129x767 ![0, 1, 2, 3] bcast_S1x8x1x767_S1x8x129x767_0_1_2_3 (shapeCast S1x8x1x767 e shapeCasts_S8x767_S1x8x1x767))
      shapeCasts_S1x8x129x767_S8x98943) slices_S8x98943_S8x98304_0_0) shapeCasts_S8x98304_S8x128x768) slices_S8x128x768_S8x128x640_0_0_0)

/-- The band: a key's chunk of 64 is at or after the query's and at most eight chunks after it, the keys numbered from
    512 before the query tile. -/
def band : S128x640.Idx → BitVec 1 :=
  andi (cmpi .sge (Host.divsi (iotaInDim S128x640 32 1) (broadcastInDim S128x640 ![] bcast_S_S128x640 (constantI S_ 32 64#32)))
      (Host.divsi (iotaInDim S128x640 32 0) (broadcastInDim S128x640 ![] bcast_S_S128x640 (constantI S_ 32 64#32))))
    (cmpi .sle (Host.divsi (iotaInDim S128x640 32 1) (broadcastInDim S128x640 ![] bcast_S_S128x640 (constantI S_ 32 64#32)))
      (addi (Host.divsi (iotaInDim S128x640 32 0) (broadcastInDim S128x640 ![] bcast_S_S128x640 (constantI S_ 32 64#32)))
        (broadcastInDim S128x640 ![] bcast_S_S128x640 (constantI S_ 32 8#32))))

/-- The bias table the kernel reads. -/
def biasTable (x4 : S1x8x257.Idx → EReal) : S8x128x640.Idx → EReal :=
  select (broadcastInDim S8x128x640 ![0, 1, 2] bcast_S1x128x640_S8x128x640_0_1_2 (broadcastInDim S1x128x640 ![1, 2] bcast_S128x640_S1x128x640_1_2 band))
    (skewed (extended x4)) (broadcastInDim S8x128x640 ![] bcast_S_S8x128x640 (constant (F := Ideal) S_ .f32 0xFF800000#32))

theorem V_bias (c : Dev nD) : (V m c main_v31 : S8x128x640.Idx → EReal) = biasTable (m ((c.tc : Thread nD τ).loc main_arg4)) := by
  entry_read
  rfl

theorem head_row (x4 : S1x8x257.Idx → EReal) (h : Fin 8) (n : Fin 257) :
    shapeCast S8x257 x4 shapeCasts_S1x8x257_S8x257 (ix2 h n) = x4 (ix3 0 h n) := by
  refine shapeCast_apply _ _ _ _ ?_
  rw [Shape.rowMajor_val_three, Shape.rowMajor_val_two]
  show (0 * 8 + h.val) * 257 + n.val = h.val * 257 + n.val
  omega

theorem extended_apply (x4 : S1x8x257.Idx → EReal) (h : Fin 8) (n : Fin 767) :
    extended x4 (ix2 h n) = x4 (ix3 0 h ⟨min (n.val + 1) 256, by omega⟩) := by
  unfold extended
  by_cases hn : n.val < 256
  · refine (concatenate_pair_apply_left (t := S8x767) (s₁ := S8x256) (s₂ := S8x511) 1 _ _ _ _ rfl (ix2 h (⟨n.val, hn⟩ : Fin 256)) (fun a => match a with
      | ⟨0, _⟩ => rfl
      | ⟨1, _⟩ => rfl)).trans ?_
    refine (extractStridedSlice_apply (s := S8x257) (t := S8x256) ![0, 1] _ _ _ (ix2 h (⟨n.val + 1, by omega⟩ : Fin 257)) (fun a => match a with
      | ⟨0, _⟩ => by show h.val = 0 + h.val; omega
      | ⟨1, _⟩ => by show n.val + 1 = 1 + n.val; omega)).trans ?_
    rw [head_row]
    exact congrArg (fun q => x4 (ix3 0 h q)) (Fin.ext (by show n.val + 1 = min (n.val + 1) 256; omega))
  · refine (concatenate_pair_apply_right (t := S8x767) (s₁ := S8x256) (s₂ := S8x511) 1 _ _ _ _ rfl rfl (ix2 h (⟨n.val - 256, by omega⟩ : Fin 511)) (fun a ha => match a with
      | ⟨0, _⟩ => rfl
      | ⟨1, _⟩ => absurd rfl ha) (by show n.val - 256 + 256 = n.val; omega)).trans ?_
    refine (broadcastInDim_apply (s := S8x1) (t := S8x511) ![0, 1] _ _ _ (ix2 h (0 : Fin 1)) (fun a => match a with
      | ⟨0, _⟩ => rfl
      | ⟨1, _⟩ => rfl)).trans ?_
    refine (extractStridedSlice_apply (s := S8x257) (t := S8x1) ![0, 256] _ _ _ (ix2 h (⟨256, by omega⟩ : Fin 257)) (fun a => match a with
      | ⟨0, _⟩ => by show h.val = 0 + h.val; omega
      | ⟨1, _⟩ => rfl)).trans ?_
    rw [head_row]
    exact congrArg (fun q => x4 (ix3 0 h q)) (Fin.ext (by show 256 = min (n.val + 1) 256; omega))

theorem skewed_apply (e : S8x767.Idx → EReal) (h : Fin 8) (i : Fin 128) (j : Fin 640) :
    skewed e (ix3 h i j) = e (ix2 h ⟨i.val + (639 - j.val), by omega⟩) := by
  unfold skewed
  refine (extractStridedSlice_apply (s := S8x128x768) (t := S8x128x640) ![0, 0, 0] _ _ _ (ix3 h i (⟨639 - j.val, by omega⟩ : Fin 768)) (fun a => match a with
    | ⟨0, _⟩ => by show h.val = 0 + h.val; omega
    | ⟨1, _⟩ => by show i.val = 0 + i.val; omega
    | ⟨2, _⟩ => by show 639 - j.val = 0 + (640 - (j.val + 1)); omega)).trans ?_
  refine (shapeCast_apply (s := S8x98304) (t := S8x128x768) _ _ _ (ix2 h (⟨i.val * 768 + (639 - j.val), by omega⟩ : Fin 98304)) (by
    rw [Shape.rowMajor_val_three, Shape.rowMajor_val_two]
    show h.val * 98304 + (i.val * 768 + (639 - j.val)) = (h.val * 128 + i.val) * 768 + (639 - j.val); omega)).trans ?_
  refine (extractStridedSlice_apply (s := S8x98943) (t := S8x98304) ![0, 0] _ _ _ (ix2 h (⟨i.val * 768 + (639 - j.val), by omega⟩ : Fin 98943)) (fun a => match a with
    | ⟨0, _⟩ => by show h.val = 0 + h.val; omega
    | ⟨1, _⟩ => by show i.val * 768 + (639 - j.val) = 0 + (i.val * 768 + (639 - j.val)); omega)).trans ?_
  refine (shapeCast_apply (s := S1x8x129x767) (t := S8x98943) _ _ _ (ix4 0 h (⟨i.val, by omega⟩ : Fin 129) (⟨i.val + (639 - j.val), by omega⟩ : Fin 767)) (by
    rw [Shape.rowMajor_val_four, Shape.rowMajor_val_two]
    show ((0 * 8 + h.val) * 129 + i.val) * 767 + (i.val + (639 - j.val)) = h.val * 98943 + (i.val * 768 + (639 - j.val)); omega)).trans ?_
  refine (broadcastInDim_apply (s := S1x8x1x767) (t := S1x8x129x767) ![0, 1, 2, 3] _ _ _ (ix4 0 h (0 : Fin 1) (⟨i.val + (639 - j.val), by omega⟩ : Fin 767)) (fun a => match a with
    | ⟨0, _⟩ => rfl
    | ⟨1, _⟩ => rfl
    | ⟨2, _⟩ => rfl
    | ⟨3, _⟩ => rfl)).trans ?_
  refine shapeCast_apply (s := S8x767) (t := S1x8x1x767) _ _ _ _ ?_
  rw [Shape.rowMajor_val_four, Shape.rowMajor_val_two]
  show h.val * 767 + (i.val + (639 - j.val)) = ((0 * 8 + h.val) * 1 + 0) * 767 + (i.val + (639 - j.val)); omega

/-- Dividing a small word by 64. -/
theorem div64 : ∀ n < 2048, IntOp.divsi .host (BitVec.ofNat 32 n) 64#32 = BitVec.ofNat 32 (n / 64) := by
  decide +kernel

/-- Comparing small words. -/
theorem sle_small (a b : Nat) (ha : a < 2 ^ 31) (hb : b < 2 ^ 31) :
    (BitVec.ofNat 32 a).sle (BitVec.ofNat 32 b) = decide (a ≤ b) := by
  rw [BitVec.sle_eq_decide, BitVec.toInt_eq_toNat_of_lt, BitVec.toInt_eq_toNat_of_lt, BitVec.toNat_ofNat, BitVec.toNat_ofNat,
    Nat.mod_eq_of_lt (by omega), Nat.mod_eq_of_lt (by omega)]
  · exact decide_eq_decide.2 Int.ofNat_le
  all_goals rw [BitVec.toNat_ofNat]; omega

theorem and_bits (p q : Prop) [Decidable p] [Decidable q] :
    IntOp.andi (BitVec.ofBool (decide p)) (BitVec.ofBool (decide q)) = if p ∧ q then 1#1 else 0#1 := by
  by_cases hp : p <;> by_cases hq : q <;> simp [hp, hq, IntOp.andi]

theorem band_apply (i : Fin 128) (j : Fin 640) :
    band (ix2 i j) = if i.val / 64 ≤ j.val / 64 ∧ j.val / 64 ≤ i.val / 64 + 8 then 1#1 else 0#1 := by
  have e : band (ix2 i j) = IntOp.andi (BitVec.ofBool ((IntOp.divsi .host (BitVec.ofNat 32 i.val) 64#32).sle (IntOp.divsi .host (BitVec.ofNat 32 j.val) 64#32)))
      (BitVec.ofBool ((IntOp.divsi .host (BitVec.ofNat 32 j.val) 64#32).sle (IntOp.divsi .host (BitVec.ofNat 32 i.val) 64#32 + 8#32))) := rfl
  rw [e, div64 _ (by omega), div64 _ (by omega), show (BitVec.ofNat 32 (i.val / 64) + 8#32) = BitVec.ofNat 32 (i.val / 64 + 8) from (BitVec.ofNat_add ..).symm,
    sle_small _ _ (by omega) (by omega), sle_small _ _ (by omega) (by omega), and_bits]

theorem biasTable_apply (x4 : S1x8x257.Idx → EReal) (h : Fin 8) (i : Fin 128) (j : Fin 640) :
    biasTable x4 (ix3 h i j) = if i.val / 64 ≤ j.val / 64 ∧ j.val / 64 ≤ i.val / 64 + 8
      then x4 (ix3 0 h ⟨min (i.val + (639 - j.val) + 1) 256, by omega⟩) else ⊥ := by
  have e : biasTable x4 (ix3 h i j) = Scalar.select (band (ix2 i j)) (skewed (extended x4) (ix3 h i j)) (FloatOps.ofBits (F := Ideal) .f32 0xFF800000#32) := by
    show Scalar.select (broadcastInDim _ _ _ _ _) _ _ = _
    refine congrArg (fun q => Scalar.select q _ _) ?_
    refine (broadcastInDim_apply (s := S1x128x640) (t := S8x128x640) ![0, 1, 2] _ _ _ (ix3 0 i j) (fun a => match a with
      | ⟨0, _⟩ => rfl
      | ⟨1, _⟩ => rfl
      | ⟨2, _⟩ => rfl)).trans ?_
    exact broadcastInDim_apply (s := S128x640) (t := S1x128x640) ![1, 2] _ _ _ (ix2 i j) (fun a => match a with
      | ⟨0, _⟩ => rfl
      | ⟨1, _⟩ => rfl)
  rw [e, band_apply, skewed_apply, extended_apply]
  by_cases hb : i.val / 64 ≤ j.val / 64 ∧ j.val / 64 ≤ i.val / 64 + 8
  · rw [if_pos hb, if_pos hb]; rfl
  · rw [if_neg hb, if_neg hb]; exact Cert.AttnUnit.ofBits_ninf

end Cert.MixerAHost

end
-- ==== Proof.MixerARef.lean ====
module
public import proofs.«01_k».proof.Proof.Gen.MixerARefIdeal.Read
public import proofs.«01_k».proof.Proof.MixerAHost
@[expose] public section

/-! # The reference of the chunked attention at an index -/

set_option maxRecDepth 16384

noncomputable section
open scoped BigOperators
open Idealize.ShloMosaic Idealize.ShloMosaic.TcCoe Idealize.ShloMosaic.ValueIdx Idealize.SL.Sem
open Cert.MixerARefIdeal Cert.MixerARefIdeal.Gen Cert.MixerARefIdeal.Read

namespace Cert.MixerARef

/-- The table position of a query and a key, before it is read: their distance, clipped to 128 each way, plus 128. -/
theorem clip_word : ∀ k < 4095, (IntOp.addi (IntOp.minsi 128#32 (IntOp.maxsi 4294967168#32 (BitVec.ofNat 32 k - 2047#32))) 128#32).toInt.toNat
    = min (k + 128 - 2047) 256 := by decide +kernel

theorem sub_word (t u : Nat) (hu : u < 2048) : BitVec.ofNat 32 t - BitVec.ofNat 32 u = BitVec.ofNat 32 (t + 2047 - u) - 2047#32 := by
  apply BitVec.eq_of_toNat_eq
  simp only [BitVec.toNat_sub, BitVec.toNat_ofNat]
  omega

theorem pos_apply (t u : Fin 2048) : (val_main_v5 (F := Ideal) (ix2 t u)).toInt.toNat = min (t.val + 128 - u.val) 256 := by
  have e : val_main_v5 (F := Ideal) (ix2 t u)
      = IntOp.addi (IntOp.minsi 128#32 (IntOp.maxsi 4294967168#32 (BitVec.ofNat 32 t.val - BitVec.ofNat 32 u.val))) 128#32 := by
    simp only [val_main_v5_apply, val_main_v3_apply, val_main_v4_apply, val_main_c_1_apply, val_main_call0_v4_apply, val_main_call0_v3_apply,
      val_main_c_0_apply, val_main_call0_v2_apply, val_main_call0_v1_apply, val_main_call0_v0_apply, val_main_c_apply, val_main_v2_apply,
      val_main_v0_apply, val_main_v1_apply]
    rfl
  rw [e, sub_word _ _ u.isLt, clip_word _ (by omega)]
  omega

/-- A row of the table gathered at a position. -/
theorem gather_row (x : S8x257.Idx → EReal) (idx : IVec S2048x2048x1 32) (h : Fin 8) (t u : Fin 2048) :
    Host.gather gather_S8x257_S2048x2048x1_S8x2048x2048_0_1_n_n_1_2_81 x idx (ix3 h t u)
      = x (ix2 h ⟨min (idx (ix3 t u 0)).toInt.toNat 256, by omega⟩) := by
  unfold Host.gather
  congr 1
  funext a
  refine Fin.ext ?_
  let D := gather_S8x257_S2048x2048x1_S8x2048x2048_0_1_n_n_1_2_81
  show D.start (ix3 h t u) idx a + D.batchCoord (ix3 h t u) a + D.offCoord (ix3 h t u) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by exact absurd h List.not_mem_nil)]
    unfold GatherDims.start
    rw [dif_neg (show ¬ (0 : Fin 2) ∈ D.startIndexMap from by decide)]
    show 0 + 0 + D.offCoord (ix3 h t u) 0 = h.val
    unfold GatherDims.offCoord
    rw [dif_pos (show (0 : Fin 2) ∈ D.sKept from by decide)]
    show 0 + 0 + h.val = h.val
    omega
  · rw [GatherDims.batchCoord_eq_zero _ _ _ (fun h => by exact absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl)]
    have hsi : D.siIdx (ix3 h t u) ⟨List.idxOf (1 : Fin 2) D.startIndexMap,
        List.idxOf_lt_length_iff.2 (List.mem_singleton.mpr rfl)⟩ = ix3 t u 0 := by
      funext b; refine Fin.ext ?_
      match b with
      | ⟨0, _⟩ => rfl
      | ⟨1, _⟩ => rfl
      | ⟨2, _⟩ => rfl
    rw [hsi]
    rfl

variable (x0 x1 x2 : S16x2048x512.Idx → EReal) (x4 : S1x8x257.Idx → EReal)

theorem rel_apply (h : Fin 8) (t u : Fin 2048) :
    val_main_v7 (F := Ideal) x4 (ix3 h t u) = x4 (ix3 0 h ⟨min (t.val + 128 - u.val) 256, by omega⟩) := by
  unfold val_main_v7
  refine (gather_row _ _ h t u).trans ?_
  refine (val_main_v6_apply (F := Ideal) x4 _).trans ?_
  refine congrArg x4 (funext fun a => Fin.ext ?_)
  have e : (val_main_call1_v0 (F := Ideal) (ix3 t u 0)).toInt.toNat = min (t.val + 128 - u.val) 256 := by
    rw [val_main_call1_v0_apply]
    exact pos_apply t u
  have hh := h.isLt
  match a with
  | ⟨0, _⟩ => rfl
  | ⟨1, _⟩ =>
    show (h.val * 257 + min (val_main_call1_v0 (F := Ideal) (ix3 t u 0)).toInt.toNat 256) / 257 % 8 = h.val
    omega
  | ⟨2, _⟩ =>
    show (h.val * 257 + min (val_main_call1_v0 (F := Ideal) (ix3 t u 0)).toInt.toNat 256) % 257 = min (t.val + 128 - u.val) 256
    rw [e]; omega

/-- A key is in a query's band: its chunk of 64 is the query's or one of the eight before it. -/
def InBand (t u : Nat) : Prop := u / 64 ≤ t / 64 ∧ t / 64 ≤ u / 64 + 8

instance (t u : Nat) : Decidable (InBand t u) := inferInstanceAs (Decidable (_ ∧ _))

theorem mask_apply (t u : Fin 2048) : val_main_v28 (F := Ideal) (ix2 t u) = if InBand t.val u.val then 1#1 else 0#1 := by
  have e : val_main_v28 (F := Ideal) (ix2 t u)
      = IntOp.andi (BitVec.ofBool ((IntOp.divsi .host (BitVec.ofNat 32 u.val) 64#32).sle (IntOp.divsi .host (BitVec.ofNat 32 t.val) 64#32)))
        (BitVec.ofBool ((IntOp.divsi .host (BitVec.ofNat 32 t.val) 64#32).sle (IntOp.divsi .host (BitVec.ofNat 32 u.val) 64#32 + 8#32))) := by
    simp only [val_main_v28_apply, val_main_v20_apply, val_main_v17_apply, val_main_v15_apply, val_main_v16_apply, val_main_c_2_apply,
      val_main_v19_apply, val_main_v14_apply, val_main_v18_apply, val_main_c_3_apply, val_main_v27_apply, val_main_v22_apply, val_main_v21_apply,
      val_main_c_4_apply, val_main_v26_apply, val_main_v24_apply, val_main_v23_apply, val_main_c_5_apply, val_main_v25_apply, val_main_c_6_apply]
    rfl
  rw [e, MixerAHost.div64 _ t.isLt, MixerAHost.div64 _ u.isLt, show (BitVec.ofNat 32 (u.val / 64) + 8#32) = BitVec.ofNat 32 (u.val / 64 + 8) from (BitVec.ofNat_add ..).symm,
    MixerAHost.sle_small _ _ (by omega) (by omega), MixerAHost.sle_small _ _ (by omega) (by omega), MixerAHost.and_bits]
  rfl

/-- The score of query row `t` against key row `u` for head `h` of batch row `b`. -/
def score (b : Fin 16) (h : Fin 8) (t u : Fin 2048) : EReal :=
  if InBand t.val u.val then
    (∑ k : Fin 64, x0 (ix3 b t ⟨64 * h.val + k.val, by omega⟩) * x1 (ix3 b u ⟨64 * h.val + k.val, by omega⟩)) * Ideal.ofBits .f32 0x3E000000#32
      + x4 (ix3 0 h ⟨min (t.val + 128 - u.val) 256, by omega⟩)
  else ⊥

theorem heads_q (b : Fin 16) (h : Fin 8) (t : Fin 2048) (d : Fin 64) :
    val_main_v9 (F := Ideal) x0 (ix4 b h t d) = x0 (ix3 b t ⟨64 * h.val + d.val, by omega⟩) := by
  refine (val_main_v9_apply (F := Ideal) x0 _).trans ((val_main_v8_apply (F := Ideal) x0 _).trans ?_)
  refine congrArg x0 (funext fun a => Fin.ext ?_)
  have hb := b.isLt
  have hh := h.isLt
  have ht := t.isLt
  have hd := d.isLt
  match a with
  | ⟨0, _⟩ => show (((b.val * 2048 + t.val) * 8 + h.val) * 64 + d.val) / 1048576 = b.val; omega
  | ⟨1, _⟩ => show (((b.val * 2048 + t.val) * 8 + h.val) * 64 + d.val) / 512 % 2048 = t.val; omega
  | ⟨2, _⟩ => show (((b.val * 2048 + t.val) * 8 + h.val) * 64 + d.val) % 512 = 64 * h.val + d.val; omega

theorem heads_k (b : Fin 16) (h : Fin 8) (t : Fin 2048) (d : Fin 64) :
    val_main_v11 (F := Ideal) x1 (ix4 b h t d) = x1 (ix3 b t ⟨64 * h.val + d.val, by omega⟩) := heads_q x1 b h t d

theorem heads_v (b : Fin 16) (h : Fin 8) (t : Fin 2048) (d : Fin 64) :
    val_main_v13 (F := Ideal) x2 (ix4 b h t d) = x2 (ix3 b t ⟨64 * h.val + d.val, by omega⟩) := heads_q x2 b h t d

theorem score_apply (b : Fin 16) (h : Fin 8) (t u : Fin 2048) :
    val_main_v37 (F := Ideal) x0 x1 x4 (ix4 b h t u) = score x0 x1 x4 b h t u := by
  have e1 : val_main_v35 (F := Ideal) (ix4 b h t u) = if InBand t.val u.val then 1#1 else 0#1 :=
    (val_main_v35_apply (F := Ideal) _).trans (mask_apply t u)
  have e2 : val_main_v33 (F := Ideal) x4 (ix4 b h t u) = x4 (ix3 0 h ⟨min (t.val + 128 - u.val) 256, by omega⟩) :=
    (val_main_v33_apply (F := Ideal) x4 _).trans ((val_main_v32_apply (F := Ideal) x4 _).trans (rel_apply x4 h t u))
  have e3 : val_main_v29 (F := Ideal) x0 x1 (ix4 b h t u)
      = ∑ k : Fin 64, x0 (ix3 b t ⟨64 * h.val + k.val, by omega⟩) * x1 (ix3 b u ⟨64 * h.val + k.val, by omega⟩) := by
    refine (val_main_v29_apply x0 x1 _).trans (Finset.sum_congr rfl fun k _ => ?_)
    exact congrArg₂ (· * ·) (heads_q x0 b h t k) (heads_k x1 b h u k)
  rw [val_main_v37_apply, val_main_v34_apply, val_main_v31_apply, val_main_v30_apply, val_main_v36_apply, e1, e2, e3]
  unfold score
  by_cases hb : InBand t.val u.val
  · rw [if_pos hb, if_pos hb]; rfl
  · rw [if_neg hb, if_neg hb]; exact AttnUnit.ofBits_ninf

theorem reduces_keys : S16x8x2048x2048.Reduces [3] S16x8x2048 := by decide

theorem max_apply (b : Fin 16) (h : Fin 8) (t : Fin 2048) :
    val_main_v40 (F := Ideal) x0 x1 x4 (ix3 b h t) = (Finset.univ : Finset (Fin 2048)).fold max ⊥ (score x0 x1 x4 b h t) := by
  have e : val_main_v38 (F := Ideal) x0 x1 x4 (ix3 b h t) = (Finset.univ : Finset (Fin 2048)).fold max ⊥ (score x0 x1 x4 b h t) := by
    unfold val_main_v38
    refine (Host.reduce_eq_fold_single (α := EReal) max (val_main_v37 (F := Ideal) x0 x1 x4) (val_main_cst_8 (F := Ideal))
      reducesTo_S16x8x2048x2048_S16x8x2048_d3 reduces_keys h_S_ (ix3 b h t)).trans ?_
    have e0 : (val_main_cst_8 (F := Ideal)) (Shape.Idx.first h_S_) = (⊥ : EReal) := AttnUnit.ofBits_ninf
    rw [e0]
    refine congrArg (fun f => Finset.fold max ⊥ f Finset.univ) (funext fun u => ?_)
    refine Eq.trans ?_ (score_apply x0 x1 x4 b h t u)
    show val_main_v37 (F := Ideal) x0 x1 x4 _ = _
    refine congrArg _ (funext fun a => Fin.ext ?_)
    match a with
    | ⟨0, _⟩ => rfl
    | ⟨1, _⟩ => rfl
    | ⟨2, _⟩ => rfl
    | ⟨3, _⟩ => rfl
  have e0 : val_main_v39 (F := Ideal) (ix3 b h t) = (⊥ : EReal) := (val_main_v39_apply (F := Ideal) _).trans AttnUnit.ofBits_ninf
  rw [val_main_v40_apply, e, e0]
  exact max_eq_right bot_le

/-- The weight of a key before it is divided by the total. -/
theorem weight_apply (b : Fin 16) (h : Fin 8) (t u : Fin 2048) :
    val_main_v44 (F := Ideal) x0 x1 x4 (ix4 b h t u)
      = Ideal.exp (score x0 x1 x4 b h t u - (Finset.univ : Finset (Fin 2048)).fold max ⊥ (score x0 x1 x4 b h t)) := by
  have e : val_main_v42 (F := Ideal) x0 x1 x4 (ix4 b h t u) = (Finset.univ : Finset (Fin 2048)).fold max ⊥ (score x0 x1 x4 b h t) :=
    (val_main_v42_apply (F := Ideal) x0 x1 x4 _).trans ((val_main_v41_apply (F := Ideal) x0 x1 x4 _).trans
      ((congrArg (val_main_v40 (F := Ideal) x0 x1 x4) (eq_ix3 (idx_main_v41 (idx_main_v42 (ix4 b h t u))))).trans (max_apply x0 x1 x4 b h t)))
  rw [val_main_v44_apply, val_main_v43_apply, e, score_apply]
  rfl

theorem total_apply (b : Fin 16) (h : Fin 8) (t u : Fin 2048) :
    val_main_v47 (F := Ideal) x0 x1 x4 (ix4 b h t u)
      = ∑ u : Fin 2048, Ideal.exp (score x0 x1 x4 b h t u - (Finset.univ : Finset (Fin 2048)).fold max ⊥ (score x0 x1 x4 b h t)) := by
  refine (val_main_v47_apply (F := Ideal) x0 x1 x4 _).trans ((val_main_v46_apply (F := Ideal) x0 x1 x4 _).trans ?_)
  refine (congrArg (val_main_v45 (F := Ideal) x0 x1 x4) (show idx_main_v46 (idx_main_v47 (ix4 b h t u)) = ix3 b h t from eq_ix3 _)).trans ?_
  refine (val_main_v45_apply x0 x1 x4 _).trans ?_
  have e0 : (val_main_cst_10 (F := Ideal)) (Shape.Idx.first h_S_) = (0 : EReal) := by
    show Ideal.ofBits .f32 0x00000000#32 = 0
    simp [Ideal.ofBits, Ideal.ieee]
  rw [e0, zero_add]
  refine Finset.sum_congr rfl fun k _ => ?_
  exact (congrArg (val_main_v44 (F := Ideal) x0 x1 x4) (eq_ix4 (idx_main_v45 (ix3 b h t) k))).trans (weight_apply x0 x1 x4 b h t k)

/-- The reference's result at an index. -/
theorem out_apply (b : Fin 16) (t : Fin 2048) (C : Fin 512) :
    val_main_v52 (F := Ideal) x0 x1 x2 x4 (ix3 b t C)
      = ∑ u : Fin 2048, Ideal.div
          (Ideal.exp (score x0 x1 x4 b ⟨C.val / 64, by omega⟩ t u
            - (Finset.univ : Finset (Fin 2048)).fold max ⊥ (score x0 x1 x4 b ⟨C.val / 64, by omega⟩ t)))
          (∑ u : Fin 2048, Ideal.exp (score x0 x1 x4 b ⟨C.val / 64, by omega⟩ t u
            - (Finset.univ : Finset (Fin 2048)).fold max ⊥ (score x0 x1 x4 b ⟨C.val / 64, by omega⟩ t)))
        * x2 (ix3 b u C) := by
  have hb := b.isLt
  have ht := t.isLt
  have hC := C.isLt
  refine (val_main_v52_apply (F := Ideal) x0 x1 x2 x4 _).trans ?_
  refine (val_main_v51_apply (F := Ideal) x0 x1 x2 x4 _).trans ((val_main_v50_apply (F := Ideal) x0 x1 x2 x4 _).trans ?_)
  have ei : idx_main_v50 (idx_main_v51 (ix3 b t C)) = ix4 b (⟨C.val / 64, by omega⟩ : Fin 8) t (⟨C.val % 64, by omega⟩ : Fin 64) := by
    refine funext fun a => Fin.ext ?_
    match a with
    | ⟨0, _⟩ => show ((b.val * 2048 + t.val) * 512 + C.val) / 1048576 = b.val; omega
    | ⟨1, _⟩ => show ((b.val * 2048 + t.val) * 512 + C.val) / 64 % 8 = C.val / 64; omega
    | ⟨2, _⟩ => show ((b.val * 2048 + t.val) * 512 + C.val) / 512 % 2048 = t.val; omega
    | ⟨3, _⟩ => show ((b.val * 2048 + t.val) * 512 + C.val) % 64 = C.val % 64; omega
  rw [ei]
  refine (val_main_v49_apply x0 x1 x2 x4 _).trans (Finset.sum_congr rfl fun u _ => ?_)
  have e1 := weight_apply x0 x1 x4 b ⟨C.val / 64, by omega⟩ t u
  have e2 := total_apply x0 x1 x4 b ⟨C.val / 64, by omega⟩ t u
  have e3 : val_main_v13 (F := Ideal) x2 (ix4 b (⟨C.val / 64, by omega⟩ : Fin 8) u (⟨C.val % 64, by omega⟩ : Fin 64)) = x2 (ix3 b u C) :=
    (heads_v x2 b _ u _).trans (congrArg (fun n => x2 (ix3 b u n)) (Fin.ext (by show 64 * (C.val / 64) + C.val % 64 = C.val; omega)))
  rw [← e1, ← e2, ← e3]
  refine congrArg₂ (· * ·) ((congrArg (val_main_v48 (F := Ideal) x0 x1 x4) (eq_ix4 (lidx_main_v49 _ u))).trans ?_)
    (congrArg (val_main_v13 (F := Ideal) x2) (eq_ix4 (ridx_main_v49 _ u)))
  exact val_main_v48_apply (F := Ideal) x0 x1 x4 _

end Cert.MixerARef

end
-- ==== Proof.MixerAPieces.lean ====
module
public import proofs.«01_k».proof.Proof.Gen.MixerAIdeal.Frame.RunA
public import proofs.«01_k».proof.Proof.AttnUnit
public import Idealize.ShloMosaic.Lib.Pipeline.ValueKit.Tiles
@[expose] public section

/-! # What one grid point of the chunked attention stores

The 64 stores of a grid point, one per (query tile, head pair), are all pieces of one function of the block index.
-/

set_option maxRecDepth 16384

noncomputable section
open scoped BigOperators
open Idealize.ShloMosaic Idealize.ShloMosaic.TcCoe Idealize.ShloMosaic.ValueIdx Idealize.SL.Sem

namespace Cert.AttnUnit

/-- The entry of a rank 3 array at three natural numbers, taken modulo the extents. -/
def at3 {a b c : Nat} [NeZero a] [NeZero b] [NeZero c] (x : (⟨3, ![a, b, c]⟩ : Shape).Idx → EReal) (i j k : Nat) : EReal :=
  x (ix3 (Fin.ofNat a i) (Fin.ofNat b j) (Fin.ofNat c k))

/-- The score of query row `R` against key row `K` for head `h` of the head pair `p`, with the bias column `B`. -/
def sc (x0 x1 : (⟨3, ![1, 2048, 512]⟩ : Shape).Idx → EReal) (x3 : (⟨3, ![8, 128, 640]⟩ : Shape).Idx → EReal)
    (qs l : EReal) (p h R K B : Nat) : EReal :=
  (∑ d : Fin 128, (if (d.val < 64 ↔ h = 0) then at3 x0 0 R (128 * p + d.val) * qs else 0) * at3 x1 0 K (128 * p + d.val))
    + at3 x3 (2 * p + h) (R % 128) B * l

/-- The attention output at row `R` and column `C`, over the window of `W` keys from `k0`. -/
def winOut (x0 x1 x2 : (⟨3, ![1, 2048, 512]⟩ : Shape).Idx → EReal) (x3 : (⟨3, ![8, 128, 640]⟩ : Shape).Idx → EReal)
    (qs l : EReal) (W k0 R C : Nat) : EReal :=
  softmean (W := W) (fun j => sc x0 x1 x3 qs l (C / 128) (if C % 128 < 64 then 0 else 1) R (k0 + j.val) (640 - W + j.val))
    (fun j => at3 x2 0 (k0 + j.val) C)

/-- The block the grid point stores, as a function of its index. -/
def blockOut (x0 x1 x2 : (⟨3, ![1, 2048, 512]⟩ : Shape).Idx → EReal) (x3 : (⟨3, ![8, 128, 640]⟩ : Shape).Idx → EReal)
    (qs l : EReal) (y : (⟨3, ![1, 2048, 512]⟩ : Shape).Idx) : EReal :=
  winOut x0 x1 x2 x3 qs l (128 * min ((y 1).val / 128 + 1) 5) (128 * ((y 1).val / 128 - 4)) (y 1).val (y 2).val

/-- One store: the result of the unit at query tile `t` and head pair `p`, over the loads of its window, is the block
    function on the stored rectangle. -/
theorem piece (W t p k0 b0 : Nat) (ht : t < 16) (hp : p < 4) (hW : W = 128 * min (t + 1) 5) (hk0 : k0 = 128 * (t - 4))
    (hb0 : b0 = 640 - W)
    (x0 x1 x2 : FVec Ideal ⟨3, ![1, 2048, 512]⟩ .bf16) (x3 : FVec Ideal ⟨3, ![8, 128, 640]⟩ .f32)
    (qs l : EReal) (iq io ik iv ib)
    (ones : FVec Ideal ⟨2, ![W, 128]⟩ .bf16) (hones : ∀ i, ones i = 1)
    (hq hc hb hk hw hw' hk' hc' hr hφ hn h1 h2 hbb e1 e0 f0 f1 ho)
    (x : (⟨3, ![1, 128, 128]⟩ : Shape).Idx) :
    result W (scores W qs l (View.ld (Val := Elt Ideal) (e' := .bf16) x0 (Rect.unit (s := ⟨3, ![1, 2048, 512]⟩) ![0, 128 * t, 128 * p] ![1, 128, 128] iq))
        (View.ld (Val := Elt Ideal) (e' := .bf16) x1 (Rect.unit (s := ⟨3, ![1, 2048, 512]⟩) ![0, k0, 128 * p] ![1, W, 128] ik))
        (View.ld (Val := Elt Ideal) (e' := .f32) x3 (Rect.unit (s := ⟨3, ![8, 128, 640]⟩) ![2 * p, 0, b0] ![2, 128, W] ib)) hq hc hb hk hw hw')
      (View.ld (Val := Elt Ideal) (e' := .bf16) x2 (Rect.unit (s := ⟨3, ![1, 2048, 512]⟩) ![0, k0, 128 * p] ![1, W, 128] iv))
      ones hk' hc' hr hφ hn h1 h2 hbb e1 e0 f0 f1 ho x
    = blockOut x0 x1 x2 x3 qs l ((Rect.unit (s := ⟨3, ![1, 2048, 512]⟩) ![0, 128 * t, 128 * p] ![1, 128, 128] io).emb x) := by
  obtain ⟨u, r, c, rfl⟩ : ∃ u r c, x = ix3 u r c := ⟨x 0, x 1, x 2, eq_ix3 x⟩
  obtain rfl : u = 0 := Subsingleton.elim _ _
  rw [result_apply (h1s := hones)]
  unfold blockOut
  have hy1 : ((((Rect.unit (s := ⟨3, ![1, 2048, 512]⟩) ![0, 128 * t, 128 * p] ![1, 128, 128] io).emb (ix3 0 r c)) 1 : Fin 2048) : Nat)
      = 128 * t + r.val := by
    rw [Rect.emb_apply]; show 128 * t + 1 * r.val = _; omega
  have hy2 : ((((Rect.unit (s := ⟨3, ![1, 2048, 512]⟩) ![0, 128 * t, 128 * p] ![1, 128, 128] io).emb (ix3 0 r c)) 2 : Fin 512) : Nat)
      = 128 * p + c.val := by
    rw [Rect.emb_apply]; show 128 * p + 1 * c.val = _; omega
  have hr := r.isLt
  have hcl := c.isLt
  have e1 : (128 * t + r.val) / 128 = t := by omega
  have e2 : (128 * p + c.val) / 128 = p := by omega
  have e3 : (128 * p + c.val) % 128 = c.val := by omega
  have e4 : (128 * t + r.val) % 128 = r.val := by omega
  have hk0W : k0 + W ≤ 2048 := by omega
  rw [hy1, hy2]
  unfold winOut
  rw [e1, e2, e3, ← hW, ← hk0]
  congr 1
  · funext j
    have hj := j.isLt
    suffices H : ∀ (h : Nat) (_ : h < 2) (hlt : h * 128 + r.val < 256),
        scores W _ _ _ _ _ hq hc hb hk hw hw' (ix2 ⟨h * 128 + r.val, hlt⟩ j)
          = sc x0 x1 x3 qs l p h (128 * t + r.val) (k0 + j.val) (640 - W + j.val) from H _ (by split <;> omega) _
    intro h hh2 hlt
    rw [scores_apply (W := W) (h := ⟨h, hh2⟩) (r := r) (j := j)]
    unfold sc
    rw [e4, ← hb0]
    congr 1
    · refine Finset.sum_congr rfl fun d _ => ?_
      have hd := d.isLt
      congr 1
      · simp only [Fin.ext_iff]
        show (if (d.val < 64 ↔ h = 0) then _ else _) = _
        refine if_congr Iff.rfl ?_ rfl
        refine congrArg (· * qs) ?_
        refine View.ld_unit_apply_of _ _ _ _ _ _ fun a => ?_
        match a with
        | ⟨0, _⟩ => rfl
        | ⟨1, _⟩ => show (128 * t + r.val) % 2048 = _; rw [Nat.mod_eq_of_lt (by omega)]; rfl
        | ⟨2, _⟩ => show (128 * p + d.val) % 512 = _; rw [Nat.mod_eq_of_lt (by omega)]; rfl
      · refine View.ld_unit_apply_of _ _ _ _ _ _ fun a => ?_
        match a with
        | ⟨0, _⟩ => rfl
        | ⟨1, _⟩ => show (k0 + j.val) % 2048 = _; rw [Nat.mod_eq_of_lt (by omega)]; rfl
        | ⟨2, _⟩ => show (128 * p + d.val) % 512 = _; rw [Nat.mod_eq_of_lt (by omega)]; rfl
    · refine congrArg (· * l) ?_
      refine View.ld_unit_apply_of _ _ _ _ _ _ fun a => ?_
      match a with
      | ⟨0, _⟩ => show (2 * p + h) % 8 = _; rw [Nat.mod_eq_of_lt (by omega)]; rfl
      | ⟨1, _⟩ => show (r.val) % 128 = _; rw [Nat.mod_eq_of_lt (by omega)]; exact (Nat.zero_add _).symm
      | ⟨2, _⟩ => show (b0 + j.val) % 640 = _; rw [Nat.mod_eq_of_lt (by omega)]; rfl
  · funext j
    have hj := j.isLt
    refine View.ld_unit_apply_of _ _ _ _ _ _ fun a => ?_
    match a with
    | ⟨0, _⟩ => rfl
    | ⟨1, _⟩ => show (k0 + j.val) % 2048 = _; rw [Nat.mod_eq_of_lt (by omega)]; rfl
    | ⟨2, _⟩ => show (128 * p + c.val) % 512 = _; rw [Nat.mod_eq_of_lt (by omega)]; rfl

end Cert.AttnUnit
end
-- ==== Proof.MixerAStores.lean ====
module
public import proofs.«01_k».proof.Proof.Gen.MixerAIdeal.Frame.RunA
public import proofs.«01_k».proof.Proof.MixerAPieces
@[expose] public section

/-! # The 64 stores of a grid point of the chunked attention are pieces of the block function -/

set_option maxRecDepth 65536
noncomputable section
namespace Cert.MixerAStores
open Cert.MixerAIdeal Cert.MixerAIdeal.Gen
open Idealize.ShloMosaic Idealize.ShloMosaic.TcCoe Idealize.SL.Sem Cert.AttnUnit

/-- The constant the denominators multiply by is one. -/
theorem one : Ideal.ofBits .bf16 0x3F80#16 = 1 := by
  simp [Ideal.ofBits, Ideal.ieee]
  norm_cast
  norm_num

/-- The factor of the queries. -/
abbrev qsc : EReal := Named.named (F := Ideal) (φ := .f32) κ "q_scale" 0x3E38AA3B#32

/-- The factor of the bias. -/
abbrev lsc : EReal := Named.named (F := Ideal) (φ := .f32) κ "log2e" 0x3FB8AA3B#32

/-- A store of the grid point, over loads through whole references. -/
theorem piece_ref (arg1 : Memref sig .tc .vmem S1x2048x512 .bf16) (arg2 : Memref sig .tc .vmem S1x2048x512 .bf16) (arg3 : Memref sig .tc .vmem S1x2048x512 .bf16) (arg4 : Memref sig .tc .vmem S8x128x640 .f32)
    (x0 : arg1.view.ty.Contents (Elt Ideal)) (x1 : arg2.view.ty.Contents (Elt Ideal)) (x2 : arg3.view.ty.Contents (Elt Ideal)) (x3 : arg4.view.ty.Contents (Elt Ideal))
    (W t p k0 b0 : Nat) (ht : t < 16) (hp : p < 4) (hW : W = 128 * min (t + 1) 5) (hk0 : k0 = 128 * (t - 4))
    (hb0 : b0 = 640 - W) (qs l : EReal) (iq io ik iv ib)
    (ones : FVec Ideal ⟨2, ![W, 128]⟩ .bf16) (hones : ∀ i, ones i = 1)
    (hq hc hb hk hw hw' hk' hc' hr hφ hn h1 h2 hbb e1 e0 f0 f1 ho)
    (x : (⟨3, ![1, 128, 128]⟩ : Shape).Idx) :
    result W (scores W qs l (View.readAt (Elt Ideal) arg1.view (Rect.unit (s := S1x2048x512) ![0, 128 * t, 128 * p] ![1, 128, 128] iq).toLoadRect x0)
        (View.readAt (Elt Ideal) arg2.view (Rect.unit (s := S1x2048x512) ![0, k0, 128 * p] ![1, W, 128] ik).toLoadRect x1)
        (View.readAt (Elt Ideal) arg4.view (Rect.unit (s := S8x128x640) ![2 * p, 0, b0] ![2, 128, W] ib).toLoadRect x3) hq hc hb hk hw hw')
      (View.readAt (Elt Ideal) arg3.view (Rect.unit (s := S1x2048x512) ![0, k0, 128 * p] ![1, W, 128] iv).toLoadRect x2)
      ones hk' hc' hr hφ hn h1 h2 hbb e1 e0 f0 f1 ho x
    = blockOut (arg1.view.read (Elt Ideal) x0) (arg2.view.read (Elt Ideal) x1) (arg3.view.read (Elt Ideal) x2) (arg4.view.read (Elt Ideal) x3) qs l
      ((Rect.unit (s := S1x2048x512) ![0, 128 * t, 128 * p] ![1, 128, 128] io).emb x) :=
  piece W t p k0 b0 ht hp hW hk0 hb0 _ _ _ _ qs l iq io ik iv ib ones hones hq hc hb hk hw hw' hk' hc' hr hφ hn h1 h2 hbb e1 e0 f0 f1 ho x

set_option maxHeartbeats 200000 in
/-- Every store of a grid point is the block function on the rectangle it stores into. -/
theorem pieces_eq (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S8x128x640 .f32) (harg4 : arg4.IsWhole) (arg5 : Memref sig .tc .vmem S1x2048x512 .bf16) (harg5 : arg5.IsWhole)
    (x0 x1 x2 : Vec Ideal S1x2048x512 .bf16) (x3 : Vec Ideal S8x128x640 .f32) :
   ∀ p ∈ (kernelRun0_A c i arg1 harg1 arg2 harg2 arg3 harg3 arg4 harg4 arg5 harg5 x0 x1 x2 x3).1, ∀ x : p.1.shape.Idx,
     p.2 x = (show Elt Ideal .bf16 from blockOut (arg1.view.read (Elt Ideal) (harg1.unread x0)) (arg2.view.read (Elt Ideal) (harg2.unread x1))
      (arg3.view.read (Elt Ideal) (harg3.unread x2)) (arg4.view.read (Elt Ideal) (harg4.unread x3)) qsc lsc (p.1.emb x)) := by
  unfold kernelRun0_A
  dsimp only
  refine List.forall_mem_cons.2 ⟨?_, ?_⟩
  · intro x
    exact piece_ref arg1 arg2 arg3 arg4 _ _ _ _ 640 15 3 1408 0 (by decide) (by decide) rfl rfl rfl _ _ _ inb_S1x2048x512_S1x128x128_0_1920_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 15 2 1408 0 (by decide) (by decide) rfl rfl rfl _ _ _ inb_S1x2048x512_S1x128x128_0_1920_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 15 1 1408 0 (by decide) (by decide) rfl rfl rfl _ _ _ inb_S1x2048x512_S1x128x128_0_1920_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 15 0 1408 0 (by decide) (by decide) rfl rfl rfl _ _ _ inb_S1x2048x512_S1x128x128_0_1920_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 14 3 1280 0 (by decide) (by decide) rfl rfl rfl _ _ _ inb_S1x2048x512_S1x128x128_0_1792_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 14 2 1280 0 (by decide) (by decide) rfl rfl rfl _ _ _ inb_S1x2048x512_S1x128x128_0_1792_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 14 1 1280 0 (by decide) (by decide) rfl rfl rfl _ _ _ inb_S1x2048x512_S1x128x128_0_1792_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 14 0 1280 0 (by decide) (by decide) rfl rfl rfl _ _ _ inb_S1x2048x512_S1x128x128_0_1792_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 13 3 1152 0 (by decide) (by decide) rfl rfl rfl _ _ _ inb_S1x2048x512_S1x128x128_0_1664_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 13 2 1152 0 (by decide) (by decide) rfl rfl rfl _ _ _ inb_S1x2048x512_S1x128x128_0_1664_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 13 1 1152 0 (by decide) (by decide) rfl rfl rfl _ _ _ inb_S1x2048x512_S1x128x128_0_1664_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 13 0 1152 0 (by decide) (by decide) rfl rfl rfl _ _ _ inb_S1x2048x512_S1x128x128_0_1664_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 12 3 1024 0 (by decide) (by decide) rfl rfl rfl _ _ _ inb_S1x2048x512_S1x128x128_0_1536_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 12 2 1024 0 (by decide) (by decide) rfl rfl rfl _ _ _ inb_S1x2048x512_S1x128x128_0_1536_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 12 1 1024 0 (by decide) (by decide) rfl rfl rfl _ _ _ inb_S1x2048x512_S1x128x128_0_1536_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 12 0 1024 0 (by decide) (by decide) rfl rfl rfl _ _ _ inb_S1x2048x512_S1x128x128_0_1536_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 11 3 896 0 (by decide) (by decide) rfl rfl rfl _ _ _ inb_S1x2048x512_S1x128x128_0_1408_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 11 2 896 0 (by decide) (by decide) rfl rfl rfl _ _ _ inb_S1x2048x512_S1x128x128_0_1408_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 11 1 896 0 (by decide) (by decide) rfl rfl rfl _ _ _ inb_S1x2048x512_S1x128x128_0_1408_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 11 0 896 0 (by decide) (by decide) rfl rfl rfl _ _ _ inb_S1x2048x512_S1x128x128_0_1408_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 10 3 768 0 (by decide) (by decide) rfl rfl rfl _ _ _ inb_S1x2048x512_S1x128x128_0_1280_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 10 2 768 0 (by decide) (by decide) rfl rfl rfl _ _ _ inb_S1x2048x512_S1x128x128_0_1280_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 10 1 768 0 (by decide) (by decide) rfl rfl rfl _ _ _ inb_S1x2048x512_S1x128x128_0_1280_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 10 0 768 0 (by decide) (by decide) rfl rfl rfl _ _ _ inb_S1x2048x512_S1x128x128_0_1280_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 9 3 640 0 (by decide) (by decide) rfl rfl rfl _ _ _ inb_S1x2048x512_S1x128x128_0_1152_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 9 2 640 0 (by decide) (by decide) rfl rfl rfl _ _ _ inb_S1x2048x512_S1x128x128_0_1152_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 9 1 640 0 (by decide) (by decide) rfl rfl rfl _ _ _ inb_S1x2048x512_S1x128x128_0_1152_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 9 0 640 0 (by decide) (by decide) rfl rfl rfl _ _ _ inb_S1x2048x512_S1x128x128_0_1152_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 8 3 512 0 (by decide) (by decide) rfl rfl rfl _ _ _ inb_S1x2048x512_S1x128x128_0_1024_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 8 2 512 0 (by decide) (by decide) rfl rfl rfl _ _ _ inb_S1x2048x512_S1x128x128_0_1024_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 8 1 512 0 (by decide) (by decide) rfl rfl rfl _ _ _ inb_S1x2048x512_S1x128x128_0_1024_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 8 0 512 0 (by decide) (by decide) rfl rfl rfl _ _ _ inb_S1x2048x512_S1x128x128_0_1024_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 7 3 384 0 (by decide) (by decide) rfl rfl rfl _ _ _ inb_S1x2048x512_S1x128x128_0_896_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 7 2 384 0 (by decide) (by decide) rfl rfl rfl _ _ _ inb_S1x2048x512_S1x128x128_0_896_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 7 1 384 0 (by decide) (by decide) rfl rfl rfl _ _ _ inb_S1x2048x512_S1x128x128_0_896_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 7 0 384 0 (by decide) (by decide) rfl rfl rfl _ _ _ inb_S1x2048x512_S1x128x128_0_896_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 6 3 256 0 (by decide) (by decide) rfl rfl rfl _ _ _ inb_S1x2048x512_S1x128x128_0_768_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 6 2 256 0 (by decide) (by decide) rfl rfl rfl _ _ _ inb_S1x2048x512_S1x128x128_0_768_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 6 1 256 0 (by decide) (by decide) rfl rfl rfl _ _ _ inb_S1x2048x512_S1x128x128_0_768_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 6 0 256 0 (by decide) (by decide) rfl rfl rfl _ _ _ inb_S1x2048x512_S1x128x128_0_768_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 5 3 128 0 (by decide) (by decide) rfl rfl rfl _ _ _ inb_S1x2048x512_S1x128x128_0_640_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 5 2 128 0 (by decide) (by decide) rfl rfl rfl _ _ _ inb_S1x2048x512_S1x128x128_0_640_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 5 1 128 0 (by decide) (by decide) rfl rfl rfl _ _ _ inb_S1x2048x512_S1x128x128_0_640_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 5 0 128 0 (by decide) (by decide) rfl rfl rfl _ _ _ inb_S1x2048x512_S1x128x128_0_640_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 4 3 0 0 (by decide) (by decide) rfl rfl rfl _ _ _ inb_S1x2048x512_S1x128x128_0_512_384 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 4 2 0 0 (by decide) (by decide) rfl rfl rfl _ _ _ inb_S1x2048x512_S1x128x128_0_512_256 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 4 1 0 0 (by decide) (by decide) rfl rfl rfl _ _ _ inb_S1x2048x512_S1x128x128_0_512_128 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 640 4 0 0 0 (by decide) (by decide) rfl rfl rfl _ _ _ inb_S1x2048x512_S1x128x128_0_512_0 _ _ _ _ (fun _ => one) _ concatenates_S128x128_S128x128_S256x128_d0 _ _ _ _ shapeCasts_S1x640x128_S640x128 concatenates_S640x128_S640x128_S640x256_d1 reduces_S256x640_S256 (.inl rfl) rfl shapeCasts_S256_S256x1 broadcasts_S256x1_S256x640 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 512 3 3 0 128 (by decide) (by decide) rfl rfl rfl _ _ _ inb_S1x2048x512_S1x128x128_0_384_384 _ _ _ _ (fun _ => one) _ concatenates_S128x128_S128x128_S256x128_d0 _ _ _ _ shapeCasts_S1x512x128_S512x128 concatenates_S512x128_S512x128_S512x256_d1 reduces_S256x512_S256 (.inl rfl) rfl shapeCasts_S256_S256x1 broadcasts_S256x1_S256x512 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 512 3 2 0 128 (by decide) (by decide) rfl rfl rfl _ _ _ inb_S1x2048x512_S1x128x128_0_384_256 _ _ _ _ (fun _ => one) _ concatenates_S128x128_S128x128_S256x128_d0 _ _ _ _ shapeCasts_S1x512x128_S512x128 concatenates_S512x128_S512x128_S512x256_d1 reduces_S256x512_S256 (.inl rfl) rfl shapeCasts_S256_S256x1 broadcasts_S256x1_S256x512 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 512 3 1 0 128 (by decide) (by decide) rfl rfl rfl _ _ _ inb_S1x2048x512_S1x128x128_0_384_128 _ _ _ _ (fun _ => one) _ concatenates_S128x128_S128x128_S256x128_d0 _ _ _ _ shapeCasts_S1x512x128_S512x128 concatenates_S512x128_S512x128_S512x256_d1 reduces_S256x512_S256 (.inl rfl) rfl shapeCasts_S256_S256x1 broadcasts_S256x1_S256x512 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 512 3 0 0 128 (by decide) (by decide) rfl rfl rfl _ _ _ inb_S1x2048x512_S1x128x128_0_384_0 _ _ _ _ (fun _ => one) _ concatenates_S128x128_S128x128_S256x128_d0 _ _ _ _ shapeCasts_S1x512x128_S512x128 concatenates_S512x128_S512x128_S512x256_d1 reduces_S256x512_S256 (.inl rfl) rfl shapeCasts_S256_S256x1 broadcasts_S256x1_S256x512 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 384 2 3 0 256 (by decide) (by decide) rfl rfl rfl _ _ _ inb_S1x2048x512_S1x128x128_0_256_384 _ _ _ _ (fun _ => one) _ concatenates_S128x128_S128x128_S256x128_d0 _ _ _ _ shapeCasts_S1x384x128_S384x128 concatenates_S384x128_S384x128_S384x256_d1 reduces_S256x384_S256 (.inl rfl) rfl shapeCasts_S256_S256x1 broadcasts_S256x1_S256x384 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 384 2 2 0 256 (by decide) (by decide) rfl rfl rfl _ _ _ inb_S1x2048x512_S1x128x128_0_256_256 _ _ _ _ (fun _ => one) _ concatenates_S128x128_S128x128_S256x128_d0 _ _ _ _ shapeCasts_S1x384x128_S384x128 concatenates_S384x128_S384x128_S384x256_d1 reduces_S256x384_S256 (.inl rfl) rfl shapeCasts_S256_S256x1 broadcasts_S256x1_S256x384 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 384 2 1 0 256 (by decide) (by decide) rfl rfl rfl _ _ _ inb_S1x2048x512_S1x128x128_0_256_128 _ _ _ _ (fun _ => one) _ concatenates_S128x128_S128x128_S256x128_d0 _ _ _ _ shapeCasts_S1x384x128_S384x128 concatenates_S384x128_S384x128_S384x256_d1 reduces_S256x384_S256 (.inl rfl) rfl shapeCasts_S256_S256x1 broadcasts_S256x1_S256x384 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 384 2 0 0 256 (by decide) (by decide) rfl rfl rfl _ _ _ inb_S1x2048x512_S1x128x128_0_256_0 _ _ _ _ (fun _ => one) _ concatenates_S128x128_S128x128_S256x128_d0 _ _ _ _ shapeCasts_S1x384x128_S384x128 concatenates_S384x128_S384x128_S384x256_d1 reduces_S256x384_S256 (.inl rfl) rfl shapeCasts_S256_S256x1 broadcasts_S256x1_S256x384 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 256 1 3 0 384 (by decide) (by decide) rfl rfl rfl _ _ _ inb_S1x2048x512_S1x128x128_0_128_384 _ _ _ _ (fun _ => one) _ concatenates_S128x128_S128x128_S256x128_d0 _ _ _ _ shapeCasts_S1x256x128_S256x128 concatenates_S256x128_S256x128_S256x256_d1 reduces_S256x256_S256 (.inl rfl) rfl shapeCasts_S256_S256x1 broadcasts_S256x1_S256x256 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 256 1 2 0 384 (by decide) (by decide) rfl rfl rfl _ _ _ inb_S1x2048x512_S1x128x128_0_128_256 _ _ _ _ (fun _ => one) _ concatenates_S128x128_S128x128_S256x128_d0 _ _ _ _ shapeCasts_S1x256x128_S256x128 concatenates_S256x128_S256x128_S256x256_d1 reduces_S256x256_S256 (.inl rfl) rfl shapeCasts_S256_S256x1 broadcasts_S256x1_S256x256 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 256 1 1 0 384 (by decide) (by decide) rfl rfl rfl _ _ _ inb_S1x2048x512_S1x128x128_0_128_128 _ _ _ _ (fun _ => one) _ concatenates_S128x128_S128x128_S256x128_d0 _ _ _ _ shapeCasts_S1x256x128_S256x128 concatenates_S256x128_S256x128_S256x256_d1 reduces_S256x256_S256 (.inl rfl) rfl shapeCasts_S256_S256x1 broadcasts_S256x1_S256x256 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 256 1 0 0 384 (by decide) (by decide) rfl rfl rfl _ _ _ inb_S1x2048x512_S1x128x128_0_128_0 _ _ _ _ (fun _ => one) _ concatenates_S128x128_S128x128_S256x128_d0 _ _ _ _ shapeCasts_S1x256x128_S256x128 concatenates_S256x128_S256x128_S256x256_d1 reduces_S256x256_S256 (.inl rfl) rfl shapeCasts_S256_S256x1 broadcasts_S256x1_S256x256 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 128 0 3 0 512 (by decide) (by decide) rfl rfl rfl _ _ _ inb_S1x2048x512_S1x128x128_0_0_384 _ _ _ _ (fun _ => one) _ concatenates_S128x128_S128x128_S256x128_d0 _ _ _ _ shapeCasts_S1x128x128_S128x128 concatenates_S128x128_S128x128_S128x256_d1 reduces_S256x128_S256 (.inl rfl) rfl shapeCasts_S256_S256x1 broadcasts_S256x1_S256x128 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 128 0 2 0 512 (by decide) (by decide) rfl rfl rfl _ _ _ inb_S1x2048x512_S1x128x128_0_0_256 _ _ _ _ (fun _ => one) _ concatenates_S128x128_S128x128_S256x128_d0 _ _ _ _ shapeCasts_S1x128x128_S128x128 concatenates_S128x128_S128x128_S128x256_d1 reduces_S256x128_S256 (.inl rfl) rfl shapeCasts_S256_S256x1 broadcasts_S256x1_S256x128 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 128 0 1 0 512 (by decide) (by decide) rfl rfl rfl _ _ _ inb_S1x2048x512_S1x128x128_0_0_128 _ _ _ _ (fun _ => one) _ concatenates_S128x128_S128x128_S256x128_d0 _ _ _ _ shapeCasts_S1x128x128_S128x128 concatenates_S128x128_S128x128_S128x256_d1 reduces_S256x128_S256 (.inl rfl) rfl shapeCasts_S256_S256x1 broadcasts_S256x1_S256x128 bitsLt_bf16_f32 slices_S256x256_o0_128_S256x128 slices_S256x256_o0_0_S256x128 slices_S256x128_o0_0_S128x128 slices_S256x128_o128_0_S128x128 _ x
  refine List.forall_mem_cons.2 ⟨?_, ?_⟩
  · intro x
    exact piece_ref arg1 arg2 arg3 arg4 _ _ _ _ 128 0 0 0 512 (by decide) (by decide) rfl rfl rfl _ _ _ inb_S1x2048x512_S1x128x128_0_0_0 _ _ _ _ (fun _ => one) _ concatenates_S128x128_S128x128_S256x128_d0 _ _ _ _ shapeCasts_S1x128x128_S128x128 concatenates_S128x128_S128x128_S128x256_d1 reduces_S256x128_S256 (.inl rfl) rfl shapeCasts_S256_S256x1 broadcasts_S256x1_S256x128 bitsLt_bf16_f32 slices_S256x256_o0_128_S256x128 slices_S256x256_o0_0_S256x128 slices_S256x128_o0_0_S128x128 slices_S256x128_o128_0_S128x128 _ x
  exact fun p hp => absurd hp (List.not_mem_nil)
end Cert.MixerAStores

end
-- ==== Proof.MixerAValue.lean ====
module
public import proofs.«01_k».proof.Proof.Gen.MixerAIdeal.Value
public import proofs.«01_k».proof.Proof.MixerAStores
@[expose] public section

/-! # The array the chunked attention leaves

Grid point `b` reads the column blocks 0, 1 and 2 of row block `b` of the joined projections (queries, keys and values),
and the whole bias table, and writes row block `b` of the result.
-/

set_option maxRecDepth 16384

noncomputable section
open scoped BigOperators
open Idealize.ShloMosaic Idealize.ShloMosaic.TcCoe Idealize.ShloMosaic.ValueIdx Idealize.SL.Sem
open Idealize.ShloMosaic.Pipeline (Dat)
open Cert.MixerAIdeal Cert.MixerAIdeal.Gen Cert.MixerAIdeal.Value Cert.AttnUnit Cert.MixerAStores

namespace Cert.MixerAValue

/-- What a grid point leaves in the output's buffer is the block function of its input blocks. -/
theorem out_apply (c : Dev nD) (i : grid0.Coords) (arg1 : Memref sig .tc .vmem S1x2048x512 .bf16) (harg1 : arg1.IsWhole)
    (arg2 : Memref sig .tc .vmem S1x2048x512 .bf16) (harg2 : arg2.IsWhole) (arg3 : Memref sig .tc .vmem S1x2048x512 .bf16) (harg3 : arg3.IsWhole)
    (arg4 : Memref sig .tc .vmem S8x128x640 .f32) (harg4 : arg4.IsWhole) (arg5 : Memref sig .tc .vmem S1x2048x512 .bf16) (harg5 : arg5.IsWhole)
    (x0 x1 x2 : Vec Ideal S1x2048x512 .bf16) (x3 : Vec Ideal S8x128x640 .f32) (y : S1x2048x512.Idx) :
    out0_A_4 (F := Ideal) c i arg1 harg1 arg2 harg2 arg3 harg3 arg4 harg4 arg5 harg5 x0 x1 x2 x3 y = blockOut x0 x1 x2 x3 qsc lsc y := by
  unfold out0_A_4
  rw [View.read_writes_eq_canon _ _ _ (cover0_A_4 c i arg1 harg1 arg2 harg2 arg3 harg3 arg4 harg4 arg5 harg5 x0 x1 x2 x3)]
  refine View.canon_apply_of_pieces (blockOut x0 x1 x2 x3 qsc lsc) _ (fun p hp x => ?_) y
    (cover0_A_4 c i arg1 harg1 arg2 harg2 arg3 harg3 arg4 harg4 arg5 harg5 x0 x1 x2 x3 y)
  have h := pieces_eq c i arg1 harg1 arg2 harg2 arg3 harg3 arg4 harg4 arg5 harg5 x0 x1 x2 x3 p hp x
  rw [harg1.read_unread, harg2.read_unread, harg3.read_unread, harg4.read_unread] at h
  exact h

variable (m : (ℓ : Loc nD τ sig) → Buf (Elt Ideal) ℓ)

/-- Column block `k` of row block `b` of the joined projections. -/
def colBlock (c : Dev nD) (b : Fin 16) (k : Nat) (hk : k < 3) : S1x2048x512.Idx → EReal := fun y =>
  (V m c main_v1 : S16x2048x2304.Idx → EReal) (ix3 b (y 1) ⟨512 * k + (y 2).val, by have : (y 2).val < 512 := (y 2).isLt; omega⟩)

theorem idx_in : ∀ t : Fin cfg0.N, (win0_0.index t 0 = t.val ∧ win0_0.index t 1 = 0 ∧ win0_0.index t 2 = 0)
    ∧ (win0_1.index t 0 = t.val ∧ win0_1.index t 1 = 0 ∧ win0_1.index t 2 = 1)
    ∧ (win0_2.index t 0 = t.val ∧ win0_2.index t 1 = 0 ∧ win0_2.index t 2 = 2)
    ∧ (win0_3.index t 0 = 0 ∧ win0_3.index t 1 = 0 ∧ win0_3.index t 2 = 0)
    ∧ (win0_4.index t 0 = t.val ∧ win0_4.index t 1 = 0 ∧ win0_4.index t 2 = 0) :=
  (by decide +kernel : ∀ t : Fin grid0.N, _)

theorem N_lt (t : Fin cfg0.N) : t.val < 16 := t.isLt

theorem X0_0_eq (c : Dev nD) (t : Fin cfg0.N) : X0_0 m c t = colBlock m c ⟨t.val, N_lt t⟩ 0 (by decide) := by
  funext y
  unfold X0_0 Pipeline.Window.fill
  rw [dif_pos (moved0_0 t y)]
  show V m c main_v1 _ = V m c main_v1 _
  refine congrArg _ (funext fun a => Fin.ext ?_)
  obtain ⟨⟨h0, h1, h2⟩, -⟩ := idx_in t
  have hy : (y 0).val = 0 := by have : (y 0).val < 1 := (y 0).isLt; omega
  match a with
  | ⟨0, _⟩ => show win0_0.index t 0 * 1 + 1 * (y 0).val = t.val; omega
  | ⟨1, _⟩ => show win0_0.index t 1 * 2048 + 1 * (y 1).val = (y 1).val; omega
  | ⟨2, _⟩ => show win0_0.index t 2 * 512 + 1 * (y 2).val = 512 * 0 + (y 2).val; omega

theorem X0_1_eq (c : Dev nD) (t : Fin cfg0.N) : X0_1 m c t = colBlock m c ⟨t.val, N_lt t⟩ 1 (by decide) := by
  funext y
  unfold X0_1 Pipeline.Window.fill
  rw [dif_pos (moved0_1 t y)]
  show V m c main_v1 _ = V m c main_v1 _
  refine congrArg _ (funext fun a => Fin.ext ?_)
  obtain ⟨-, ⟨h0, h1, h2⟩, -⟩ := idx_in t
  have hy : (y 0).val = 0 := by have : (y 0).val < 1 := (y 0).isLt; omega
  match a with
  | ⟨0, _⟩ => show win0_1.index t 0 * 1 + 1 * (y 0).val = t.val; omega
  | ⟨1, _⟩ => show win0_1.index t 1 * 2048 + 1 * (y 1).val = (y 1).val; omega
  | ⟨2, _⟩ => show win0_1.index t 2 * 512 + 1 * (y 2).val = 512 * 1 + (y 2).val; omega

theorem X0_2_eq (c : Dev nD) (t : Fin cfg0.N) : X0_2 m c t = colBlock m c ⟨t.val, N_lt t⟩ 2 (by decide) := by
  funext y
  unfold X0_2 Pipeline.Window.fill
  rw [dif_pos (moved0_2 t y)]
  show V m c main_v1 _ = V m c main_v1 _
  refine congrArg _ (funext fun a => Fin.ext ?_)
  obtain ⟨-, -, ⟨h0, h1, h2⟩, -⟩ := idx_in t
  have hy : (y 0).val = 0 := by have : (y 0).val < 1 := (y 0).isLt; omega
  match a with
  | ⟨0, _⟩ => show win0_2.index t 0 * 1 + 1 * (y 0).val = t.val; omega
  | ⟨1, _⟩ => show win0_2.index t 1 * 2048 + 1 * (y 1).val = (y 1).val; omega
  | ⟨2, _⟩ => show win0_2.index t 2 * 512 + 1 * (y 2).val = 512 * 2 + (y 2).val; omega

theorem bias_block (c : Dev nD) (t : Fin cfg0.N) : iblk m c 3 t = (V m c main_v31 : S8x128x640.Idx → EReal) := by
  funext y
  show V m c main_v31 _ = V m c main_v31 y
  refine congrArg _ (funext fun a => Fin.ext ?_)
  obtain ⟨-, -, -, ⟨h0, h1, h2⟩, -⟩ := idx_in t
  match a with
  | ⟨0, _⟩ => show win0_3.index t 0 * 8 + 1 * (y 0).val = (y 0).val; omega
  | ⟨1, _⟩ => show win0_3.index t 1 * 128 + 1 * (y 1).val = (y 1).val; omega
  | ⟨2, _⟩ => show win0_3.index t 2 * 640 + 1 * (y 2).val = (y 2).val; omega

/-- The array the program leaves, index by index. -/
def final (c : Dev nD) : S16x2048x512.Idx → EReal := fun i =>
  blockOut (colBlock m c (i 0) 0 (by decide)) (colBlock m c (i 0) 1 (by decide)) (colBlock m c (i 0) 2 (by decide))
    (V m c main_v31) qsc lsc (ix3 0 (i 1) (i 2))

theorem flushed_eq (c : Dev nD) (t : Fin cfg0.N) (_h : (cfg0.win 4).flush t = true) :
    (dats m 0 c).flushed 4 t = ((cfg0.win 4).blk t).view.read (Elt Ideal) (final m c) := by
  rw [flushed4_A, X0_0_eq, X0_1_eq, X0_2_eq, bias_block]
  funext y
  refine (out_apply ..).trans ?_
  obtain ⟨-, -, -, -, h0, h1, h2⟩ := idx_in t
  have hy : (y 0).val = 0 := by have : (y 0).val < 1 := (y 0).isLt; omega
  have e : ((cfg0.win 4).blk t).view.emb y = ix3 (⟨t.val, N_lt t⟩ : Fin 16) (y 1) (y 2) := funext fun a => Fin.ext (by
    match a with
    | ⟨0, _⟩ => show win0_4.index t 0 * 1 + 1 * (y 0).val = t.val; omega
    | ⟨1, _⟩ => show win0_4.index t 1 * 2048 + 1 * (y 1).val = (y 1).val; omega
    | ⟨2, _⟩ => show win0_4.index t 2 * 512 + 1 * (y 2).val = (y 2).val; omega)
  show _ = final m c (((cfg0.win 4).blk t).view.emb y)
  rw [e]
  rfl

theorem mem_blk (t : Fin cfg0.N) (i : S16x2048x512.Idx) (h : t.val = (i 0).val) : i ∈ ((cfg0.win 4).blk t).view.set := by
  show i ∈ ((View.whole main_v32).slice (win0_4.rect t)).set
  rw [View.set_slice_whole, Rect.mem_set_unit]
  obtain ⟨-, -, -, -, h0, h1, h2⟩ := idx_in t
  have g1 : (i 1).val < 2048 := (i 1).isLt
  have g2 : (i 2).val < 512 := (i 2).isLt
  intro a
  match a with
  | ⟨0, _⟩ => show win0_4.index t 0 * 1 ≤ (i 0).val ∧ (i 0).val < win0_4.index t 0 * 1 + 1; omega
  | ⟨1, _⟩ => show win0_4.index t 1 * 2048 ≤ (i 1).val ∧ (i 1).val < win0_4.index t 1 * 2048 + 2048; omega
  | ⟨2, _⟩ => show win0_4.index t 2 * 512 ≤ (i 2).val ∧ (i 2).val < win0_4.index t 2 * 512 + 512; omega

/-- The result array after the run. -/
theorem arr_eq (c : Dev nD) : (dats m 0 c).arrAt 4 cfg0.N = final m c :=
  (dats m 0 c).arrAt_eq_of_cover 4 (final m c) (flushed_eq m c)
    (fun i => ⟨⟨(i 0).val, (i 0).isLt⟩, flush0_4 _, mem_blk _ i rfl⟩)

end Cert.MixerAValue

end
-- ==== Proof.Softmax.lean ====
/- The weighted mean of banded attention: the base two weights over a window of keys give the base e weights over every
   key, since a key outside the band weighs nothing. -/
module

public import proofs.«01_k».proof.Proof.AttnUnit

@[expose] public section

noncomputable section

namespace Cert.Softmax

open Idealize.ShloMosaic
open scoped BigOperators

/-- The largest of finitely many masked reals, one of them unmasked, is one of the unmasked ones. -/
theorem exists_max {ι : Type} [Fintype ι] (ok : ι → Prop) [DecidablePred ok] (z : ι → ℝ) (h : ∃ i, ok i) :
    ∃ i₀, ok i₀ ∧ ∀ i, ok i → z i ≤ z i₀ := by
  obtain ⟨i, hi⟩ := h
  obtain ⟨i₀, h₀, hm⟩ := Finset.exists_max_image (Finset.univ.filter ok) z ⟨i, by simpa using hi⟩
  exact ⟨i₀, by simpa using h₀, fun j hj => hm j (by simpa using hj)⟩

/-- The running maximum from minus infinity of masked reals is the largest unmasked real. -/
theorem fold_max_eq {ι : Type} [Fintype ι] (ok : ι → Prop) [DecidablePred ok] (z : ι → ℝ) (i₀ : ι) (h₀ : ok i₀)
    (hm : ∀ i, ok i → z i ≤ z i₀) :
    (Finset.univ : Finset ι).fold max ⊥ (fun i => if ok i then (z i : EReal) else ⊥) = (z i₀ : EReal) := by
  refine le_antisymm ?_ ?_
  · rw [Finset.fold_max_le]
    refine ⟨bot_le, fun i _ => ?_⟩
    by_cases hi : ok i
    · rw [if_pos hi]; exact EReal.coe_le_coe_iff.2 (hm i hi)
    · rw [if_neg hi]; exact bot_le
  · rw [Finset.le_fold_max]
    exact Or.inr ⟨i₀, Finset.mem_univ _, by rw [if_pos h₀]⟩

/-- A sum with a window of terms that holds every nonzero term is the sum over the window. -/
theorem sum_window {n W k0 : Nat} (hW : k0 + W ≤ n) (f : Fin n → EReal)
    (h : ∀ u : Fin n, ¬(k0 ≤ u.val ∧ u.val < k0 + W) → f u = 0) :
    ∑ u, f u = ∑ j : Fin W, f ⟨k0 + j.val, by omega⟩ := by
  symm
  refine Finset.sum_of_injOn (fun j : Fin W => (⟨k0 + j.val, by omega⟩ : Fin n)) ?_ ?_ ?_ ?_
  · intro a _ b _ hab; have := congrArg Fin.val hab; simp only at this; exact Fin.ext (by omega)
  · intro _ _; simp
  · intro u _ hu
    refine h u fun hw => hu ⟨⟨u.val - k0, by omega⟩, by simp, Fin.ext (by show k0 + (u.val - k0) = u.val; omega)⟩
  · intro _ _; rfl

/-- A nonnegative real factor moves through a finite sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm _ (r : EReal), mul_comm (f a), mul_comm (∑ i ∈ s, f i)]
    exact EReal.left_distrib_of_nonneg_of_ne_top (EReal.coe_nonneg.2 hr) (EReal.coe_ne_top r) _ _

/-- A power of two at a multiple of `1 / log 2` is an exponential. -/
theorem rpow_two (x : ℝ) : Real.rpow 2 (x * (Real.log 2)⁻¹) = Real.exp x := by
  have h2 : Real.log 2 ≠ 0 := (Real.log_pos (by norm_num)).ne'
  show (2 : ℝ) ^ (x * (Real.log 2)⁻¹) = _
  rw [Real.rpow_def_of_pos (by norm_num)]
  congr 1; field_simp

/-- The base two weighted mean over a window of keys that holds the band is the sum of the values times the base e
    weights divided by their total. -/
theorem window_eq {n W k0 : Nat} (hW : k0 + W ≤ n) (ok : Fin n → Prop) [DecidablePred ok] (z : Fin n → ℝ) (v : Fin n → EReal)
    (hok : ∀ u, ok u → k0 ≤ u.val ∧ u.val < k0 + W) (hne : ∃ u, ok u)
    (s : Fin n → EReal) (hs : ∀ u, s u = if ok u then (z u : EReal) else ⊥)
    (s' v' : Fin W → EReal)
    (hs' : ∀ j : Fin W, s' j = if ok ⟨k0 + j.val, by omega⟩ then ((z ⟨k0 + j.val, by omega⟩ * (Real.log 2)⁻¹ : ℝ) : EReal) else ⊥)
    (hv' : ∀ j : Fin W, v' j = v ⟨k0 + j.val, by omega⟩)
    (m : EReal) (hm : m = (Finset.univ : Finset (Fin n)).fold max ⊥ s) :
    AttnUnit.softmean s' v'
      = ∑ u, Ideal.div (Ideal.exp (s u - m)) (∑ u, Ideal.exp (s u - m)) * v u := by
  have hL : 0 < (Real.log 2)⁻¹ := inv_pos.2 (Real.log_pos (by norm_num))
  obtain ⟨u₀, h₀, hmax⟩ := exists_max ok z hne
  obtain rfl : s = fun u => if ok u then (z u : EReal) else ⊥ := funext hs
  rw [fold_max_eq ok z u₀ h₀ hmax] at hm
  subst hm
  obtain ⟨hlo, hhi⟩ := hok u₀ h₀
  have hu₀ : (⟨k0 + (⟨u₀.val - k0, by omega⟩ : Fin W).val, by simp only; omega⟩ : Fin n) = u₀ := Fin.ext (by simp only; omega)
  have hm' : (Finset.univ : Finset (Fin W)).fold max ⊥ s' = ((z u₀ * (Real.log 2)⁻¹ : ℝ) : EReal) := by
    rw [show s' = fun j : Fin W => if ok ⟨k0 + j.val, by omega⟩ then ((z ⟨k0 + j.val, by omega⟩ * (Real.log 2)⁻¹ : ℝ) : EReal) else ⊥ from
      funext hs']
    have := fold_max_eq (fun j : Fin W => ok ⟨k0 + j.val, by omega⟩) (fun j : Fin W => z ⟨k0 + j.val, by omega⟩ * (Real.log 2)⁻¹)
      ⟨u₀.val - k0, by omega⟩ (by simpa only [hu₀] using h₀)
      (fun j hj => by simpa only [hu₀] using mul_le_mul_of_nonneg_right (hmax _ hj) hL.le)
    rw [this]; simp only [hu₀]
  -- the weights
  let w : Fin n → ℝ := fun u => if ok u then Real.exp (z u - z u₀) else 0
  have hw0 : ∀ u, 0 ≤ w u := fun u => by simp only [w]; split <;> [exact (Real.exp_pos _).le; exact le_refl _]
  have hexp : ∀ u, Ideal.exp ((if ok u then (z u : EReal) else ⊥) - (z u₀ : EReal)) = (w u : EReal) := by
    intro u
    by_cases hu : ok u
    · simp only [w, if_pos hu]; rw [← EReal.coe_sub, Ideal.exp_coe]
    · simp only [w, if_neg hu]; rw [EReal.bot_sub, Ideal.exp_bot, EReal.coe_zero]
  have hexp2 : ∀ j : Fin W, Ideal.exp2 (s' j - ((z u₀ * (Real.log 2)⁻¹ : ℝ) : EReal)) = (w ⟨k0 + j.val, by omega⟩ : EReal) := by
    intro j
    rw [hs']
    by_cases hu : ok ⟨k0 + j.val, by omega⟩
    · simp only [w, if_pos hu]; rw [← EReal.coe_sub, Ideal.exp2_coe, ← sub_mul, rpow_two]
    · simp only [w, if_neg hu]; rw [EReal.bot_sub, Ideal.exp2_bot, EReal.coe_zero]
  have hz : ∀ u : Fin n, ¬(k0 ≤ u.val ∧ u.val < k0 + W) → w u = 0 := fun u hu => if_neg fun h => hu (hok u h)
  have hsum : ∑ u, (w u : EReal) = ∑ j : Fin W, (w ⟨k0 + j.val, by omega⟩ : EReal) :=
    sum_window hW _ fun u hu => by rw [hz u hu, EReal.coe_zero]
  have hD : ∑ u, (w u : EReal) = ((∑ u, w u : ℝ) : EReal) := by
    exact (map_sum (⟨⟨fun x : ℝ => (x : EReal), EReal.coe_zero⟩, EReal.coe_add⟩ : ℝ →+ EReal) w Finset.univ).symm
  have hpos : 0 < ∑ u, w u := Finset.sum_pos' (fun u _ => hw0 u) ⟨u₀, Finset.mem_univ _, by simp only [w, if_pos h₀]; exact Real.exp_pos _⟩
  unfold AttnUnit.softmean
  simp only [hm', hexp, hexp2, hv']
  rw [← hsum, hD, ← sum_window hW (fun u => (w u : EReal) * v u) (fun u hu => by rw [hz u hu, EReal.coe_zero, zero_mul])]
  have hdiv : ∀ x : EReal, Ideal.div x ((∑ u, w u : ℝ) : EReal) = x * (((∑ u, w u)⁻¹ : ℝ) : EReal) := fun x => by
    unfold Ideal.div
    rw [if_neg (by rw [← EReal.coe_zero, EReal.coe_eq_coe_iff]; exact hpos.ne'), EReal.coe_inv]
  simp only [hdiv]
  rw [sum_mul_coe _ _ _ (inv_nonneg.2 hpos.le)]
  exact Finset.sum_congr rfl fun u _ => by rw [mul_assoc, mul_comm (v u), ← mul_assoc]

end Cert.Softmax

end
-- ==== Proof.MixerAEq.lean ====
module
public import proofs.«01_k».proof.Proof.MixerARef
public import proofs.«01_k».proof.Proof.MixerAValue
public import proofs.«01_k».proof.Proof.MixerAHost
public import proofs.«01_k».proof.Proof.Softmax
public import proofs.«01_k».proof.Defs
public import proofs.«01_k».proof.Proof.Gen.Pre_finite_scores
@[expose] public section

/-! # The chunked attention and its reference agree

The queries, the keys and the bias are finite, so the scores of the band are real numbers.
-/

set_option maxRecDepth 16384

noncomputable section
open scoped BigOperators
open Idealize.ShloMosaic Idealize.ShloMosaic.TcCoe Idealize.ShloMosaic.ValueIdx Idealize.SL.Sem
open Cert.MixerAIdeal Cert.MixerAIdeal.Gen Cert.AttnUnit Cert.MixerARef Cert.MixerAHost Cert.MixerAStores

namespace Cert.MixerAEq

theorem qsc_eq : qsc = ((8⁻¹ * (Real.log 2)⁻¹ : ℝ) : EReal) := IdealRules.named_const.ideal_named_scalar _ _ _ _ rfl

theorem lsc_eq : lsc = (((Real.log 2)⁻¹ : ℝ) : EReal) := IdealRules.named_const.ideal_named_scalar _ _ _ _ rfl

theorem eighth : Ideal.ofBits .f32 0x3E000000#32 = ((8⁻¹ : ℝ) : EReal) := by
  simp [Ideal.ofBits, Ideal.ieee]
  norm_cast
  norm_num

theorem coe_sum {ι : Type} [Fintype ι] (f : ι → ℝ) : ∑ i, (f i : EReal) = ((∑ i, f i : ℝ) : EReal) :=
  (map_sum (⟨⟨fun x : ℝ => (x : EReal), EReal.coe_zero⟩, EReal.coe_add⟩ : ℝ →+ EReal) f Finset.univ).symm

/-- The sum over the lanes of a pair with those of the other head zeroed is the sum over the lanes of the head. -/
theorem sum_lanes (h : Nat) (hh : h < 2) (f g : Fin 128 → EReal) :
    ∑ d : Fin 128, (if (d.val < 64 ↔ h = 0) then f d else 0) * g d
      = ∑ k : Fin 64, f ⟨64 * h + k.val, by omega⟩ * g ⟨64 * h + k.val, by omega⟩ := by
  rw [Softmax.sum_window (n := 128) (W := 64) (k0 := 64 * h) (by omega)]
  · refine Finset.sum_congr rfl fun k _ => ?_
    have hk := k.isLt
    rw [if_pos (by show 64 * h + k.val < 64 ↔ h = 0; omega)]
  · intro u hu
    have hul := u.isLt
    rw [if_neg (by omega), zero_mul]

variable (m : (ℓ : Loc nD τ sig) → Buf (Elt Ideal) ℓ) (c : Dev nD)

/-- The four argument arrays the result depends on. -/
abbrev qA : S16x2048x512.Idx → EReal := m ((c.tc : Thread nD τ).loc main_arg0)
abbrev kA : S16x2048x512.Idx → EReal := m ((c.tc : Thread nD τ).loc main_arg1)
abbrev vA : S16x2048x512.Idx → EReal := m ((c.tc : Thread nD τ).loc main_arg2)
abbrev bA : S1x8x257.Idx → EReal := m ((c.tc : Thread nD τ).loc main_arg4)

theorem block_q (b : Fin 16) (R C : Nat) (hR : R < 2048) (hC : C < 512) :
    at3 (a := 1) (b := 2048) (c := 512) (MixerAValue.colBlock m c b 0 (by decide)) 0 R C = qA m c (ix3 b ⟨R, hR⟩ ⟨C, hC⟩) := by
  unfold at3 MixerAValue.colBlock
  rw [V_joined]
  have e1 : (Fin.ofNat 2048 R) = ⟨R, hR⟩ := Fin.ext (Nat.mod_eq_of_lt hR)
  rw [show (ix3 (Fin.ofNat 1 0) (Fin.ofNat 2048 R) (Fin.ofNat 512 C) : (⟨3, ![1, 2048, 512]⟩ : Shape).Idx) 1 = (⟨R, hR⟩ : Fin 2048) from e1]
  exact joined_q _ _ _ _ b ⟨R, hR⟩ ⟨C, hC⟩ _ (by show 512 * 0 + C % 512 = C; omega)

theorem block_k (b : Fin 16) (R C : Nat) (hR : R < 2048) (hC : C < 512) :
    at3 (a := 1) (b := 2048) (c := 512) (MixerAValue.colBlock m c b 1 (by decide)) 0 R C = kA m c (ix3 b ⟨R, hR⟩ ⟨C, hC⟩) := by
  unfold at3 MixerAValue.colBlock
  rw [V_joined]
  have e1 : (Fin.ofNat 2048 R) = ⟨R, hR⟩ := Fin.ext (Nat.mod_eq_of_lt hR)
  rw [show (ix3 (Fin.ofNat 1 0) (Fin.ofNat 2048 R) (Fin.ofNat 512 C) : (⟨3, ![1, 2048, 512]⟩ : Shape).Idx) 1 = (⟨R, hR⟩ : Fin 2048) from e1]
  exact joined_k _ _ _ _ b ⟨R, hR⟩ ⟨C, hC⟩ _ (by show 512 * 1 + C % 512 = 512 + C; omega)

theorem block_v (b : Fin 16) (R C : Nat) (hR : R < 2048) (hC : C < 512) :
    at3 (a := 1) (b := 2048) (c := 512) (MixerAValue.colBlock m c b 2 (by decide)) 0 R C = vA m c (ix3 b ⟨R, hR⟩ ⟨C, hC⟩) := by
  unfold at3 MixerAValue.colBlock
  rw [V_joined]
  have e1 : (Fin.ofNat 2048 R) = ⟨R, hR⟩ := Fin.ext (Nat.mod_eq_of_lt hR)
  rw [show (ix3 (Fin.ofNat 1 0) (Fin.ofNat 2048 R) (Fin.ofNat 512 C) : (⟨3, ![1, 2048, 512]⟩ : Shape).Idx) 1 = (⟨R, hR⟩ : Fin 2048) from e1]
  exact joined_v _ _ _ _ b ⟨R, hR⟩ ⟨C, hC⟩ _ (by show 512 * 2 + C % 512 = 1024 + C; omega)

theorem block_b (h R B : Nat) (hh : h < 8) (hR : R < 128) (hB : B < 640) :
    at3 (a := 8) (b := 128) (c := 640) (V m c main_v31 : S8x128x640.Idx → EReal) h R B
      = if R / 64 ≤ B / 64 ∧ B / 64 ≤ R / 64 + 8 then bA m c (ix3 0 ⟨h, hh⟩ ⟨min (R + (639 - B) + 1) 256, by omega⟩) else ⊥ := by
  unfold at3
  rw [V_bias]
  rw [show (Fin.ofNat 8 h) = ⟨h, hh⟩ from Fin.ext (Nat.mod_eq_of_lt hh), show (Fin.ofNat 128 R) = ⟨R, hR⟩ from Fin.ext (Nat.mod_eq_of_lt hR),
    show (Fin.ofNat 640 B) = ⟨B, hB⟩ from Fin.ext (Nat.mod_eq_of_lt hB)]
  exact biasTable_apply _ _ _ _

variable (Q K : S16x2048x512.Idx → ℝ) (P : S1x8x257.Idx → ℝ)

/-- The score of an unmasked key, a real number. -/
def real (b : Fin 16) (h : Fin 8) (t u : Fin 2048) : ℝ :=
  (∑ k : Fin 64, Q (ix3 b t ⟨64 * h.val + k.val, by omega⟩) * K (ix3 b u ⟨64 * h.val + k.val, by omega⟩)) * 8⁻¹
    + P (ix3 0 h ⟨min (t.val + 128 - u.val) 256, by omega⟩)

theorem score_real (x0 x1 : S16x2048x512.Idx → EReal) (x4 : S1x8x257.Idx → EReal) (h0 : ∀ i, x0 i = Q i) (h1 : ∀ i, x1 i = K i) (h4 : ∀ i, x4 i = P i)
    (b : Fin 16) (h : Fin 8) (t u : Fin 2048) :
    score x0 x1 x4 b h t u = if InBand t.val u.val then (real Q K P b h t u : EReal) else ⊥ := by
  unfold score real
  by_cases hb : InBand t.val u.val
  · rw [if_pos hb, if_pos hb, eighth]
    simp only [h0, h1, h4, ← EReal.coe_mul]
    rw [coe_sum, ← EReal.coe_mul, ← EReal.coe_add]
  · rw [if_neg hb, if_neg hb]

/-- A score of the window, in base two. -/
theorem sc_real (h0 : ∀ i, qA m c i = Q i) (h1 : ∀ i, kA m c i = K i) (h4 : ∀ i, bA m c i = P i)
    (b : Fin 16) (R : Fin 2048) (C : Fin 512) (j k0 W : Nat) (hW : W = 128 * min (R.val / 128 + 1) 5) (hk0 : k0 = 128 * (R.val / 128 - 4))
    (hj : j < W) (hu : k0 + j < 2048) :
    sc (MixerAValue.colBlock m c b 0 (by decide)) (MixerAValue.colBlock m c b 1 (by decide)) (V m c main_v31) qsc lsc (C.val / 128)
        (if C.val % 128 < 64 then 0 else 1) R.val (k0 + j) (640 - W + j)
      = if InBand R.val (k0 + j) then ((real Q K P b ⟨C.val / 64, by omega⟩ R ⟨k0 + j, hu⟩ * (Real.log 2)⁻¹ : ℝ) : EReal) else ⊥ := by
  have hR := R.isLt
  have hC := C.isLt
  obtain ⟨h, hh⟩ : ∃ h, h = (if C.val % 128 < 64 then 0 else 1) := ⟨_, rfl⟩
  have hh2 : h < 2 ∧ 2 * (C.val / 128) + h = C.val / 64 := by
    rw [hh]; split <;> omega
  rw [← hh]
  obtain ⟨hh2, hhC⟩ := hh2
  unfold sc
  rw [sum_lanes h hh2 (fun d => at3 (a := 1) (b := 2048) (c := 512) (MixerAValue.colBlock m c b 0 (by decide)) 0 R.val (128 * (C.val / 128) + d.val) * qsc)
    (fun d => at3 (a := 1) (b := 2048) (c := 512) (MixerAValue.colBlock m c b 1 (by decide)) 0 (k0 + j) (128 * (C.val / 128) + d.val))]
  have eS : ∑ k : Fin 64, at3 (a := 1) (b := 2048) (c := 512) (MixerAValue.colBlock m c b 0 (by decide)) 0 R.val (128 * (C.val / 128) + (64 * h + k.val)) * qsc
        * at3 (a := 1) (b := 2048) (c := 512) (MixerAValue.colBlock m c b 1 (by decide)) 0 (k0 + j) (128 * (C.val / 128) + (64 * h + k.val))
      = ((∑ k : Fin 64, Q (ix3 b R ⟨64 * (C.val / 64) + k.val, by omega⟩) * (8⁻¹ * (Real.log 2)⁻¹)
          * K (ix3 b ⟨k0 + j, hu⟩ ⟨64 * (C.val / 64) + k.val, by omega⟩) : ℝ) : EReal) := by
    rw [← coe_sum]
    refine Finset.sum_congr rfl fun k _ => ?_
    have hk := k.isLt
    have en : 128 * (C.val / 128) + (64 * h + k.val) = 64 * (C.val / 64) + k.val := by omega
    rw [en, block_q m c b _ _ hR (by omega), block_k m c b _ _ hu (by omega), h0, h1, qsc_eq, ← EReal.coe_mul, ← EReal.coe_mul]
  rw [eS, hhC, block_b m c _ _ _ (by omega) (by omega) (by omega), lsc_eq]
  by_cases hb : InBand R.val (k0 + j)
  · have hb' := hb
    unfold InBand at hb'
    rw [if_pos hb, if_pos (by omega), h4, ← EReal.coe_mul, ← EReal.coe_add]
    refine congrArg _ ?_
    unfold real
    have en : min (R.val % 128 + (639 - (640 - W + j)) + 1) 256 = min (R.val + 128 - (k0 + j)) 256 := by omega
    simp only [en]
    rw [add_mul, mul_assoc (∑ k : Fin 64, _) _ _, Finset.sum_mul]
    exact congrArg (· + _) (Finset.sum_congr rfl fun k _ => by ring)
  · have hb' := hb
    unfold InBand at hb'
    rw [if_neg hb, if_neg (by omega), EReal.bot_mul_coe_of_pos (inv_pos.2 (Real.log_pos (by norm_num))), EReal.add_bot]

/-- The two results are one array. -/
theorem final_eq (h0 : ∀ i, qA m c i = Q i) (h1 : ∀ i, kA m c i = K i) (h4 : ∀ i, bA m c i = P i) :
    MixerAValue.final m c = MixerARefIdeal.Read.val_main_v52 (F := Ideal) (qA m c) (kA m c) (vA m c) (bA m c) := by
  funext i
  obtain ⟨b, R, C, rfl⟩ : ∃ b R C, i = ix3 b R C := ⟨i 0, i 1, i 2, eq_ix3 i⟩
  have hR := R.isLt
  have hC := C.isLt
  refine Eq.trans ?_ (MixerARef.out_apply (qA m c) (kA m c) (vA m c) (bA m c) b R C).symm
  show winOut (MixerAValue.colBlock m c b 0 (by decide)) (MixerAValue.colBlock m c b 1 (by decide)) (MixerAValue.colBlock m c b 2 (by decide))
    (V m c main_v31) qsc lsc (128 * min (R.val / 128 + 1) 5) (128 * (R.val / 128 - 4)) R.val C.val = _
  obtain ⟨W, hW⟩ : ∃ W, W = 128 * min (R.val / 128 + 1) 5 := ⟨_, rfl⟩
  obtain ⟨k0, hk0⟩ : ∃ k0, k0 = 128 * (R.val / 128 - 4) := ⟨_, rfl⟩
  rw [← hW, ← hk0]
  unfold winOut
  refine Softmax.window_eq (n := 2048) (W := W) (k0 := k0) (by omega) (fun u => InBand R.val u.val) (real Q K P b ⟨C.val / 64, by omega⟩ R)
    (fun u => vA m c (ix3 b u C)) ?_ ⟨R, ?_⟩ _ (score_real Q K P _ _ _ h0 h1 h4 b _ R) _ _ ?_ ?_ _ rfl
  · intro u hu
    unfold InBand at hu
    have hul := u.isLt
    omega
  · show InBand R.val R.val
    unfold InBand
    omega
  · intro j
    exact sc_real m c Q K P h0 h1 h4 b R C j.val k0 W hW hk0 j.isLt (by have := j.isLt; omega)
  · intro j
    exact block_v m c b _ _ (by have := j.isLt; omega) hC

/-- A number below the top in magnitude is a real number. -/
theorem real_of_lt (x : EReal) (h : BitVec.ofBool (decide ((x ⊔ -x) < Ideal.ofBits .f32 0x7F800000#32)) = 1#1) : x = (x.toReal : EReal) := by
  have ht : Ideal.ofBits .f32 0x7F800000#32 = ⊤ := by simp [Ideal.ofBits, Ideal.ieee]
  rw [ht] at h
  have hlt : (x ⊔ -x) < ⊤ := by
    by_contra hc
    rw [decide_eq_false hc] at h
    exact absurd h (by decide)
  refine (EReal.coe_toReal (fun e => ?_) (fun e => ?_)).symm
  · rw [e] at hlt; simp at hlt
  · rw [e] at hlt; simp at hlt

theorem finite (hp : Cert.Pre_MixerAIdeal_finite_scores m) :
    (∀ i, qA m c i = ((qA m c i).toReal : EReal)) ∧ (∀ i, kA m c i = ((kA m c i).toReal : EReal)) ∧ (∀ i, bA m c i = ((bA m c i).toReal : EReal)) := by
  obtain ⟨h0, h1, h2⟩ := hp c
  refine ⟨fun i => real_of_lt _ (congrFun h0 i), fun i => real_of_lt _ (congrFun h1 i), fun i => real_of_lt _ (congrFun h2 i)⟩

end Cert.MixerAEq

end
-- ==== Proof.MergeFetch.lean ====
module

public import proofs.«01_k».proof.Proof.Gen.MergeIdeal.Frame
public import proofs.«01_k».proof.Proof.Gen.MergeIdeal.Skeleton
public import Idealize.ShloMosaic.Lib.WritesUnit

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two weight arrays the body copies itself, whole. -/
abbrev guM : Memref sig .tc .hbm S1024x5632 .f32 := Memref.whole main_v25
abbrev dnM : Memref sig .tc .hbm S2816x1024 .f32 := Memref.whole main_v26
/-- A memref's contents on core `c`, and the memref held whole at contents `f`. -/
abbrev BufOf (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : BufOf (F := F) c M) : sProp 𝕄 :=
  M.view.loc (c : Thread nD τ) ↦{fullShare} f

/-- The part of the body that runs at the first point only: the copies of the weights. -/
noncomputable def fetchProg (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .hbm S1024x5632 .f32) (harg11 : arg11.IsWhole) (arg12 : Memref sig .tc .hbm S2816x1024 .f32) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S512x1024 .f32) (harg16 : arg16.IsWhole) (arg17 : Memref sig .tc .vmem S512x2816 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S2x128x5632 .f32) (harg20 : arg20.IsWhole) (arg21 : Memref sig .tc .vmem S2x256x1024 .f32) (harg21 : arg21.IsWhole) (arg22 : DmaSems sig S2x2) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  let v348 : FVec F S128x5632 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v348
  let v400 : FVec F S128x5632 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  let v424 : FVec F S128x5632 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v400
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v424
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  let v525 : FVec F S256x1024 .bf16 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v525
  k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  let v600 : FVec F S256x1024 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
  Prog.lift (.store arg19 (Rect.unit (s := S2816x1024) ![2560, 0] S256x1024.size inb_S2816x1024_S256x1024_2560_0) (k0_pay24 v600) Finset.univ (View.stores_vmem h_S256x1024 (harg19.storeExact_slice rfl _ packedbf16_S2816x1024_S256x1024_2560_0) (fun _ => rfl)) (.inl rfl))

section Stage

variable {sig' : RefSig} {κ' : Kind} {sp' : Space} {s t : Shape} {e : EltTy} {Val : EltTy → Type}

/-- What a copy left in a slot of a staging buffer is what a load of the slot reads. -/
theorem slot_last (M : Memref sig' κ' sp' s e) (r : Rect s) (hr : ∀ a, r.stride a = 1) (hq : r.shape.Squeezes t)
    (hc : r.shape.ShapeCasts t) (f : M.view.ty.Contents Val) (d : t.Idx → Val e) :
    shapeCast t (M.view.readAt Val r.toLoadRect (((M.slice r hr).squeeze t hq).view.write Val f d Finset.univ)) hc = d :=
  View.read_write_univ (v := ((M.slice r hr).squeeze t hq).view) f d

/-- A copy into another slot leaves what a load of this slot reads. -/
theorem slot_under (M : Memref sig' κ' sp' s e) (r r' : Rect s) (hr : ∀ a, r.stride a = 1) (hr' : ∀ a, r'.stride a = 1)
    (hq : r.shape.Squeezes t) (hq' : r'.shape.Squeezes t) (hc : r.shape.ShapeCasts t) (f : M.view.ty.Contents Val) (d d' : t.Idx → Val e)
    (hd : ∀ x, r.emb x ∉ r'.set) :
    shapeCast t (M.view.readAt Val r.toLoadRect (((M.slice r' hr').squeeze t hq').view.write Val
      (((M.slice r hr).squeeze t hq).view.write Val f d Finset.univ) d' Finset.univ)) hc = d := by
  refine Eq.trans (congrArg (fun v => shapeCast t v hc) (funext fun x => ?_)) (slot_last M r hr hq hc f d)
  show M.view.read Val (((M.view.slice r').reshape t hq'.numel_eq).write Val _ d' Finset.univ) (r.emb x) = _
  rw [View.write_reshape_univ, View.read_slice_write_of_not_mem r' _ _ _ (by rw [Rect.map_emb_univ]; exact hd x)]
  rfl

end Stage

/-- A chunk of weights cast on its way from the staging buffer. -/
theorem cast_piece {s t : Shape} (v : FVec F s .f32) (d : FVec F t .f32) (hc : s.ShapeCasts t) (hs : t.ShapeCasts t)
    (h : shapeCast t v hc = d) (x : t.Idx) :
    shapeCast t (truncf .bf16 (shapeCast t v hc) bitsLt_bf16_f32) hs x = FloatOps.truncf .bf16 bitsLt_bf16_f32 (d x) := by
  subst h
  show FloatOps.truncf .bf16 _ (shapeCast t v hc (Shape.reshapeEquiv hs x)) = _
  rw [Shape.reshapeEquiv_self]

theorem slot_apart {S : Shape} (n : ℕ) (r r' : Rect S) (a : Fin S.rank) (o o' : ℕ) (ho : r.off a = o) (ho' : r'.off a = o')
    (hs : r.stride a = 1) (hs' : r'.stride a = 1) (hn : r.size a = 1) (hn' : r'.size a = 1) (hne : o ≠ o') (x : r.shape.Idx) :
    r.emb x ∉ r'.set := by
  have hx : ((r.emb x) a).val = o := by
    have h1 : ((r.emb x) a).val = r.off a + r.stride a * (x a).val := rfl
    have h2 : (x a).val < r.size a := (x a).isLt
    rw [hn] at h2
    rw [h1, ho, hs]
    omega
  refine Rect.not_mem_set_of_axis r' _ a o' 1 ho' hs' hn' ?_
  rw [hx]
  omega

/-- A buffer held at some contents is held at what they read. -/
theorem held_any (c : Dev nD) {s : Shape} {e : EltTy} (M : Memref sig .tc .vmem s e) (f : BufOf (F := F) c M) :
    (iprop(M.view.loc (c : Thread nD τ) ↦[M.view.set]{fullShare} f) : sProp 𝕄)
      ⊢ iprop(∃ d : s.Idx → Elt F e, ∃ f, ⌜M.view.read (Elt F) f = d⌝ ∗ M.view.loc (c : Thread nD τ) ↦[M.view.set]{fullShare} f) := by
  iintro H
  iexists (M.view.read (Elt F) f), f
  isplitr
  · ipureintro
    rfl
  iexact H

/-- The two weight arrays as the body keeps them, cast. -/
noncomputable def guW {c : Dev nD} (f : BufOf (F := F) c guM) : FVec F S1024x5632 .bf16 :=
  truncf .bf16 (guM.view.read (Elt F) f : FVec F S1024x5632 .f32) bitsLt_bf16_f32
noncomputable def dnW {c : Dev nD} (f : BufOf (F := F) c dnM) : FVec F S2816x1024 .bf16 :=
  truncf .bf16 (dnM.view.read (Elt F) f : FVec F S2816x1024 .f32) bitsLt_bf16_f32

set_option maxHeartbeats 1000000 in set_option sl_exec.dmaWindow true in set_option sl_exec.dmaWindowSet true in
/-- The weights' copies, run: afterwards the two weight buffers hold the arrays cast, whatever the buffers held before. -/
theorem fetch_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S512x1024 .f32) (harg16 : arg16.IsWhole) (arg17 : Memref sig .tc .vmem S512x2816 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S2x128x5632 .f32) (harg20 : arg20.IsWhole) (arg21 : Memref sig .tc .vmem S2x256x1024 .f32) (harg21 : arg21.IsWhole) (fh0 : BufOf (F := F) c guM) (fh1 : BufOf (F := F) c dnM)
    (W : Waits sig Unit) (K : PUnit → sProp 𝕄) :
    iprop((∃ d, owns (c : Thread nD τ) arg18 fullShare d) ∗ (∃ d, owns (c : Thread nD τ) arg19 fullShare d)
        ∗ (∃ d, owns (c : Thread nD τ) arg20 fullShare d) ∗ (∃ d, owns (c : Thread nD τ) arg21 fullShare d)
        ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0
        ∗ heldAt c guM fh0 ∗ heldAt c dnM fh1 ∗ owes (c : Thread nD τ) 0 W
        ∗ (owns (c : Thread nD τ) arg18 fullShare (guW fh0) ∗ owns (c : Thread nD τ) arg19 fullShare (dnW fh1)
        ∗ (∃ d, owns (c : Thread nD τ) arg20 fullShare d) ∗ (∃ d, owns (c : Thread nD τ) arg21 fullShare d)
        ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0
        ∗ heldAt c guM fh0 ∗ heldAt c dnM fh1 ∗ (∃ W', owes (c : Thread nD τ) 0 W') -∗ K ⟨⟩))
      ⊢ wp frame (wpE (defs₀ (F := F)) Variants.none c none) Set.univ (fetchProg i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5) K := by
  unfold fetchProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%ds1, %fs1, -, HS1⟩, ⟨%ds2, %fs2, -, HS2⟩, ⟨%ds3, %fs3, -, HS3⟩, ⟨%ds4, %fs4, -, HS4⟩, Hq0, Hq1, Hq2, Hq3, Hh0, Hh1, HW, Hk⟩
  sl_exec
  sl_step
  iapply Hk
  isplitl [HS1]
  · iexists _
    isplitr
    rotate_left
    · iexact HS1
    · ipureintro
      refine funext fun y => View.read_writes_apply_of_pieces (Val := Elt F) (e := .bf16) (s := S1024x5632) _ _ (guW fh0) _ ?_ y ?_
      simp only [List.forall_mem_cons]
      refine ⟨fun x => ?_, fun x => ?_, fun x => ?_, fun x => ?_, fun x => ?_, fun x => ?_, fun x => ?_, fun x => ?_, fun p hp => absurd hp List.not_mem_nil⟩
      · refine cast_piece (s := S1x128x5632) (t := S128x5632) (fetch_run.sl.v422 c arg20 fh0 fs3) (fetch_run.sl.dma18 c fh0) shapeCasts_S1x128x5632_S128x5632 shapeCasts_S128x5632_S128x5632 ?_ x
        exact slot_last arg20 (Rect.unit (s := S2x128x5632) ![1, 0, 0] S1x128x5632.size inb_S2x128x5632_S1x128x5632_1_0_0) (fun _ => rfl) squeezes_S1x128x5632_S128x5632 _ _ _
      · refine cast_piece (s := S1x128x5632) (t := S128x5632) (fetch_run.sl.v411 c arg20 fh0 fs3) (fetch_run.sl.dma15 c fh0) shapeCasts_S1x128x5632_S128x5632 shapeCasts_S128x5632_S128x5632 ?_ x
        exact slot_under arg20 (Rect.unit (s := S2x128x5632) ![0, 0, 0] S1x128x5632.size inb_S2x128x5632_S1x128x5632_0_0_0) (Rect.unit (s := S2x128x5632) ![1, 0, 0] S1x128x5632.size inb_S2x128x5632_S1x128x5632_1_0_0) (fun _ => rfl) (fun _ => rfl) squeezes_S1x128x5632_S128x5632 squeezes_S1x128x5632_S128x5632 _ _ _ _ (slot_apart 0 _ _ (0 : Fin 3) 0 1 rfl rfl rfl rfl rfl rfl (by decide))
      · refine cast_piece (s := S1x128x5632) (t := S128x5632) (fetch_run.sl.v395 c arg20 fh0 fs3) (fetch_run.sl.dma12 c fh0) shapeCasts_S1x128x5632_S128x5632 shapeCasts_S128x5632_S128x5632 ?_ x
        exact slot_under arg20 (Rect.unit (s := S2x128x5632) ![1, 0, 0] S1x128x5632.size inb_S2x128x5632_S1x128x5632_1_0_0) (Rect.unit (s := S2x128x5632) ![0, 0, 0] S1x128x5632.size inb_S2x128x5632_S1x128x5632_0_0_0) (fun _ => rfl) (fun _ => rfl) squeezes_S1x128x5632_S128x5632 squeezes_S1x128x5632_S128x5632 _ _ _ _ (slot_apart 0 _ _ (0 : Fin 3) 1 0 rfl rfl rfl rfl rfl rfl (by decide))
      · refine cast_piece (s := S1x128x5632) (t := S128x5632) (fetch_run.sl.v379 c arg20 fh0 fs3) (fetch_run.sl.dma9 c fh0) shapeCasts_S1x128x5632_S128x5632 shapeCasts_S128x5632_S128x5632 ?_ x
        exact slot_under arg20 (Rect.unit (s := S2x128x5632) ![0, 0, 0] S1x128x5632.size inb_S2x128x5632_S1x128x5632_0_0_0) (Rect.unit (s := S2x128x5632) ![1, 0, 0] S1x128x5632.size inb_S2x128x5632_S1x128x5632_1_0_0) (fun _ => rfl) (fun _ => rfl) squeezes_S1x128x5632_S128x5632 squeezes_S1x128x5632_S128x5632 _ _ _ _ (slot_apart 0 _ _ (0 : Fin 3) 0 1 rfl rfl rfl rfl rfl rfl (by decide))
      · refine cast_piece (s := S1x128x5632) (t := S128x5632) (fetch_run.sl.v363 c arg20 fh0 fs3) (fetch_run.sl.dma6 c fh0) shapeCasts_S1x128x5632_S128x5632 shapeCasts_S128x5632_S128x5632 ?_ x
        exact slot_under arg20 (Rect.unit (s := S2x128x5632) ![1, 0, 0] S1x128x5632.size inb_S2x128x5632_S1x128x5632_1_0_0) (Rect.unit (s := S2x128x5632) ![0, 0, 0] S1x128x5632.size inb_S2x128x5632_S1x128x5632_0_0_0) (fun _ => rfl) (fun _ => rfl) squeezes_S1x128x5632_S128x5632 squeezes_S1x128x5632_S128x5632 _ _ _ _ (slot_apart 0 _ _ (0 : Fin 3) 1 0 rfl rfl rfl rfl rfl rfl (by decide))
      · refine cast_piece (s := S1x128x5632) (t := S128x5632) (fetch_run.sl.v347 c arg20 fh0 fs3) (fetch_run.sl.dma3 c fh0) shapeCasts_S1x128x5632_S128x5632 shapeCasts_S128x5632_S128x5632 ?_ x
        exact slot_under arg20 (Rect.unit (s := S2x128x5632) ![0, 0, 0] S1x128x5632.size inb_S2x128x5632_S1x128x5632_0_0_0) (Rect.unit (s := S2x128x5632) ![1, 0, 0] S1x128x5632.size inb_S2x128x5632_S1x128x5632_1_0_0) (fun _ => rfl) (fun _ => rfl) squeezes_S1x128x5632_S128x5632 squeezes_S1x128x5632_S128x5632 _ _ _ _ (slot_apart 0 _ _ (0 : Fin 3) 0 1 rfl rfl rfl rfl rfl rfl (by decide))
      · refine cast_piece (s := S1x128x5632) (t := S128x5632) (fetch_run.sl.v331 c arg20 fh0 fs3) (fetch_run.sl.dma0_1 c fh0) shapeCasts_S1x128x5632_S128x5632 shapeCasts_S128x5632_S128x5632 ?_ x
        exact slot_under arg20 (Rect.unit (s := S2x128x5632) ![1, 0, 0] S1x128x5632.size inb_S2x128x5632_S1x128x5632_1_0_0) (Rect.unit (s := S2x128x5632) ![0, 0, 0] S1x128x5632.size inb_S2x128x5632_S1x128x5632_0_0_0) (fun _ => rfl) (fun _ => rfl) squeezes_S1x128x5632_S128x5632 squeezes_S1x128x5632_S128x5632 _ _ _ _ (slot_apart 0 _ _ (0 : Fin 3) 1 0 rfl rfl rfl rfl rfl rfl (by decide))
      · refine cast_piece (s := S1x128x5632) (t := S128x5632) (fetch_run.sl.v315 c arg20 fh0 fs3) (fetch_run.sl.dma0 c fh0) shapeCasts_S1x128x5632_S128x5632 shapeCasts_S128x5632_S128x5632 ?_ x
        exact slot_under arg20 (Rect.unit (s := S2x128x5632) ![0, 0, 0] S1x128x5632.size inb_S2x128x5632_S1x128x5632_0_0_0) (Rect.unit (s := S2x128x5632) ![1, 0, 0] S1x128x5632.size inb_S2x128x5632_S1x128x5632_1_0_0) (fun _ => rfl) (fun _ => rfl) squeezes_S1x128x5632_S128x5632 squeezes_S1x128x5632_S128x5632 _ _ _ _ (slot_apart 0 _ _ (0 : Fin 3) 0 1 rfl rfl rfl rfl rfl rfl (by decide))
      have hy : (y (0 : Fin 2)).val < 1024 := (y (0 : Fin 2)).isLt
      by_cases h0 : (y (0 : Fin 2)).val < 128
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (show y ∈ (Rect.unit (s := S1024x5632) ![0, 0] S128x5632.size inb_S1024x5632_S128x5632_0_0).set from Rect.mem_set_unit.mpr (Rect.unit_rows_mem (W := 128) y rfl rfl ⟨by omega, by omega⟩))⟩
      by_cases h1 : (y (0 : Fin 2)).val < 256
      · exact ⟨_, List.mem_cons_of_mem _ (List.mem_cons_of_mem _ (List.mem_cons_of_mem _ (List.mem_cons_of_mem _ (List.mem_cons_of_mem _ (List.mem_cons_of_mem _ (List.mem_cons_self)))))), (show y ∈ (Rect.unit (s := S1024x5632) ![128, 0] S128x5632.size inb_S1024x5632_S128x5632_128_0).set from Rect.mem_set_unit.mpr (Rect.unit_rows_mem (W := 128) y rfl rfl ⟨by omega, by omega⟩))⟩
      by_cases h2 : (y (0 : Fin 2)).val < 384
      · exact ⟨_, List.mem_cons_of_mem _ (List.mem_cons_of_mem _ (List.mem_cons_of_mem _ (List.mem_cons_of_mem _ (List.mem_cons_of_mem _ (List.mem_cons_self))))), (show y ∈ (Rect.unit (s := S1024x5632) ![256, 0] S128x5632.size inb_S1024x5632_S128x5632_256_0).set from Rect.mem_set_unit.mpr (Rect.unit_rows_mem (W := 128) y rfl rfl ⟨by omega, by omega⟩))⟩
      by_cases h3 : (y (0 : Fin 2)).val < 512
      · exact ⟨_, List.mem_cons_of_mem _ (List.mem_cons_of_mem _ (List.mem_cons_of_mem _ (List.mem_cons_of_mem _ (List.mem_cons_self)))), (show y ∈ (Rect.unit (s := S1024x5632) ![384, 0] S128x5632.size inb_S1024x5632_S128x5632_384_0).set from Rect.mem_set_unit.mpr (Rect.unit_rows_mem (W := 128) y rfl rfl ⟨by omega, by omega⟩))⟩
      by_cases h4 : (y (0 : Fin 2)).val < 640
      · exact ⟨_, List.mem_cons_of_mem _ (List.mem_cons_of_mem _ (List.mem_cons_of_mem _ (List.mem_cons_self))), (show y ∈ (Rect.unit (s := S1024x5632) ![512, 0] S128x5632.size inb_S1024x5632_S128x5632_512_0).set from Rect.mem_set_unit.mpr (Rect.unit_rows_mem (W := 128) y rfl rfl ⟨by omega, by omega⟩))⟩
      by_cases h5 : (y (0 : Fin 2)).val < 768
      · exact ⟨_, List.mem_cons_of_mem _ (List.mem_cons_of_mem _ (List.mem_cons_self)), (show y ∈ (Rect.unit (s := S1024x5632) ![640, 0] S128x5632.size inb_S1024x5632_S128x5632_640_0).set from Rect.mem_set_unit.mpr (Rect.unit_rows_mem (W := 128) y rfl rfl ⟨by omega, by omega⟩))⟩
      by_cases h6 : (y (0 : Fin 2)).val < 896
      · exact ⟨_, List.mem_cons_of_mem _ (List.mem_cons_self), (show y ∈ (Rect.unit (s := S1024x5632) ![768, 0] S128x5632.size inb_S1024x5632_S128x5632_768_0).set from Rect.mem_set_unit.mpr (Rect.unit_rows_mem (W := 128) y rfl rfl ⟨by omega, by omega⟩))⟩
      exact ⟨_, List.mem_cons_self, (show y ∈ (Rect.unit (s := S1024x5632) ![896, 0] S128x5632.size inb_S1024x5632_S128x5632_896_0).set from Rect.mem_set_unit.mpr (Rect.unit_rows_mem (W := 128) y rfl rfl ⟨by omega, by omega⟩))⟩

  isplitl [HS2]
  · iexists _
    isplitr
    rotate_left
    · iexact HS2
    · ipureintro
      refine funext fun y => View.read_writes_apply_of_pieces (Val := Elt F) (e := .bf16) (s := S2816x1024) _ _ (dnW fh1) _ ?_ y ?_
      simp only [List.forall_mem_cons]
      refine ⟨fun x => ?_, fun x => ?_, fun x => ?_, fun x => ?_, fun x => ?_, fun x => ?_, fun x => ?_, fun x => ?_, fun x => ?_, fun x => ?_, fun x => ?_, fun p hp => absurd hp List.not_mem_nil⟩
      · refine cast_piece (s := S1x256x1024) (t := S256x1024) (fetch_run.sl.v598 c arg21 fh1 fs4) (fetch_run.sl.dma51 c fh1) shapeCasts_S1x256x1024_S256x1024 shapeCasts_S256x1024_S256x1024 ?_ x
        exact slot_last arg21 (Rect.unit (s := S2x256x1024) ![0, 0, 0] S1x256x1024.size inb_S2x256x1024_S1x256x1024_0_0_0) (fun _ => rfl) squeezes_S1x256x1024_S256x1024 _ _ _
      · refine cast_piece (s := S1x256x1024) (t := S256x1024) (fetch_run.sl.v587 c arg21 fh1 fs4) (fetch_run.sl.dma48 c fh1) shapeCasts_S1x256x1024_S256x1024 shapeCasts_S256x1024_S256x1024 ?_ x
        exact slot_under arg21 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v571 c arg21 fh1 fs4) (fetch_run.sl.dma45 c fh1) shapeCasts_S1x256x1024_S256x1024 shapeCasts_S256x1024_S256x1024 ?_ x
        exact slot_under arg21 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      · refine cast_piece (s := S1x256x1024) (t := S256x1024) (fetch_run.sl.v555 c arg21 fh1 fs4) (fetch_run.sl.dma42 c fh1) shapeCasts_S1x256x1024_S256x1024 shapeCasts_S256x1024_S256x1024 ?_ x
        exact slot_under arg21 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v539 c arg21 fh1 fs4) (fetch_run.sl.dma39 c fh1) shapeCasts_S1x256x1024_S256x1024 shapeCasts_S256x1024_S256x1024 ?_ x
        exact slot_under arg21 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      · refine cast_piece (s := S1x256x1024) (t := S256x1024) (fetch_run.sl.v523 c arg21 fh1 fs4) (fetch_run.sl.dma36 c fh1) shapeCasts_S1x256x1024_S256x1024 shapeCasts_S256x1024_S256x1024 ?_ x
        exact slot_under arg21 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v507 c arg21 fh1 fs4) (fetch_run.sl.dma33 c fh1) shapeCasts_S1x256x1024_S256x1024 shapeCasts_S256x1024_S256x1024 ?_ x
        exact slot_under arg21 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      · refine cast_piece (s := S1x256x1024) (t := S256x1024) (fetch_run.sl.v491 c arg21 fh1 fs4) (fetch_run.sl.dma30 c fh1) shapeCasts_S1x256x1024_S256x1024 shapeCasts_S256x1024_S256x1024 ?_ x
        exact slot_under arg21 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v475 c arg21 fh1 fs4) (fetch_run.sl.dma27 c fh1) shapeCasts_S1x256x1024_S256x1024 shapeCasts_S256x1024_S256x1024 ?_ x
        exact slot_under arg21 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      · refine cast_piece (s := S1x256x1024) (t := S256x1024) (fetch_run.sl.v459 c arg21 fh1 fs4) (fetch_run.sl.dma24_1 c fh1) shapeCasts_S1x256x1024_S256x1024 shapeCasts_S256x1024_S256x1024 ?_ x
        exact slot_under arg21 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v443 c arg21 fh1 fs4) (fetch_run.sl.dma24 c fh1) shapeCasts_S1x256x1024_S256x1024 shapeCasts_S256x1024_S256x1024 ?_ x
        exact slot_under arg21 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      have hy : (y (0 : Fin 2)).val < 2816 := (y (0 : Fin 2)).isLt
      by_cases h0 : (y (0 : Fin 2)).val < 256
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (show y ∈ (Rect.unit (s := S2816x1024) ![0, 0] S256x1024.size inb_S2816x1024_S256x1024_0_0).set from Rect.mem_set_unit.mpr (Rect.unit_rows_mem (W := 256) y rfl rfl ⟨by omega, by omega⟩))⟩
      by_cases h1 : (y (0 : Fin 2)).val < 512
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (show y ∈ (Rect.unit (s := S2816x1024) ![256, 0] S256x1024.size inb_S2816x1024_S256x1024_256_0).set from Rect.mem_set_unit.mpr (Rect.unit_rows_mem (W := 256) y rfl rfl ⟨by omega, by omega⟩))⟩
      by_cases h2 : (y (0 : Fin 2)).val < 768
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (show y ∈ (Rect.unit (s := S2816x1024) ![512, 0] S256x1024.size inb_S2816x1024_S256x1024_512_0).set from Rect.mem_set_unit.mpr (Rect.unit_rows_mem (W := 256) y rfl rfl ⟨by omega, by omega⟩))⟩
      by_cases h3 : (y (0 : Fin 2)).val < 1024
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (show y ∈ (Rect.unit (s := S2816x1024) ![768, 0] S256x1024.size inb_S2816x1024_S256x1024_768_0).set from Rect.mem_set_unit.mpr (Rect.unit_rows_mem (W := 256) y rfl rfl ⟨by omega, by omega⟩))⟩
      by_cases h4 : (y (0 : Fin 2)).val < 1280
      · exact ⟨_, List.mem_cons_of_mem _ (List.mem_cons_of_mem _ (List.mem_cons_of_mem _ (List.mem_cons_of_mem _ (List.mem_cons_of_mem _ (List.mem_cons_of_mem _ (List.mem_cons_self)))))), (show y ∈ (Rect.unit (s := S2816x1024) ![1024, 0] S256x1024.size inb_S2816x1024_S256x1024_1024_0).set from Rect.mem_set_unit.mpr (Rect.unit_rows_mem (W := 256) y rfl rfl ⟨by omega, by omega⟩))⟩
      by_cases h5 : (y (0 : Fin 2)).val < 1536
      · exact ⟨_, List.mem_cons_of_mem _ (List.mem_cons_of_mem _ (List.mem_cons_of_mem _ (List.mem_cons_of_mem _ (List.mem_cons_of_mem _ (List.mem_cons_self))))), (show y ∈ (Rect.unit (s := S2816x1024) ![1280, 0] S256x1024.size inb_S2816x1024_S256x1024_1280_0).set from Rect.mem_set_unit.mpr (Rect.unit_rows_mem (W := 256) y rfl rfl ⟨by omega, by omega⟩))⟩
      by_cases h6 : (y (0 : Fin 2)).val < 1792
      · exact ⟨_, List.mem_cons_of_mem _ (List.mem_cons_of_mem _ (List.mem_cons_of_mem _ (List.mem_cons_of_mem _ (List.mem_cons_self)))), (show y ∈ (Rect.unit (s := S2816x1024) ![1536, 0] S256x1024.size inb_S2816x1024_S256x1024_1536_0).set from Rect.mem_set_unit.mpr (Rect.unit_rows_mem (W := 256) y rfl rfl ⟨by omega, by omega⟩))⟩
      by_cases h7 : (y (0 : Fin 2)).val < 2048
      · exact ⟨_, List.mem_cons_of_mem _ (List.mem_cons_of_mem _ (List.mem_cons_of_mem _ (List.mem_cons_self))), (show y ∈ (Rect.unit (s := S2816x1024) ![1792, 0] S256x1024.size inb_S2816x1024_S256x1024_1792_0).set from Rect.mem_set_unit.mpr (Rect.unit_rows_mem (W := 256) y rfl rfl ⟨by omega, by omega⟩))⟩
      by_cases h8 : (y (0 : Fin 2)).val < 2304
      · exact ⟨_, List.mem_cons_of_mem _ (List.mem_cons_of_mem _ (List.mem_cons_self)), (show y ∈ (Rect.unit (s := S2816x1024) ![2048, 0] S256x1024.size inb_S2816x1024_S256x1024_2048_0).set from Rect.mem_set_unit.mpr (Rect.unit_rows_mem (W := 256) y rfl rfl ⟨by omega, by omega⟩))⟩
      by_cases h9 : (y (0 : Fin 2)).val < 2560
      · exact ⟨_, List.mem_cons_of_mem _ (List.mem_cons_self), (show y ∈ (Rect.unit (s := S2816x1024) ![2304, 0] S256x1024.size inb_S2816x1024_S256x1024_2304_0).set from Rect.mem_set_unit.mpr (Rect.unit_rows_mem (W := 256) y rfl rfl ⟨by omega, by omega⟩))⟩
      exact ⟨_, List.mem_cons_self, (show y ∈ (Rect.unit (s := S2816x1024) ![2560, 0] S256x1024.size inb_S2816x1024_S256x1024_2560_0).set from Rect.mem_set_unit.mpr (Rect.unit_rows_mem (W := 256) y rfl rfl ⟨by omega, by omega⟩))⟩

  isplitl [HS3]
  · iapply (held_any c arg20 _)
    iexact HS3
  isplitl [HS4]
  · iapply (held_any c arg21 _)
    iexact HS4
  isplitl [Hq0]
  · iexact Hq0
  isplitl [Hq1]
  · iexact Hq1
  isplitl [Hq2]
  · iexact Hq2
  isplitl [Hq3]
  · iexact Hq3
  isplitl [Hh0]
  · iexact Hh0
  isplitl [Hh1]
  · iexact Hh1
  iexists _
  iexact HW

end Cert.MergeIdeal.Gen
-- ==== Proof.MergeBody.lean ====
module

public import proofs.«01_k».proof.Proof.Gen.MergeIdeal.Frame
public import proofs.«01_k».proof.Proof.Gen.MergeIdeal.Skeleton
public import proofs.«01_k».proof.Proof.MergeFetch
public import Idealize.ShloMosaic.Lib.VecWindow

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body without the weights' copies: its first part's loads. -/
noncomputable def tailProg (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .hbm S1024x5632 .f32) (harg11 : arg11.IsWhole) (arg12 : Memref sig .tc .hbm S2816x1024 .f32) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S512x1024 .f32) (harg16 : arg16.IsWhole) (arg17 : Memref sig .tc .vmem S512x2816 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S2x128x5632 .f32) (harg20 : arg20.IsWhole) (arg21 : Memref sig .tc .vmem S2x256x1024 .f32) (harg21 : arg21.IsWhole) (arg22 : DmaSems sig S2x2) :
    Prog (TpuEff nD τ sig (Elt F) Λ₀ .tc) (Σ' (v4 : FVec F S512x1024 .f32) (v29 : FVec F S512x1024 .f32), FVec F S512x1024 .f32) := do
  let v3 : Vec F S512x1024 .f32 ← Prog.lift (.load arg1 (Rect.unit (s := S512x1024) ![0, 0] S512x1024.size inb_S512x1024_S512x1024_0_0).toLoadRect (View.loadsAt_vmem h_S512x1024))
  let v5 : Vec F S1x1024 .f32 ← Prog.lift (.load arg5 (Rect.unit (s := S1x1024) ![0, 0] S1x1024.size inb_S1x1024_S1x1024_0_0).toLoadRect (View.loadsAt_vmem h_S1x1024))
  let v20 : Vec F S1024x1024 .bf16 ← Prog.lift (.load arg6 (Rect.unit (s := S1024x2048) ![0, 0] S1024x1024.size inb_S1024x2048_S1024x1024_0_0).toLoadRect (View.loadsAt_vmem h_S1024x1024))
  let v30 : Vec F S1024x1024 .bf16 ← Prog.lift (.load arg6 (Rect.unit (s := S1024x2048) ![0, 1024] S1024x1024.size inb_S1024x2048_S1024x1024_0_1024).toLoadRect (View.loadsAt_vmem h_S1024x1024))
  pure ⟨k0_pay25 v3, k0_pay27 v3 v5 v20, k0_pay28 v3 v5 v30⟩

/-- The rest of the body after its first part. -/
noncomputable def restProg (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .hbm S1024x5632 .f32) (harg11 : arg11.IsWhole) (arg12 : Memref sig .tc .hbm S2816x1024 .f32) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S512x1024 .f32) (harg16 : arg16.IsWhole) (arg17 : Memref sig .tc .vmem S512x2816 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S2x128x5632 .f32) (harg20 : arg20.IsWhole) (arg21 : Memref sig .tc .vmem S2x256x1024 .f32) (harg21 : arg21.IsWhole) (arg22 : DmaSems sig S2x2) (v4 v29 v37 : FVec F S512x1024 .f32) :
    Prog (TpuEff nD τ sig (Elt F) Λ₀ .tc) PUnit := do
  let ⟨v57, v72, v74⟩ : Σ' (v57 : FVec F S512x1024 .f32) (v72 : FVec F S512x1024 .bf16), FVec F S512x256 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v4 v29 v37
  let ⟨v108, v109⟩ : Σ' (v108 : FVec F S512x256 .f32), Vec F S1024x256 .bf16 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v72 v74
  let ⟨v142, v144⟩ : Σ' (v142 : FVec F S512x256 .f32), FVec F S512x256 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v72 v108 v109
  let ⟨v176, v178, v179⟩ : Σ' (v176 : FVec F S512x256 .f32) (v178 : FVec F S512x256 .f32), FVec F S512x256 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v72 v142 v144
  let ⟨v210, v212, v215⟩ : Σ' (v210 : FVec F S512x256 .f32) (v212 : FVec F S512x256 .f32), FVec F S512x256 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v72 v176 v178 v179
  let ⟨v244, v246, v249, v250⟩ : Σ' (v244 : FVec F S512x256 .f32) (v246 : FVec F S512x256 .f32) (v249 : FVec F S512x256 .f32), FVec F S512x256 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v72 v210 v212 v215
  let ⟨v265, v288, v289⟩ : Σ' (v265 : FVec F S512x1024 .f32) (v288 : FVec F S512x1024 .f32), FVec F S512x1024 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v57 v244 v246 v249 v250
  let v291 : Vec F S512x256 .f32 ← Prog.lift (.load arg4 (Rect.unit (s := S512x256) ![0, 0] S512x256.size inb_S512x256_S512x256_0_0).toLoadRect (View.loadsAt_vmem h_S512x256))
  let v294 : Vec F S256x1024 .bf16 ← Prog.lift (.load arg15 (Rect.unit (s := S256x1024) ![0, 0] S256x1024.size inb_S256x1024_S256x1024_0_0).toLoadRect (View.loadsAt_vmem h_S256x1024))
  let v299 : Vec F S512x1024 .f32 ← Prog.lift (.load arg16 (Rect.unit (s := S512x1024) ![0, 0] S512x1024.size inb_S512x1024_S512x1024_0_0).toLoadRect (View.loadsAt_vmem h_S512x1024))
  Prog.lift (.store arg16 (Rect.unit (s := S512x1024) ![0, 0] S512x1024.size inb_S512x1024_S512x1024_0_0) (k0_pay1 v265 v288 v289 v291 v294) Finset.univ (View.stores_vmem_bits_univ h_S512x1024 rfl) (.inl rfl))
  pure ⟨⟩

/-- A block of 256 columns of the first weight array, from column `lo`. -/
def colsV (W : FVec F S1024x5632 .bf16) (lo : ℕ) : FVec F S1024x256 .bf16 :=
  fun j => W (Fin.cons (j 0) (Fin.cons ⟨(lo + (j 1).val) % 5632, Nat.mod_lt _ (by decide)⟩ fun a => a.elim0))

/-- The gated hidden values, block of 256 columns by block. -/
def actV (v72 : FVec F S512x1024 .bf16) (W : FVec F S1024x5632 .bf16) : FVec F S512x2816 .bf16 := fun y =>
  k0_pay33 v72 (colsV W (256 * ((y 1).val / 256))) (colsV W (2816 + 256 * ((y 1).val / 256)))
    (Fin.cons (y 0) (Fin.cons ⟨(y 1).val % 256, Nat.mod_lt _ (by decide)⟩ fun a => a.elim0))

/-- The columns of the gates' weights. -/
def gateL (x6 : FVec F S1024x2048 .bf16) : FVec F S1024x1024 .bf16 :=
  fun j => x6 ((Rect.unit (s := S1024x2048) ![0, 0] S1024x1024.size inb_S1024x2048_S1024x1024_0_0).emb j)
def gateR (x6 : FVec F S1024x2048 .bf16) : FVec F S1024x1024 .bf16 :=
  fun j => x6 ((Rect.unit (s := S1024x2048) ![0, 1024] S1024x1024.size inb_S1024x2048_S1024x1024_0_1024).emb j)

def midV (x1 : FVec F S512x1024 .f32) (x2 x3 : FVec F S512x512 .bf16) (x5 : FVec F S1x1024 .f32) (x6 : FVec F S1024x2048 .bf16)
    (x7 x8 : FVec F S512x1024 .bf16) (x9 : FVec F S1024x1024 .bf16) : FVec F S512x1024 .f32 :=
  k0_pay29 (k0_pay25 x1) (k0_pay27 x1 x5 (gateL x6)) (k0_pay28 x1 x5 (gateR x6)) x2 x7 x3 x8 x9

def hidV (x1 : FVec F S512x1024 .f32) (x2 x3 : FVec F S512x512 .bf16) (x5 : FVec F S1x1024 .f32) (x6 : FVec F S1024x2048 .bf16)
    (x7 x8 : FVec F S512x1024 .bf16) (x9 : FVec F S1024x1024 .bf16) (x10 : FVec F S1x1024 .f32) : FVec F S512x1024 .bf16 :=
  k0_pay30 (k0_pay25 x1) (k0_pay27 x1 x5 (gateL x6)) (k0_pay28 x1 x5 (gateR x6)) x2 x7 x3 x8 x9 x10

/-- What the body leaves in the output block. -/
def outV (x1 : FVec F S512x1024 .f32) (x2 x3 : FVec F S512x512 .bf16) (x4 : FVec F S512x256 .f32) (x5 : FVec F S1x1024 .f32)
    (x6 : FVec F S1024x2048 .bf16) (x7 x8 : FVec F S512x1024 .bf16) (x9 : FVec F S1024x1024 .bf16) (x10 x13 : FVec F S1x1024 .f32)
    (x14 : FVec F S1024x1024 .bf16) (x15 : FVec F S256x1024 .bf16) (W1 : FVec F S1024x5632 .bf16) (W2 : FVec F S2816x1024 .bf16) :
    FVec F S512x1024 .f32 :=
  k0_pay1 (k0_pay56 (midV x1 x2 x3 x5 x6 x7 x8 x9) (actV (hidV x1 x2 x3 x5 x6 x7 x8 x9 x10) W1) W2)
    (k0_pay57 (midV x1 x2 x3 x5 x6 x7 x8 x9) (actV (hidV x1 x2 x3 x5 x6 x7 x8 x9 x10) W1) W2 x13 x14) (k0_pay58 (F := F)) x4 x15

/-- A load of a whole buffer reads what it holds. -/
theorem load_whole {s : Shape} {e : EltTy} (M : Memref sig .tc .vmem s e) (h : M.IsWhole) (x : s.Idx → Elt F e) {off : Fin s.rank → ℕ}
    (inb : ∀ a, off a + s.size a ≤ s.size a) :
    M.view.readAt (Elt F) (Rect.unit off s.size inb).toLoadRect (h.unread x) = x :=
  (View.readAt_full _ _ inb).trans (h.read_unread x)

theorem load_rect {s : Shape} {e : EltTy} (M : Memref sig .tc .vmem s e) (h : M.IsWhole) (x : s.Idx → Elt F e) (r : Rect s) :
    M.view.readAt (Elt F) r.toLoadRect (h.unread x) = fun j => x (r.emb j) := by
  have hx : M.view.read (Elt F) (h.unread x) = x := h.read_unread x
  funext j
  exact congrFun hx (r.emb j)

/-- A load of 256 columns of the first weight array. -/
theorem load_cols (M : Memref sig .tc .vmem S1024x5632 .bf16) (h : M.IsWhole) (W : FVec F S1024x5632 .bf16) (lo : ℕ)
    (inb : ∀ a, (![0, lo] : Fin 2 → ℕ) a + S1024x256.size a ≤ S1024x5632.size a) :
    (M.view.readAt (Elt F) (Rect.unit (s := S1024x5632) ![0, lo] S1024x256.size inb).toLoadRect (h.unread W) : FVec F S1024x256 .bf16)
      = colsV W lo := by
  funext j
  refine (congrFun (load_rect M h W _) j).trans (congrArg W (funext fun a => Fin.ext ?_))
  have hlo : lo + 256 ≤ 5632 := inb (1 : Fin 2)
  have hj : (j (1 : Fin 2)).val < 256 := (j (1 : Fin 2)).isLt
  match a with
  | ⟨0, _⟩ =>
    show 0 + 1 * (j (0 : Fin 2)).val = (j (0 : Fin 2)).val
    omega
  | ⟨1, _⟩ =>
    show lo + 1 * (j (1 : Fin 2)).val = (lo + (j (1 : Fin 2)).val) % 5632
    rw [Nat.mod_eq_of_lt (by omega)]
    omega

theorem act_piece (v72 : FVec F S512x1024 .bf16) (W : FVec F S1024x5632 .bf16) (k : ℕ) (wg wu : FVec F S1024x256 .bf16)
    (hg : wg = colsV W (256 * k)) (hu : wu = colsV W (2816 + 256 * k)) (x : S512x256.Idx) (y : S512x2816.Idx)
    (h0 : (y (0 : Fin 2)).val = (x (0 : Fin 2)).val) (h1 : (y (1 : Fin 2)).val = 256 * k + (x (1 : Fin 2)).val) :
    k0_pay33 v72 wg wu x = actV v72 W y := by
  have hx : (x (1 : Fin 2)).val < 256 := (x (1 : Fin 2)).isLt
  subst hg hu
  unfold actV
  have hd : (y (1 : Fin 2)).val / 256 = k := by omega
  have hm : (y (1 : Fin 2)).val % 256 = (x (1 : Fin 2)).val := by omega
  rw [show (y 1).val / 256 = k from hd]
  refine congrArg _ (funext fun a => Fin.ext ?_)
  match a with
  | ⟨0, _⟩ => exact h0.symm
  | ⟨1, _⟩ => exact hm.symm

theorem midV_of {a1 x1 : FVec F S512x1024 .f32} {a2 x2 a3 x3 : FVec F S512x512 .bf16} {a5 x5 : FVec F S1x1024 .f32}
    {g0 g1 : FVec F S1024x1024 .bf16} {x6 : FVec F S1024x2048 .bf16}
    {a7 x7 a8 x8 : FVec F S512x1024 .bf16} {a9 x9 : FVec F S1024x1024 .bf16} (h1 : a1 = x1) (h2 : a2 = x2) (h3 : a3 = x3) (h5 : a5 = x5)
    (hg0 : g0 = gateL x6) (hg1 : g1 = gateR x6) (h7 : a7 = x7) (h8 : a8 = x8) (h9 : a9 = x9) :
    k0_pay29 (k0_pay25 a1) (k0_pay27 a1 a5 g0) (k0_pay28 a1 a5 g1) a2 a7 a3 a8 a9 = midV x1 x2 x3 x5 x6 x7 x8 x9 := by
  subst h1 h2 h3 h5 hg0 hg1 h7 h8 h9
  rfl

theorem hidV_of {a1 x1 : FVec F S512x1024 .f32} {a2 x2 a3 x3 : FVec F S512x512 .bf16} {a5 x5 : FVec F S1x1024 .f32}
    {g0 g1 : FVec F S1024x1024 .bf16} {x6 : FVec F S1024x2048 .bf16}
    {a7 x7 a8 x8 : FVec F S512x1024 .bf16} {a9 x9 : FVec F S1024x1024 .bf16} {a10 x10 : FVec F S1x1024 .f32}
    (h1 : a1 = x1) (h2 : a2 = x2) (h3 : a3 = x3) (h5 : a5 = x5)
    (hg0 : g0 = gateL x6) (hg1 : g1 = gateR x6) (h7 : a7 = x7) (h8 : a8 = x8) (h9 : a9 = x9) (h10 : a10 = x10) :
    k0_pay30 (k0_pay25 a1) (k0_pay27 a1 a5 g0) (k0_pay28 a1 a5 g1) a2 a7 a3 a8 a9 a10 = hidV x1 x2 x3 x5 x6 x7 x8 x9 x10 := by
  subst h1 h2 h3 h5 hg0 hg1 h7 h8 h9 h10
  rfl

theorem outV_of {u v : FVec F S512x1024 .f32} {act act' : FVec F S512x2816 .bf16} {a19 W2 : FVec F S2816x1024 .bf16} {a13 x13 : FVec F S1x1024 .f32}
    {a14 x14 : FVec F S1024x1024 .bf16} {a4 x4 : FVec F S512x256 .f32} {a15 x15 : FVec F S256x1024 .bf16}
    (hu : u = v) (ha : act = act') (h19 : a19 = W2) (h13 : a13 = x13) (h14 : a14 = x14) (h4 : a4 = x4) (h15 : a15 = x15) :
    k0_pay1 (k0_pay56 u act a19) (k0_pay57 u act a19 a13 a14) (k0_pay58 (F := F)) a4 a15
      = k0_pay1 (k0_pay56 v act' W2) (k0_pay57 v act' W2 x13 x14) (k0_pay58 (F := F)) x4 x15 := by
  subst hu ha h19 h13 h14 h4 h15
  rfl
set_option maxHeartbeats 2000000 in
/-- The rest of the body, run: the output block holds the value above, the weight buffers are as they were. -/
theorem rest_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S512x1024 .f32) (harg16 : arg16.IsWhole) (arg17 : Memref sig .tc .vmem S512x2816 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S2x128x5632 .f32) (harg20 : arg20.IsWhole) (arg21 : Memref sig .tc .vmem S2x256x1024 .f32) (harg21 : arg21.IsWhole) (x1 : FVec F S512x1024 .f32) (x2 : FVec F S512x512 .bf16) (x3 : FVec F S512x512 .bf16) (x4 : FVec F S512x256 .f32) (x5 : FVec F S1x1024 .f32) (x6 : FVec F S1024x2048 .bf16) (x7 : FVec F S512x1024 .bf16) (x8 : FVec F S512x1024 .bf16) (x9 : FVec F S1024x1024 .bf16) (x10 : FVec F S1x1024 .f32) (x13 : FVec F S1x1024 .f32) (x14 : FVec F S1024x1024 .bf16) (x15 : FVec F S256x1024 .bf16) (W1 : FVec F S1024x5632 .bf16) (W2 : FVec F S2816x1024 .bf16)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg13 fullShare x13 ∗ owns (c : Thread nD τ) arg14 fullShare x14 ∗ owns (c : Thread nD τ) arg15 fullShare x15
        ∗ (∃ d, owns (c : Thread nD τ) arg16 fullShare d) ∗ (∃ d, owns (c : Thread nD τ) arg17 fullShare d)
        ∗ owns (c : Thread nD τ) arg18 fullShare W1 ∗ owns (c : Thread nD τ) arg19 fullShare W2
        ∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg13 fullShare x13 ∗ owns (c : Thread nD τ) arg14 fullShare x14 ∗ owns (c : Thread nD τ) arg15 fullShare x15
        ∗ owns (c : Thread nD τ) arg16 fullShare (outV x1 x2 x3 x4 x5 x6 x7 x8 x9 x10 x13 x14 x15 W1 W2) ∗ (∃ d, owns (c : Thread nD τ) arg17 fullShare d)
        ∗ owns (c : Thread nD τ) arg18 fullShare W1 ∗ owns (c : Thread nD τ) arg19 fullShare W2 -∗ K ⟨⟩))
      ⊢ wp frame (wpE (defs₀ (F := F)) Variants.none c none) Set.univ
          (tailProg i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5 >>= fun v => restProg i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5 v.1 v.2.1 v.2.2) K := by
  unfold tailProg restProg
  simp only [k0_part14_eq_skeleton, k0_part15_eq_skeleton, k0_part16_eq_skeleton, k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg13.eq_unread hf13
  obtain rfl := harg14.eq_unread hf14
  obtain rfl := harg15.eq_unread hf15
  obtain rfl := harg18.eq_unread hf18
  obtain rfl := harg19.eq_unread hf19
  sl_exec
  sl_step
  iapply Hk
  isplitl [H1]
  · iexists _
    isplitr
    · ipureintro
      exact harg1.read_unread _
    iexact H1
  isplitl [H2]
  · iexists _
    isplitr
    · ipureintro
      exact harg2.read_unread _
    iexact H2
  isplitl [H3]
  · iexists _
    isplitr
    · ipureintro
      exact harg3.read_unread _
    iexact H3
  isplitl [H4]
  · iexists _
    isplitr
    · ipureintro
      exact harg4.read_unread _
    iexact H4
  isplitl [H5]
  · iexists _
    isplitr
    · ipureintro
      exact harg5.read_unread _
    iexact H5
  isplitl [H6]
  · iexists _
    isplitr
    · ipureintro
      exact harg6.read_unread _
    iexact H6
  isplitl [H7]
  · iexists _
    isplitr
    · ipureintro
      exact harg7.read_unread _
    iexact H7
  isplitl [H8]
  · iexists _
    isplitr
    · ipureintro
      exact harg8.read_unread _
    iexact H8
  isplitl [H9]
  · iexists _
    isplitr
    · ipureintro
      exact harg9.read_unread _
    iexact H9
  isplitl [H10]
  · iexists _
    isplitr
    · ipureintro
      exact harg10.read_unread _
    iexact H10
  isplitl [H13]
  · iexists _
    isplitr
    · ipureintro
      exact harg13.read_unread _
    iexact H13
  isplitl [H14]
  · iexists _
    isplitr
    · ipureintro
      exact harg14.read_unread _
    iexact H14
  isplitl [H15]
  · iexists _
    isplitr
    · ipureintro
      exact harg15.read_unread _
    iexact H15
  isplitl [H16]
  · iexists _
    isplitr
    rotate_left
    · iexact H16
    · ipureintro
      have hr1 : rest_run.sl.r_1 c arg1 harg1 arg2 harg2 arg3 harg3 arg5 harg5 arg6 harg6 arg7 harg7 arg8 harg8 arg9 harg9 arg10 harg10 x1 x2 x3 x5 x6 x7 x8 x9 x10 = hidV x1 x2 x3 x5 x6 x7 x8 x9 x10 :=
        hidV_of (load_whole arg1 harg1 x1 _) (load_whole arg2 harg2 x2 _) (load_whole arg3 harg3 x3 _) (load_whole arg5 harg5 x5 _) (load_rect arg6 harg6 x6 _) (load_rect arg6 harg6 x6 _) (load_whole arg7 harg7 x7 _) (load_whole arg8 harg8 x8 _) (load_whole arg9 harg9 x9 _) (load_whole arg10 harg10 x10 _)
      have hr : rest_run.sl.r c arg1 harg1 arg2 harg2 arg3 harg3 arg5 harg5 arg6 harg6 arg7 harg7 arg8 harg8 arg9 harg9 x1 x2 x3 x5 x6 x7 x8 x9 = midV x1 x2 x3 x5 x6 x7 x8 x9 :=
        midV_of (load_whole arg1 harg1 x1 _) (load_whole arg2 harg2 x2 _) (load_whole arg3 harg3 x3 _) (load_whole arg5 harg5 x5 _) (load_rect arg6 harg6 x6 _) (load_rect arg6 harg6 x6 _) (load_whole arg7 harg7 x7 _) (load_whole arg8 harg8 x8 _) (load_whole arg9 harg9 x9 _)
      have hv : rest_run.sl.v260 c arg1 harg1 arg2 harg2 arg3 harg3 arg5 harg5 arg6 harg6 arg7 harg7 arg8 harg8 arg9 harg9 arg10 harg10 arg17 arg18 harg18 x1 x2 x3 x5 x6 x7 x8 x9 x10 W1 = actV (hidV x1 x2 x3 x5 x6 x7 x8 x9 x10) W1 := by
        rw [← hr1]
        refine (View.readAt_full _ _ _).trans (funext fun y => View.read_writes_apply_of_pieces (Val := Elt F) (e := .bf16) (s := S512x2816) _ _
          (actV (rest_run.sl.r_1 c arg1 harg1 arg2 harg2 arg3 harg3 arg5 harg5 arg6 harg6 arg7 harg7 arg8 harg8 arg9 harg9 arg10 harg10 x1 x2 x3 x5 x6 x7 x8 x9 x10) W1) _ ?_ y ?_)
        · delta rest_run.sl.H17_11; simp only [List.forall_mem_cons]
          refine ⟨fun x => ?_, fun x => ?_, fun x => ?_, fun x => ?_, fun x => ?_, fun x => ?_, fun x => ?_, fun x => ?_, fun x => ?_, fun x => ?_, fun x => ?_, fun p hp => absurd hp List.not_mem_nil⟩
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 10 _ _ (load_cols arg18 harg18 W1 2560 inb_S1024x5632_S1024x256_0_2560) (load_cols arg18 harg18 W1 5376 inb_S1024x5632_S1024x256_0_5376) x _ (by show 0 + 1 * (x (0 : Fin 2)).val = _; omega) (by show 2560 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 9 _ _ (load_cols arg18 harg18 W1 2304 inb_S1024x5632_S1024x256_0_2304) (load_cols arg18 harg18 W1 5120 inb_S1024x5632_S1024x256_0_5120) x _ (by show 0 + 1 * (x (0 : Fin 2)).val = _; omega) (by show 2304 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 8 _ _ (load_cols arg18 harg18 W1 2048 inb_S1024x5632_S1024x256_0_2048) (load_cols arg18 harg18 W1 4864 inb_S1024x5632_S1024x256_0_4864) x _ (by show 0 + 1 * (x (0 : Fin 2)).val = _; omega) (by show 2048 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 7 _ _ (load_cols arg18 harg18 W1 1792 inb_S1024x5632_S1024x256_0_1792) (load_cols arg18 harg18 W1 4608 inb_S1024x5632_S1024x256_0_4608) x _ (by show 0 + 1 * (x (0 : Fin 2)).val = _; omega) (by show 1792 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 6 _ _ (load_cols arg18 harg18 W1 1536 inb_S1024x5632_S1024x256_0_1536) (load_cols arg18 harg18 W1 4352 inb_S1024x5632_S1024x256_0_4352) x _ (by show 0 + 1 * (x (0 : Fin 2)).val = _; omega) (by show 1536 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 5 _ _ (load_cols arg18 harg18 W1 1280 inb_S1024x5632_S1024x256_0_1280) (load_cols arg18 harg18 W1 4096 inb_S1024x5632_S1024x256_0_4096) x _ (by show 0 + 1 * (x (0 : Fin 2)).val = _; omega) (by show 1280 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 4 _ _ (load_cols arg18 harg18 W1 1024 inb_S1024x5632_S1024x256_0_1024) (load_cols arg18 harg18 W1 3840 inb_S1024x5632_S1024x256_0_3840) x _ (by show 0 + 1 * (x (0 : Fin 2)).val = _; omega) (by show 1024 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 3 _ _ (load_cols arg18 harg18 W1 768 inb_S1024x5632_S1024x256_0_768) (load_cols arg18 harg18 W1 3584 inb_S1024x5632_S1024x256_0_3584) x _ (by show 0 + 1 * (x (0 : Fin 2)).val = _; omega) (by show 768 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 2 _ _ (load_cols arg18 harg18 W1 512 inb_S1024x5632_S1024x256_0_512) (load_cols arg18 harg18 W1 3328 inb_S1024x5632_S1024x256_0_3328) x _ (by show 0 + 1 * (x (0 : Fin 2)).val = _; omega) (by show 512 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 1 _ _ (load_cols arg18 harg18 W1 256 inb_S1024x5632_S1024x256_0_256) (load_cols arg18 harg18 W1 3072 inb_S1024x5632_S1024x256_0_3072) x _ (by show 0 + 1 * (x (0 : Fin 2)).val = _; omega) (by show 256 + 1 * (x (1 : Fin 2)).val = _; omega)
          · exact act_piece (rest_run.sl.r_1 c arg1 harg1 arg2 harg2 arg3 harg3 arg5 harg5 arg6 harg6 arg7 harg7 arg8 harg8 arg9 harg9 arg10 harg10 x1 x2 x3 x5 x6 x7 x8 x9 x10) W1 0 _ _ (load_cols arg18 harg18 W1 0 inb_S1024x5632_S1024x256_0_0) (load_cols arg18 harg18 W1 2816 inb_S1024x5632_S1024x256_0_2816) x _ (by show 0 + 1 * (x (0 : Fin 2)).val = _; omega) (by show 0 + 1 * (x (1 : Fin 2)).val = _; omega)
        · have hy : (y (1 : Fin 2)).val < 2816 := (y (1 : Fin 2)).isLt
          have hy0 : (y (0 : Fin 2)).val < 512 := (y (0 : Fin 2)).isLt
          unfold rest_run.sl.H17_11
          by_cases h0 : (y (1 : Fin 2)).val < 256
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (show y ∈ (Rect.unit (s := S512x2816) ![0, 0] S512x256.size inb_S512x2816_S512x256_0_0).set from Rect.mem_set_unit.mpr (Fin.forall_fin_two.mpr ⟨⟨Nat.zero_le _, by show _ < 0 + 512; omega⟩, (show 0 ≤ (y (1 : Fin 2)).val ∧ (y (1 : Fin 2)).val < 0 + 256 from ⟨by omega, by omega⟩)⟩))⟩
          by_cases h1 : (y (1 : Fin 2)).val < 512
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (show y ∈ (Rect.unit (s := S512x2816) ![0, 256] S512x256.size inb_S512x2816_S512x256_0_256).set from Rect.mem_set_unit.mpr (Fin.forall_fin_two.mpr ⟨⟨Nat.zero_le _, by show _ < 0 + 512; omega⟩, (show 256 ≤ (y (1 : Fin 2)).val ∧ (y (1 : Fin 2)).val < 256 + 256 from ⟨by omega, by omega⟩)⟩))⟩
          by_cases h2 : (y (1 : Fin 2)).val < 768
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (show y ∈ (Rect.unit (s := S512x2816) ![0, 512] S512x256.size inb_S512x2816_S512x256_0_512).set from Rect.mem_set_unit.mpr (Fin.forall_fin_two.mpr ⟨⟨Nat.zero_le _, by show _ < 0 + 512; omega⟩, (show 512 ≤ (y (1 : Fin 2)).val ∧ (y (1 : Fin 2)).val < 512 + 256 from ⟨by omega, by omega⟩)⟩))⟩
          by_cases h3 : (y (1 : Fin 2)).val < 1024
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (show y ∈ (Rect.unit (s := S512x2816) ![0, 768] S512x256.size inb_S512x2816_S512x256_0_768).set from Rect.mem_set_unit.mpr (Fin.forall_fin_two.mpr ⟨⟨Nat.zero_le _, by show _ < 0 + 512; omega⟩, (show 768 ≤ (y (1 : Fin 2)).val ∧ (y (1 : Fin 2)).val < 768 + 256 from ⟨by omega, by omega⟩)⟩))⟩
          by_cases h4 : (y (1 : Fin 2)).val < 1280
          · exact ⟨_, List.mem_cons_of_mem _ (List.mem_cons_of_mem _ (List.mem_cons_of_mem _ (List.mem_cons_of_mem _ (List.mem_cons_of_mem _ (List.mem_cons_of_mem _ (List.mem_cons_self)))))), (show y ∈ (Rect.unit (s := S512x2816) ![0, 1024] S512x256.size inb_S512x2816_S512x256_0_1024).set from Rect.mem_set_unit.mpr (Fin.forall_fin_two.mpr ⟨⟨Nat.zero_le _, by show _ < 0 + 512; omega⟩, (show 1024 ≤ (y (1 : Fin 2)).val ∧ (y (1 : Fin 2)).val < 1024 + 256 from ⟨by omega, by omega⟩)⟩))⟩
          by_cases h5 : (y (1 : Fin 2)).val < 1536
          · exact ⟨_, List.mem_cons_of_mem _ (List.mem_cons_of_mem _ (List.mem_cons_of_mem _ (List.mem_cons_of_mem _ (List.mem_cons_of_mem _ (List.mem_cons_self))))), (show y ∈ (Rect.unit (s := S512x2816) ![0, 1280] S512x256.size inb_S512x2816_S512x256_0_1280).set from Rect.mem_set_unit.mpr (Fin.forall_fin_two.mpr ⟨⟨Nat.zero_le _, by show _ < 0 + 512; omega⟩, (show 1280 ≤ (y (1 : Fin 2)).val ∧ (y (1 : Fin 2)).val < 1280 + 256 from ⟨by omega, by omega⟩)⟩))⟩
          by_cases h6 : (y (1 : Fin 2)).val < 1792
          · exact ⟨_, List.mem_cons_of_mem _ (List.mem_cons_of_mem _ (List.mem_cons_of_mem _ (List.mem_cons_of_mem _ (List.mem_cons_self)))), (show y ∈ (Rect.unit (s := S512x2816) ![0, 1536] S512x256.size inb_S512x2816_S512x256_0_1536).set from Rect.mem_set_unit.mpr (Fin.forall_fin_two.mpr ⟨⟨Nat.zero_le _, by show _ < 0 + 512; omega⟩, (show 1536 ≤ (y (1 : Fin 2)).val ∧ (y (1 : Fin 2)).val < 1536 + 256 from ⟨by omega, by omega⟩)⟩))⟩
          by_cases h7 : (y (1 : Fin 2)).val < 2048
          · exact ⟨_, List.mem_cons_of_mem _ (List.mem_cons_of_mem _ (List.mem_cons_of_mem _ (List.mem_cons_self))), (show y ∈ (Rect.unit (s := S512x2816) ![0, 1792] S512x256.size inb_S512x2816_S512x256_0_1792).set from Rect.mem_set_unit.mpr (Fin.forall_fin_two.mpr ⟨⟨Nat.zero_le _, by show _ < 0 + 512; omega⟩, (show 1792 ≤ (y (1 : Fin 2)).val ∧ (y (1 : Fin 2)).val < 1792 + 256 from ⟨by omega, by omega⟩)⟩))⟩
          by_cases h8 : (y (1 : Fin 2)).val < 2304
          · exact ⟨_, List.mem_cons_of_mem _ (List.mem_cons_of_mem _ (List.mem_cons_self)), (show y ∈ (Rect.unit (s := S512x2816) ![0, 2048] S512x256.size inb_S512x2816_S512x256_0_2048).set from Rect.mem_set_unit.mpr (Fin.forall_fin_two.mpr ⟨⟨Nat.zero_le _, by show _ < 0 + 512; omega⟩, (show 2048 ≤ (y (1 : Fin 2)).val ∧ (y (1 : Fin 2)).val < 2048 + 256 from ⟨by omega, by omega⟩)⟩))⟩
          by_cases h9 : (y (1 : Fin 2)).val < 2560
          · exact ⟨_, List.mem_cons_of_mem _ (List.mem_cons_self), (show y ∈ (Rect.unit (s := S512x2816) ![0, 2304] S512x256.size inb_S512x2816_S512x256_0_2304).set from Rect.mem_set_unit.mpr (Fin.forall_fin_two.mpr ⟨⟨Nat.zero_le _, by show _ < 0 + 512; omega⟩, (show 2304 ≤ (y (1 : Fin 2)).val ∧ (y (1 : Fin 2)).val < 2304 + 256 from ⟨by omega, by omega⟩)⟩))⟩
          exact ⟨_, List.mem_cons_self, (show y ∈ (Rect.unit (s := S512x2816) ![0, 2560] S512x256.size inb_S512x2816_S512x256_0_2560).set from Rect.mem_set_unit.mpr (Fin.forall_fin_two.mpr ⟨⟨Nat.zero_le _, by show _ < 0 + 512; omega⟩, (show 2560 ≤ (y (1 : Fin 2)).val ∧ (y (1 : Fin 2)).val < 2560 + 256 from ⟨by omega, by omega⟩)⟩))⟩
      refine (View.read_writes_full _ _ _ _ _).trans ?_
      exact outV_of hr hv (load_whole arg19 harg19 W2 _) (load_whole arg13 harg13 x13 _) (load_whole arg14 harg14 x14 _) (load_whole arg4 harg4 x4 _) (load_whole arg15 harg15 x15 _)
  isplitl [H17]
  · iapply (held_any c arg17 _)
    iexact H17
  isplitl [H18]
  · iexists _
    isplitr
    · ipureintro
      exact harg18.read_unread _
    iexact H18
  iexists _
  isplitr
  · ipureintro
    exact harg19.read_unread _
  iexact H19

end Cert.MergeIdeal.Gen
-- ==== Proof.MergeStep.lean ====
module

public import proofs.«01_k».proof.Proof.Gen.MergeIdeal.Frame
public import proofs.«01_k».proof.Proof.Gen.MergeIdeal.Skeleton
public import proofs.«01_k».proof.Proof.MergeBody

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's test of its first grid coordinate. -/
abbrev FirstAt (i : grid0.Coords) : Prop :=
  Scalar.cmpi .ne (Scalar.extui (Scalar.cmpi .eq (BitVec.ofNat 32 (i 0).val) 0#32) : BitVec 32) 0#32 = 1#1

/-- It holds at the first point only. -/
theorem firstAt_iff : ∀ t : Fin cfg0.N, FirstAt (grid0.coords t) ↔ t.val = 0 := by decide +kernel

set_option maxHeartbeats 1000000 in
/-- At the first point the body copies the weights and then goes on. -/
theorem body_first (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S512x1024 .f32) (harg16 : arg16.IsWhole) (arg17 : Memref sig .tc .vmem S512x2816 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S2x128x5632 .f32) (harg20 : arg20.IsWhole) (arg21 : Memref sig .tc .vmem S2x256x1024 .f32) (harg21 : arg21.IsWhole) (h : FirstAt i) (Q : PUnit → sProp 𝕄) :
    wp frame (wpE (defs₀ (F := F)) Variants.none c none) Set.univ (cc0_merge_ffn2_ple i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5) Q
      = wp frame (wpE (defs₀ (F := F)) Variants.none c none) Set.univ (fetchProg i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5) (fun _ =>
          wp frame (wpE (defs₀ (F := F)) Variants.none c none) Set.univ (tailProg i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5 >>= fun v => restProg i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5 v.1 v.2.1 v.2.2) Q) := by
  rw [cc0_merge_ffn2_ple_eq_skeleton]
  unfold cc0_merge_ffn2_ple_skel
  simp only [k0_part13_eq_skeleton]
  unfold k0_part13_skel fetchProg tailProg restProg
  simp only [dif_pos h, wp_bind]

set_option maxHeartbeats 1000000 in
/-- At every other point it goes on at once. -/
theorem body_later (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S512x1024 .f32) (harg16 : arg16.IsWhole) (arg17 : Memref sig .tc .vmem S512x2816 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S2x128x5632 .f32) (harg20 : arg20.IsWhole) (arg21 : Memref sig .tc .vmem S2x256x1024 .f32) (harg21 : arg21.IsWhole) (h : ¬ FirstAt i) (Q : PUnit → sProp 𝕄) :
    wp frame (wpE (defs₀ (F := F)) Variants.none c none) Set.univ (cc0_merge_ffn2_ple i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5) Q
      = wp frame (wpE (defs₀ (F := F)) Variants.none c none) Set.univ (tailProg i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5 >>= fun v => restProg i arg1 harg1 arg2 harg2 arg3 harg3 arg4 harg4 arg5 harg5 arg6 harg6 arg7 harg7 arg8 harg8 arg9 harg9 arg10 harg10 guM (Memref.isWhole_whole _) dnM (Memref.isWhole_whole _) arg13 harg13 arg14 harg14 arg15 harg15 arg16 harg16 arg17 harg17 arg18 harg18 arg19 harg19 arg20 harg20 arg21 harg21 cc0_scratch5 v.1 v.2.1 v.2.2) Q := by
  rw [cc0_merge_ffn2_ple_eq_skeleton]
  unfold cc0_merge_ffn2_ple_skel
  simp only [k0_part13_eq_skeleton]
  unfold k0_part13_skel tailProg restProg
  simp only [dif_neg h, wp_bind]

end Cert.MergeIdeal.Gen

end
-- ==== Proof.MergeFrame.lean ====
module

public import proofs.«01_k».proof.Proof.Gen.MergeIdeal.Frame
public import proofs.«01_k».proof.Proof.Gen.MergeIdeal.Points
public import proofs.«01_k».proof.Proof.MergeStep

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's own cells, and the two arrays it copies itself. -/
abbrev ownCells : Fin 4 → SemLoc sig := fun j => (![.dma 19, .dma 20, .dma 21, .dma 22] : Fin 4 → SemLoc sig) j
theorem ownCells_facts : Pipeline.OwnSemFacts spec0 ownCells := by decide
def copied : Finset (Ref sig .tc) := {main_v25, main_v26}
theorem copied_sub : copied ⊆ Pipeline.restRefs sig spec0 := by decide

theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) := by
  rw [Pipeline.ownSems0_eq_of_list c ownCells [0, 1, 2, 3] (by decide) (by decide)]; rfl

theorem copied_eq (c : Dev nD) :
    (bigSep copied fun b => ((c.tc : Thread nD τ).loc b) ↦{fullShare} V m c b : sProp 𝕄) = iprop(heldAt c guM (V m c main_v25) ∗ heldAt c dnM (V m c main_v26)) := by
  rw [BI.bigSep_eq_bigSepL_of_eq [main_v25, main_v26] (by decide) (by decide)]; rfl

/-- What the body finds before the first point: every buffer of its own at anything. -/
theorem start_eq (c : Dev nD) :
    (Pipeline.ΦD ownCells spec0 copied (V m) c : sProp 𝕄)
      = iprop(((∃ d, owns (c : Thread nD τ) (Memref.whole cc0_scratch0 : Memref sig .tc .vmem S512x2816 .bf16) fullShare d) ∗ (∃ d, owns (c : Thread nD τ) (Memref.whole cc0_scratch1 : Memref sig .tc .vmem S1024x5632 .bf16) fullShare d) ∗ (∃ d, owns (c : Thread nD τ) (Memref.whole cc0_scratch2 : Memref sig .tc .vmem S2816x1024 .bf16) fullShare d) ∗ (∃ d, owns (c : Thread nD τ) (Memref.whole cc0_scratch3 : Memref sig .tc .vmem S2x128x5632 .f32) fullShare d) ∗ (∃ d, owns (c : Thread nD τ) (Memref.whole cc0_scratch4 : Memref sig .tc .vmem S2x256x1024 .f32) fullShare d)) ∗ (∃ r, prngReg c r) ∗ (semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ heldAt c guM (V m c main_v25) ∗ heldAt c dnM (V m c main_v26)) := by
  rw [Pipeline.ΦD_eq, scopedRest0_eq, ownCells_eq, copied_eq]; simp only [owns_whole]; try rfl

/-- What it finds before a later point: the weights' buffers at the cast weights. -/
def stepPhi (c : Dev nD) : sProp 𝕄 :=
  iprop(((∃ d, owns (c : Thread nD τ) (Memref.whole cc0_scratch0 : Memref sig .tc .vmem S512x2816 .bf16) fullShare d) ∗ owns (c : Thread nD τ) (Memref.whole cc0_scratch1 : Memref sig .tc .vmem S1024x5632 .bf16) fullShare (guW (V m c main_v25)) ∗ owns (c : Thread nD τ) (Memref.whole cc0_scratch2 : Memref sig .tc .vmem S2816x1024 .bf16) fullShare (dnW (V m c main_v26)) ∗ (∃ d, owns (c : Thread nD τ) (Memref.whole cc0_scratch3 : Memref sig .tc .vmem S2x128x5632 .f32) fullShare d) ∗ (∃ d, owns (c : Thread nD τ) (Memref.whole cc0_scratch4 : Memref sig .tc .vmem S2x256x1024 .f32) fullShare d)) ∗ (∃ r, prngReg c r) ∗ (semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ heldAt c guM (V m c main_v25) ∗ heldAt c dnM (V m c main_v26))

def phiAt (c : Dev nD) : ℕ → sProp 𝕄
  | 0 => Pipeline.ΦD ownCells spec0 copied (V m) c
  | _ + 1 => stepPhi m c

/-- The tile of the result the body leaves at point `t`. -/
def tileAt (c : Dev nD) (t : Fin cfg0.N) : FVec F S512x1024 .f32 :=
  outV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (guW (V m c main_v25)) (dnW (V m c main_v26))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => tileAt m c t
  Φ t := phiAt m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = tileAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = stepPhi m c from rfl, show (dats m 0 c).Φ t.castSucc = phiAt m c t.val from rfl,
    after_0, after_1, after_2, after_3, after_4, after_5, after_6, after_7, after_8, after_9, after_10, after_11, after_12, after_13]
  unfold Dat.owesAt Pipeline.owesWithin
  unfold tileAt
  by_cases h : t.val = 0
  · rw [h, body_first c _ _ _ _ _ _ _ _ _ _ _ _ _ _ _ _ _ _ _ _ _ _ _ _ _ _ _ _ _ _ _ _ _ _ _ _ _ _ _ ((firstAt_iff t).mpr h), show phiAt m c 0 = _ from start_eq m c]
    unfold stepPhi
    iintro ⟨⟨⟨Ha, Hw, Hv, Hs, Hr⟩, Hg, ⟨Hc0, Hc1, Hc2, Hc3⟩, Hu, Hd⟩, ⟨%W, -, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (fetch_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (V m c main_v25) (V m c main_v26) W _)
    isplitl [Hw]; · iexact Hw
    isplitl [Hv]; · iexact Hv
    isplitl [Hs]; · iexact Hs
    isplitl [Hr]; · iexact Hr
    isplitl [Hc0]; · iexact Hc0
    isplitl [Hc1]; · iexact Hc1
    isplitl [Hc2]; · iexact Hc2
    isplitl [Hc3]; · iexact Hc3
    isplitl [Hu]; · iexact Hu
    isplitl [Hd]; · iexact Hd
    isplitl [Ho]; · iexact Ho
    iintro ⟨Hw, Hv, Hs, Hr, Hc0, Hc1, Hc2, Hc3, Hu, Hd, ⟨%W', Ho⟩⟩
    iapply (rest_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (guW (V m c main_v25)) (dnW (V m c main_v26)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [Ha]; · iexact Ha
    isplitl [Hw]; · iexact Hw
    isplitl [Hv]; · iexact Hv
    iintro ⟨H0, H1, H2, H3, H4, H5, H6, H7, H8, H9, H10, H11, H12, H13, Ha, Hw, Hv⟩
    isplitl [Ha Hw Hv Hs Hr Hg Hc0 Hc1 Hc2 Hc3 Hu Hd]
    · isplitl [Ha Hw Hv Hs Hr]
      · isplitl [Ha]; · iexact Ha
        isplitl [Hw]; · iexact Hw
        isplitl [Hv]; · iexact Hv
        isplitl [Hs]; · iexact Hs
        iexact Hr
      isplitl [Hg]; · iexact Hg
      isplitl [Hc0 Hc1 Hc2 Hc3]
      · isplitl [Hc0]; · iexact Hc0
        isplitl [Hc1]; · iexact Hc1
        isplitl [Hc2]; · iexact Hc2
        iexact Hc3
      isplitl [Hu]; · iexact Hu
      iexact Hd
    isplitl [Ho]
    · iexists W'; isplitr; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · obtain ⟨k, hk⟩ := Nat.exists_eq_succ_of_ne_zero h
    rw [hk, body_later c _ _ _ _ _ _ _ _ _ _ _ _ _ _ _ _ _ _ _ _ _ _ _ _ _ _ _ _ _ _ _ _ _ _ _ _ _ _ _ (fun e => h ((firstAt_iff t).mp e)), show phiAt m c (Nat.succ k) = stepPhi m c from rfl]
    unfold stepPhi
    iintro ⟨⟨⟨Ha, Hw, Hv, Hs, Hr⟩, Hg, Hc, Hu, Hd⟩, ⟨%W, -, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (rest_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (guW (V m c main_v25)) (dnW (V m c main_v26)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [Ha]; · iexact Ha
    isplitl [Hw]; · iexact Hw
    isplitl [Hv]; · iexact Hv
    iintro ⟨H0, H1, H2, H3, H4, H5, H6, H7, H8, H9, H10, H11, H12, H13, Ha, Hw, Hv⟩
    isplitl [Ha Hw Hv Hs Hr Hg Hc Hu Hd]
    · isplitl [Ha Hw Hv Hs Hr]
      · isplitl [Ha]; · iexact Ha
        isplitl [Hw]; · iexact Hw
        isplitl [Hv]; · iexact Hv
        isplitl [Hs]; · iexact Hs
        iexact Hr
      isplitl [Hg]; · iexact Hg
      isplitl [Hc]; · iexact Hc
      isplitl [Hu]; · iexact Hu
      iexact Hd
    isplitl [Ho]
    · iexists W; isplitr; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

/-- The body at every point, as the pipeline's rule wants it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the body leaves after a later point may be forgotten. -/
theorem step_start (c : Dev nD) : stepPhi m c ⊢ (Pipeline.ΦD ownCells spec0 copied (V m) c : sProp 𝕄) := by
  rw [start_eq]
  unfold stepPhi
  iintro ⟨⟨Ha, Hw, Hv, Hs, Hr⟩, H⟩
  isplitl [Ha Hw Hv Hs Hr]
  · isplitl [Ha]; · iexact Ha
    isplitl [Hw]; · iexists _; iexact Hw
    isplitl [Hv]; · iexists _; iexact Hv
    isplitl [Hs]; · iexact Hs
    iexact Hr
  iexact H

set_option maxHeartbeats 800000 in
/-- The program up to the call. -/
theorem host_run (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: the arrays end at what the tiles make them, every other buffer as the call found it, no counter left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCells defs₀ Variants.none ownCells_facts copied copied_sub m ρ main
    (hbody := fun c => (body_obligation m c).loose) (hshare := fun c w => (dats m 0 c).share_full (fun _ => rfl) w)
    (howed := fun _ _ => rfl) (V := V m) (hmain := host_run m Variants.none) (hA := A_eq m)
    (hin := fun _ => .rfl) (hout := fun c => step_start m c)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩, h.2⟩) (run_main_quiescent m ρ)

end Cert.MergeIdeal.Gen

end
-- ==== Proof.MergeBits.lean ====
/- The kernel and its ideal program are the same text, so the run over any float values is also the kernel's. -/
module

public import proofs.«01_k».proof.Defs
public import proofs.«01_k».proof.Proof.Gen.Merge
public import proofs.«01_k».proof.Proof.MergeFrame

@[expose] public section

set_option backward.isDefEq.respectTransparency.types false

noncomputable section

namespace Cert.MergeBits

open Idealize.ShloMosaic Idealize.ShloMosaic.TcCoe Idealize.SL.Sem

variable {F : FTy → Type} [FloatOps F]

set_option maxHeartbeats 2000000 in
theorem body_eq : @Cert.Merge.defs₀ F _ _ = @Cert.MergeIdeal.defs₀ F _ _ := by
  unfold Cert.Merge.defs₀ Cert.MergeIdeal.defs₀
  refine congrArg Defs.onTc (funext fun l => funext fun a => ?_)
  match l, a with
  | ⟨0, _⟩, (t, s) => rfl

set_option maxHeartbeats 4000000 in
theorem defs_eq : @Cert.Merge.defs F _ _ = @Cert.MergeIdeal.defs F _ _ :=
  congrArg (Pipeline.defs (Cert.MergeIdeal.pcfgs (F := F))) body_eq

set_option maxHeartbeats 2000000 in
theorem main_eq : @Cert.Merge.main F _ _ = @Cert.MergeIdeal.main F _ _ := rfl

set_option maxHeartbeats 4000000 in
theorem frame : Cert.quiescent_Merge := fun m ρ _ => by
  have h := Cert.MergeIdeal.Gen.frame (F := Bits) m ρ
  rw [← defs_eq, ← main_eq] at h
  exact h

end Cert.MergeBits

end
-- ==== Proof.MergeSpec.lean ====
module
public import Idealize.ShloMosaic.Lib.ValueIdx
public import Idealize.ShloMosaic.PureOps.Ideal
@[expose] public section

/-! # One row of the merge, as a function of the row's inputs and the weights

The two gates, the two mixers' projections, the output projection, the second feed-forward layer and the embedding gate, over the
extended reals.
-/

noncomputable section
open scoped BigOperators
open Idealize.ShloMosaic

namespace Cert.MergeSpec

/-- A row times a matrix. -/
def dot {K N : ℕ} (x : Fin K → EReal) (W : Fin K → Fin N → EReal) (n : Fin N) : EReal := ∑ k, x k * W k n

/-- A row over the root of its mean square, scaled. -/
def rms (h g : Fin 1024 → EReal) (k : Fin 1024) : EReal :=
  h k * Ideal.rsqrt (Ideal.div (∑ j, h j * h j) (Ideal.ofBits .f32 0x44800000#32) + Ideal.ofBits .f32 0x358637BD#32) * g k

/-- The logistic function. -/
def sgm (x : EReal) : EReal := Ideal.div 1 (1 + Ideal.exp (-x))

def colL (k : Fin 1024) : Fin 2048 := ⟨k.val, by omega⟩
def colR (k : Fin 1024) : Fin 2048 := ⟨1024 + k.val, by omega⟩
def hidL (k : Fin 2816) : Fin 5632 := ⟨k.val, by omega⟩
def hidR (k : Fin 2816) : Fin 5632 := ⟨2816 + k.val, by omega⟩

/-- The row after the two mixers are merged in. -/
def midR (h : Fin 1024 → EReal) (ya yb : Fin 512 → EReal) (g : Fin 1024 → EReal) (Wg : Fin 1024 → Fin 2048 → EReal)
    (Wa Wb : Fin 512 → Fin 1024 → EReal) (Wo : Fin 1024 → Fin 1024 → EReal) (n : Fin 1024) : EReal :=
  h n + dot (fun k => sgm (dot (rms h g) Wg (colL k)) * dot ya Wa k + sgm (dot (rms h g) Wg (colR k)) * dot yb Wb k) Wo n

/-- The gated hidden values of the feed-forward layer. -/
def actR (u : Fin 1024 → EReal) (W : Fin 1024 → Fin 5632 → EReal) (k : Fin 2816) : EReal :=
  dot u W (hidL k) * sgm (dot u W (hidL k)) * dot u W (hidR k)

/-- The row after the feed-forward layer. -/
def ffnR (h g : Fin 1024 → EReal) (W1 : Fin 1024 → Fin 5632 → EReal) (W2 : Fin 2816 → Fin 1024 → EReal) (n : Fin 1024) : EReal :=
  h n + Ideal.ofBits .f32 0x3F000000#32 * dot (actR (rms h g) W1) W2 n

/-- The row after the gated embedding. -/
def pleR (h g : Fin 1024 → EReal) (Wp : Fin 1024 → Fin 1024 → EReal) (p : Fin 256 → EReal) (Wq : Fin 256 → Fin 1024 → EReal)
    (n : Fin 1024) : EReal :=
  h n + sgm (dot (rms h g) Wp n) * dot p Wq n

end Cert.MergeSpec

end
-- ==== Proof.MergePays.lean ====
module
public import proofs.«01_k».proof.Proof.MergeBody
public import proofs.«01_k».proof.Proof.MergeSpec
public import Idealize.ShloMosaic.Lib.ValueIdx
public import Idealize.ShloMosaic.Lib.Pointwise
@[expose] public section

/-! # The block a grid point leaves, row by row -/

set_option maxRecDepth 16384

noncomputable section
open scoped BigOperators
open Idealize.ShloMosaic Idealize.ShloMosaic.TcCoe Idealize.SL.Sem
open Cert.MergeIdeal Cert.MergeIdeal.Gen Cert.MergeSpec

namespace Cert.MergePays

/-- The rows of a two-axis array. -/
def rowOf {M N : ℕ} (x : (⟨2, ![M, N]⟩ : Shape).Idx → EReal) (r : Fin M) (j : Fin N) : EReal := x (ix2 r j)

theorem pay26_apply (x : Vec Ideal S512x1024 .f32) (g : Vec Ideal S1x1024 .f32) (r : Fin 512) (k : Fin 1024) :
    k0_pay26 (F := Ideal) x g (ix2 r k) = rms (rowOf x r) (rowOf g 0) k := by
  unfold rms rowOf
  pointwise [k0_pay26, k0_pay25]

theorem pay27_apply (x : Vec Ideal S512x1024 .f32) (g : Vec Ideal S1x1024 .f32) (W : Vec Ideal S1024x1024 .bf16) (r : Fin 512) (k : Fin 1024) :
    k0_pay27 (F := Ideal) x g W (ix2 r k) = sgm (dot (rms (rowOf x r) (rowOf g 0)) (rowOf W) k) := by
  simp only [funext (fun j => (pay26_apply x g r j).symm)]
  unfold sgm dot rowOf
  pointwise [k0_pay27]
  simp only [zero_sub]

theorem pay28_apply (x : Vec Ideal S512x1024 .f32) (g : Vec Ideal S1x1024 .f32) (W : Vec Ideal S1024x1024 .bf16) (r : Fin 512) (k : Fin 1024) :
    k0_pay28 (F := Ideal) x g W (ix2 r k) = 1 + Ideal.exp (-(dot (rms (rowOf x r) (rowOf g 0)) (rowOf W) k)) := by
  simp only [funext (fun j => (pay26_apply x g r j).symm)]
  unfold dot rowOf
  pointwise [k0_pay28]
  simp only [zero_sub]

theorem pay29_apply (x u v : FVec Ideal S512x1024 .f32) (a : Vec Ideal S512x512 .bf16) (Wa : Vec Ideal S512x1024 .bf16)
    (b : Vec Ideal S512x512 .bf16) (Wb : Vec Ideal S512x1024 .bf16) (Wo : Vec Ideal S1024x1024 .bf16) (r : Fin 512) (n : Fin 1024) :
    k0_pay29 (F := Ideal) x u v a Wa b Wb Wo (ix2 r n)
      = rowOf x r n + dot (fun k => rowOf u r k * dot (rowOf a r) (rowOf Wa) k + Ideal.div 1 (rowOf v r k) * dot (rowOf b r) (rowOf Wb) k)
          (rowOf Wo) n := by
  unfold dot rowOf
  pointwise [k0_pay29]

theorem pay30_apply (x u v : FVec Ideal S512x1024 .f32) (a : Vec Ideal S512x512 .bf16) (Wa : Vec Ideal S512x1024 .bf16)
    (b : Vec Ideal S512x512 .bf16) (Wb : Vec Ideal S512x1024 .bf16) (Wo : Vec Ideal S1024x1024 .bf16) (g : Vec Ideal S1x1024 .f32)
    (r : Fin 512) (n : Fin 1024) :
    k0_pay30 (F := Ideal) x u v a Wa b Wb Wo g (ix2 r n) = rms (rowOf (k0_pay29 (F := Ideal) x u v a Wa b Wb Wo) r) (rowOf g 0) n := by
  unfold rms rowOf
  unfold k0_pay30
  generalize k0_pay29 (F := Ideal) x u v a Wa b Wb Wo = y
  pointwise []

theorem pay33_apply (u : FVec Ideal S512x1024 .bf16) (A B : Vec Ideal S1024x256 .bf16) (r : Fin 512) (n : Fin 256) :
    k0_pay33 (F := Ideal) u A B (ix2 r n)
      = dot (rowOf u r) (rowOf A) n * sgm (dot (rowOf u r) (rowOf A) n) * dot (rowOf u r) (rowOf B) n := by
  unfold sgm dot rowOf
  pointwise [k0_pay33]
  simp only [zero_sub]

theorem pay56_apply (h : FVec Ideal S512x1024 .f32) (a : Vec Ideal S512x2816 .bf16) (W : Vec Ideal S2816x1024 .bf16) (r : Fin 512)
    (n : Fin 1024) :
    k0_pay56 (F := Ideal) h a W (ix2 r n) = rowOf h r n + Ideal.ofBits .f32 0x3F000000#32 * dot (rowOf a r) (rowOf W) n := by
  unfold dot rowOf
  pointwise [k0_pay56]

theorem pay57_apply (h : FVec Ideal S512x1024 .f32) (a : Vec Ideal S512x2816 .bf16) (W : Vec Ideal S2816x1024 .bf16)
    (g : Vec Ideal S1x1024 .f32) (Wp : Vec Ideal S1024x1024 .bf16) (r : Fin 512) (n : Fin 1024) :
    k0_pay57 (F := Ideal) h a W g Wp (ix2 r n)
      = 1 + Ideal.exp (-(dot (rms (rowOf (k0_pay56 (F := Ideal) h a W) r) (rowOf g 0)) (rowOf Wp) n)) := by
  unfold dot rms rowOf
  unfold k0_pay57
  generalize k0_pay56 (F := Ideal) h a W = y
  pointwise []
  simp only [zero_sub]

theorem pay1_apply (h v : FVec Ideal S512x1024 .f32) (p : Vec Ideal S512x256 .f32) (Wq : Vec Ideal S256x1024 .bf16) (r : Fin 512) (n : Fin 1024) :
    k0_pay1 (F := Ideal) h v (k0_pay58 (F := Ideal)) p Wq (ix2 r n)
      = rowOf h r n + Ideal.div 1 (rowOf v r n) * dot (rowOf p r) (rowOf Wq) n := by
  unfold dot rowOf
  pointwise [k0_pay1, k0_pay58]

theorem gateL_row (x : FVec Ideal S1024x2048 .bf16) (k n : Fin 1024) : rowOf (gateL x) k n = rowOf x k (colL n) := by
  unfold rowOf gateL
  refine congrArg x (funext fun a => Fin.ext ?_)
  match a with
  | ⟨0, _⟩ => show 0 + 1 * k.val = k.val; omega
  | ⟨1, _⟩ => show 0 + 1 * n.val = n.val; omega

theorem gateR_row (x : FVec Ideal S1024x2048 .bf16) (k n : Fin 1024) : rowOf (gateR x) k n = rowOf x k (colR n) := by
  unfold rowOf gateR
  refine congrArg x (funext fun a => Fin.ext ?_)
  match a with
  | ⟨0, _⟩ => show 0 + 1 * k.val = k.val; omega
  | ⟨1, _⟩ => show 1024 + 1 * n.val = 1024 + n.val; omega

theorem pay25_row (x : Vec Ideal S512x1024 .f32) (r : Fin 512) (n : Fin 1024) : rowOf (k0_pay25 (F := Ideal) x) r n = rowOf x r n := by
  unfold rowOf
  pointwise [k0_pay25]

theorem mid_row (x1 : FVec Ideal S512x1024 .f32) (x2 x3 : FVec Ideal S512x512 .bf16) (x5 : FVec Ideal S1x1024 .f32)
    (x6 : FVec Ideal S1024x2048 .bf16) (x7 x8 : FVec Ideal S512x1024 .bf16) (x9 : FVec Ideal S1024x1024 .bf16) (r : Fin 512) :
    rowOf (midV x1 x2 x3 x5 x6 x7 x8 x9) r
      = midR (rowOf x1 r) (rowOf x2 r) (rowOf x3 r) (rowOf x5 0) (rowOf x6) (rowOf x7) (rowOf x8) (rowOf x9) := by
  funext n
  refine (pay29_apply ..).trans ?_
  have hL : ∀ k, rowOf (k0_pay27 (F := Ideal) x1 x5 (gateL x6)) r k = sgm (dot (rms (rowOf x1 r) (rowOf x5 0)) (rowOf x6) (colL k)) := fun k =>
    (pay27_apply ..).trans (congrArg sgm (Finset.sum_congr rfl fun j _ => congrArg (_ * ·) (gateL_row x6 j k)))
  have hR : ∀ k, Ideal.div 1 (rowOf (k0_pay28 (F := Ideal) x1 x5 (gateR x6)) r k)
      = sgm (dot (rms (rowOf x1 r) (rowOf x5 0)) (rowOf x6) (colR k)) := fun k =>
    congrArg (Ideal.div 1) ((pay28_apply ..).trans (congrArg (fun z => 1 + Ideal.exp (-z))
      (Finset.sum_congr rfl fun j _ => congrArg (_ * ·) (gateR_row x6 j k))))
  simp only [hL, hR, pay25_row]
  rfl

theorem hid_row (x1 : FVec Ideal S512x1024 .f32) (x2 x3 : FVec Ideal S512x512 .bf16) (x5 : FVec Ideal S1x1024 .f32)
    (x6 : FVec Ideal S1024x2048 .bf16) (x7 x8 : FVec Ideal S512x1024 .bf16) (x9 : FVec Ideal S1024x1024 .bf16) (x10 : FVec Ideal S1x1024 .f32)
    (r : Fin 512) :
    rowOf (hidV x1 x2 x3 x5 x6 x7 x8 x9 x10) r = rms (rowOf (midV x1 x2 x3 x5 x6 x7 x8 x9) r) (rowOf x10 0) :=
  funext fun _ => pay30_apply ..

theorem cols_row (W : FVec Ideal S1024x5632 .bf16) (lo : ℕ) (k : Fin 1024) (n : Fin 256) (N : Fin 5632) (h : lo + n.val = N.val) :
    rowOf (colsV W lo) k n = rowOf W k N := by
  unfold rowOf colsV
  refine congrArg W (funext fun a => Fin.ext ?_)
  match a with
  | ⟨0, _⟩ => rfl
  | ⟨1, _⟩ => show (lo + n.val) % 5632 = N.val; rw [h]; exact Nat.mod_eq_of_lt N.isLt

theorem act_row (u : FVec Ideal S512x1024 .bf16) (W : FVec Ideal S1024x5632 .bf16) (r : Fin 512) :
    rowOf (actV u W) r = actR (rowOf u r) (rowOf W) := by
  funext k
  have hk : k.val < 2816 := k.isLt
  unfold rowOf actV
  have e : (Fin.cons (ix2 r k (0 : Fin 2)) (Fin.cons ⟨(ix2 r k (1 : Fin 2)).val % 256, Nat.mod_lt _ (by decide)⟩ fun a => a.elim0) : S512x256.Idx)
      = ix2 r ⟨k.val % 256, Nat.mod_lt _ (by decide)⟩ := funext fun a => by
    match a with
    | ⟨0, _⟩ => rfl
    | ⟨1, _⟩ => rfl
  refine (congrArg _ e).trans ((pay33_apply ..).trans ?_)
  have hg : dot (rowOf u r) (rowOf (colsV W (256 * (k.val / 256)))) ⟨k.val % 256, Nat.mod_lt _ (by decide)⟩ = dot (rowOf u r) (rowOf W) (hidL k) :=
    Finset.sum_congr rfl fun j _ => congrArg (_ * ·) (cols_row W _ j _ _ (by show _ + k.val % 256 = k.val; omega))
  have hu : dot (rowOf u r) (rowOf (colsV W (2816 + 256 * (k.val / 256)))) ⟨k.val % 256, Nat.mod_lt _ (by decide)⟩
      = dot (rowOf u r) (rowOf W) (hidR k) :=
    Finset.sum_congr rfl fun j _ => congrArg (_ * ·) (cols_row W _ j _ _ (by show _ + k.val % 256 = 2816 + k.val; omega))
  show dot (rowOf u r) (rowOf (colsV W (256 * (k.val / 256)))) _ * sgm (dot (rowOf u r) (rowOf (colsV W (256 * (k.val / 256)))) _)
    * dot (rowOf u r) (rowOf (colsV W (2816 + 256 * (k.val / 256)))) _ = _
  rw [hg, hu]
  rfl

theorem out_row (x1 : FVec Ideal S512x1024 .f32) (x2 x3 : FVec Ideal S512x512 .bf16) (x4 : FVec Ideal S512x256 .f32) (x5 : FVec Ideal S1x1024 .f32)
    (x6 : FVec Ideal S1024x2048 .bf16) (x7 x8 : FVec Ideal S512x1024 .bf16) (x9 : FVec Ideal S1024x1024 .bf16) (x10 x13 : FVec Ideal S1x1024 .f32)
    (x14 : FVec Ideal S1024x1024 .bf16) (x15 : FVec Ideal S256x1024 .bf16) (W1 : FVec Ideal S1024x5632 .bf16) (W2 : FVec Ideal S2816x1024 .bf16)
    (r : Fin 512) :
    rowOf (outV x1 x2 x3 x4 x5 x6 x7 x8 x9 x10 x13 x14 x15 W1 W2) r
      = pleR (ffnR (midR (rowOf x1 r) (rowOf x2 r) (rowOf x3 r) (rowOf x5 0) (rowOf x6) (rowOf x7) (rowOf x8) (rowOf x9)) (rowOf x10 0)
          (rowOf W1) (rowOf W2)) (rowOf x13 0) (rowOf x14) (rowOf x4 r) (rowOf x15) := by
  have h3 : rowOf (k0_pay56 (F := Ideal) (midV x1 x2 x3 x5 x6 x7 x8 x9) (actV (hidV x1 x2 x3 x5 x6 x7 x8 x9 x10) W1) W2) r
      = ffnR (midR (rowOf x1 r) (rowOf x2 r) (rowOf x3 r) (rowOf x5 0) (rowOf x6) (rowOf x7) (rowOf x8) (rowOf x9)) (rowOf x10 0)
          (rowOf W1) (rowOf W2) := by
    funext n
    refine (pay56_apply ..).trans ?_
    rw [act_row, hid_row, mid_row]
    rfl
  funext n
  refine (pay1_apply ..).trans ?_
  rw [h3]
  refine congrArg (fun z => _ + Ideal.div 1 z * _) ((pay57_apply ..).trans ?_)
  rw [h3]

end Cert.MergePays

end
-- ==== Proof.MergeHost.lean ====
module
public import proofs.«01_k».proof.Proof.MergeFrame
public import proofs.«01_k».proof.Proof.MergePays
public import Idealize.ShloMosaic.Lib.Claim
public import Idealize.ShloMosaic.Lib.Pipeline.Value
public import Idealize.ShloMosaic.Lib.Pointwise
@[expose] public section

/-! # The arrays the merge is launched with

Each at an index, from the arguments: the two mixers' rows, the weights and the scales. The second mixer's row and the rows of
its projection are permuted alike.
-/

set_option maxRecDepth 16384

noncomputable section
open scoped BigOperators
open Idealize.ShloMosaic Idealize.ShloMosaic.TcCoe Idealize.SL.Sem
open Cert.MergeIdeal Cert.MergeIdeal.Gen Cert.MergeSpec Cert.MergePays

namespace Cert.MergeHost

def permF (k : Fin 512) : Fin 512 := ⟨256 * (k.val / 64 % 2) + 64 * (k.val / 128) + k.val % 64, by have := k.isLt; omega⟩
def permG (j : Fin 512) : Fin 512 := ⟨128 * (j.val / 64 % 4) + 64 * (j.val / 256) + j.val % 64, by have := j.isLt; omega⟩

/-- The place a column of the second mixer comes from. -/
def perm : Fin 512 ≃ Fin 512 where
  toFun := permF
  invFun := permG
  left_inv := by decide +kernel
  right_inv := by decide +kernel

theorem rows_1024 (x : S16x2048x1024.Idx → EReal) (b : Fin 16) (r : Fin 2048) (R : Fin 32768) (hR : R.val = 2048 * b.val + r.val) (n : Fin 1024) :
    (shapeCast S32768x1024 x shapeCasts_S16x2048x1024_S32768x1024 : S32768x1024.Idx → EReal) (ix2 R n) = x (ix3 b r n) := by
  refine shapeCast_apply _ _ _ _ ?_
  rw [Shape.rowMajor_val_three, Shape.rowMajor_val_two]
  show (b.val * 2048 + r.val) * 1024 + n.val = R.val * 1024 + n.val
  omega

theorem rows_512 (x : S16x2048x512.Idx → EReal) (b : Fin 16) (r : Fin 2048) (R : Fin 32768) (hR : R.val = 2048 * b.val + r.val) (n : Fin 512) :
    (shapeCast S32768x512 x shapeCasts_S16x2048x512_S32768x512 : S32768x512.Idx → EReal) (ix2 R n) = x (ix3 b r n) := by
  refine shapeCast_apply _ _ _ _ ?_
  rw [Shape.rowMajor_val_three, Shape.rowMajor_val_two]
  show (b.val * 2048 + r.val) * 512 + n.val = R.val * 512 + n.val
  omega

theorem rows_256 (x : S1x16x2048x256.Idx → EReal) (b : Fin 16) (r : Fin 2048) (R : Fin 32768) (hR : R.val = 2048 * b.val + r.val) (n : Fin 256) :
    (shapeCast S32768x256 (shapeCast S16x2048x256 x shapeCasts_S1x16x2048x256_S16x2048x256) shapeCasts_S16x2048x256_S32768x256 : S32768x256.Idx → EReal) (ix2 R n) = x (ix4 0 b r n) := by
  refine (shapeCast_apply (s := S16x2048x256) _ _ (ix2 R n) (ix3 b r n) ?_).trans ?_
  · rw [Shape.rowMajor_val_three, Shape.rowMajor_val_two]
    show (b.val * 2048 + r.val) * 256 + n.val = R.val * 256 + n.val
    omega
  · refine shapeCast_apply _ _ _ _ ?_
    rw [Shape.rowMajor_val_four, Shape.rowMajor_val_three]
    show ((0 * 16 + b.val) * 2048 + r.val) * 256 + n.val = (b.val * 2048 + r.val) * 256 + n.val
    omega

theorem rows_perm (x : S16x2048x512.Idx → EReal) (b : Fin 16) (r : Fin 2048) (R : Fin 32768) (hR : R.val = 2048 * b.val + r.val) (n : Fin 512) :
    (shapeCast S32768x512 (shapeCast S16x2048x512 (transpose S16x2048x4x2x64 [0, 1, 3, 2, 4]
        (shapeCast S16x2048x2x4x64 x shapeCasts_S16x2048x512_S16x2048x2x4x64)
        transposes_S16x2048x2x4x64_S16x2048x4x2x64_0_1_3_2_4) shapeCasts_S16x2048x4x2x64_S16x2048x512) shapeCasts_S16x2048x512_S32768x512 : S32768x512.Idx → EReal) (ix2 R n) = x (ix3 b r (perm n)) := by
  have hn : n.val < 512 := n.isLt
  refine (shapeCast_apply (s := S16x2048x512) _ _ (ix2 R n) (ix3 b r n) ?_).trans ?_
  · rw [Shape.rowMajor_val_three, Shape.rowMajor_val_two]
    show (b.val * 2048 + r.val) * 512 + n.val = R.val * 512 + n.val
    omega
  refine (shapeCast_apply (s := S16x2048x4x2x64) _ _ (ix3 b r n)
    (ix5 b r (⟨n.val / 128, by omega⟩ : Fin 4) (⟨n.val / 64 % 2, by omega⟩ : Fin 2) (⟨n.val % 64, by omega⟩ : Fin 64)) ?_).trans ?_
  · rw [Shape.rowMajor_val_five, Shape.rowMajor_val_three]
    show (((b.val * 2048 + r.val) * 4 + n.val / 128) * 2 + n.val / 64 % 2) * 64 + n.val % 64 = (b.val * 2048 + r.val) * 512 + n.val
    omega
  refine (transpose_apply _ _ _ _ (ix5 b r (⟨n.val / 64 % 2, by omega⟩ : Fin 2) (⟨n.val / 128, by omega⟩ : Fin 4) (⟨n.val % 64, by omega⟩ : Fin 64)) ?_).trans ?_
  · intro a
    match a with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_five, Shape.rowMajor_val_three]
  show (b.val * 2048 + r.val) * 512 + (256 * (n.val / 64 % 2) + 64 * (n.val / 128) + n.val % 64)
    = (((b.val * 2048 + r.val) * 2 + n.val / 64 % 2) * 4 + n.val / 128) * 64 + n.val % 64
  omega

theorem weight_perm (x : S1x512x1024.Idx → EReal) (k : Fin 512) (n : Fin 1024) :
    (shapeCast S512x1024 (transpose S4x2x64x1024 [1, 0, 2, 3]
        (shapeCast S2x4x64x1024 (shapeCast S512x1024 x shapeCasts_S1x512x1024_S512x1024) shapeCasts_S512x1024_S2x4x64x1024)
        transposes_S2x4x64x1024_S4x2x64x1024_1_0_2_3) shapeCasts_S4x2x64x1024_S512x1024 : S512x1024.Idx → EReal) (ix2 k n) = x (ix3 0 (perm k) n) := by
  have hk : k.val < 512 := k.isLt
  refine (shapeCast_apply (s := S4x2x64x1024) _ _ (ix2 k n)
    (ix4 (⟨k.val / 128, by omega⟩ : Fin 4) (⟨k.val / 64 % 2, by omega⟩ : Fin 2) (⟨k.val % 64, by omega⟩ : Fin 64) n) ?_).trans ?_
  · rw [Shape.rowMajor_val_four, Shape.rowMajor_val_two]
    show ((k.val / 128 * 2 + k.val / 64 % 2) * 64 + k.val % 64) * 1024 + n.val = k.val * 1024 + n.val
    omega
  refine (transpose_apply _ _ _ _ (ix4 (⟨k.val / 64 % 2, by omega⟩ : Fin 2) (⟨k.val / 128, by omega⟩ : Fin 4) (⟨k.val % 64, by omega⟩ : Fin 64) n) ?_).trans ?_
  · intro a
    match a with
    | ⟨0, _⟩ => rfl
    | ⟨1, _⟩ => rfl
    | ⟨2, _⟩ => rfl
    | ⟨3, _⟩ => rfl
  refine (shapeCast_apply (s := S512x1024) _ _ _ (ix2 (perm k) n) ?_).trans ?_
  · rw [Shape.rowMajor_val_four, Shape.rowMajor_val_two]
    show (256 * (k.val / 64 % 2) + 64 * (k.val / 128) + k.val % 64) * 1024 + n.val
      = ((k.val / 64 % 2 * 4 + k.val / 128) * 64 + k.val % 64) * 1024 + n.val
    omega
  · refine shapeCast_apply _ _ _ _ ?_
    rw [Shape.rowMajor_val_three, Shape.rowMajor_val_two]
    show (0 * 512 + (perm k).val) * 1024 + n.val = (perm k).val * 1024 + n.val
    omega

theorem scale (x : S1x1024.Idx → EReal) (n : Fin 1024) :
    (shapeCast S1x1024 (shapeCast S1024 x shapeCasts_S1x1024_S1024) shapeCasts_S1024_S1x1024 : S1x1024.Idx → EReal) (ix2 0 n) = x (ix2 0 n) := by
  refine (shapeCast_apply (s := S1024) _ _ (ix2 0 n) (ix1 n) ?_).trans (shapeCast_apply _ _ _ _ ?_)
  · rw [Shape.rowMajor_val_one, Shape.rowMajor_val_two]
    show n.val = 0 * 1024 + n.val
    omega
  · rw [Shape.rowMajor_val_one, Shape.rowMajor_val_two]
    show 0 * 1024 + n.val = n.val
    omega

theorem weight_1024x2048 (x : S1x1024x2048.Idx → EReal) (k : Fin 1024) (n : Fin 2048) :
    (shapeCast S1024x2048 x shapeCasts_S1x1024x2048_S1024x2048 : S1024x2048.Idx → EReal) (ix2 k n) = x (ix3 0 k n) := by
  refine shapeCast_apply _ _ _ _ ?_
  rw [Shape.rowMajor_val_three, Shape.rowMajor_val_two]
  show (0 * 1024 + k.val) * 2048 + n.val = k.val * 2048 + n.val
  omega

theorem weight_512x1024 (x : S1x512x1024.Idx → EReal) (k : Fin 512) (n : Fin 1024) :
    (shapeCast S512x1024 x shapeCasts_S1x512x1024_S512x1024 : S512x1024.Idx → EReal) (ix2 k n) = x (ix3 0 k n) := by
  refine shapeCast_apply _ _ _ _ ?_
  rw [Shape.rowMajor_val_three, Shape.rowMajor_val_two]
  show (0 * 512 + k.val) * 1024 + n.val = k.val * 1024 + n.val
  omega

theorem weight_1024x1024 (x : S1x1024x1024.Idx → EReal) (k : Fin 1024) (n : Fin 1024) :
    (shapeCast S1024x1024 x shapeCasts_S1x1024x1024_S1024x1024 : S1024x1024.Idx → EReal) (ix2 k n) = x (ix3 0 k n) := by
  refine shapeCast_apply _ _ _ _ ?_
  rw [Shape.rowMajor_val_three, Shape.rowMajor_val_two]
  show (0 * 1024 + k.val) * 1024 + n.val = k.val * 1024 + n.val
  omega

theorem weight_1024x5632 (x : S1x1024x5632.Idx → EReal) (k : Fin 1024) (n : Fin 5632) :
    (shapeCast S1024x5632 x shapeCasts_S1x1024x5632_S1024x5632 : S1024x5632.Idx → EReal) (ix2 k n) = x (ix3 0 k n) := by
  refine shapeCast_apply _ _ _ _ ?_
  rw [Shape.rowMajor_val_three, Shape.rowMajor_val_two]
  show (0 * 1024 + k.val) * 5632 + n.val = k.val * 5632 + n.val
  omega

theorem weight_2816x1024 (x : S1x2816x1024.Idx → EReal) (k : Fin 2816) (n : Fin 1024) :
    (shapeCast S2816x1024 x shapeCasts_S1x2816x1024_S2816x1024 : S2816x1024.Idx → EReal) (ix2 k n) = x (ix3 0 k n) := by
  refine shapeCast_apply _ _ _ _ ?_
  rw [Shape.rowMajor_val_three, Shape.rowMajor_val_two]
  show (0 * 2816 + k.val) * 1024 + n.val = k.val * 1024 + n.val
  omega

theorem weight_256x1024 (x : S1x256x1024.Idx → EReal) (k : Fin 256) (n : Fin 1024) :
    (shapeCast S256x1024 x shapeCasts_S1x256x1024_S256x1024 : S256x1024.Idx → EReal) (ix2 k n) = x (ix3 0 k n) := by
  refine shapeCast_apply _ _ _ _ ?_
  rw [Shape.rowMajor_val_three, Shape.rowMajor_val_two]
  show (0 * 256 + k.val) * 1024 + n.val = k.val * 1024 + n.val
  omega
variable (m : (ℓ : Loc nD τ sig) → Buf (Elt Ideal) ℓ)

theorem v0_apply (c : Dev nD) (b : Fin 16) (r : Fin 2048) (R : Fin 32768) (hR : R.val = 2048 * b.val + r.val) (n : Fin 1024) :
    (V m c main_v0 : S32768x1024.Idx → EReal) (ix2 R n) = ((m ((c.tc : Thread nD τ).loc main_arg0)) : S16x2048x1024.Idx → EReal) (ix3 b r n) := by
  have h : (V m c main_v0 : S32768x1024.Idx → EReal) = shapeCast S32768x1024 ((m ((c.tc : Thread nD τ).loc main_arg0)) : S16x2048x1024.Idx → EReal) shapeCasts_S16x2048x1024_S32768x1024 := by
    entry_read
    rfl
  rw [h]
  exact rows_1024 _ b r R hR n

theorem v11_apply (c : Dev nD) (b : Fin 16) (r : Fin 2048) (R : Fin 32768) (hR : R.val = 2048 * b.val + r.val) (n : Fin 512) :
    (V m c main_v11 : S32768x512.Idx → EReal) (ix2 R n) = ((m ((c.tc : Thread nD τ).loc main_arg1)) : S16x2048x512.Idx → EReal) (ix3 b r n) := by
  have h : (V m c main_v11 : S32768x512.Idx → EReal) = shapeCast S32768x512 ((m ((c.tc : Thread nD τ).loc main_arg1)) : S16x2048x512.Idx → EReal) shapeCasts_S16x2048x512_S32768x512 := by
    entry_read
    rfl
  rw [h]
  exact rows_512 _ b r R hR n

theorem v14_apply (c : Dev nD) (b : Fin 16) (r : Fin 2048) (R : Fin 32768) (hR : R.val = 2048 * b.val + r.val) (n : Fin 256) :
    (V m c main_v14 : S32768x256.Idx → EReal) (ix2 R n) = ((m ((c.tc : Thread nD τ).loc main_arg3)) : S1x16x2048x256.Idx → EReal) (ix4 0 b r n) := by
  have h : (V m c main_v14 : S32768x256.Idx → EReal) = shapeCast S32768x256 (shapeCast S16x2048x256 ((m ((c.tc : Thread nD τ).loc main_arg3)) : S1x16x2048x256.Idx → EReal) shapeCasts_S1x16x2048x256_S16x2048x256) shapeCasts_S16x2048x256_S32768x256 := by
    entry_read
    rfl
  rw [h]
  exact rows_256 _ b r R hR n

theorem v12_apply (c : Dev nD) (b : Fin 16) (r : Fin 2048) (R : Fin 32768) (hR : R.val = 2048 * b.val + r.val) (n : Fin 512) :
    (V m c main_v12 : S32768x512.Idx → EReal) (ix2 R n) = ((m ((c.tc : Thread nD τ).loc main_arg2)) : S16x2048x512.Idx → EReal) (ix3 b r (perm n)) := by
  have h : (V m c main_v12 : S32768x512.Idx → EReal) = shapeCast S32768x512 (shapeCast S16x2048x512 (transpose S16x2048x4x2x64 [0, 1, 3, 2, 4]
        (shapeCast S16x2048x2x4x64 ((m ((c.tc : Thread nD τ).loc main_arg2)) : S16x2048x512.Idx → EReal) shapeCasts_S16x2048x512_S16x2048x2x4x64)
        transposes_S16x2048x2x4x64_S16x2048x4x2x64_0_1_3_2_4) shapeCasts_S16x2048x4x2x64_S16x2048x512) shapeCasts_S16x2048x512_S32768x512 := by
    entry_read
    rfl
  rw [h]
  exact rows_perm _ b r R hR n

theorem v10_apply (c : Dev nD) (k : Fin 512) (n : Fin 1024) :
    (V m c main_v10 : S512x1024.Idx → EReal) (ix2 k n) = ((m ((c.tc : Thread nD τ).loc main_arg7)) : S1x512x1024.Idx → EReal) (ix3 0 (perm k) n) := by
  have h : (V m c main_v10 : S512x1024.Idx → EReal) = shapeCast S512x1024 (transpose S4x2x64x1024 [1, 0, 2, 3]
        (shapeCast S2x4x64x1024 (shapeCast S512x1024 ((m ((c.tc : Thread nD τ).loc main_arg7)) : S1x512x1024.Idx → EReal) shapeCasts_S1x512x1024_S512x1024) shapeCasts_S512x1024_S2x4x64x1024)
        transposes_S2x4x64x1024_S4x2x64x1024_1_0_2_3) shapeCasts_S4x2x64x1024_S512x1024 := by
    entry_read
    rfl
  rw [h]
  exact weight_perm _ k n

theorem v16_apply (c : Dev nD) (n : Fin 1024) :
    (V m c main_v16 : S1x1024.Idx → EReal) (ix2 0 n) = ((m ((c.tc : Thread nD τ).loc main_arg4)) : S1x1024.Idx → EReal) (ix2 0 n) := by
  have h : (V m c main_v16 : S1x1024.Idx → EReal) = shapeCast S1x1024 (shapeCast S1024 ((m ((c.tc : Thread nD τ).loc main_arg4)) : S1x1024.Idx → EReal) shapeCasts_S1x1024_S1024) shapeCasts_S1024_S1x1024 := by
    entry_read
    rfl
  rw [h]
  exact scale _ n

theorem v24_apply (c : Dev nD) (n : Fin 1024) :
    (V m c main_v24 : S1x1024.Idx → EReal) (ix2 0 n) = ((m ((c.tc : Thread nD τ).loc main_arg9)) : S1x1024.Idx → EReal) (ix2 0 n) := by
  have h : (V m c main_v24 : S1x1024.Idx → EReal) = shapeCast S1x1024 (shapeCast S1024 ((m ((c.tc : Thread nD τ).loc main_arg9)) : S1x1024.Idx → EReal) shapeCasts_S1x1024_S1024) shapeCasts_S1024_S1x1024 := by
    entry_read
    rfl
  rw [h]
  exact scale _ n

theorem v28_apply (c : Dev nD) (n : Fin 1024) :
    (V m c main_v28 : S1x1024.Idx → EReal) (ix2 0 n) = ((m ((c.tc : Thread nD τ).loc main_arg12)) : S1x1024.Idx → EReal) (ix2 0 n) := by
  have h : (V m c main_v28 : S1x1024.Idx → EReal) = shapeCast S1x1024 (shapeCast S1024 ((m ((c.tc : Thread nD τ).loc main_arg12)) : S1x1024.Idx → EReal) shapeCasts_S1x1024_S1024) shapeCasts_S1024_S1x1024 := by
    entry_read
    rfl
  rw [h]
  exact scale _ n

theorem v18_apply (c : Dev nD) (k : Fin 1024) (n : Fin 2048) :
    (V m c main_v18 : S1024x2048.Idx → EReal) (ix2 k n) = ((m ((c.tc : Thread nD τ).loc main_arg5)) : S1x1024x2048.Idx → EReal) (ix3 0 k n) := by
  have h : (V m c main_v18 : S1024x2048.Idx → EReal) = shapeCast S1024x2048 ((m ((c.tc : Thread nD τ).loc main_arg5)) : S1x1024x2048.Idx → EReal) shapeCasts_S1x1024x2048_S1024x2048 := by
    entry_read
    rfl
  rw [h]
  exact weight_1024x2048 _ k n

theorem v20_apply (c : Dev nD) (k : Fin 512) (n : Fin 1024) :
    (V m c main_v20 : S512x1024.Idx → EReal) (ix2 k n) = ((m ((c.tc : Thread nD τ).loc main_arg6)) : S1x512x1024.Idx → EReal) (ix3 0 k n) := by
  have h : (V m c main_v20 : S512x1024.Idx → EReal) = shapeCast S512x1024 ((m ((c.tc : Thread nD τ).loc main_arg6)) : S1x512x1024.Idx → EReal) shapeCasts_S1x512x1024_S512x1024 := by
    entry_read
    rfl
  rw [h]
  exact weight_512x1024 _ k n

theorem v22_apply (c : Dev nD) (k : Fin 1024) (n : Fin 1024) :
    (V m c main_v22 : S1024x1024.Idx → EReal) (ix2 k n) = ((m ((c.tc : Thread nD τ).loc main_arg8)) : S1x1024x1024.Idx → EReal) (ix3 0 k n) := by
  have h : (V m c main_v22 : S1024x1024.Idx → EReal) = shapeCast S1024x1024 ((m ((c.tc : Thread nD τ).loc main_arg8)) : S1x1024x1024.Idx → EReal) shapeCasts_S1x1024x1024_S1024x1024 := by
    entry_read
    rfl
  rw [h]
  exact weight_1024x1024 _ k n

theorem v25_apply (c : Dev nD) (k : Fin 1024) (n : Fin 5632) :
    (V m c main_v25 : S1024x5632.Idx → EReal) (ix2 k n) = ((m ((c.tc : Thread nD τ).loc main_arg10)) : S1x1024x5632.Idx → EReal) (ix3 0 k n) := by
  have h : (V m c main_v25 : S1024x5632.Idx → EReal) = shapeCast S1024x5632 ((m ((c.tc : Thread nD τ).loc main_arg10)) : S1x1024x5632.Idx → EReal) shapeCasts_S1x1024x5632_S1024x5632 := by
    entry_read
    rfl
  rw [h]
  exact weight_1024x5632 _ k n

theorem v26_apply (c : Dev nD) (k : Fin 2816) (n : Fin 1024) :
    (V m c main_v26 : S2816x1024.Idx → EReal) (ix2 k n) = ((m ((c.tc : Thread nD τ).loc main_arg11)) : S1x2816x1024.Idx → EReal) (ix3 0 k n) := by
  have h : (V m c main_v26 : S2816x1024.Idx → EReal) = shapeCast S2816x1024 ((m ((c.tc : Thread nD τ).loc main_arg11)) : S1x2816x1024.Idx → EReal) shapeCasts_S1x2816x1024_S2816x1024 := by
    entry_read
    rfl
  rw [h]
  exact weight_2816x1024 _ k n

theorem v30_apply (c : Dev nD) (k : Fin 1024) (n : Fin 1024) :
    (V m c main_v30 : S1024x1024.Idx → EReal) (ix2 k n) = ((m ((c.tc : Thread nD τ).loc main_arg13)) : S1x1024x1024.Idx → EReal) (ix3 0 k n) := by
  have h : (V m c main_v30 : S1024x1024.Idx → EReal) = shapeCast S1024x1024 ((m ((c.tc : Thread nD τ).loc main_arg13)) : S1x1024x1024.Idx → EReal) shapeCasts_S1x1024x1024_S1024x1024 := by
    entry_read
    rfl
  rw [h]
  exact weight_1024x1024 _ k n

theorem v32_apply (c : Dev nD) (k : Fin 256) (n : Fin 1024) :
    (V m c main_v32 : S256x1024.Idx → EReal) (ix2 k n) = ((m ((c.tc : Thread nD τ).loc main_arg14)) : S1x256x1024.Idx → EReal) (ix3 0 k n) := by
  have h : (V m c main_v32 : S256x1024.Idx → EReal) = shapeCast S256x1024 ((m ((c.tc : Thread nD τ).loc main_arg14)) : S1x256x1024.Idx → EReal) shapeCasts_S1x256x1024_S256x1024 := by
    entry_read
    rfl
  rw [h]
  exact weight_256x1024 _ k n

end Cert.MergeHost

end
-- ==== Proof.MergeRef.lean ====
module
public import proofs.«01_k».proof.Proof.Gen.MergeRefIdeal.Read
public import proofs.«01_k».proof.Proof.MergeSpec
public import Idealize.ShloMosaic.Lib.Pointwise
@[expose] public section

/-! # The reference of the merge, row by row -/

set_option maxRecDepth 16384

noncomputable section
open scoped BigOperators
open Idealize.ShloMosaic Idealize.ShloMosaic.TcCoe Idealize.SL.Sem
open Cert.MergeRefIdeal Cert.MergeRefIdeal.Gen Cert.MergeRefIdeal.Read Cert.MergeSpec

namespace Cert.MergeRef

variable (x0 : S16x2048x1024.Idx → EReal) (x1 x2 : S16x2048x512.Idx → EReal) (x3 : S1x16x2048x256.Idx → EReal) (x4 : S1x1024.Idx → EReal)
  (x5 : S1x1024x2048.Idx → EReal) (x6 x7 : S1x512x1024.Idx → EReal) (x8 : S1x1024x1024.Idx → EReal) (x9 : S1x1024.Idx → EReal)
  (x10 : S1x1024x5632.Idx → EReal) (x11 : S1x2816x1024.Idx → EReal) (x12 : S1x1024.Idx → EReal) (x13 : S1x1024x1024.Idx → EReal)
  (x14 : S1x256x1024.Idx → EReal)

/-- A row of a three-axis array. -/
def row3 {A B N : ℕ} (x : (⟨3, ![A, B, N]⟩ : Shape).Idx → EReal) (b : Fin A) (r : Fin B) (j : Fin N) : EReal := x (ix3 b r j)
/-- The row of a one-row array. -/
def row1 {N : ℕ} (x : (⟨2, ![1, N]⟩ : Shape).Idx → EReal) (j : Fin N) : EReal := x (ix2 0 j)

theorem v13_row (b : Fin 16) (r : Fin 2048) : row3 (val_main_v13 (F := Ideal) x0 x4) b r = rms (row3 x0 b r) (row1 x4) := by
  funext k
  unfold row3 row1 rms
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

theorem v21_row (b : Fin 16) (r : Fin 2048) (n : Fin 2048) : row3 (val_main_v21 (F := Ideal) x0 x4 x5) b r n
    = sgm (dot (row3 (val_main_v13 (F := Ideal) x0 x4) b r) (row3 x5 0) n) := by
  unfold row3 sgm dot val_main_v21 val_main_v20 val_main_v19 val_main_v18 val_main_v17 val_main_v16 val_main_v15
  generalize val_main_v13 (F := Ideal) x0 x4 = y
  pointwise [val_main_v14, val_main_cst_2, val_main_cst_3]

theorem v33_row (b : Fin 16) (r : Fin 2048) : row3 (val_main_v33 (F := Ideal) x0 x1 x2 x4 x5 x6 x7 x8) b r
    = midR (row3 x0 b r) (row3 x1 b r) (row3 x2 b r) (row1 x4) (row3 x5 0) (row3 x6 0) (row3 x7 0) (row3 x8 0) := by
  funext n
  have hL : ∀ k, sgm (dot (rms (row3 x0 b r) (row1 x4)) (row3 x5 0) (colL k)) = row3 (val_main_v21 (F := Ideal) x0 x4 x5) b r (colL k) := fun k => by
    rw [v21_row, v13_row]
  have hR : ∀ k, sgm (dot (rms (row3 x0 b r) (row1 x4)) (row3 x5 0) (colR k)) = row3 (val_main_v21 (F := Ideal) x0 x4 x5) b r (colR k) := fun k => by
    rw [v21_row, v13_row]
  unfold midR
  simp only [hL, hR]
  unfold row3 dot val_main_v33 val_main_v32 val_main_v30 val_main_v29 val_main_v26 val_main_v23 val_main_v22
  generalize val_main_v21 (F := Ideal) x0 x4 x5 = y
  pointwise [val_main_v31, val_main_v28, val_main_v27, val_main_v25, val_main_v24]
  rfl

theorem v47_row (b : Fin 16) (r : Fin 2048) : row3 (val_main_v47 (F := Ideal) x0 x1 x2 x4 x5 x6 x7 x8 x9) b r
    = rms (row3 (val_main_v33 (F := Ideal) x0 x1 x2 x4 x5 x6 x7 x8) b r) (row1 x9) := by
  funext k
  unfold row3 row1 rms val_main_v47 val_main_v44 val_main_v43 val_main_v42 val_main_v41 val_main_v39 val_main_v37 val_main_v36 val_main_v35
  generalize val_main_v33 (F := Ideal) x0 x1 x2 x4 x5 x6 x7 x8 = y
  pointwise [val_main_v46, val_main_v45, val_main_v40, val_main_v38, val_main_v34, val_main_cst_4, val_main_cst_5, val_main_cst_6]

theorem v50_row (b : Fin 16) (r : Fin 2048) : row3 (val_main_v50 (F := Ideal) x0 x1 x2 x4 x5 x6 x7 x8 x9 x10) b r
    = dot (row3 (val_main_v47 (F := Ideal) x0 x1 x2 x4 x5 x6 x7 x8 x9) b r) (row3 x10 0) := by
  funext k
  unfold row3 dot val_main_v50
  generalize val_main_v47 (F := Ideal) x0 x1 x2 x4 x5 x6 x7 x8 x9 = y
  pointwise [val_main_v48]

theorem v60_row (b : Fin 16) (r : Fin 2048) (k : Fin 2816) : row3 (val_main_v60 (F := Ideal) x0 x1 x2 x4 x5 x6 x7 x8 x9 x10) b r k
    = row3 (val_main_v50 (F := Ideal) x0 x1 x2 x4 x5 x6 x7 x8 x9 x10) b r (hidL k)
      * sgm (row3 (val_main_v50 (F := Ideal) x0 x1 x2 x4 x5 x6 x7 x8 x9 x10) b r (hidL k))
      * row3 (val_main_v50 (F := Ideal) x0 x1 x2 x4 x5 x6 x7 x8 x9 x10) b r (hidR k) := by
  unfold row3 sgm val_main_v60 val_main_v59 val_main_v58 val_main_v56 val_main_v54 val_main_v53 val_main_v52 val_main_v51
  generalize val_main_v50 (F := Ideal) x0 x1 x2 x4 x5 x6 x7 x8 x9 x10 = y
  pointwise [val_main_v57, val_main_v55, val_main_cst_7, val_main_cst_8]
  rfl

theorem v64_row (b : Fin 16) (r : Fin 2048) : row3 (val_main_v64 (F := Ideal) x0 x1 x2 x4 x5 x6 x7 x8 x9 x10 x11) b r
    = ffnR (row3 (val_main_v33 (F := Ideal) x0 x1 x2 x4 x5 x6 x7 x8) b r) (row1 x9) (row3 x10 0) (row3 x11 0) := by
  have ha : actR (rms (row3 (val_main_v33 (F := Ideal) x0 x1 x2 x4 x5 x6 x7 x8) b r) (row1 x9)) (row3 x10 0)
      = row3 (val_main_v60 (F := Ideal) x0 x1 x2 x4 x5 x6 x7 x8 x9 x10) b r := by
    funext k
    rw [v60_row, v50_row, v47_row]
    rfl
  funext n
  unfold ffnR
  rw [ha]
  unfold row3 dot val_main_v64 val_main_v63 val_main_v61
  generalize val_main_v60 (F := Ideal) x0 x1 x2 x4 x5 x6 x7 x8 x9 x10 = y
  generalize val_main_v33 (F := Ideal) x0 x1 x2 x4 x5 x6 x7 x8 = z
  pointwise [val_main_v62, val_main_v49, val_main_cst_9]

theorem v78_row (b : Fin 16) (r : Fin 2048) : row3 (val_main_v78 (F := Ideal) x0 x1 x2 x4 x5 x6 x7 x8 x9 x10 x11 x12) b r
    = rms (row3 (val_main_v64 (F := Ideal) x0 x1 x2 x4 x5 x6 x7 x8 x9 x10 x11) b r) (row1 x12) := by
  funext k
  unfold row3 row1 rms val_main_v78 val_main_v75 val_main_v74 val_main_v73 val_main_v72 val_main_v70 val_main_v68 val_main_v67 val_main_v66
  generalize val_main_v64 (F := Ideal) x0 x1 x2 x4 x5 x6 x7 x8 x9 x10 x11 = y
  pointwise [val_main_v77, val_main_v76, val_main_v71, val_main_v69, val_main_v65, val_main_cst_10, val_main_cst_11, val_main_cst_12]

theorem v91_row (b : Fin 16) (r : Fin 2048) : row3 (val_main_v91 (F := Ideal) x0 x1 x2 x3 x4 x5 x6 x7 x8 x9 x10 x11 x12 x13 x14) b r
    = pleR (row3 (val_main_v64 (F := Ideal) x0 x1 x2 x4 x5 x6 x7 x8 x9 x10 x11) b r) (row1 x12) (row3 x13 0)
        (fun k => x3 (ix4 0 b r k)) (row3 x14 0) := by
  funext n
  unfold pleR
  rw [← v78_row]
  unfold row3 dot sgm val_main_v91 val_main_v90 val_main_v86 val_main_v84 val_main_v82 val_main_v81 val_main_v80
  generalize val_main_v78 (F := Ideal) x0 x1 x2 x4 x5 x6 x7 x8 x9 x10 x11 x12 = y
  generalize val_main_v64 (F := Ideal) x0 x1 x2 x4 x5 x6 x7 x8 x9 x10 x11 = z
  pointwise [val_main_v89, val_main_v88, val_main_v87, val_main_v85, val_main_v83, val_main_v79, val_main_cst_13, val_main_cst_14]

/-- The reference's result at a row. -/
theorem ref_row (b : Fin 16) (r : Fin 2048) (R : Fin 32768) (hR : R.val = 2048 * b.val + r.val) (n : Fin 1024) :
    val_main_v92 (F := Ideal) x0 x1 x2 x3 x4 x5 x6 x7 x8 x9 x10 x11 x12 x13 x14 (ix2 R n)
    = pleR (ffnR (midR (row3 x0 b r) (row3 x1 b r) (row3 x2 b r) (row1 x4) (row3 x5 0) (row3 x6 0) (row3 x7 0) (row3 x8 0))
        (row1 x9) (row3 x10 0) (row3 x11 0)) (row1 x12) (row3 x13 0) (fun k => x3 (ix4 0 b r k)) (row3 x14 0) n := by
  rw [← v33_row, ← v64_row, ← v91_row]
  unfold val_main_v92 row3
  generalize val_main_v91 (F := Ideal) x0 x1 x2 x3 x4 x5 x6 x7 x8 x9 x10 x11 x12 x13 x14 = y
  refine shapeCast_apply _ _ _ _ ?_
  rw [Shape.rowMajor_val_three, Shape.rowMajor_val_two]
  show (b.val * 2048 + r.val) * 1024 + n.val = R.val * 1024 + n.val
  omega

end Cert.MergeRef

end
-- ==== Proof.MergeValue.lean ====
module
public import proofs.«01_k».proof.Proof.MergeHost
public import proofs.«01_k».proof.Proof.MergeRef
@[expose] public section

/-! # The array the merge leaves, and the reference's

Grid point `t` reads rows `512 * t` to `512 * t + 511` of the two mixers' rows, of the residual and of the embeddings, and the whole of
the weights, and writes the same rows of the result.
-/

set_option maxRecDepth 16384

noncomputable section
open scoped BigOperators
open Idealize.ShloMosaic Idealize.ShloMosaic.TcCoe Idealize.SL.Sem
open Idealize.ShloMosaic.Pipeline (Dat)
open Cert.MergeIdeal Cert.MergeIdeal.Gen Cert.MergeSpec Cert.MergePays Cert.MergeHost
open Cert.MergeRef (row3 row1)

namespace Cert.MergeValue

variable (m : (ℓ : Loc nD τ sig) → Buf (Elt Ideal) ℓ)

theorem N_lt (t : Fin cfg0.N) : t.val < 64 := t.isLt

theorem idx_rows : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_13.index t 0 = t.val ∧ win0_13.index t 1 = 0) :=
  (by decide +kernel : ∀ t : Fin grid0.N, _)

theorem idx_whole : ∀ t : Fin cfg0.N, (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0) :=
  (by decide +kernel : ∀ t : Fin grid0.N, _)

/-- Row `r` of grid point `t`'s block, in the whole array. -/
def rowAt (t : Fin cfg0.N) (r : Fin 512) : Fin 32768 := ⟨512 * t.val + r.val, by have := N_lt t; have := r.isLt; omega⟩

theorem block_0 (c : Dev nD) (t : Fin cfg0.N) (r : Fin 512) (n : Fin 1024) :
    (iblk m c 0 t : S512x1024.Idx → EReal) (ix2 r n) = (V m c main_v0 : S32768x1024.Idx → EReal) (ix2 (rowAt t r) n) := by
  show V m c main_v0 _ = V m c main_v0 _
  refine congrArg _ (funext fun a => Fin.ext ?_)
  obtain ⟨⟨h0, h1⟩, -, -, -, -⟩ := idx_rows t
  match a with
  | ⟨0, _⟩ => show win0_0.index t 0 * 512 + 1 * r.val = 512 * t.val + r.val; omega
  | ⟨1, _⟩ => show win0_0.index t 1 * 1024 + 1 * n.val = n.val; omega

theorem block_1 (c : Dev nD) (t : Fin cfg0.N) (r : Fin 512) (n : Fin 512) :
    (iblk m c 1 t : S512x512.Idx → EReal) (ix2 r n) = (V m c main_v11 : S32768x512.Idx → EReal) (ix2 (rowAt t r) n) := by
  show V m c main_v11 _ = V m c main_v11 _
  refine congrArg _ (funext fun a => Fin.ext ?_)
  obtain ⟨-, ⟨h0, h1⟩, -, -, -⟩ := idx_rows t
  match a with
  | ⟨0, _⟩ => show win0_1.index t 0 * 512 + 1 * r.val = 512 * t.val + r.val; omega
  | ⟨1, _⟩ => show win0_1.index t 1 * 512 + 1 * n.val = n.val; omega

theorem block_2 (c : Dev nD) (t : Fin cfg0.N) (r : Fin 512) (n : Fin 512) :
    (iblk m c 2 t : S512x512.Idx → EReal) (ix2 r n) = (V m c main_v12 : S32768x512.Idx → EReal) (ix2 (rowAt t r) n) := by
  show V m c main_v12 _ = V m c main_v12 _
  refine congrArg _ (funext fun a => Fin.ext ?_)
  obtain ⟨-, -, ⟨h0, h1⟩, -, -⟩ := idx_rows t
  match a with
  | ⟨0, _⟩ => show win0_2.index t 0 * 512 + 1 * r.val = 512 * t.val + r.val; omega
  | ⟨1, _⟩ => show win0_2.index t 1 * 512 + 1 * n.val = n.val; omega

theorem block_3 (c : Dev nD) (t : Fin cfg0.N) (r : Fin 512) (n : Fin 256) :
    (iblk m c 3 t : S512x256.Idx → EReal) (ix2 r n) = (V m c main_v14 : S32768x256.Idx → EReal) (ix2 (rowAt t r) n) := by
  show V m c main_v14 _ = V m c main_v14 _
  refine congrArg _ (funext fun a => Fin.ext ?_)
  obtain ⟨-, -, -, ⟨h0, h1⟩, -⟩ := idx_rows t
  match a with
  | ⟨0, _⟩ => show win0_3.index t 0 * 512 + 1 * r.val = 512 * t.val + r.val; omega
  | ⟨1, _⟩ => show win0_3.index t 1 * 256 + 1 * n.val = n.val; omega

theorem block_4 (c : Dev nD) (t : Fin cfg0.N) : (iblk m c 4 t : S1x1024.Idx → EReal) = (V m c main_v16 : S1x1024.Idx → EReal) := by
  funext y
  show V m c main_v16 _ = V m c main_v16 y
  refine congrArg _ (funext fun a => Fin.ext ?_)
  obtain ⟨⟨h0, h1⟩, -, -, -, -, -, -, -, -⟩ := idx_whole t
  match a with
  | ⟨0, _⟩ => show win0_4.index t 0 * 1 + 1 * (y 0).val = (y 0).val; omega
  | ⟨1, _⟩ => show win0_4.index t 1 * 1024 + 1 * (y 1).val = (y 1).val; omega

theorem block_5 (c : Dev nD) (t : Fin cfg0.N) : (iblk m c 5 t : S1024x2048.Idx → EReal) = (V m c main_v18 : S1024x2048.Idx → EReal) := by
  funext y
  show V m c main_v18 _ = V m c main_v18 y
  refine congrArg _ (funext fun a => Fin.ext ?_)
  obtain ⟨-, ⟨h0, h1⟩, -, -, -, -, -, -, -⟩ := idx_whole t
  match a with
  | ⟨0, _⟩ => show win0_5.index t 0 * 1024 + 1 * (y 0).val = (y 0).val; omega
  | ⟨1, _⟩ => show win0_5.index t 1 * 2048 + 1 * (y 1).val = (y 1).val; omega

theorem block_6 (c : Dev nD) (t : Fin cfg0.N) : (iblk m c 6 t : S512x1024.Idx → EReal) = (V m c main_v20 : S512x1024.Idx → EReal) := by
  funext y
  show V m c main_v20 _ = V m c main_v20 y
  refine congrArg _ (funext fun a => Fin.ext ?_)
  obtain ⟨-, -, ⟨h0, h1⟩, -, -, -, -, -, -⟩ := idx_whole t
  match a with
  | ⟨0, _⟩ => show win0_6.index t 0 * 512 + 1 * (y 0).val = (y 0).val; omega
  | ⟨1, _⟩ => show win0_6.index t 1 * 1024 + 1 * (y 1).val = (y 1).val; omega

theorem block_7 (c : Dev nD) (t : Fin cfg0.N) : (iblk m c 7 t : S512x1024.Idx → EReal) = (V m c main_v10 : S512x1024.Idx → EReal) := by
  funext y
  show V m c main_v10 _ = V m c main_v10 y
  refine congrArg _ (funext fun a => Fin.ext ?_)
  obtain ⟨-, -, -, ⟨h0, h1⟩, -, -, -, -, -⟩ := idx_whole t
  match a with
  | ⟨0, _⟩ => show win0_7.index t 0 * 512 + 1 * (y 0).val = (y 0).val; omega
  | ⟨1, _⟩ => show win0_7.index t 1 * 1024 + 1 * (y 1).val = (y 1).val; omega

theorem block_8 (c : Dev nD) (t : Fin cfg0.N) : (iblk m c 8 t : S1024x1024.Idx → EReal) = (V m c main_v22 : S1024x1024.Idx → EReal) := by
  funext y
  show V m c main_v22 _ = V m c main_v22 y
  refine congrArg _ (funext fun a => Fin.ext ?_)
  obtain ⟨-, -, -, -, ⟨h0, h1⟩, -, -, -, -⟩ := idx_whole t
  match a with
  | ⟨0, _⟩ => show win0_8.index t 0 * 1024 + 1 * (y 0).val = (y 0).val; omega
  | ⟨1, _⟩ => show win0_8.index t 1 * 1024 + 1 * (y 1).val = (y 1).val; omega

theorem block_9 (c : Dev nD) (t : Fin cfg0.N) : (iblk m c 9 t : S1x1024.Idx → EReal) = (V m c main_v24 : S1x1024.Idx → EReal) := by
  funext y
  show V m c main_v24 _ = V m c main_v24 y
  refine congrArg _ (funext fun a => Fin.ext ?_)
  obtain ⟨-, -, -, -, -, ⟨h0, h1⟩, -, -, -⟩ := idx_whole t
  match a with
  | ⟨0, _⟩ => show win0_9.index t 0 * 1 + 1 * (y 0).val = (y 0).val; omega
  | ⟨1, _⟩ => show win0_9.index t 1 * 1024 + 1 * (y 1).val = (y 1).val; omega

theorem block_10 (c : Dev nD) (t : Fin cfg0.N) : (iblk m c 10 t : S1x1024.Idx → EReal) = (V m c main_v28 : S1x1024.Idx → EReal) := by
  funext y
  show V m c main_v28 _ = V m c main_v28 y
  refine congrArg _ (funext fun a => Fin.ext ?_)
  obtain ⟨-, -, -, -, -, -, ⟨h0, h1⟩, -, -⟩ := idx_whole t
  match a with
  | ⟨0, _⟩ => show win0_10.index t 0 * 1 + 1 * (y 0).val = (y 0).val; omega
  | ⟨1, _⟩ => show win0_10.index t 1 * 1024 + 1 * (y 1).val = (y 1).val; omega

theorem block_11 (c : Dev nD) (t : Fin cfg0.N) : (iblk m c 11 t : S1024x1024.Idx → EReal) = (V m c main_v30 : S1024x1024.Idx → EReal) := by
  funext y
  show V m c main_v30 _ = V m c main_v30 y
  refine congrArg _ (funext fun a => Fin.ext ?_)
  obtain ⟨-, -, -, -, -, -, -, ⟨h0, h1⟩, -⟩ := idx_whole t
  match a with
  | ⟨0, _⟩ => show win0_11.index t 0 * 1024 + 1 * (y 0).val = (y 0).val; omega
  | ⟨1, _⟩ => show win0_11.index t 1 * 1024 + 1 * (y 1).val = (y 1).val; omega

theorem block_12 (c : Dev nD) (t : Fin cfg0.N) : (iblk m c 12 t : S256x1024.Idx → EReal) = (V m c main_v32 : S256x1024.Idx → EReal) := by
  funext y
  show V m c main_v32 _ = V m c main_v32 y
  refine congrArg _ (funext fun a => Fin.ext ?_)
  obtain ⟨-, -, -, -, -, -, -, -, ⟨h0, h1⟩⟩ := idx_whole t
  match a with
  | ⟨0, _⟩ => show win0_12.index t 0 * 256 + 1 * (y 0).val = (y 0).val; omega
  | ⟨1, _⟩ => show win0_12.index t 1 * 1024 + 1 * (y 1).val = (y 1).val; omega

/-- The result at a row, from the arguments. -/
def rowVal (c : Dev nD) (b : Fin 16) (r : Fin 2048) : Fin 1024 → EReal :=
  pleR (ffnR (midR (row3 (A := 16) (B := 2048) (m ((c.tc : Thread nD τ).loc main_arg0)) b r) (row3 (A := 16) (B := 2048) (m ((c.tc : Thread nD τ).loc main_arg1)) b r) (row3 (A := 16) (B := 2048) (m ((c.tc : Thread nD τ).loc main_arg2)) b r)
      (row1 (m ((c.tc : Thread nD τ).loc main_arg4))) (row3 (A := 1) (B := 1024) (m ((c.tc : Thread nD τ).loc main_arg5)) 0) (row3 (A := 1) (B := 512) (m ((c.tc : Thread nD τ).loc main_arg6)) 0) (row3 (A := 1) (B := 512) (m ((c.tc : Thread nD τ).loc main_arg7)) 0)
      (row3 (A := 1) (B := 1024) (m ((c.tc : Thread nD τ).loc main_arg8)) 0)) (row1 (m ((c.tc : Thread nD τ).loc main_arg9))) (row3 (A := 1) (B := 1024) (m ((c.tc : Thread nD τ).loc main_arg10)) 0) (row3 (A := 1) (B := 2816) (m ((c.tc : Thread nD τ).loc main_arg11)) 0))
    (row1 (m ((c.tc : Thread nD τ).loc main_arg12))) (row3 (A := 1) (B := 1024) (m ((c.tc : Thread nD τ).loc main_arg13)) 0) (fun k => ((m ((c.tc : Thread nD τ).loc main_arg3)) : S1x16x2048x256.Idx → EReal) (ix4 0 b r k))
    (row3 (A := 1) (B := 256) (m ((c.tc : Thread nD τ).loc main_arg14)) 0)

def rowB (R : Fin 32768) : Fin 16 := ⟨R.val / 2048, by have := R.isLt; omega⟩
def rowR (R : Fin 32768) : Fin 2048 := ⟨R.val % 2048, Nat.mod_lt _ (by decide)⟩
theorem row_split (R : Fin 32768) : R.val = 2048 * (rowB R).val + (rowR R).val := by
  show R.val = 2048 * (R.val / 2048) + R.val % 2048
  omega

/-- The array the program leaves, index by index. -/
def final (c : Dev nD) : S32768x1024.Idx → EReal := fun i => rowVal m c (rowB (i 0)) (rowR (i 0)) (i 1)

/-- Permuting a contracted axis of both operands leaves the product. -/
theorem dot_perm (x : Fin 512 → EReal) (W : Fin 512 → Fin 1024 → EReal) : dot (fun k => x (perm k)) (fun k => W (perm k)) = dot x W :=
  funext fun n => Equiv.sum_comp perm fun k => x k * W k n

theorem midR_perm (h : Fin 1024 → EReal) (ya yb : Fin 512 → EReal) (g : Fin 1024 → EReal) (Wg : Fin 1024 → Fin 2048 → EReal)
    (Wa Wb : Fin 512 → Fin 1024 → EReal) (Wo : Fin 1024 → Fin 1024 → EReal) :
    midR h ya (fun k => yb (perm k)) g Wg Wa (fun k => Wb (perm k)) Wo = midR h ya yb g Wg Wa Wb Wo := by
  unfold midR
  rw [dot_perm]

/-- What grid point `t` leaves in row `r` of its block. -/
theorem tile_row (c : Dev nD) (t : Fin cfg0.N) (r : Fin 512) :
    rowOf (tileAt m c t : S512x1024.Idx → EReal) r = rowVal m c (rowB (rowAt t r)) (rowR (rowAt t r)) := by
  have hR := row_split (rowAt t r)
  refine (out_row ..).trans ?_
  have e0 : rowOf (iblk m c 0 t : S512x1024.Idx → EReal) r = row3 (A := 16) (B := 2048) (m ((c.tc : Thread nD τ).loc main_arg0)) (rowB (rowAt t r)) (rowR (rowAt t r)) :=
    funext fun n => (block_0 m c t r n).trans (v0_apply m c _ _ _ hR n)
  have e1 : rowOf (iblk m c 1 t : S512x512.Idx → EReal) r = row3 (A := 16) (B := 2048) (m ((c.tc : Thread nD τ).loc main_arg1)) (rowB (rowAt t r)) (rowR (rowAt t r)) :=
    funext fun n => (block_1 m c t r n).trans (v11_apply m c _ _ _ hR n)
  have e2 : rowOf (iblk m c 2 t : S512x512.Idx → EReal) r
      = fun k => row3 (A := 16) (B := 2048) (m ((c.tc : Thread nD τ).loc main_arg2)) (rowB (rowAt t r)) (rowR (rowAt t r)) (perm k) :=
    funext fun n => (block_2 m c t r n).trans (v12_apply m c _ _ _ hR n)
  have e3 : rowOf (iblk m c 3 t : S512x256.Idx → EReal) r = fun k => ((m ((c.tc : Thread nD τ).loc main_arg3)) : S1x16x2048x256.Idx → EReal) (ix4 0 (rowB (rowAt t r)) (rowR (rowAt t r)) k) :=
    funext fun n => (block_3 m c t r n).trans (v14_apply m c _ _ _ hR n)
  have e4 : rowOf (iblk m c 4 t : S1x1024.Idx → EReal) 0 = row1 (m ((c.tc : Thread nD τ).loc main_arg4)) :=
    funext fun n => (congrFun (block_4 m c t) _).trans (v16_apply m c n)
  have e9 : rowOf (iblk m c 9 t : S1x1024.Idx → EReal) 0 = row1 (m ((c.tc : Thread nD τ).loc main_arg9)) :=
    funext fun n => (congrFun (block_9 m c t) _).trans (v24_apply m c n)
  have e10 : rowOf (iblk m c 10 t : S1x1024.Idx → EReal) 0 = row1 (m ((c.tc : Thread nD τ).loc main_arg12)) :=
    funext fun n => (congrFun (block_10 m c t) _).trans (v28_apply m c n)
  have e5 : rowOf (iblk m c 5 t : S1024x2048.Idx → EReal) = row3 (A := 1) (B := 1024) (m ((c.tc : Thread nD τ).loc main_arg5)) 0 :=
    funext fun k => funext fun n => (congrFun (block_5 m c t) _).trans (v18_apply m c k n)
  have e6 : rowOf (iblk m c 6 t : S512x1024.Idx → EReal) = row3 (A := 1) (B := 512) (m ((c.tc : Thread nD τ).loc main_arg6)) 0 :=
    funext fun k => funext fun n => (congrFun (block_6 m c t) _).trans (v20_apply m c k n)
  have e8 : rowOf (iblk m c 8 t : S1024x1024.Idx → EReal) = row3 (A := 1) (B := 1024) (m ((c.tc : Thread nD τ).loc main_arg8)) 0 :=
    funext fun k => funext fun n => (congrFun (block_8 m c t) _).trans (v22_apply m c k n)
  have e11 : rowOf (iblk m c 11 t : S1024x1024.Idx → EReal) = row3 (A := 1) (B := 1024) (m ((c.tc : Thread nD τ).loc main_arg13)) 0 :=
    funext fun k => funext fun n => (congrFun (block_11 m c t) _).trans (v30_apply m c k n)
  have e12 : rowOf (iblk m c 12 t : S256x1024.Idx → EReal) = row3 (A := 1) (B := 256) (m ((c.tc : Thread nD τ).loc main_arg14)) 0 :=
    funext fun k => funext fun n => (congrFun (block_12 m c t) _).trans (v32_apply m c k n)
  have e7 : rowOf (iblk m c 7 t : S512x1024.Idx → EReal) = fun k => row3 (A := 1) (B := 512) (m ((c.tc : Thread nD τ).loc main_arg7)) 0 (perm k) :=
    funext fun k => funext fun n => (congrFun (block_7 m c t) _).trans (v10_apply m c k n)
  have eg : rowOf (guW (V m c main_v25) : S1024x5632.Idx → EReal) = row3 (A := 1) (B := 1024) (m ((c.tc : Thread nD τ).loc main_arg10)) 0 :=
    funext fun k => funext fun n => v25_apply m c k n
  have ed : rowOf (dnW (V m c main_v26) : S2816x1024.Idx → EReal) = row3 (A := 1) (B := 2816) (m ((c.tc : Thread nD τ).loc main_arg11)) 0 :=
    funext fun k => funext fun n => v26_apply m c k n
  rw [e0, e1, e2, e3, e4, e5, e6, e7, e8, e9, e10, e11, e12, eg, ed, midR_perm]
  rfl

theorem flushed_eq (c : Dev nD) (t : Fin cfg0.N) (_h : (cfg0.win 13).flush t = true) :
    (dats m 0 c).flushed 13 t = ((cfg0.win 13).blk t).view.read (Elt Ideal) (final m c) := by
  show (cfg0.win 13).cut (grid0.coords t) ((dats m 0 c).after 13 t) = _
  rw [after_13]
  funext y
  obtain ⟨-, -, -, -, ⟨h0, h1⟩⟩ := idx_rows t
  have e : ((cfg0.win 13).blk t).view.emb y = ix2 (rowAt t (y 0)) (y 1) := funext fun a => Fin.ext (by
    match a with
    | ⟨0, _⟩ => show win0_13.index t 0 * 512 + 1 * (y 0).val = 512 * t.val + (y 0).val; omega
    | ⟨1, _⟩ => show win0_13.index t 1 * 1024 + 1 * (y 1).val = (y 1).val; omega)
  show _ = final m c (((cfg0.win 13).blk t).view.emb y)
  rw [e]
  exact (congrArg (tileAt m c t : S512x1024.Idx → EReal) (eq_ix2 (n0 := 512) (n1 := 1024) y)).trans (congrFun (tile_row m c t (y 0)) (y 1))

theorem mem_blk (t : Fin cfg0.N) (i : S32768x1024.Idx) (h : t.val = (i 0).val / 512) : i ∈ ((cfg0.win 13).blk t).view.set := by
  show i ∈ ((View.whole main_v33).slice (win0_13.rect t)).set
  rw [View.set_slice_whole, Rect.mem_set_unit]
  obtain ⟨-, -, -, -, ⟨h0, h1⟩⟩ := idx_rows t
  have g1 : (i 1).val < 1024 := (i 1).isLt
  intro a
  match a with
  | ⟨0, _⟩ => show win0_13.index t 0 * 512 ≤ (i 0).val ∧ (i 0).val < win0_13.index t 0 * 512 + 512; omega
  | ⟨1, _⟩ => show win0_13.index t 1 * 1024 ≤ (i 1).val ∧ (i 1).val < win0_13.index t 1 * 1024 + 1024; omega

/-- The result array after the run. -/
theorem arr_eq (c : Dev nD) : (dats m 0 c).arrAt 13 cfg0.N = final m c :=
  (dats m 0 c).arrAt_eq_of_cover 13 (final m c) (flushed_eq m c)
    (fun i => ⟨⟨(i 0).val / 512, by have h : (i 0).val < 32768 := (i 0).isLt; show (i 0).val / 512 < 64; omega⟩, flush0_13 _, mem_blk _ i rfl⟩)

/-- The run, with the result named. -/
theorem run_result (ρ : Dev nD → PrngReg) : θ_run defs (onTc (τ := τ) (main (F := Ideal))) ⟨m, fun _ => 0, ρ⟩ fun r => ∀ c : Dev nD,
      r.2.mem ((c.tc : Thread nD τ).loc main_v33) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 13).trans (arr_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

/-- The reference's array, of the same arguments. -/
theorem ref_eq (c : Dev nD) : Cert.MergeRefIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = final m c := by
  funext i
  refine (congrArg _ (eq_ix2 (n0 := 32768) (n1 := 1024) i)).trans ?_
  exact Cert.MergeRef.ref_row _ _ _ _ _ _ _ _ _ _ _ _ _ _ _ _ _ (i 0) (row_split (i 0)) (i 1)

end Cert.MergeValue

end
-- ==== Proof.Ffn1Fetch.lean ====
module

public import proofs.«01_k».proof.Proof.Gen.Ffn1Ideal.Frame
public import proofs.«01_k».proof.Proof.Gen.Ffn1Ideal.Skeleton
public import Idealize.ShloMosaic.Lib.WritesUnit
public import proofs.«01_k».proof.Proof.MergeFetch

@[expose] public section

set_option maxRecDepth 16384

noncomputable section

namespace Cert.Ffn1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeIdeal.Gen (slot_last slot_under slot_apart)
open Idealize.ShloMosaic.Pipeline (Dat Cfg Window BodyObligation cellOf)

variable {F : FTy → Type} [FloatOps F]

local notation "𝕄" => MT nD τ sig Unit (Elt F) ℕ (Pipeline.UD sig nD τ) ℕ

/-- The two weight arrays the body copies itself, whole. -/
abbrev guM : Memref sig .tc .hbm S1024x5632 .f32 := Memref.whole main_v32
abbrev dnM : Memref sig .tc .hbm S2816x1024 .f32 := Memref.whole main_v33
/-- A memref's contents on core `c`, and the memref held whole at contents `f`. -/
abbrev BufOf (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : BufOf (F := F) c M) : sProp 𝕄 :=
  M.view.loc (c : Thread nD τ) ↦{fullShare} f

/-- The part of the body that runs at the first point only: the copies of the weights. -/
noncomputable def fetchProg (i : grid0.Coords) (arg1 : Memref sig .tc .vmem S512x1024 .f32) (harg1 : arg1.IsWhole) (arg2 : Memref sig .tc .vmem S1x1024 .f32) (harg2 : arg2.IsWhole) (arg3 : Memref sig .tc .hbm S1024x5632 .f32) (harg3 : arg3.IsWhole) (arg4 : Memref sig .tc .hbm S2816x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S512x1024 .f32) (harg8 : arg8.IsWhole) (arg9 : Memref sig .tc .vmem S512x2304 .bf16) (harg9 : arg9.IsWhole) (arg10 : Memref sig .tc .vmem S512x2816 .bf16) (harg10 : arg10.IsWhole) (arg11 : Memref sig .tc .vmem S512x2304 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S2x128x5632 .f32) (harg14 : arg14.IsWhole) (arg15 : Memref sig .tc .vmem S2x256x1024 .f32) (harg15 : arg15.IsWhole) (arg16 : DmaSems sig S2x2) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let v705 : FVec F S128x5632 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v705
  let v757 : FVec F S128x5632 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let v781 : FVec F S128x5632 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v757
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v781
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let v882 : FVec F S256x1024 .bf16 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v882
  k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let v957 : FVec F S256x1024 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  Prog.lift (.store arg13 (Rect.unit (s := S2816x1024) ![2560, 0] S256x1024.size inb_S2816x1024_S256x1024_2560_0) (k0_pay25 v957) Finset.univ (View.stores_vmem h_S256x1024 (harg13.storeExact_slice rfl _ packedbf16_S2816x1024_S256x1024_2560_0) (fun _ => rfl)) (.inl rfl))

/-- A chunk of weights cast on its way from the staging buffer. -/
theorem cast_piece {s t : Shape} (v : FVec F s .f32) (d : FVec F t .f32) (hc : s.ShapeCasts t) (hs : t.ShapeCasts t)
    (h : shapeCast t v hc = d) (x : t.Idx) :
    shapeCast t (truncf .bf16 (shapeCast t v hc) bitsLt_bf16_f32) hs x = FloatOps.truncf .bf16 bitsLt_bf16_f32 (d x) := by
  subst h
  show FloatOps.truncf .bf16 _ (shapeCast t v hc (Shape.reshapeEquiv hs x)) = _
  rw [Shape.reshapeEquiv_self]

/-- A buffer held at some contents is held at what they read. -/
theorem held_any (c : Dev nD) {s : Shape} {e : EltTy} (M : Memref sig .tc .vmem s e) (f : BufOf (F := F) c M) :
    (iprop(M.view.loc (c : Thread nD τ) ↦[M.view.set]{fullShare} f) : sProp 𝕄)
      ⊢ iprop(∃ d : s.Idx → Elt F e, ∃ f, ⌜M.view.read (Elt F) f = d⌝ ∗ M.view.loc (c : Thread nD τ) ↦[M.view.set]{fullShare} f) := by
  iintro H
  iexists (M.view.read (Elt F) f), f
  isplitr
  · ipureintro
    rfl
  iexact H

/-- The two weight arrays as the body keeps them, cast. -/
noncomputable def guW {c : Dev nD} (f : BufOf (F := F) c guM) : FVec F S1024x5632 .bf16 :=
  truncf .bf16 (guM.view.read (Elt F) f : FVec F S1024x5632 .f32) bitsLt_bf16_f32
noncomputable def dnW {c : Dev nD} (f : BufOf (F := F) c dnM) : FVec F S2816x1024 .bf16 :=
  truncf .bf16 (dnM.view.read (Elt F) f : FVec F S2816x1024 .f32) bitsLt_bf16_f32

set_option maxHeartbeats 1000000 in set_option sl_exec.dmaWindow true in set_option sl_exec.dmaWindowSet true in
/-- The weights' copies, run: afterwards the two weight buffers hold the arrays cast, whatever the buffers held before. -/
theorem fetch_run (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S512x1024 .f32) (harg8 : arg8.IsWhole) (arg9 : Memref sig .tc .vmem S512x2304 .bf16) (harg9 : arg9.IsWhole) (arg10 : Memref sig .tc .vmem S512x2816 .bf16) (harg10 : arg10.IsWhole) (arg11 : Memref sig .tc .vmem S512x2304 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S2x128x5632 .f32) (harg14 : arg14.IsWhole) (arg15 : Memref sig .tc .vmem S2x256x1024 .f32) (harg15 : arg15.IsWhole) (fh0 : BufOf (F := F) c guM) (fh1 : BufOf (F := F) c dnM)
    (W : Waits sig Unit) (K : PUnit → sProp 𝕄) :
    iprop((∃ d, owns (c : Thread nD τ) arg12 fullShare d) ∗ (∃ d, owns (c : Thread nD τ) arg13 fullShare d)
        ∗ (∃ d, owns (c : Thread nD τ) arg14 fullShare d) ∗ (∃ d, owns (c : Thread nD τ) arg15 fullShare d)
        ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0
        ∗ heldAt c guM fh0 ∗ heldAt c dnM fh1 ∗ owes (c : Thread nD τ) 0 W
        ∗ (owns (c : Thread nD τ) arg12 fullShare (guW fh0) ∗ owns (c : Thread nD τ) arg13 fullShare (dnW fh1)
        ∗ (∃ d, owns (c : Thread nD τ) arg14 fullShare d) ∗ (∃ d, owns (c : Thread nD τ) arg15 fullShare d)
        ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0
        ∗ heldAt c guM fh0 ∗ heldAt c dnM fh1 ∗ (∃ W', owes (c : Thread nD τ) 0 W') -∗ K ⟨⟩))
      ⊢ wp frame (wpE (defs₀ (F := F)) Variants.none c none) Set.univ (fetchProg i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6) K := by
  unfold fetchProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%ds1, %fs1, -, HS1⟩, ⟨%ds2, %fs2, -, HS2⟩, ⟨%ds3, %fs3, -, HS3⟩, ⟨%ds4, %fs4, -, HS4⟩, Hq0, Hq1, Hq2, Hq3, Hh0, Hh1, HW, Hk⟩
  sl_exec
  sl_step
  iapply Hk
  isplitl [HS1]
  · iexists _
    isplitr
    rotate_left
    · iexact HS1
    · ipureintro
      refine funext fun y => View.read_writes_apply_of_pieces (Val := Elt F) (e := .bf16) (s := S1024x5632) _ _ (guW fh0) _ ?_ y ?_
      simp only [List.forall_mem_cons]
      refine ⟨fun x => ?_, fun x => ?_, fun x => ?_, fun x => ?_, fun x => ?_, fun x => ?_, fun x => ?_, fun x => ?_, fun p hp => absurd hp List.not_mem_nil⟩
      · refine cast_piece (s := S1x128x5632) (t := S128x5632) (fetch_run.sl.v779 c arg14 fh0 fs3) (fetch_run.sl.dma18 c fh0) shapeCasts_S1x128x5632_S128x5632 shapeCasts_S128x5632_S128x5632 ?_ x
        exact slot_last arg14 (Rect.unit (s := S2x128x5632) ![1, 0, 0] S1x128x5632.size inb_S2x128x5632_S1x128x5632_1_0_0) (fun _ => rfl) squeezes_S1x128x5632_S128x5632 _ _ _
      · refine cast_piece (s := S1x128x5632) (t := S128x5632) (fetch_run.sl.v768 c arg14 fh0 fs3) (fetch_run.sl.dma15 c fh0) shapeCasts_S1x128x5632_S128x5632 shapeCasts_S128x5632_S128x5632 ?_ x
        exact slot_under arg14 (Rect.unit (s := S2x128x5632) ![0, 0, 0] S1x128x5632.size inb_S2x128x5632_S1x128x5632_0_0_0) (Rect.unit (s := S2x128x5632) ![1, 0, 0] S1x128x5632.size inb_S2x128x5632_S1x128x5632_1_0_0) (fun _ => rfl) (fun _ => rfl) squeezes_S1x128x5632_S128x5632 squeezes_S1x128x5632_S128x5632 _ _ _ _ (slot_apart 0 _ _ (0 : Fin 3) 0 1 rfl rfl rfl rfl rfl rfl (by decide))
      · refine cast_piece (s := S1x128x5632) (t := S128x5632) (fetch_run.sl.v752 c arg14 fh0 fs3) (fetch_run.sl.dma12 c fh0) shapeCasts_S1x128x5632_S128x5632 shapeCasts_S128x5632_S128x5632 ?_ x
        exact slot_under arg14 (Rect.unit (s := S2x128x5632) ![1, 0, 0] S1x128x5632.size inb_S2x128x5632_S1x128x5632_1_0_0) (Rect.unit (s := S2x128x5632) ![0, 0, 0] S1x128x5632.size inb_S2x128x5632_S1x128x5632_0_0_0) (fun _ => rfl) (fun _ => rfl) squeezes_S1x128x5632_S128x5632 squeezes_S1x128x5632_S128x5632 _ _ _ _ (slot_apart 0 _ _ (0 : Fin 3) 1 0 rfl rfl rfl rfl rfl rfl (by decide))
      · refine cast_piece (s := S1x128x5632) (t := S128x5632) (fetch_run.sl.v736 c arg14 fh0 fs3) (fetch_run.sl.dma9 c fh0) shapeCasts_S1x128x5632_S128x5632 shapeCasts_S128x5632_S128x5632 ?_ x
        exact slot_under arg14 (Rect.unit (s := S2x128x5632) ![0, 0, 0] S1x128x5632.size inb_S2x128x5632_S1x128x5632_0_0_0) (Rect.unit (s := S2x128x5632) ![1, 0, 0] S1x128x5632.size inb_S2x128x5632_S1x128x5632_1_0_0) (fun _ => rfl) (fun _ => rfl) squeezes_S1x128x5632_S128x5632 squeezes_S1x128x5632_S128x5632 _ _ _ _ (slot_apart 0 _ _ (0 : Fin 3) 0 1 rfl rfl rfl rfl rfl rfl (by decide))
      · refine cast_piece (s := S1x128x5632) (t := S128x5632) (fetch_run.sl.v720 c arg14 fh0 fs3) (fetch_run.sl.dma6 c fh0) shapeCasts_S1x128x5632_S128x5632 shapeCasts_S128x5632_S128x5632 ?_ x
        exact slot_under arg14 (Rect.unit (s := S2x128x5632) ![1, 0, 0] S1x128x5632.size inb_S2x128x5632_S1x128x5632_1_0_0) (Rect.unit (s := S2x128x5632) ![0, 0, 0] S1x128x5632.size inb_S2x128x5632_S1x128x5632_0_0_0) (fun _ => rfl) (fun _ => rfl) squeezes_S1x128x5632_S128x5632 squeezes_S1x128x5632_S128x5632 _ _ _ _ (slot_apart 0 _ _ (0 : Fin 3) 1 0 rfl rfl rfl rfl rfl rfl (by decide))
      · refine cast_piece (s := S1x128x5632) (t := S128x5632) (fetch_run.sl.v704 c arg14 fh0 fs3) (fetch_run.sl.dma3 c fh0) shapeCasts_S1x128x5632_S128x5632 shapeCasts_S128x5632_S128x5632 ?_ x
        exact slot_under arg14 (Rect.unit (s := S2x128x5632) ![0, 0, 0] S1x128x5632.size inb_S2x128x5632_S1x128x5632_0_0_0) (Rect.unit (s := S2x128x5632) ![1, 0, 0] S1x128x5632.size inb_S2x128x5632_S1x128x5632_1_0_0) (fun _ => rfl) (fun _ => rfl) squeezes_S1x128x5632_S128x5632 squeezes_S1x128x5632_S128x5632 _ _ _ _ (slot_apart 0 _ _ (0 : Fin 3) 0 1 rfl rfl rfl rfl rfl rfl (by decide))
      · refine cast_piece (s := S1x128x5632) (t := S128x5632) (fetch_run.sl.v688 c arg14 fh0 fs3) (fetch_run.sl.dma0_1 c fh0) shapeCasts_S1x128x5632_S128x5632 shapeCasts_S128x5632_S128x5632 ?_ x
        exact slot_under arg14 (Rect.unit (s := S2x128x5632) ![1, 0, 0] S1x128x5632.size inb_S2x128x5632_S1x128x5632_1_0_0) (Rect.unit (s := S2x128x5632) ![0, 0, 0] S1x128x5632.size inb_S2x128x5632_S1x128x5632_0_0_0) (fun _ => rfl) (fun _ => rfl) squeezes_S1x128x5632_S128x5632 squeezes_S1x128x5632_S128x5632 _ _ _ _ (slot_apart 0 _ _ (0 : Fin 3) 1 0 rfl rfl rfl rfl rfl rfl (by decide))
      · refine cast_piece (s := S1x128x5632) (t := S128x5632) (fetch_run.sl.v672 c arg14 fh0 fs3) (fetch_run.sl.dma0 c fh0) shapeCasts_S1x128x5632_S128x5632 shapeCasts_S128x5632_S128x5632 ?_ x
        exact slot_under arg14 (Rect.unit (s := S2x128x5632) ![0, 0, 0] S1x128x5632.size inb_S2x128x5632_S1x128x5632_0_0_0) (Rect.unit (s := S2x128x5632) ![1, 0, 0] S1x128x5632.size inb_S2x128x5632_S1x128x5632_1_0_0) (fun _ => rfl) (fun _ => rfl) squeezes_S1x128x5632_S128x5632 squeezes_S1x128x5632_S128x5632 _ _ _ _ (slot_apart 0 _ _ (0 : Fin 3) 0 1 rfl rfl rfl rfl rfl rfl (by decide))
      have hy : (y (0 : Fin 2)).val < 1024 := (y (0 : Fin 2)).isLt
      by_cases h0 : (y (0 : Fin 2)).val < 128
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (show y ∈ (Rect.unit (s := S1024x5632) ![0, 0] S128x5632.size inb_S1024x5632_S128x5632_0_0).set from Rect.mem_set_unit.mpr (Rect.unit_rows_mem (W := 128) y rfl rfl ⟨by omega, by omega⟩))⟩
      by_cases h1 : (y (0 : Fin 2)).val < 256
      · exact ⟨_, List.mem_cons_of_mem _ (List.mem_cons_of_mem _ (List.mem_cons_of_mem _ (List.mem_cons_of_mem _ (List.mem_cons_of_mem _ (List.mem_cons_of_mem _ (List.mem_cons_self)))))), (show y ∈ (Rect.unit (s := S1024x5632) ![128, 0] S128x5632.size inb_S1024x5632_S128x5632_128_0).set from Rect.mem_set_unit.mpr (Rect.unit_rows_mem (W := 128) y rfl rfl ⟨by omega, by omega⟩))⟩
      by_cases h2 : (y (0 : Fin 2)).val < 384
      · exact ⟨_, List.mem_cons_of_mem _ (List.mem_cons_of_mem _ (List.mem_cons_of_mem _ (List.mem_cons_of_mem _ (List.mem_cons_of_mem _ (List.mem_cons_self))))), (show y ∈ (Rect.unit (s := S1024x5632) ![256, 0] S128x5632.size inb_S1024x5632_S128x5632_256_0).set from Rect.mem_set_unit.mpr (Rect.unit_rows_mem (W := 128) y rfl rfl ⟨by omega, by omega⟩))⟩
      by_cases h3 : (y (0 : Fin 2)).val < 512
      · exact ⟨_, List.mem_cons_of_mem _ (List.mem_cons_of_mem _ (List.mem_cons_of_mem _ (List.mem_cons_of_mem _ (List.mem_cons_self)))), (show y ∈ (Rect.unit (s := S1024x5632) ![384, 0] S128x5632.size inb_S1024x5632_S128x5632_384_0).set from Rect.mem_set_unit.mpr (Rect.unit_rows_mem (W := 128) y rfl rfl ⟨by omega, by omega⟩))⟩
      by_cases h4 : (y (0 : Fin 2)).val < 640
      · exact ⟨_, List.mem_cons_of_mem _ (List.mem_cons_of_mem _ (List.mem_cons_of_mem _ (List.mem_cons_self))), (show y ∈ (Rect.unit (s := S1024x5632) ![512, 0] S128x5632.size inb_S1024x5632_S128x5632_512_0).set from Rect.mem_set_unit.mpr (Rect.unit_rows_mem (W := 128) y rfl rfl ⟨by omega, by omega⟩))⟩
      by_cases h5 : (y (0 : Fin 2)).val < 768
      · exact ⟨_, List.mem_cons_of_mem _ (List.mem_cons_of_mem _ (List.mem_cons_self)), (show y ∈ (Rect.unit (s := S1024x5632) ![640, 0] S128x5632.size inb_S1024x5632_S128x5632_640_0).set from Rect.mem_set_unit.mpr (Rect.unit_rows_mem (W := 128) y rfl rfl ⟨by omega, by omega⟩))⟩
      by_cases h6 : (y (0 : Fin 2)).val < 896
      · exact ⟨_, List.mem_cons_of_mem _ (List.mem_cons_self), (show y ∈ (Rect.unit (s := S1024x5632) ![768, 0] S128x5632.size inb_S1024x5632_S128x5632_768_0).set from Rect.mem_set_unit.mpr (Rect.unit_rows_mem (W := 128) y rfl rfl ⟨by omega, by omega⟩))⟩
      exact ⟨_, List.mem_cons_self, (show y ∈ (Rect.unit (s := S1024x5632) ![896, 0] S128x5632.size inb_S1024x5632_S128x5632_896_0).set from Rect.mem_set_unit.mpr (Rect.unit_rows_mem (W := 128) y rfl rfl ⟨by omega, by omega⟩))⟩

  isplitl [HS2]
  · iexists _
    isplitr
    rotate_left
    · iexact HS2
    · ipureintro
      refine funext fun y => View.read_writes_apply_of_pieces (Val := Elt F) (e := .bf16) (s := S2816x1024) _ _ (dnW fh1) _ ?_ y ?_
      simp only [List.forall_mem_cons]
      refine ⟨fun x => ?_, fun x => ?_, fun x => ?_, fun x => ?_, fun x => ?_, fun x => ?_, fun x => ?_, fun x => ?_, fun x => ?_, fun x => ?_, fun x => ?_, fun p hp => absurd hp List.not_mem_nil⟩
      · refine cast_piece (s := S1x256x1024) (t := S256x1024) (fetch_run.sl.v955 c arg15 fh1 fs4) (fetch_run.sl.dma51 c fh1) shapeCasts_S1x256x1024_S256x1024 shapeCasts_S256x1024_S256x1024 ?_ x
        exact slot_last arg15 (Rect.unit (s := S2x256x1024) ![0, 0, 0] S1x256x1024.size inb_S2x256x1024_S1x256x1024_0_0_0) (fun _ => rfl) squeezes_S1x256x1024_S256x1024 _ _ _
      · refine cast_piece (s := S1x256x1024) (t := S256x1024) (fetch_run.sl.v944 c arg15 fh1 fs4) (fetch_run.sl.dma48 c fh1) shapeCasts_S1x256x1024_S256x1024 shapeCasts_S256x1024_S256x1024 ?_ x
        exact slot_under arg15 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v928 c arg15 fh1 fs4) (fetch_run.sl.dma45 c fh1) shapeCasts_S1x256x1024_S256x1024 shapeCasts_S256x1024_S256x1024 ?_ x
        exact slot_under arg15 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      · refine cast_piece (s := S1x256x1024) (t := S256x1024) (fetch_run.sl.v912 c arg15 fh1 fs4) (fetch_run.sl.dma42 c fh1) shapeCasts_S1x256x1024_S256x1024 shapeCasts_S256x1024_S256x1024 ?_ x
        exact slot_under arg15 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v896 c arg15 fh1 fs4) (fetch_run.sl.dma39 c fh1) shapeCasts_S1x256x1024_S256x1024 shapeCasts_S256x1024_S256x1024 ?_ x
        exact slot_under arg15 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      · refine cast_piece (s := S1x256x1024) (t := S256x1024) (fetch_run.sl.v880 c arg15 fh1 fs4) (fetch_run.sl.dma36 c fh1) shapeCasts_S1x256x1024_S256x1024 shapeCasts_S256x1024_S256x1024 ?_ x
        exact slot_under arg15 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v864 c arg15 fh1 fs4) (fetch_run.sl.dma33 c fh1) shapeCasts_S1x256x1024_S256x1024 shapeCasts_S256x1024_S256x1024 ?_ x
        exact slot_under arg15 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      · refine cast_piece (s := S1x256x1024) (t := S256x1024) (fetch_run.sl.v848 c arg15 fh1 fs4) (fetch_run.sl.dma30 c fh1) shapeCasts_S1x256x1024_S256x1024 shapeCasts_S256x1024_S256x1024 ?_ x
        exact slot_under arg15 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v832 c arg15 fh1 fs4) (fetch_run.sl.dma27 c fh1) shapeCasts_S1x256x1024_S256x1024 shapeCasts_S256x1024_S256x1024 ?_ x
        exact slot_under arg15 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      · refine cast_piece (s := S1x256x1024) (t := S256x1024) (fetch_run.sl.v816 c arg15 fh1 fs4) (fetch_run.sl.dma24_1 c fh1) shapeCasts_S1x256x1024_S256x1024 shapeCasts_S256x1024_S256x1024 ?_ x
        exact slot_under arg15 (Rect.unit (s := S2x256x1024) ![1, 0, 0] S1x256x1024.size inb_S2x256x1024_S1x256x1024_1_0_0) (Rect.unit (s := S2x256x1024) ![0, 0, 0] S1x256x1024.size inb_S2x256x1024_S1x256x1024_0_0_0) (fun _ => rfl) (fun _ => rfl) squeezes_S1x256x1024_S256x1024 squeezes_S1x256x1024_S256x1024 _ _ _ _ (slot_apart 0 _ _ (0 : Fin 3) 1 0 rfl rfl rfl rfl rfl rfl (by decide))
      · refine cast_piece (s := S1x256x1024) (t := S256x1024) (fetch_run.sl.v800 c arg15 fh1 fs4) (fetch_run.sl.dma24 c fh1) shapeCasts_S1x256x1024_S256x1024 shapeCasts_S256x1024_S256x1024 ?_ x
        exact slot_under arg15 (Rect.unit (s := S2x256x1024) ![0, 0, 0] S1x256x1024.size inb_S2x256x1024_S1x256x1024_0_0_0) (Rect.unit (s := S2x256x1024) ![1, 0, 0] S1x256x1024.size inb_S2x256x1024_S1x256x1024_1_0_0) (fun _ => rfl) (fun _ => rfl) squeezes_S1x256x1024_S256x1024 squeezes_S1x256x1024_S256x1024 _ _ _ _ (slot_apart 0 _ _ (0 : Fin 3) 0 1 rfl rfl rfl rfl rfl rfl (by decide))
      have hy : (y (0 : Fin 2)).val < 2816 := (y (0 : Fin 2)).isLt
      by_cases h0 : (y (0 : Fin 2)).val < 256
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (show y ∈ (Rect.unit (s := S2816x1024) ![0, 0] S256x1024.size inb_S2816x1024_S256x1024_0_0).set from Rect.mem_set_unit.mpr (Rect.unit_rows_mem (W := 256) y rfl rfl ⟨by omega, by omega⟩))⟩
      by_cases h1 : (y (0 : Fin 2)).val < 512
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (show y ∈ (Rect.unit (s := S2816x1024) ![256, 0] S256x1024.size inb_S2816x1024_S256x1024_256_0).set from Rect.mem_set_unit.mpr (Rect.unit_rows_mem (W := 256) y rfl rfl ⟨by omega, by omega⟩))⟩
      by_cases h2 : (y (0 : Fin 2)).val < 768
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (show y ∈ (Rect.unit (s := S2816x1024) ![512, 0] S256x1024.size inb_S2816x1024_S256x1024_512_0).set from Rect.mem_set_unit.mpr (Rect.unit_rows_mem (W := 256) y rfl rfl ⟨by omega, by omega⟩))⟩
      by_cases h3 : (y (0 : Fin 2)).val < 1024
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (show y ∈ (Rect.unit (s := S2816x1024) ![768, 0] S256x1024.size inb_S2816x1024_S256x1024_768_0).set from Rect.mem_set_unit.mpr (Rect.unit_rows_mem (W := 256) y rfl rfl ⟨by omega, by omega⟩))⟩
      by_cases h4 : (y (0 : Fin 2)).val < 1280
      · exact ⟨_, List.mem_cons_of_mem _ (List.mem_cons_of_mem _ (List.mem_cons_of_mem _ (List.mem_cons_of_mem _ (List.mem_cons_of_mem _ (List.mem_cons_of_mem _ (List.mem_cons_self)))))), (show y ∈ (Rect.unit (s := S2816x1024) ![1024, 0] S256x1024.size inb_S2816x1024_S256x1024_1024_0).set from Rect.mem_set_unit.mpr (Rect.unit_rows_mem (W := 256) y rfl rfl ⟨by omega, by omega⟩))⟩
      by_cases h5 : (y (0 : Fin 2)).val < 1536
      · exact ⟨_, List.mem_cons_of_mem _ (List.mem_cons_of_mem _ (List.mem_cons_of_mem _ (List.mem_cons_of_mem _ (List.mem_cons_of_mem _ (List.mem_cons_self))))), (show y ∈ (Rect.unit (s := S2816x1024) ![1280, 0] S256x1024.size inb_S2816x1024_S256x1024_1280_0).set from Rect.mem_set_unit.mpr (Rect.unit_rows_mem (W := 256) y rfl rfl ⟨by omega, by omega⟩))⟩
      by_cases h6 : (y (0 : Fin 2)).val < 1792
      · exact ⟨_, List.mem_cons_of_mem _ (List.mem_cons_of_mem _ (List.mem_cons_of_mem _ (List.mem_cons_of_mem _ (List.mem_cons_self)))), (show y ∈ (Rect.unit (s := S2816x1024) ![1536, 0] S256x1024.size inb_S2816x1024_S256x1024_1536_0).set from Rect.mem_set_unit.mpr (Rect.unit_rows_mem (W := 256) y rfl rfl ⟨by omega, by omega⟩))⟩
      by_cases h7 : (y (0 : Fin 2)).val < 2048
      · exact ⟨_, List.mem_cons_of_mem _ (List.mem_cons_of_mem _ (List.mem_cons_of_mem _ (List.mem_cons_self))), (show y ∈ (Rect.unit (s := S2816x1024) ![1792, 0] S256x1024.size inb_S2816x1024_S256x1024_1792_0).set from Rect.mem_set_unit.mpr (Rect.unit_rows_mem (W := 256) y rfl rfl ⟨by omega, by omega⟩))⟩
      by_cases h8 : (y (0 : Fin 2)).val < 2304
      · exact ⟨_, List.mem_cons_of_mem _ (List.mem_cons_of_mem _ (List.mem_cons_self)), (show y ∈ (Rect.unit (s := S2816x1024) ![2048, 0] S256x1024.size inb_S2816x1024_S256x1024_2048_0).set from Rect.mem_set_unit.mpr (Rect.unit_rows_mem (W := 256) y rfl rfl ⟨by omega, by omega⟩))⟩
      by_cases h9 : (y (0 : Fin 2)).val < 2560
      · exact ⟨_, List.mem_cons_of_mem _ (List.mem_cons_self), (show y ∈ (Rect.unit (s := S2816x1024) ![2304, 0] S256x1024.size inb_S2816x1024_S256x1024_2304_0).set from Rect.mem_set_unit.mpr (Rect.unit_rows_mem (W := 256) y rfl rfl ⟨by omega, by omega⟩))⟩
      exact ⟨_, List.mem_cons_self, (show y ∈ (Rect.unit (s := S2816x1024) ![2560, 0] S256x1024.size inb_S2816x1024_S256x1024_2560_0).set from Rect.mem_set_unit.mpr (Rect.unit_rows_mem (W := 256) y rfl rfl ⟨by omega, by omega⟩))⟩

  isplitl [HS3]
  · iapply (held_any c arg14 _)
    iexact HS3
  isplitl [HS4]
  · iapply (held_any c arg15 _)
    iexact HS4
  isplitl [Hq0]
  · iexact Hq0
  isplitl [Hq1]
  · iexact Hq1
  isplitl [Hq2]
  · iexact Hq2
  isplitl [Hq3]
  · iexact Hq3
  isplitl [Hh0]
  · iexact Hh0
  isplitl [Hh1]
  · iexact Hh1
  iexists _
  iexact HW

end Cert.Ffn1Ideal.Gen
-- ==== Proof.Ffn1Body.lean ====
module

public import proofs.«01_k».proof.Proof.Gen.Ffn1Ideal.Frame
public import proofs.«01_k».proof.Proof.Gen.Ffn1Ideal.Skeleton
public import proofs.«01_k».proof.Proof.Ffn1Fetch
public import Idealize.ShloMosaic.Lib.VecWindow

@[expose] public section

set_option maxRecDepth 16384

noncomputable section

namespace Cert.Ffn1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body without the weights' copies: its first part. -/
noncomputable def tailProg (i : grid0.Coords) (arg1 : Memref sig .tc .vmem S512x1024 .f32) (harg1 : arg1.IsWhole) (arg2 : Memref sig .tc .vmem S1x1024 .f32) (harg2 : arg2.IsWhole) (arg3 : Memref sig .tc .hbm S1024x5632 .f32) (harg3 : arg3.IsWhole) (arg4 : Memref sig .tc .hbm S2816x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S512x1024 .f32) (harg8 : arg8.IsWhole) (arg9 : Memref sig .tc .vmem S512x2304 .bf16) (harg9 : arg9.IsWhole) (arg10 : Memref sig .tc .vmem S512x2816 .bf16) (harg10 : arg10.IsWhole) (arg11 : Memref sig .tc .vmem S512x2304 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S2x128x5632 .f32) (harg14 : arg14.IsWhole) (arg15 : Memref sig .tc .vmem S2x256x1024 .f32) (harg15 : arg15.IsWhole) (arg16 : DmaSems sig S2x2) :
    Prog (TpuEff nD τ sig (Elt F) Λ₀ .tc) (Σ' (v4 : FVec F S512x1024 .f32), FVec F S512x1024 .bf16) := do
  let v3 : Vec F S512x1024 .f32 ← Prog.lift (.load arg1 (Rect.unit (s := S512x1024) ![0, 0] S512x1024.size inb_S512x1024_S512x1024_0_0).toLoadRect (View.loadsAt_vmem h_S512x1024))
  let v5 : Vec F S1x1024 .f32 ← Prog.lift (.load arg2 (Rect.unit (s := S1x1024) ![0, 0] S1x1024.size inb_S1x1024_S1x1024_0_0).toLoadRect (View.loadsAt_vmem h_S1x1024))
  let v20 : Vec F S1024x256 .bf16 ← Prog.lift (.load arg12 (Rect.unit (s := S1024x5632) ![0, 0] S1024x256.size inb_S1024x5632_S1024x256_0_0).toLoadRect (View.loadsAt_vmem h_S1024x256))
  let v22 : Vec F S1024x256 .bf16 ← Prog.lift (.load arg12 (Rect.unit (s := S1024x5632) ![0, 2816] S1024x256.size inb_S1024x5632_S1024x256_0_2816).toLoadRect (View.loadsAt_vmem h_S1024x256))
  let v34 : Vec F S512x256 .bf16 ← Prog.lift (.load arg10 (Rect.unit (s := S512x2816) ![0, 0] S512x256.size inb_S512x2816_S512x256_0_0).toLoadRect (View.loadsAt_vmem h_S512x256))
  Prog.lift (.store arg10 (Rect.unit (s := S512x2816) ![0, 0] S512x256.size inb_S512x2816_S512x256_0_0) (k0_pay28 v3 v5 v20 v22) Finset.univ (View.stores_vmem h_S512x256 (harg10.storeExact_slice rfl _ packedbf16_S512x2816_S512x256_0_0) (fun _ => rfl)) (.inl rfl))
  pure ⟨k0_pay26 v3, k0_pay27 v3 v5⟩

/-- The rest of the body after its first part. -/
noncomputable def restProg (i : grid0.Coords) (arg1 : Memref sig .tc .vmem S512x1024 .f32) (harg1 : arg1.IsWhole) (arg2 : Memref sig .tc .vmem S1x1024 .f32) (harg2 : arg2.IsWhole) (arg3 : Memref sig .tc .hbm S1024x5632 .f32) (harg3 : arg3.IsWhole) (arg4 : Memref sig .tc .hbm S2816x1024 .f32) (harg4 : arg4.IsWhole) (arg5 : Memref sig .tc .vmem S1x1024 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S512x1024 .f32) (harg8 : arg8.IsWhole) (arg9 : Memref sig .tc .vmem S512x2304 .bf16) (harg9 : arg9.IsWhole) (arg10 : Memref sig .tc .vmem S512x2816 .bf16) (harg10 : arg10.IsWhole) (arg11 : Memref sig .tc .vmem S512x2304 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S2x128x5632 .f32) (harg14 : arg14.IsWhole) (arg15 : Memref sig .tc .vmem S2x256x1024 .f32) (harg15 : arg15.IsWhole) (arg16 : DmaSems sig S2x2) (v4 : FVec F S512x1024 .f32) (v19 : FVec F S512x1024 .bf16) :
    Prog (TpuEff nD τ sig (Elt F) Λ₀ .tc) PUnit := do
  k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v19
  let ⟨v105, cst_53⟩ : Σ' (v105 : Vec F S1024x256 .bf16), FVec F S512x256 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v19
  let v140 : FVec F S512x256 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v19 v105 cst_53
  let ⟨v174, v175⟩ : Σ' (v174 : FVec F S512x256 .f32), Vec F S1024x256 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v19 v140
  let ⟨v209, v210⟩ : Σ' (v209 : FVec F S512x1024 .f32), FVec F S512x1024 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v19 v174 v175
  let ⟨v228, v244, v245⟩ : Σ' (v228 : FVec F S512x1024 .bf16) (v244 : FVec F S256x256 .f32), Vec F S256x256 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v4 v209 v210
  let ⟨v261, v263, v282⟩ : Σ' (v261 : Vec F S512x128 .f32) (v263 : FVec F S1x128 .f32), FVec F S512x128 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v228 v244 v245
  let v321 : Vec F S512x128 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v261 v263 v282
  let ⟨v351, v353, v356, v357, v361, v362⟩ : Σ' (v351 : Vec F S512x128 .f32) (v353 : FVec F S1x128 .f32) (v356 : IVec S512x128 1) (v357 : FVec F S512x128 .f32) (v361 : FVec F S512x1 .f32), FVec F S512x128 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v321
  let ⟨v381, v383, v405⟩ : Σ' (v381 : Vec F S512x128 .f32) (v383 : FVec F S1x128 .f32), FVec F S512x128 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v351 v353 v356 v357 v361 v362
  let ⟨v441, v443, v444⟩ : Σ' (v441 : Vec F S512x128 .f32) (v443 : FVec F S1x128 .f32), IVec S512x128 32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v381 v383 v405
  let ⟨v471, v473, v476, v481, v485⟩ : Σ' (v471 : Vec F S512x128 .f32) (v473 : FVec F S1x128 .f32) (v476 : IVec S512x128 1) (v481 : FVec F S512x1 .f32), FVec F S512x1 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v441 v443 v444
  let v529 : FVec F S512x128 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v471 v473 v476 v481 v485
  let ⟨v561, v563, v566, v567⟩ : Σ' (v561 : Vec F S512x128 .f32) (v563 : FVec F S1x128 .f32) (v566 : IVec S512x128 1), FVec F S512x128 .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v529
  let ⟨v591, v593, v596, v607, v609⟩ : Σ' (v591 : Vec F S512x128 .f32) (v593 : FVec F S1x128 .f32) (v596 : IVec S512x128 1) (v607 : FVec F S512x128 .f32), FVec F S512x128 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v561 v563 v566 v567
  k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v591 v593 v596 v607 v609
  let v651 : Vec F S512x512 .f32 ← Prog.lift (.load arg11 (Rect.unit (s := S512x2304) ![0, 1024] S512x512.size inb_S512x2304_S512x512_0_1024).toLoadRect (View.loadsAt_vmem h_S512x512))
  let v653 : Vec F S512x512 .bf16 ← Prog.lift (.load arg9 (Rect.unit (s := S512x2304) ![0, 1024] S512x512.size inb_S512x2304_S512x512_0_1024).toLoadRect (View.loadsAt_vmem h_S512x512))
  Prog.lift (.store arg9 (Rect.unit (s := S512x2304) ![0, 1024] S512x512.size inb_S512x2304_S512x512_0_1024) (k0_pay1 v651) Finset.univ (View.stores_vmem h_S512x512 (harg9.storeExact_slice rfl _ packedbf16_S512x2304_S512x512_0_1024) (fun _ => rfl)) (.inl rfl))
  let v654 : Vec F S512x128 .f32 ← Prog.lift (.load arg11 (Rect.unit (s := S512x2304) ![0, 2176] S512x128.size inb_S512x2304_S512x128_0_2176).toLoadRect (View.loadsAt_vmem h_S512x128))
  let v656 : Vec F S512x128 .bf16 ← Prog.lift (.load arg9 (Rect.unit (s := S512x2304) ![0, 2176] S512x128.size inb_S512x2304_S512x128_0_2176).toLoadRect (View.loadsAt_vmem h_S512x128))
  Prog.lift (.store arg9 (Rect.unit (s := S512x2304) ![0, 2176] S512x128.size inb_S512x2304_S512x128_0_2176) (k0_pay2 v654) Finset.univ (View.stores_vmem h_S512x128 (harg9.storeExact_slice rfl _ packedbf16_S512x2304_S512x128_0_2176) (fun _ => rfl)) (.inl rfl))
  pure ⟨⟩

/-- A block of 256 columns of the first weight array, from column `lo`. -/
def colsV (W : FVec F S1024x5632 .bf16) (lo : ℕ) : FVec F S1024x256 .bf16 :=
  fun j => W (Fin.cons (j 0) (Fin.cons ⟨(lo + (j 1).val) % 5632, Nat.mod_lt _ (by decide)⟩ fun a => a.elim0))

/-- The gated hidden values, block of 256 columns by block. -/
def actV (v72 : FVec F S512x1024 .bf16) (W : FVec F S1024x5632 .bf16) : FVec F S512x2816 .bf16 := fun y =>
  k0_pay29 v72 (colsV W (256 * ((y 1).val / 256))) (colsV W (2816 + 256 * ((y 1).val / 256)))
    (Fin.cons (y 0) (Fin.cons ⟨(y 1).val % 256, Nat.mod_lt _ (by decide)⟩ fun a => a.elim0))

/-- What the body leaves in the first output block. -/
def outV (x1 : FVec F S512x1024 .f32) (x2 : FVec F S1x1024 .f32) (W1 : FVec F S1024x5632 .bf16) (W2 : FVec F S2816x1024 .bf16) :
    FVec F S512x1024 .f32 :=
  k0_pay43 (k0_pay26 x1) (k0_pay41 (actV (k0_pay27 x1 x2) W1) W2) (k0_pay42 (F := F))

/-- The rows the projection multiplies. -/
def normV (x1 : FVec F S512x1024 .f32) (x2 : FVec F S1x1024 .f32) (W1 : FVec F S1024x5632 .bf16) (W2 : FVec F S2816x1024 .bf16)
    (x5 : FVec F S1x1024 .f32) : FVec F S512x1024 .bf16 :=
  k0_pay44 (k0_pay26 x1) (k0_pay41 (actV (k0_pay27 x1 x2) W1) W2) (k0_pay42 (F := F)) x5

/-- The projection's four products of column blocks, the last one by halves of the rows. -/
def prod0 (u : FVec F S512x1024 .bf16) (w : FVec F S1024x1024 .bf16) : FVec F S512x1024 .f32 :=
  shapeCast S512x1024 (matmul dot_S512x1024_S1024x1024_S512x1024_1_0_0_1_n_n none u (shapeCast S1024x1024 w shapeCasts_S1024x1024_S1024x1024)
    (constant S512x1024 .f32 0x00000000#32)) shapeCasts_S512x1024_S512x1024
def prod1 (u : FVec F S512x1024 .bf16) (w : FVec F S1024x256 .bf16) : FVec F S256x256 .f32 :=
  k0_pay48 (matmul dot_S256x1024_S1024x256_S256x256_1_0_0_1_n_n none (extractStridedSlice S256x1024 ![0, 0] u slices_S512x1024_o0_0_S256x1024)
    (shapeCast S1024x256 w shapeCasts_S1024x256_S1024x256) (constant S256x256 .f32 0x00000000#32))

/-- A pair of indices. -/
def at2 {a b : ℕ} (p : ℕ) (q : ℕ) (ha : 0 < a) (hb : 0 < b) : (⟨2, ![a, b]⟩ : Shape).Idx :=
  Fin.cons ⟨p % a, Nat.mod_lt _ ha⟩ (Fin.cons ⟨q % b, Nat.mod_lt _ hb⟩ fun z => z.elim0)

/-- What the projection leaves in its scratch buffer. -/
def projV (u : FVec F S512x1024 .bf16) (w : FVec F S1024x2304 .bf16) : FVec F S512x2304 .f32 := fun y =>
  if (y 1).val < 1024 then
    prod0 u (fun j => w ((Rect.unit (s := S1024x2304) ![0, 0] S1024x1024.size inb_S1024x2304_S1024x1024_0_0).emb j)) (at2 (y 0).val (y 1).val (by decide) (by decide))
  else if (y 1).val < 1536 then
    k0_pay50 u (fun j => w ((Rect.unit (s := S1024x2304) ![0, 1024] S1024x512.size inb_S1024x2304_S1024x512_0_1024).emb j)) (at2 (y 0).val ((y 1).val - 1024) (by decide) (by decide))
  else if (y 1).val < 2048 then
    k0_pay50 u (fun j => w ((Rect.unit (s := S1024x2304) ![0, 1536] S1024x512.size inb_S1024x2304_S1024x512_0_1536).emb j)) (at2 (y 0).val ((y 1).val - 1536) (by decide) (by decide))
  else if (y 0).val < 256 then
    prod1 u (fun j => w ((Rect.unit (s := S1024x2304) ![0, 2048] S1024x256.size inb_S1024x2304_S1024x256_0_2048).emb j)) (at2 (y 0).val ((y 1).val - 2048) (by decide) (by decide))
  else
    k0_pay49 u (fun j => w ((Rect.unit (s := S1024x2304) ![0, 2048] S1024x256.size inb_S1024x2304_S1024x256_0_2048).emb j)) (at2 ((y 0).val - 256) ((y 1).val - 2048) (by decide) (by decide))

/-- A block of 128 columns. -/
def blkV {e : EltTy} (Y : S512x2304.Idx → Elt F e) (lo : ℕ) : S512x128.Idx → Elt F e := fun j => Y (at2 (j 0).val (lo + (j 1).val) (by decide) (by decide))
def gainV (g : FVec F S1x2304 .f32) (lo : ℕ) : FVec F S1x128 .f32 := fun j => g (at2 (j 0).val (lo + (j 1).val) (by decide) (by decide))

/-- What the body leaves in the second output block: the columns of the queries and keys normed in pairs of heads, those of the values cast. -/
def qkvV (Y : FVec F S512x2304 .f32) (g : FVec F S1x2304 .f32) : FVec F S512x2304 .bf16 := fun y =>
  if (y 1).val < 1024 ∨ (1536 ≤ (y 1).val ∧ (y 1).val < 2176) then
    k0_pay54 (blkV (F := F) (e := .f32) Y (128 * ((y 1).val / 128))) (gainV g (128 * ((y 1).val / 128))) (at2 (y 0).val ((y 1).val % 128) (by decide) (by decide))
  else FloatOps.truncf .bf16 bitsLt_bf16_f32 (Y y)

/-- A load of a whole buffer reads what it holds. -/
theorem load_whole {s : Shape} {e : EltTy} (M : Memref sig .tc .vmem s e) (h : M.IsWhole) (x : s.Idx → Elt F e) {off : Fin s.rank → ℕ}
    (inb : ∀ a, off a + s.size a ≤ s.size a) :
    M.view.readAt (Elt F) (Rect.unit off s.size inb).toLoadRect (h.unread x) = x :=
  (View.readAt_full _ _ inb).trans (h.read_unread x)

theorem load_rect {s : Shape} {e : EltTy} (M : Memref sig .tc .vmem s e) (h : M.IsWhole) (x : s.Idx → Elt F e) (r : Rect s) :
    M.view.readAt (Elt F) r.toLoadRect (h.unread x) = fun j => x (r.emb j) := by
  have hx : M.view.read (Elt F) (h.unread x) = x := h.read_unread x
  funext j
  exact congrFun hx (r.emb j)

/-- A load of 256 columns of the first weight array. -/
theorem load_cols (M : Memref sig .tc .vmem S1024x5632 .bf16) (h : M.IsWhole) (W : FVec F S1024x5632 .bf16) (lo : ℕ)
    (inb : ∀ a, (![0, lo] : Fin 2 → ℕ) a + S1024x256.size a ≤ S1024x5632.size a) :
    (M.view.readAt (Elt F) (Rect.unit (s := S1024x5632) ![0, lo] S1024x256.size inb).toLoadRect (h.unread W) : FVec F S1024x256 .bf16)
      = colsV W lo := by
  funext j
  refine (congrFun (load_rect M h W _) j).trans (congrArg W (funext fun a => Fin.ext ?_))
  have hlo : lo + 256 ≤ 5632 := inb (1 : Fin 2)
  have hj : (j (1 : Fin 2)).val < 256 := (j (1 : Fin 2)).isLt
  match a with
  | ⟨0, _⟩ =>
    show 0 + 1 * (j (0 : Fin 2)).val = (j (0 : Fin 2)).val
    omega
  | ⟨1, _⟩ =>
    show lo + 1 * (j (1 : Fin 2)).val = (lo + (j (1 : Fin 2)).val) % 5632
    rw [Nat.mod_eq_of_lt (by omega)]
    omega

theorem act_piece (v72 : FVec F S512x1024 .bf16) (W : FVec F S1024x5632 .bf16) (k : ℕ) (wg wu : FVec F S1024x256 .bf16)
    (hg : wg = colsV W (256 * k)) (hu : wu = colsV W (2816 + 256 * k)) (x : S512x256.Idx) (y : S512x2816.Idx)
    (h0 : (y (0 : Fin 2)).val = (x (0 : Fin 2)).val) (h1 : (y (1 : Fin 2)).val = 256 * k + (x (1 : Fin 2)).val) :
    k0_pay29 v72 wg wu x = actV v72 W y := by
  have hx : (x (1 : Fin 2)).val < 256 := (x (1 : Fin 2)).isLt
  subst hg hu
  unfold actV
  have hd : (y (1 : Fin 2)).val / 256 = k := by omega
  have hm : (y (1 : Fin 2)).val % 256 = (x (1 : Fin 2)).val := by omega
  rw [show (y 1).val / 256 = k from hd]
  refine congrArg _ (funext fun a => Fin.ext ?_)
  match a with
  | ⟨0, _⟩ => exact h0.symm
  | ⟨1, _⟩ => exact hm.symm

/-- A load of 128 columns. -/
theorem load_blk {f : FVec F S512x2304 .f32} (lo : ℕ) (inb : ∀ a, (![0, lo] : Fin 2 → ℕ) a + S512x128.size a ≤ S512x2304.size a) :
    (fun j => f ((Rect.unit (s := S512x2304) ![0, lo] S512x128.size inb).emb j)) = blkV (F := F) (e := .f32) f lo := by
  funext j
  refine congrArg f (funext fun a => Fin.ext ?_)
  have hlo : lo + 128 ≤ 2304 := inb (1 : Fin 2)
  have hj : (j (1 : Fin 2)).val < 128 := (j (1 : Fin 2)).isLt
  have hi : (j (0 : Fin 2)).val < 512 := (j (0 : Fin 2)).isLt
  match a with
  | ⟨0, _⟩ =>
    show 0 + 1 * (j (0 : Fin 2)).val = (j (0 : Fin 2)).val % 512
    omega
  | ⟨1, _⟩ =>
    show lo + 1 * (j (1 : Fin 2)).val = (lo + (j (1 : Fin 2)).val) % 2304
    omega

theorem load_gain {f : FVec F S1x2304 .f32} (lo : ℕ) (inb : ∀ a, (![0, lo] : Fin 2 → ℕ) a + S1x128.size a ≤ S1x2304.size a) :
    (fun j => f ((Rect.unit (s := S1x2304) ![0, lo] S1x128.size inb).emb j)) = gainV f lo := by
  funext j
  refine congrArg f (funext fun a => Fin.ext ?_)
  have hlo : lo + 128 ≤ 2304 := inb (1 : Fin 2)
  have hj : (j (1 : Fin 2)).val < 128 := (j (1 : Fin 2)).isLt
  have hi : (j (0 : Fin 2)).val < 1 := (j (0 : Fin 2)).isLt
  match a with
  | ⟨0, _⟩ =>
    show 0 + 1 * (j (0 : Fin 2)).val = (j (0 : Fin 2)).val % 1
    omega
  | ⟨1, _⟩ =>
    show lo + 1 * (j (1 : Fin 2)).val = (lo + (j (1 : Fin 2)).val) % 2304
    omega

/-- A normed block is that part of the second output block. -/
theorem head_piece (Y : FVec F S512x2304 .f32) (g : FVec F S1x2304 .f32) (k : ℕ) (hk : k < 8 ∨ (12 ≤ k ∧ k < 17)) (x : S512x128.Idx) (y : S512x2304.Idx)
    (h0 : (y (0 : Fin 2)).val = (x (0 : Fin 2)).val) (h1 : (y (1 : Fin 2)).val = 128 * k + (x (1 : Fin 2)).val) :
    k0_pay54 (blkV (F := F) (e := .f32) Y (128 * k)) (gainV g (128 * k)) x = qkvV Y g y := by
  have hx : (x (1 : Fin 2)).val < 128 := (x (1 : Fin 2)).isLt
  have hx0 : (x (0 : Fin 2)).val < 512 := (x (0 : Fin 2)).isLt
  have hd : (y (1 : Fin 2)).val / 128 = k := by omega
  unfold qkvV
  rw [if_pos (show (y 1).val < 1024 ∨ (1536 ≤ (y 1).val ∧ (y 1).val < 2176) by
    show (y (1 : Fin 2)).val < 1024 ∨ (1536 ≤ (y (1 : Fin 2)).val ∧ (y (1 : Fin 2)).val < 2176)
    omega), show (y 1).val / 128 = k from hd]
  refine congrArg _ (funext fun a => Fin.ext ?_)
  match a with
  | ⟨0, _⟩ =>
    show (x (0 : Fin 2)).val = (y (0 : Fin 2)).val % 512
    omega
  | ⟨1, _⟩ =>
    show (x (1 : Fin 2)).val = ((y (1 : Fin 2)).val % 128) % 128
    omega

theorem cast_cols (Y : FVec F S512x2304 .f32) (g : FVec F S1x2304 .f32) (y : S512x2304.Idx)
    (h : ¬ ((y (1 : Fin 2)).val < 1024 ∨ (1536 ≤ (y (1 : Fin 2)).val ∧ (y (1 : Fin 2)).val < 2176))) :
    FloatOps.truncf .bf16 bitsLt_bf16_f32 (Y y) = qkvV Y g y := (if_neg h).symm

theorem norm_of {a b : FVec F S512x1024 .f32} {r r' : FVec F S512x1024 .f32} {g g' : FVec F S1x1024 .f32} (ha : a = b) (hr : r = r') (hg : g = g') :
    k0_pay44 (k0_pay26 a) r (k0_pay42 (F := F)) g = k0_pay44 (k0_pay26 b) r' (k0_pay42 (F := F)) g' := by
  subst ha hr hg
  rfl

theorem out_of {a b : FVec F S512x1024 .f32} {r r' : FVec F S512x1024 .f32} (ha : a = b) (hr : r = r') :
    k0_pay43 (k0_pay26 a) r (k0_pay42 (F := F)) = k0_pay43 (k0_pay26 b) r' (k0_pay42 (F := F)) := by
  subst ha hr
  rfl

/-- Pieces of the second output block. -/
theorem head_of {Y : FVec F S512x2304 .f32} {g : FVec F S1x2304 .f32} (k : ℕ) (hk : k < 8 ∨ (12 ≤ k ∧ k < 17)) {yb : FVec F S512x128 .f32} {gb : FVec F S1x128 .f32}
    (hy : yb = blkV (F := F) (e := .f32) Y (128 * k)) (hg : gb = gainV g (128 * k)) (x : S512x128.Idx) (y : S512x2304.Idx)
    (h0 : (y (0 : Fin 2)).val = (x (0 : Fin 2)).val) (h1 : (y (1 : Fin 2)).val = 128 * k + (x (1 : Fin 2)).val) :
    k0_pay54 yb gb x = qkvV Y g y := by
  subst hy hg
  exact head_piece Y g k hk x y h0 h1

theorem cast_of {Y : FVec F S512x2304 .f32} {g : FVec F S1x2304 .f32} {v : F .f32} (y : S512x2304.Idx) (hv : v = Y y)
    (h : ¬ ((y (1 : Fin 2)).val < 1024 ∨ (1536 ≤ (y (1 : Fin 2)).val ∧ (y (1 : Fin 2)).val < 2176))) :
    FloatOps.truncf .bf16 bitsLt_bf16_f32 v = qkvV Y g y := by
  subst hv
  exact cast_cols Y g y h

theorem proj_piece0 {u u' : FVec F S512x1024 .bf16} {w' : FVec F S1024x1024 .bf16} (w : FVec F S1024x2304 .bf16) (hu : u' = u)
    (hw : w' = fun j => w ((Rect.unit (s := S1024x2304) ![0, 0] S1024x1024.size inb_S1024x2304_S1024x1024_0_0).emb j)) (x : S512x1024.Idx) (y : S512x2304.Idx)
    (h0 : (y (0 : Fin 2)).val = 0 + (x (0 : Fin 2)).val) (h1 : (y (1 : Fin 2)).val = 0 + (x (1 : Fin 2)).val) :
    prod0 u' w' x = projV u w y := by
  have hx : (x (1 : Fin 2)).val < 1024 := (x (1 : Fin 2)).isLt
  have hx0 : (x (0 : Fin 2)).val < 512 := (x (0 : Fin 2)).isLt
  subst hu hw
  unfold projV
  rw [if_pos (show (y 1).val < 1024 by show (y (1 : Fin 2)).val < 1024; omega)]
  refine congrArg _ (funext fun a => Fin.ext ?_)
  match a with
  | ⟨0, _⟩ =>
    show (x (0 : Fin 2)).val = ((y (0 : Fin 2)).val) % 512
    omega
  | ⟨1, _⟩ =>
    show (x (1 : Fin 2)).val = ((y (1 : Fin 2)).val) % 1024
    omega

theorem proj_piece1 {u u' : FVec F S512x1024 .bf16} {w' : FVec F S1024x512 .bf16} (w : FVec F S1024x2304 .bf16) (hu : u' = u)
    (hw : w' = fun j => w ((Rect.unit (s := S1024x2304) ![0, 1024] S1024x512.size inb_S1024x2304_S1024x512_0_1024).emb j)) (x : S512x512.Idx) (y : S512x2304.Idx)
    (h0 : (y (0 : Fin 2)).val = 0 + (x (0 : Fin 2)).val) (h1 : (y (1 : Fin 2)).val = 1024 + (x (1 : Fin 2)).val) :
    k0_pay50 u' w' x = projV u w y := by
  have hx : (x (1 : Fin 2)).val < 512 := (x (1 : Fin 2)).isLt
  have hx0 : (x (0 : Fin 2)).val < 512 := (x (0 : Fin 2)).isLt
  subst hu hw
  unfold projV
  rw [if_neg (show ¬ (y 1).val < 1024 by show ¬ (y (1 : Fin 2)).val < 1024; omega), if_pos (show (y 1).val < 1536 by show (y (1 : Fin 2)).val < 1536; omega)]
  refine congrArg _ (funext fun a => Fin.ext ?_)
  match a with
  | ⟨0, _⟩ =>
    show (x (0 : Fin 2)).val = ((y (0 : Fin 2)).val) % 512
    omega
  | ⟨1, _⟩ =>
    show (x (1 : Fin 2)).val = ((y (1 : Fin 2)).val - 1024) % 512
    omega

theorem proj_piece2 {u u' : FVec F S512x1024 .bf16} {w' : FVec F S1024x512 .bf16} (w : FVec F S1024x2304 .bf16) (hu : u' = u)
    (hw : w' = fun j => w ((Rect.unit (s := S1024x2304) ![0, 1536] S1024x512.size inb_S1024x2304_S1024x512_0_1536).emb j)) (x : S512x512.Idx) (y : S512x2304.Idx)
    (h0 : (y (0 : Fin 2)).val = 0 + (x (0 : Fin 2)).val) (h1 : (y (1 : Fin 2)).val = 1536 + (x (1 : Fin 2)).val) :
    k0_pay50 u' w' x = projV u w y := by
  have hx : (x (1 : Fin 2)).val < 512 := (x (1 : Fin 2)).isLt
  have hx0 : (x (0 : Fin 2)).val < 512 := (x (0 : Fin 2)).isLt
  subst hu hw
  unfold projV
  rw [if_neg (show ¬ (y 1).val < 1024 by show ¬ (y (1 : Fin 2)).val < 1024; omega), if_neg (show ¬ (y 1).val < 1536 by show ¬ (y (1 : Fin 2)).val < 1536; omega), if_pos (show (y 1).val < 2048 by show (y (1 : Fin 2)).val < 2048; omega)]
  refine congrArg _ (funext fun a => Fin.ext ?_)
  match a with
  | ⟨0, _⟩ =>
    show (x (0 : Fin 2)).val = ((y (0 : Fin 2)).val) % 512
    omega
  | ⟨1, _⟩ =>
    show (x (1 : Fin 2)).val = ((y (1 : Fin 2)).val - 1536) % 512
    omega

theorem proj_piece3 {u u' : FVec F S512x1024 .bf16} {w' : FVec F S1024x256 .bf16} (w : FVec F S1024x2304 .bf16) (hu : u' = u)
    (hw : w' = fun j => w ((Rect.unit (s := S1024x2304) ![0, 2048] S1024x256.size inb_S1024x2304_S1024x256_0_2048).emb j)) (x : S256x256.Idx) (y : S512x2304.Idx)
    (h0 : (y (0 : Fin 2)).val = 0 + (x (0 : Fin 2)).val) (h1 : (y (1 : Fin 2)).val = 2048 + (x (1 : Fin 2)).val) :
    prod1 u' w' x = projV u w y := by
  have hx : (x (1 : Fin 2)).val < 256 := (x (1 : Fin 2)).isLt
  have hx0 : (x (0 : Fin 2)).val < 256 := (x (0 : Fin 2)).isLt
  subst hu hw
  unfold projV
  rw [if_neg (show ¬ (y 1).val < 1024 by show ¬ (y (1 : Fin 2)).val < 1024; omega), if_neg (show ¬ (y 1).val < 1536 by show ¬ (y (1 : Fin 2)).val < 1536; omega), if_neg (show ¬ (y 1).val < 2048 by show ¬ (y (1 : Fin 2)).val < 2048; omega), if_pos (show (y 0).val < 256 by show (y (0 : Fin 2)).val < 256; omega)]
  refine congrArg _ (funext fun a => Fin.ext ?_)
  match a with
  | ⟨0, _⟩ =>
    show (x (0 : Fin 2)).val = ((y (0 : Fin 2)).val) % 256
    omega
  | ⟨1, _⟩ =>
    show (x (1 : Fin 2)).val = ((y (1 : Fin 2)).val - 2048) % 256
    omega

theorem proj_piece4 {u u' : FVec F S512x1024 .bf16} {w' : FVec F S1024x256 .bf16} (w : FVec F S1024x2304 .bf16) (hu : u' = u)
    (hw : w' = fun j => w ((Rect.unit (s := S1024x2304) ![0, 2048] S1024x256.size inb_S1024x2304_S1024x256_0_2048).emb j)) (x : S256x256.Idx) (y : S512x2304.Idx)
    (h0 : (y (0 : Fin 2)).val = 256 + (x (0 : Fin 2)).val) (h1 : (y (1 : Fin 2)).val = 2048 + (x (1 : Fin 2)).val) :
    k0_pay49 u' w' x = projV u w y := by
  have hx : (x (1 : Fin 2)).val < 256 := (x (1 : Fin 2)).isLt
  have hx0 : (x (0 : Fin 2)).val < 256 := (x (0 : Fin 2)).isLt
  subst hu hw
  unfold projV
  rw [if_neg (show ¬ (y 1).val < 1024 by show ¬ (y (1 : Fin 2)).val < 1024; omega), if_neg (show ¬ (y 1).val < 1536 by show ¬ (y (1 : Fin 2)).val < 1536; omega), if_neg (show ¬ (y 1).val < 2048 by show ¬ (y (1 : Fin 2)).val < 2048; omega), if_neg (show ¬ (y 0).val < 256 by show ¬ (y (0 : Fin 2)).val < 256; omega)]
  refine congrArg _ (funext fun a => Fin.ext ?_)
  match a with
  | ⟨0, _⟩ =>
    show (x (0 : Fin 2)).val = ((y (0 : Fin 2)).val - 256) % 256
    omega
  | ⟨1, _⟩ =>
    show (x (1 : Fin 2)).val = ((y (1 : Fin 2)).val - 2048) % 256
    omega

set_option maxHeartbeats 4000000 in
/-- The rest of the body, run: the output blocks hold the values above, the weight buffers are as they were. -/
theorem rest_run (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S512x1024 .f32) (harg8 : arg8.IsWhole) (arg9 : Memref sig .tc .vmem S512x2304 .bf16) (harg9 : arg9.IsWhole) (arg10 : Memref sig .tc .vmem S512x2816 .bf16) (harg10 : arg10.IsWhole) (arg11 : Memref sig .tc .vmem S512x2304 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S2x128x5632 .f32) (harg14 : arg14.IsWhole) (arg15 : Memref sig .tc .vmem S2x256x1024 .f32) (harg15 : arg15.IsWhole) (x1 : FVec F S512x1024 .f32) (x2 : FVec F S1x1024 .f32) (x5 : FVec F S1x1024 .f32) (x6 : FVec F S1024x2304 .bf16) (x7 : FVec F S1x2304 .f32) (W1 : FVec F S1024x5632 .bf16) (W2 : FVec F S2816x1024 .bf16)
    (K : PUnit → sProp 𝕄) :
    iprop(owns (c : Thread nD τ) arg1 fullShare x1 ∗ owns (c : Thread nD τ) arg2 fullShare x2 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare W1 ∗ owns (c : Thread nD τ) arg13 fullShare W2
        ∗ (owns (c : Thread nD τ) arg1 fullShare x1 ∗ owns (c : Thread nD τ) arg2 fullShare x2 ∗ owns (c : Thread nD τ) arg5 fullShare x5 ∗ owns (c : Thread nD τ) arg6 fullShare x6 ∗ owns (c : Thread nD τ) arg7 fullShare x7
        ∗ owns (c : Thread nD τ) arg8 fullShare (outV x1 x2 W1 W2) ∗ owns (c : Thread nD τ) arg9 fullShare (qkvV (projV (normV x1 x2 W1 W2 x5) x6) x7) ∗ (∃ d, owns (c : Thread nD τ) arg10 fullShare d) ∗ (∃ d, owns (c : Thread nD τ) arg11 fullShare d)
        ∗ owns (c : Thread nD τ) arg12 fullShare W1 ∗ owns (c : Thread nD τ) arg13 fullShare W2 -∗ K ⟨⟩))
      ⊢ wp frame (wpE (defs₀ (F := F)) Variants.none c none) Set.univ
          (tailProg i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6 >>= fun v => restProg i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6 v.1 v.2) K := by
  unfold tailProg restProg
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f1, %hf1, H1⟩, ⟨%f2, %hf2, H2⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
  obtain rfl := harg1.eq_unread hf1
  obtain rfl := harg2.eq_unread hf2
  obtain rfl := harg5.eq_unread hf5
  obtain rfl := harg6.eq_unread hf6
  obtain rfl := harg7.eq_unread hf7
  obtain rfl := harg12.eq_unread hf12
  obtain rfl := harg13.eq_unread hf13
  sl_exec
  sl_step
  have hv : rest_run.sl.v207 c arg1 harg1 arg2 harg2 arg10 arg12 harg12 x1 x2 W1 = actV (k0_pay27 x1 x2) W1 := by
    refine Eq.trans (b := actV (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1) ?_ (congrArg (fun u => actV u W1) (congrArg₂ k0_pay27 (load_whole arg1 harg1 x1 _) (load_whole arg2 harg2 x2 _)))
    refine (View.readAt_full _ _ _).trans (funext fun y => View.read_writes_apply_of_pieces (Val := Elt F) (e := .bf16) (s := S512x2816) _ _ (actV (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1) _ ?_ y ?_)
    · delta rest_run.sl.H10_11; simp only [List.forall_mem_cons]
      refine ⟨fun x => ?_, fun x => ?_, fun x => ?_, fun x => ?_, fun x => ?_, fun x => ?_, fun x => ?_, fun x => ?_, fun x => ?_, fun x => ?_, fun x => ?_, fun p hp => absurd hp List.not_mem_nil⟩
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 10 _ _ (load_cols arg12 harg12 W1 2560 inb_S1024x5632_S1024x256_0_2560) (load_cols arg12 harg12 W1 5376 inb_S1024x5632_S1024x256_0_5376) x _ (by show 0 + 1 * (x (0 : Fin 2)).val = _; omega) (by show 2560 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 9 _ _ (load_cols arg12 harg12 W1 2304 inb_S1024x5632_S1024x256_0_2304) (load_cols arg12 harg12 W1 5120 inb_S1024x5632_S1024x256_0_5120) x _ (by show 0 + 1 * (x (0 : Fin 2)).val = _; omega) (by show 2304 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 8 _ _ (load_cols arg12 harg12 W1 2048 inb_S1024x5632_S1024x256_0_2048) (load_cols arg12 harg12 W1 4864 inb_S1024x5632_S1024x256_0_4864) x _ (by show 0 + 1 * (x (0 : Fin 2)).val = _; omega) (by show 2048 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 7 _ _ (load_cols arg12 harg12 W1 1792 inb_S1024x5632_S1024x256_0_1792) (load_cols arg12 harg12 W1 4608 inb_S1024x5632_S1024x256_0_4608) x _ (by show 0 + 1 * (x (0 : Fin 2)).val = _; omega) (by show 1792 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 6 _ _ (load_cols arg12 harg12 W1 1536 inb_S1024x5632_S1024x256_0_1536) (load_cols arg12 harg12 W1 4352 inb_S1024x5632_S1024x256_0_4352) x _ (by show 0 + 1 * (x (0 : Fin 2)).val = _; omega) (by show 1536 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 5 _ _ (load_cols arg12 harg12 W1 1280 inb_S1024x5632_S1024x256_0_1280) (load_cols arg12 harg12 W1 4096 inb_S1024x5632_S1024x256_0_4096) x _ (by show 0 + 1 * (x (0 : Fin 2)).val = _; omega) (by show 1280 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 4 _ _ (load_cols arg12 harg12 W1 1024 inb_S1024x5632_S1024x256_0_1024) (load_cols arg12 harg12 W1 3840 inb_S1024x5632_S1024x256_0_3840) x _ (by show 0 + 1 * (x (0 : Fin 2)).val = _; omega) (by show 1024 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 3 _ _ (load_cols arg12 harg12 W1 768 inb_S1024x5632_S1024x256_0_768) (load_cols arg12 harg12 W1 3584 inb_S1024x5632_S1024x256_0_3584) x _ (by show 0 + 1 * (x (0 : Fin 2)).val = _; omega) (by show 768 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 2 _ _ (load_cols arg12 harg12 W1 512 inb_S1024x5632_S1024x256_0_512) (load_cols arg12 harg12 W1 3328 inb_S1024x5632_S1024x256_0_3328) x _ (by show 0 + 1 * (x (0 : Fin 2)).val = _; omega) (by show 512 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 1 _ _ (load_cols arg12 harg12 W1 256 inb_S1024x5632_S1024x256_0_256) (load_cols arg12 harg12 W1 3072 inb_S1024x5632_S1024x256_0_3072) x _ (by show 0 + 1 * (x (0 : Fin 2)).val = _; omega) (by show 256 + 1 * (x (1 : Fin 2)).val = _; omega)
      · exact act_piece (k0_pay27 (View.readAt (Elt F) arg1.view (Rect.unit (s := S512x1024) ![0, 0] S512x1024.size inb_S512x1024_S512x1024_0_0).toLoadRect (harg1.unread x1)) (View.readAt (Elt F) arg2.view (Rect.unit (s := S1x1024) ![0, 0] S1x1024.size inb_S1x1024_S1x1024_0_0).toLoadRect (harg2.unread x2))) W1 0 _ _ (load_cols arg12 harg12 W1 0 inb_S1024x5632_S1024x256_0_0) (load_cols arg12 harg12 W1 2816 inb_S1024x5632_S1024x256_0_2816) x _ (by show 0 + 1 * (x (0 : Fin 2)).val = _; omega) (by show 0 + 1 * (x (1 : Fin 2)).val = _; omega)
    · have hy : (y (1 : Fin 2)).val < 2816 := (y (1 : Fin 2)).isLt
      have hy0 : (y (0 : Fin 2)).val < 512 := (y (0 : Fin 2)).isLt
      unfold rest_run.sl.H10_11
      by_cases h0 : (y (1 : Fin 2)).val < 256
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (show y ∈ (Rect.unit (s := S512x2816) ![0, 0] S512x256.size inb_S512x2816_S512x256_0_0).set from Rect.mem_set_unit.mpr (Fin.forall_fin_two.mpr ⟨(show 0 ≤ (y (0 : Fin 2)).val ∧ (y (0 : Fin 2)).val < 0 + 512 from ⟨by omega, by omega⟩), (show 0 ≤ (y (1 : Fin 2)).val ∧ (y (1 : Fin 2)).val < 0 + 256 from ⟨by omega, by omega⟩)⟩))⟩
      by_cases h1 : (y (1 : Fin 2)).val < 512
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (show y ∈ (Rect.unit (s := S512x2816) ![0, 256] S512x256.size inb_S512x2816_S512x256_0_256).set from Rect.mem_set_unit.mpr (Fin.forall_fin_two.mpr ⟨(show 0 ≤ (y (0 : Fin 2)).val ∧ (y (0 : Fin 2)).val < 0 + 512 from ⟨by omega, by omega⟩), (show 256 ≤ (y (1 : Fin 2)).val ∧ (y (1 : Fin 2)).val < 256 + 256 from ⟨by omega, by omega⟩)⟩))⟩
      by_cases h2 : (y (1 : Fin 2)).val < 768
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (show y ∈ (Rect.unit (s := S512x2816) ![0, 512] S512x256.size inb_S512x2816_S512x256_0_512).set from Rect.mem_set_unit.mpr (Fin.forall_fin_two.mpr ⟨(show 0 ≤ (y (0 : Fin 2)).val ∧ (y (0 : Fin 2)).val < 0 + 512 from ⟨by omega, by omega⟩), (show 512 ≤ (y (1 : Fin 2)).val ∧ (y (1 : Fin 2)).val < 512 + 256 from ⟨by omega, by omega⟩)⟩))⟩
      by_cases h3 : (y (1 : Fin 2)).val < 1024
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), (show y ∈ (Rect.unit (s := S512x2816) ![0, 768] S512x256.size inb_S512x2816_S512x256_0_768).set from Rect.mem_set_unit.mpr (Fin.forall_fin_two.mpr ⟨(show 0 ≤ (y (0 : Fin 2)).val ∧ (y (0 : Fin 2)).val < 0 + 512 from ⟨by omega, by omega⟩), (show 768 ≤ (y (1 : Fin 2)).val ∧ (y (1 : Fin 2)).val < 768 + 256 from ⟨by omega, by omega⟩)⟩))⟩
      by_cases h4 : (y (1 : Fin 2)).val < 1280
      · exact ⟨_, (List.mem_cons_of_mem _ (List.mem_cons_of_mem _ (List.mem_cons_of_mem _ (List.mem_cons_of_mem _ (List.mem_cons_of_mem _ (List.mem_cons_of_mem _ (List.mem_cons_self))))))), (show y ∈ (Rect.unit (s := S512x2816) ![0, 1024] S512x256.size inb_S512x2816_S512x256_0_1024).set from Rect.mem_set_unit.mpr (Fin.forall_fin_two.mpr ⟨(show 0 ≤ (y (0 : Fin 2)).val ∧ (y (0 : Fin 2)).val < 0 + 512 from ⟨by omega, by omega⟩), (show 1024 ≤ (y (1 : Fin 2)).val ∧ (y (1 : Fin 2)).val < 1024 + 256 from ⟨by omega, by omega⟩)⟩))⟩
      by_cases h5 : (y (1 : Fin 2)).val < 1536
      · exact ⟨_, (List.mem_cons_of_mem _ (List.mem_cons_of_mem _ (List.mem_cons_of_mem _ (List.mem_cons_of_mem _ (List.mem_cons_of_mem _ (List.mem_cons_self)))))), (show y ∈ (Rect.unit (s := S512x2816) ![0, 1280] S512x256.size inb_S512x2816_S512x256_0_1280).set from Rect.mem_set_unit.mpr (Fin.forall_fin_two.mpr ⟨(show 0 ≤ (y (0 : Fin 2)).val ∧ (y (0 : Fin 2)).val < 0 + 512 from ⟨by omega, by omega⟩), (show 1280 ≤ (y (1 : Fin 2)).val ∧ (y (1 : Fin 2)).val < 1280 + 256 from ⟨by omega, by omega⟩)⟩))⟩
      by_cases h6 : (y (1 : Fin 2)).val < 1792
      · exact ⟨_, (List.mem_cons_of_mem _ (List.mem_cons_of_mem _ (List.mem_cons_of_mem _ (List.mem_cons_of_mem _ (List.mem_cons_self))))), (show y ∈ (Rect.unit (s := S512x2816) ![0, 1536] S512x256.size inb_S512x2816_S512x256_0_1536).set from Rect.mem_set_unit.mpr (Fin.forall_fin_two.mpr ⟨(show 0 ≤ (y (0 : Fin 2)).val ∧ (y (0 : Fin 2)).val < 0 + 512 from ⟨by omega, by omega⟩), (show 1536 ≤ (y (1 : Fin 2)).val ∧ (y (1 : Fin 2)).val < 1536 + 256 from ⟨by omega, by omega⟩)⟩))⟩
      by_cases h7 : (y (1 : Fin 2)).val < 2048
      · exact ⟨_, (List.mem_cons_of_mem _ (List.mem_cons_of_mem _ (List.mem_cons_of_mem _ (List.mem_cons_self)))), (show y ∈ (Rect.unit (s := S512x2816) ![0, 1792] S512x256.size inb_S512x2816_S512x256_0_1792).set from Rect.mem_set_unit.mpr (Fin.forall_fin_two.mpr ⟨(show 0 ≤ (y (0 : Fin 2)).val ∧ (y (0 : Fin 2)).val < 0 + 512 from ⟨by omega, by omega⟩), (show 1792 ≤ (y (1 : Fin 2)).val ∧ (y (1 : Fin 2)).val < 1792 + 256 from ⟨by omega, by omega⟩)⟩))⟩
      by_cases h8 : (y (1 : Fin 2)).val < 2304
      · exact ⟨_, (List.mem_cons_of_mem _ (List.mem_cons_of_mem _ (List.mem_cons_self))), (show y ∈ (Rect.unit (s := S512x2816) ![0, 2048] S512x256.size inb_S512x2816_S512x256_0_2048).set from Rect.mem_set_unit.mpr (Fin.forall_fin_two.mpr ⟨(show 0 ≤ (y (0 : Fin 2)).val ∧ (y (0 : Fin 2)).val < 0 + 512 from ⟨by omega, by omega⟩), (show 2048 ≤ (y (1 : Fin 2)).val ∧ (y (1 : Fin 2)).val < 2048 + 256 from ⟨by omega, by omega⟩)⟩))⟩
      by_cases h9 : (y (1 : Fin 2)).val < 2560
      · exact ⟨_, (List.mem_cons_of_mem _ (List.mem_cons_self)), (show y ∈ (Rect.unit (s := S512x2816) ![0, 2304] S512x256.size inb_S512x2816_S512x256_0_2304).set from Rect.mem_set_unit.mpr (Fin.forall_fin_two.mpr ⟨(show 0 ≤ (y (0 : Fin 2)).val ∧ (y (0 : Fin 2)).val < 0 + 512 from ⟨by omega, by omega⟩), (show 2304 ≤ (y (1 : Fin 2)).val ∧ (y (1 : Fin 2)).val < 2304 + 256 from ⟨by omega, by omega⟩)⟩))⟩
      exact ⟨_, (List.mem_cons_self), (show y ∈ (Rect.unit (s := S512x2816) ![0, 2560] S512x256.size inb_S512x2816_S512x256_0_2560).set from Rect.mem_set_unit.mpr (Fin.forall_fin_two.mpr ⟨(show 0 ≤ (y (0 : Fin 2)).val ∧ (y (0 : Fin 2)).val < 0 + 512 from ⟨by omega, by omega⟩), (show 2560 ≤ (y (1 : Fin 2)).val ∧ (y (1 : Fin 2)).val < 2560 + 256 from ⟨by omega, by omega⟩)⟩))⟩
  have hr4 : rest_run.sl.r_4 c arg1 harg1 arg2 harg2 arg10 arg12 harg12 arg13 harg13 x1 x2 W1 W2 = k0_pay41 (actV (k0_pay27 x1 x2) W1) W2 := congrArg₂ k0_pay41 hv (load_whole arg13 harg13 W2 _)
  have hr5 : (rest_run.sl.r_5 c arg1 harg1 arg2 harg2 arg5 harg5 arg10 arg12 harg12 arg13 harg13 x1 x2 x5 W1 W2) = (normV x1 x2 W1 W2 x5) := norm_of (load_whole arg1 harg1 x1 _) hr4 (load_whole arg5 harg5 x5 _)
  have hY : ∀ y, View.read (Elt F) arg11.view (arg11.view.writes (Elt F) arg11.view.junk (rest_run.sl.H11_5 c arg1 harg1 arg2 harg2 arg5 harg5 arg6 harg6 arg10 arg12 harg12 arg13 harg13 x1 x2 x5 x6 W1 W2)) y = (projV (normV x1 x2 W1 W2 x5) x6) y := by
    intro y
    refine View.read_writes_apply_of_pieces (Val := Elt F) (e := .f32) (s := S512x2304) _ _ (projV (normV x1 x2 W1 W2 x5) x6) _ ?_ y ?_
    · delta rest_run.sl.H11_5; simp only [List.forall_mem_cons]
      refine ⟨fun x => ?_, fun x => ?_, fun x => ?_, fun x => ?_, fun x => ?_, fun p hp => absurd hp List.not_mem_nil⟩
      · exact proj_piece1 (u' := (rest_run.sl.r_5 c arg1 harg1 arg2 harg2 arg5 harg5 arg10 arg12 harg12 arg13 harg13 x1 x2 x5 W1 W2)) x6 hr5 (load_rect arg6 harg6 x6 _) x _ (by show 0 + 1 * (x (0 : Fin 2)).val = _; omega) (by show 1024 + 1 * (x (1 : Fin 2)).val = _; omega)
      · exact proj_piece4 (u' := (rest_run.sl.r_5 c arg1 harg1 arg2 harg2 arg5 harg5 arg10 arg12 harg12 arg13 harg13 x1 x2 x5 W1 W2)) x6 hr5 (load_rect arg6 harg6 x6 _) x _ (by show 256 + 1 * (x (0 : Fin 2)).val = _; omega) (by show 2048 + 1 * (x (1 : Fin 2)).val = _; omega)
      · exact proj_piece3 (u' := (rest_run.sl.r_5 c arg1 harg1 arg2 harg2 arg5 harg5 arg10 arg12 harg12 arg13 harg13 x1 x2 x5 W1 W2)) x6 hr5 (load_rect arg6 harg6 x6 _) x _ (by show 0 + 1 * (x (0 : Fin 2)).val = _; omega) (by show 2048 + 1 * (x (1 : Fin 2)).val = _; omega)
      · exact proj_piece2 (u' := (rest_run.sl.r_5 c arg1 harg1 arg2 harg2 arg5 harg5 arg10 arg12 harg12 arg13 harg13 x1 x2 x5 W1 W2)) x6 hr5 (load_rect arg6 harg6 x6 _) x _ (by show 0 + 1 * (x (0 : Fin 2)).val = _; omega) (by show 1536 + 1 * (x (1 : Fin 2)).val = _; omega)
      · exact proj_piece0 (u' := (rest_run.sl.r_5 c arg1 harg1 arg2 harg2 arg5 harg5 arg10 arg12 harg12 arg13 harg13 x1 x2 x5 W1 W2)) x6 hr5 (load_rect arg6 harg6 x6 _) x _ (by show 0 + 1 * (x (0 : Fin 2)).val = _; omega) (by show 0 + 1 * (x (1 : Fin 2)).val = _; omega)
    · have hy : (y (1 : Fin 2)).val < 2304 := (y (1 : Fin 2)).isLt
      have hy0 : (y (0 : Fin 2)).val < 512 := (y (0 : Fin 2)).isLt
      unfold rest_run.sl.H11_5
      by_cases h0 : (y (1 : Fin 2)).val < 1024
      · exact ⟨_, (List.mem_cons_of_mem _ (List.mem_cons_of_mem _ (List.mem_cons_of_mem _ (List.mem_cons_of_mem _ (List.mem_cons_self))))), (show y ∈ (Rect.unit (s := S512x2304) ![0, 0] S512x1024.size inb_S512x2304_S512x1024_0_0).set from Rect.mem_set_unit.mpr (Fin.forall_fin_two.mpr ⟨(show 0 ≤ (y (0 : Fin 2)).val ∧ (y (0 : Fin 2)).val < 0 + 512 from ⟨by omega, by omega⟩), (show 0 ≤ (y (1 : Fin 2)).val ∧ (y (1 : Fin 2)).val < 0 + 1024 from ⟨by omega, by omega⟩)⟩))⟩
      by_cases h1 : (y (1 : Fin 2)).val < 1536
      · exact ⟨_, (List.mem_cons_self), (show y ∈ (Rect.unit (s := S512x2304) ![0, 1024] S512x512.size inb_S512x2304_S512x512_0_1024).set from Rect.mem_set_unit.mpr (Fin.forall_fin_two.mpr ⟨(show 0 ≤ (y (0 : Fin 2)).val ∧ (y (0 : Fin 2)).val < 0 + 512 from ⟨by omega, by omega⟩), (show 1024 ≤ (y (1 : Fin 2)).val ∧ (y (1 : Fin 2)).val < 1024 + 512 from ⟨by omega, by omega⟩)⟩))⟩
      by_cases h2 : (y (1 : Fin 2)).val < 2048
      · exact ⟨_, (List.mem_cons_of_mem _ (List.mem_cons_of_mem _ (List.mem_cons_of_mem _ (List.mem_cons_self)))), (show y ∈ (Rect.unit (s := S512x2304) ![0, 1536] S512x512.size inb_S512x2304_S512x512_0_1536).set from Rect.mem_set_unit.mpr (Fin.forall_fin_two.mpr ⟨(show 0 ≤ (y (0 : Fin 2)).val ∧ (y (0 : Fin 2)).val < 0 + 512 from ⟨by omega, by omega⟩), (show 1536 ≤ (y (1 : Fin 2)).val ∧ (y (1 : Fin 2)).val < 1536 + 512 from ⟨by omega, by omega⟩)⟩))⟩
      by_cases h3 : (y (0 : Fin 2)).val < 256
      · exact ⟨_, (List.mem_cons_of_mem _ (List.mem_cons_of_mem _ (List.mem_cons_self))), (show y ∈ (Rect.unit (s := S512x2304) ![0, 2048] S256x256.size inb_S512x2304_S256x256_0_2048).set from Rect.mem_set_unit.mpr (Fin.forall_fin_two.mpr ⟨(show 0 ≤ (y (0 : Fin 2)).val ∧ (y (0 : Fin 2)).val < 0 + 256 from ⟨by omega, by omega⟩), (show 2048 ≤ (y (1 : Fin 2)).val ∧ (y (1 : Fin 2)).val < 2048 + 256 from ⟨by omega, by omega⟩)⟩))⟩
      exact ⟨_, (List.mem_cons_of_mem _ (List.mem_cons_self)), (show y ∈ (Rect.unit (s := S512x2304) ![256, 2048] S256x256.size inb_S512x2304_S256x256_256_2048).set from Rect.mem_set_unit.mpr (Fin.forall_fin_two.mpr ⟨(show 256 ≤ (y (0 : Fin 2)).val ∧ (y (0 : Fin 2)).val < 256 + 256 from ⟨by omega, by omega⟩), (show 2048 ≤ (y (1 : Fin 2)).val ∧ (y (1 : Fin 2)).val < 2048 + 256 from ⟨by omega, by omega⟩)⟩))⟩
  have hb : ∀ (lo : ℕ) (inb : ∀ a, (![0, lo] : Fin 2 → ℕ) a + S512x128.size a ≤ S512x2304.size a), arg11.view.readCov (rest_run.sl.H11_5 c arg1 harg1 arg2 harg2 arg5 harg5 arg6 harg6 arg10 arg12 harg12 arg13 harg13 x1 x2 x5 x6 W1 W2) (Rect.unit (s := S512x2304) ![0, lo] S512x128.size inb).toLoadRect = blkV (F := F) (e := .f32) (projV (normV x1 x2 W1 W2 x5) x6) lo :=
    fun lo inb => funext fun j => (hY _).trans (congrFun (load_blk lo inb) j)
  have hg : ∀ (lo : ℕ) (inb : ∀ a, (![0, lo] : Fin 2 → ℕ) a + S1x128.size a ≤ S1x2304.size a), (View.readAt (Elt F) arg7.view (Rect.unit (s := S1x2304) ![0, lo] S1x128.size inb).toLoadRect (harg7.unread x7) : FVec F S1x128 .f32) = gainV x7 lo :=
    fun lo inb => (load_rect arg7 harg7 x7 _).trans (load_gain lo inb)
  iapply Hk
  isplitl [H1]
  · iexists _
    isplitr
    · ipureintro
      exact harg1.read_unread _
    iexact H1
  isplitl [H2]
  · iexists _
    isplitr
    · ipureintro
      exact harg2.read_unread _
    iexact H2
  isplitl [H5]
  · iexists _
    isplitr
    · ipureintro
      exact harg5.read_unread _
    iexact H5
  isplitl [H6]
  · iexists _
    isplitr
    · ipureintro
      exact harg6.read_unread _
    iexact H6
  isplitl [H7]
  · iexists _
    isplitr
    · ipureintro
      exact harg7.read_unread _
    iexact H7
  isplitl [H8]
  · iexists _
    isplitr
    rotate_left
    · iexact H8
    · ipureintro
      refine (View.read_writes_full _ _ _ _ _).trans ?_
      exact out_of (load_whole arg1 harg1 x1 _) hr4
  isplitl [H9]
  · iexists _
    isplitr
    rotate_left
    · iexact H9
    · ipureintro
      refine funext fun y => View.read_writes_apply_of_pieces (Val := Elt F) (e := .bf16) (s := S512x2304) _ _ (qkvV (projV (normV x1 x2 W1 W2 x5) x6) x7) _ ?_ y ?_
      · simp only [List.forall_mem_cons]
        refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
        · have hx : (x (1 : Fin 2)).val < 128 := (x (1 : Fin 2)).isLt
          exact cast_of _ (hY _) (show ¬ (2176 + 1 * (x (1 : Fin 2)).val < 1024 ∨ (1536 ≤ 2176 + 1 * (x (1 : Fin 2)).val ∧ 2176 + 1 * (x (1 : Fin 2)).val < 2176)) by omega)
        · have hx : (x (1 : Fin 2)).val < 512 := (x (1 : Fin 2)).isLt
          exact cast_of _ (hY _) (show ¬ (1024 + 1 * (x (1 : Fin 2)).val < 1024 ∨ (1536 ≤ 1024 + 1 * (x (1 : Fin 2)).val ∧ 1024 + 1 * (x (1 : Fin 2)).val < 2176)) by omega)
        · exact head_of 16 (by decide) (hb 2048 inb_S512x2304_S512x128_0_2048) (hg 2048 inb_S1x2304_S1x128_0_2048) x _ (by show 0 + 1 * (x (0 : Fin 2)).val = _; omega) (by show 2048 + 1 * (x (1 : Fin 2)).val = _; omega)
        · exact head_of 15 (by decide) (hb 1920 inb_S512x2304_S512x128_0_1920) (hg 1920 inb_S1x2304_S1x128_0_1920) x _ (by show 0 + 1 * (x (0 : Fin 2)).val = _; omega) (by show 1920 + 1 * (x (1 : Fin 2)).val = _; omega)
        · exact head_of 14 (by decide) (hb 1792 inb_S512x2304_S512x128_0_1792) (hg 1792 inb_S1x2304_S1x128_0_1792) x _ (by show 0 + 1 * (x (0 : Fin 2)).val = _; omega) (by show 1792 + 1 * (x (1 : Fin 2)).val = _; omega)
        · exact head_of 13 (by decide) (hb 1664 inb_S512x2304_S512x128_0_1664) (hg 1664 inb_S1x2304_S1x128_0_1664) x _ (by show 0 + 1 * (x (0 : Fin 2)).val = _; omega) (by show 1664 + 1 * (x (1 : Fin 2)).val = _; omega)
        · exact head_of 12 (by decide) (hb 1536 inb_S512x2304_S512x128_0_1536) (hg 1536 inb_S1x2304_S1x128_0_1536) x _ (by show 0 + 1 * (x (0 : Fin 2)).val = _; omega) (by show 1536 + 1 * (x (1 : Fin 2)).val = _; omega)
        · exact head_of 7 (by decide) (hb 896 inb_S512x2304_S512x128_0_896) (hg 896 inb_S1x2304_S1x128_0_896) x _ (by show 0 + 1 * (x (0 : Fin 2)).val = _; omega) (by show 896 + 1 * (x (1 : Fin 2)).val = _; omega)
        · exact head_of 6 (by decide) (hb 768 inb_S512x2304_S512x128_0_768) (hg 768 inb_S1x2304_S1x128_0_768) x _ (by show 0 + 1 * (x (0 : Fin 2)).val = _; omega) (by show 768 + 1 * (x (1 : Fin 2)).val = _; omega)
        · exact head_of 5 (by decide) (hb 640 inb_S512x2304_S512x128_0_640) (hg 640 inb_S1x2304_S1x128_0_640) x _ (by show 0 + 1 * (x (0 : Fin 2)).val = _; omega) (by show 640 + 1 * (x (1 : Fin 2)).val = _; omega)
        · exact head_of 4 (by decide) (hb 512 inb_S512x2304_S512x128_0_512) (hg 512 inb_S1x2304_S1x128_0_512) x _ (by show 0 + 1 * (x (0 : Fin 2)).val = _; omega) (by show 512 + 1 * (x (1 : Fin 2)).val = _; omega)
        · exact head_of 3 (by decide) (hb 384 inb_S512x2304_S512x128_0_384) (hg 384 inb_S1x2304_S1x128_0_384) x _ (by show 0 + 1 * (x (0 : Fin 2)).val = _; omega) (by show 384 + 1 * (x (1 : Fin 2)).val = _; omega)
        · exact head_of 2 (by decide) (hb 256 inb_S512x2304_S512x128_0_256) (hg 256 inb_S1x2304_S1x128_0_256) x _ (by show 0 + 1 * (x (0 : Fin 2)).val = _; omega) (by show 256 + 1 * (x (1 : Fin 2)).val = _; omega)
        · exact head_of 1 (by decide) (hb 128 inb_S512x2304_S512x128_0_128) (hg 128 inb_S1x2304_S1x128_0_128) x _ (by show 0 + 1 * (x (0 : Fin 2)).val = _; omega) (by show 128 + 1 * (x (1 : Fin 2)).val = _; omega)
        · exact head_of 0 (by decide) (hb 0 inb_S512x2304_S512x128_0_0) (hg 0 inb_S1x2304_S1x128_0_0) x _ (by show 0 + 1 * (x (0 : Fin 2)).val = _; omega) (by show 0 + 1 * (x (1 : Fin 2)).val = _; omega)
      · have hy : (y (1 : Fin 2)).val < 2304 := (y (1 : Fin 2)).isLt
        have hy0 : (y (0 : Fin 2)).val < 512 := (y (0 : Fin 2)).isLt
        by_cases h0 : (y (1 : Fin 2)).val < 128
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (show y ∈ (Rect.unit (s := S512x2304) ![0, 0] S512x128.size inb_S512x2304_S512x128_0_0).set from Rect.mem_set_unit.mpr (Fin.forall_fin_two.mpr ⟨(show 0 ≤ (y (0 : Fin 2)).val ∧ (y (0 : Fin 2)).val < 0 + 512 from ⟨by omega, by omega⟩), (show 0 ≤ (y (1 : Fin 2)).val ∧ (y (1 : Fin 2)).val < 0 + 128 from ⟨by omega, by omega⟩)⟩))⟩
        by_cases h128 : (y (1 : Fin 2)).val < 256
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (show y ∈ (Rect.unit (s := S512x2304) ![0, 128] S512x128.size inb_S512x2304_S512x128_0_128).set from Rect.mem_set_unit.mpr (Fin.forall_fin_two.mpr ⟨(show 0 ≤ (y (0 : Fin 2)).val ∧ (y (0 : Fin 2)).val < 0 + 512 from ⟨by omega, by omega⟩), (show 128 ≤ (y (1 : Fin 2)).val ∧ (y (1 : Fin 2)).val < 128 + 128 from ⟨by omega, by omega⟩)⟩))⟩
        by_cases h256 : (y (1 : Fin 2)).val < 384
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (show y ∈ (Rect.unit (s := S512x2304) ![0, 256] S512x128.size inb_S512x2304_S512x128_0_256).set from Rect.mem_set_unit.mpr (Fin.forall_fin_two.mpr ⟨(show 0 ≤ (y (0 : Fin 2)).val ∧ (y (0 : Fin 2)).val < 0 + 512 from ⟨by omega, by omega⟩), (show 256 ≤ (y (1 : Fin 2)).val ∧ (y (1 : Fin 2)).val < 256 + 128 from ⟨by omega, by omega⟩)⟩))⟩
        by_cases h384 : (y (1 : Fin 2)).val < 512
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (show y ∈ (Rect.unit (s := S512x2304) ![0, 384] S512x128.size inb_S512x2304_S512x128_0_384).set from Rect.mem_set_unit.mpr (Fin.forall_fin_two.mpr ⟨(show 0 ≤ (y (0 : Fin 2)).val ∧ (y (0 : Fin 2)).val < 0 + 512 from ⟨by omega, by omega⟩), (show 384 ≤ (y (1 : Fin 2)).val ∧ (y (1 : Fin 2)).val < 384 + 128 from ⟨by omega, by omega⟩)⟩))⟩
        by_cases h512 : (y (1 : Fin 2)).val < 640
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (show y ∈ (Rect.unit (s := S512x2304) ![0, 512] S512x128.size inb_S512x2304_S512x128_0_512).set from Rect.mem_set_unit.mpr (Fin.forall_fin_two.mpr ⟨(show 0 ≤ (y (0 : Fin 2)).val ∧ (y (0 : Fin 2)).val < 0 + 512 from ⟨by omega, by omega⟩), (show 512 ≤ (y (1 : Fin 2)).val ∧ (y (1 : Fin 2)).val < 512 + 128 from ⟨by omega, by omega⟩)⟩))⟩
        by_cases h640 : (y (1 : Fin 2)).val < 768
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (show y ∈ (Rect.unit (s := S512x2304) ![0, 640] S512x128.size inb_S512x2304_S512x128_0_640).set from Rect.mem_set_unit.mpr (Fin.forall_fin_two.mpr ⟨(show 0 ≤ (y (0 : Fin 2)).val ∧ (y (0 : Fin 2)).val < 0 + 512 from ⟨by omega, by omega⟩), (show 640 ≤ (y (1 : Fin 2)).val ∧ (y (1 : Fin 2)).val < 640 + 128 from ⟨by omega, by omega⟩)⟩))⟩
        by_cases h768 : (y (1 : Fin 2)).val < 896
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (show y ∈ (Rect.unit (s := S512x2304) ![0, 768] S512x128.size inb_S512x2304_S512x128_0_768).set from Rect.mem_set_unit.mpr (Fin.forall_fin_two.mpr ⟨(show 0 ≤ (y (0 : Fin 2)).val ∧ (y (0 : Fin 2)).val < 0 + 512 from ⟨by omega, by omega⟩), (show 768 ≤ (y (1 : Fin 2)).val ∧ (y (1 : Fin 2)).val < 768 + 128 from ⟨by omega, by omega⟩)⟩))⟩
        by_cases h896 : (y (1 : Fin 2)).val < 1024
        · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), (show y ∈ (Rect.unit (s := S512x2304) ![0, 896] S512x128.size inb_S512x2304_S512x128_0_896).set from Rect.mem_set_unit.mpr (Fin.forall_fin_two.mpr ⟨(show 0 ≤ (y (0 : Fin 2)).val ∧ (y (0 : Fin 2)).val < 0 + 512 from ⟨by omega, by omega⟩), (show 896 ≤ (y (1 : Fin 2)).val ∧ (y (1 : Fin 2)).val < 896 + 128 from ⟨by omega, by omega⟩)⟩))⟩
        by_cases h1024 : (y (1 : Fin 2)).val < 1536
        · exact ⟨_, (List.mem_cons_of_mem _ (List.mem_cons_self)), (show y ∈ (Rect.unit (s := S512x2304) ![0, 1024] S512x512.size inb_S512x2304_S512x512_0_1024).set from Rect.mem_set_unit.mpr (Fin.forall_fin_two.mpr ⟨(show 0 ≤ (y (0 : Fin 2)).val ∧ (y (0 : Fin 2)).val < 0 + 512 from ⟨by omega, by omega⟩), (show 1024 ≤ (y (1 : Fin 2)).val ∧ (y (1 : Fin 2)).val < 1024 + 512 from ⟨by omega, by omega⟩)⟩))⟩
        by_cases h1536 : (y (1 : Fin 2)).val < 1664
        · exact ⟨_, (List.mem_cons_of_mem _ (List.mem_cons_of_mem _ (List.mem_cons_of_mem _ (List.mem_cons_of_mem _ (List.mem_cons_of_mem _ (List.mem_cons_of_mem _ (List.mem_cons_self))))))), (show y ∈ (Rect.unit (s := S512x2304) ![0, 1536] S512x128.size inb_S512x2304_S512x128_0_1536).set from Rect.mem_set_unit.mpr (Fin.forall_fin_two.mpr ⟨(show 0 ≤ (y (0 : Fin 2)).val ∧ (y (0 : Fin 2)).val < 0 + 512 from ⟨by omega, by omega⟩), (show 1536 ≤ (y (1 : Fin 2)).val ∧ (y (1 : Fin 2)).val < 1536 + 128 from ⟨by omega, by omega⟩)⟩))⟩
        by_cases h1664 : (y (1 : Fin 2)).val < 1792
        · exact ⟨_, (List.mem_cons_of_mem _ (List.mem_cons_of_mem _ (List.mem_cons_of_mem _ (List.mem_cons_of_mem _ (List.mem_cons_of_mem _ (List.mem_cons_self)))))), (show y ∈ (Rect.unit (s := S512x2304) ![0, 1664] S512x128.size inb_S512x2304_S512x128_0_1664).set from Rect.mem_set_unit.mpr (Fin.forall_fin_two.mpr ⟨(show 0 ≤ (y (0 : Fin 2)).val ∧ (y (0 : Fin 2)).val < 0 + 512 from ⟨by omega, by omega⟩), (show 1664 ≤ (y (1 : Fin 2)).val ∧ (y (1 : Fin 2)).val < 1664 + 128 from ⟨by omega, by omega⟩)⟩))⟩
        by_cases h1792 : (y (1 : Fin 2)).val < 1920
        · exact ⟨_, (List.mem_cons_of_mem _ (List.mem_cons_of_mem _ (List.mem_cons_of_mem _ (List.mem_cons_of_mem _ (List.mem_cons_self))))), (show y ∈ (Rect.unit (s := S512x2304) ![0, 1792] S512x128.size inb_S512x2304_S512x128_0_1792).set from Rect.mem_set_unit.mpr (Fin.forall_fin_two.mpr ⟨(show 0 ≤ (y (0 : Fin 2)).val ∧ (y (0 : Fin 2)).val < 0 + 512 from ⟨by omega, by omega⟩), (show 1792 ≤ (y (1 : Fin 2)).val ∧ (y (1 : Fin 2)).val < 1792 + 128 from ⟨by omega, by omega⟩)⟩))⟩
        by_cases h1920 : (y (1 : Fin 2)).val < 2048
        · exact ⟨_, (List.mem_cons_of_mem _ (List.mem_cons_of_mem _ (List.mem_cons_of_mem _ (List.mem_cons_self)))), (show y ∈ (Rect.unit (s := S512x2304) ![0, 1920] S512x128.size inb_S512x2304_S512x128_0_1920).set from Rect.mem_set_unit.mpr (Fin.forall_fin_two.mpr ⟨(show 0 ≤ (y (0 : Fin 2)).val ∧ (y (0 : Fin 2)).val < 0 + 512 from ⟨by omega, by omega⟩), (show 1920 ≤ (y (1 : Fin 2)).val ∧ (y (1 : Fin 2)).val < 1920 + 128 from ⟨by omega, by omega⟩)⟩))⟩
        by_cases h2048 : (y (1 : Fin 2)).val < 2176
        · exact ⟨_, (List.mem_cons_of_mem _ (List.mem_cons_of_mem _ (List.mem_cons_self))), (show y ∈ (Rect.unit (s := S512x2304) ![0, 2048] S512x128.size inb_S512x2304_S512x128_0_2048).set from Rect.mem_set_unit.mpr (Fin.forall_fin_two.mpr ⟨(show 0 ≤ (y (0 : Fin 2)).val ∧ (y (0 : Fin 2)).val < 0 + 512 from ⟨by omega, by omega⟩), (show 2048 ≤ (y (1 : Fin 2)).val ∧ (y (1 : Fin 2)).val < 2048 + 128 from ⟨by omega, by omega⟩)⟩))⟩
        exact ⟨_, (List.mem_cons_self), (show y ∈ (Rect.unit (s := S512x2304) ![0, 2176] S512x128.size inb_S512x2304_S512x128_0_2176).set from Rect.mem_set_unit.mpr (Fin.forall_fin_two.mpr ⟨(show 0 ≤ (y (0 : Fin 2)).val ∧ (y (0 : Fin 2)).val < 0 + 512 from ⟨by omega, by omega⟩), (show 2176 ≤ (y (1 : Fin 2)).val ∧ (y (1 : Fin 2)).val < 2176 + 128 from ⟨by omega, by omega⟩)⟩))⟩
  isplitl [H10]
  · iapply (held_any c arg10 _)
    iexact H10
  isplitl [H11]
  · iapply (held_any c arg11 _)
    iexact H11
  isplitl [H12]
  · iexists _
    isplitr
    · ipureintro
      exact harg12.read_unread _
    iexact H12
  iexists _
  isplitr
  · ipureintro
    exact harg13.read_unread _
  iexact H13

end Cert.Ffn1Ideal.Gen
-- ==== Proof.Ffn1Step.lean ====
module

public import proofs.«01_k».proof.Proof.Gen.Ffn1Ideal.Frame
public import proofs.«01_k».proof.Proof.Gen.Ffn1Ideal.Skeleton
public import proofs.«01_k».proof.Proof.Ffn1Body

@[expose] public section

set_option maxRecDepth 16384

noncomputable section

namespace Cert.Ffn1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's test of its first grid coordinate. -/
abbrev FirstAt (i : grid0.Coords) : Prop :=
  Scalar.cmpi .ne (Scalar.extui (Scalar.cmpi .eq (BitVec.ofNat 32 (i 0).val) 0#32) : BitVec 32) 0#32 = 1#1

/-- It holds at the first point only. -/
theorem firstAt_iff : ∀ t : Fin cfg0.N, FirstAt (grid0.coords t) ↔ t.val = 0 := by decide +kernel

set_option maxHeartbeats 1000000 in
/-- At the first point the body copies the weights and then goes on. -/
theorem body_first (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S512x1024 .f32) (harg8 : arg8.IsWhole) (arg9 : Memref sig .tc .vmem S512x2304 .bf16) (harg9 : arg9.IsWhole) (arg10 : Memref sig .tc .vmem S512x2816 .bf16) (harg10 : arg10.IsWhole) (arg11 : Memref sig .tc .vmem S512x2304 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S2x128x5632 .f32) (harg14 : arg14.IsWhole) (arg15 : Memref sig .tc .vmem S2x256x1024 .f32) (harg15 : arg15.IsWhole) (h : FirstAt i) (Q : PUnit → sProp 𝕄) :
    wp frame (wpE (defs₀ (F := F)) Variants.none c none) Set.univ (cc0_ffn1_proj i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6) Q
      = wp frame (wpE (defs₀ (F := F)) Variants.none c none) Set.univ (fetchProg i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6) (fun _ =>
          wp frame (wpE (defs₀ (F := F)) Variants.none c none) Set.univ (tailProg i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6 >>= fun v => restProg i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6 v.1 v.2) Q) := by
  rw [cc0_ffn1_proj_eq_skeleton]
  unfold cc0_ffn1_proj_skel
  simp only [k0_part13_eq_skeleton]
  unfold k0_part13_skel fetchProg tailProg restProg
  simp only [dif_pos h, wp_bind]

set_option maxHeartbeats 1000000 in
/-- At every other point it goes on at once. -/
theorem body_later (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S512x1024 .f32) (harg8 : arg8.IsWhole) (arg9 : Memref sig .tc .vmem S512x2304 .bf16) (harg9 : arg9.IsWhole) (arg10 : Memref sig .tc .vmem S512x2816 .bf16) (harg10 : arg10.IsWhole) (arg11 : Memref sig .tc .vmem S512x2304 .f32) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S2x128x5632 .f32) (harg14 : arg14.IsWhole) (arg15 : Memref sig .tc .vmem S2x256x1024 .f32) (harg15 : arg15.IsWhole) (h : ¬ FirstAt i) (Q : PUnit → sProp 𝕄) :
    wp frame (wpE (defs₀ (F := F)) Variants.none c none) Set.univ (cc0_ffn1_proj i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6) Q
      = wp frame (wpE (defs₀ (F := F)) Variants.none c none) Set.univ (tailProg i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6 >>= fun v => restProg i arg1 harg1 arg2 harg2 guM (Memref.isWhole_whole _) dnM (Memref.isWhole_whole _) arg5 harg5 arg6 harg6 arg7 harg7 arg8 harg8 arg9 harg9 arg10 harg10 arg11 harg11 arg12 harg12 arg13 harg13 arg14 harg14 arg15 harg15 cc0_scratch6 v.1 v.2) Q := by
  rw [cc0_ffn1_proj_eq_skeleton]
  unfold cc0_ffn1_proj_skel
  simp only [k0_part13_eq_skeleton]
  unfold k0_part13_skel tailProg restProg
  simp only [dif_neg h, wp_bind]

end Cert.Ffn1Ideal.Gen

end
-- ==== Proof.Ffn1Frame.lean ====
module

public import proofs.«01_k».proof.Proof.Gen.Ffn1Ideal.Frame
public import proofs.«01_k».proof.Proof.Gen.Ffn1Ideal.Points
public import proofs.«01_k».proof.Proof.Ffn1Step
public import proofs.«01_k».proof.Proof.MergeFetch

@[expose] public section

set_option maxRecDepth 16384

noncomputable section

namespace Cert.Ffn1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeIdeal.Gen (slot_last slot_under slot_apart)
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's own cells, and the two arrays it copies itself. -/
abbrev ownCells : Fin 4 → SemLoc sig := fun j => (![.dma 10, .dma 11, .dma 12, .dma 13] : Fin 4 → SemLoc sig) j
theorem ownCells_facts : Pipeline.OwnSemFacts spec0 ownCells := by decide
def copied : Finset (Ref sig .tc) := {main_v32, main_v33}
theorem copied_sub : copied ⊆ Pipeline.restRefs sig spec0 := by decide

theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c ownCells [0, 1, 2, 3] (by decide) (by decide)]; rfl

theorem copied_eq (c : Dev nD) :
    (bigSep copied fun b => ((c.tc : Thread nD τ).loc b) ↦{fullShare} V m c b : sProp 𝕄) = iprop(heldAt c guM (V m c main_v32) ∗ heldAt c dnM (V m c main_v33)) := by
  rw [BI.bigSep_eq_bigSepL_of_eq [main_v32, main_v33] (by decide) (by decide)]; rfl

/-- What the body finds before the first point: every buffer of its own at anything. -/
theorem start_eq (c : Dev nD) :
    (Pipeline.ΦD ownCells spec0 copied (V m) c : sProp 𝕄)
      = iprop(((∃ d, owns (c : Thread nD τ) (Memref.whole cc0_scratch0 : Memref sig .tc .vmem S512x2816 .bf16) fullShare d) ∗ (∃ d, owns (c : Thread nD τ) (Memref.whole cc0_scratch1 : Memref sig .tc .vmem S512x2304 .f32) fullShare d) ∗ (∃ d, owns (c : Thread nD τ) (Memref.whole cc0_scratch2 : Memref sig .tc .vmem S1024x5632 .bf16) fullShare d) ∗ (∃ d, owns (c : Thread nD τ) (Memref.whole cc0_scratch3 : Memref sig .tc .vmem S2816x1024 .bf16) fullShare d) ∗ (∃ d, owns (c : Thread nD τ) (Memref.whole cc0_scratch4 : Memref sig .tc .vmem S2x128x5632 .f32) fullShare d) ∗ (∃ d, owns (c : Thread nD τ) (Memref.whole cc0_scratch5 : Memref sig .tc .vmem S2x256x1024 .f32) fullShare d)) ∗ (∃ r, prngReg c r) ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ heldAt c guM (V m c main_v32) ∗ heldAt c dnM (V m c main_v33)) := by
  rw [Pipeline.ΦD_eq, scopedRest0_eq, ownCells_eq, copied_eq]; simp only [owns_whole]; try rfl

/-- What it finds before a later point: the weights' buffers at the cast weights. -/
def stepPhi (c : Dev nD) : sProp 𝕄 :=
  iprop(((∃ d, owns (c : Thread nD τ) (Memref.whole cc0_scratch0 : Memref sig .tc .vmem S512x2816 .bf16) fullShare d) ∗ (∃ d, owns (c : Thread nD τ) (Memref.whole cc0_scratch1 : Memref sig .tc .vmem S512x2304 .f32) fullShare d) ∗ owns (c : Thread nD τ) (Memref.whole cc0_scratch2 : Memref sig .tc .vmem S1024x5632 .bf16) fullShare (guW (V m c main_v32)) ∗ owns (c : Thread nD τ) (Memref.whole cc0_scratch3 : Memref sig .tc .vmem S2816x1024 .bf16) fullShare (dnW (V m c main_v33)) ∗ (∃ d, owns (c : Thread nD τ) (Memref.whole cc0_scratch4 : Memref sig .tc .vmem S2x128x5632 .f32) fullShare d) ∗ (∃ d, owns (c : Thread nD τ) (Memref.whole cc0_scratch5 : Memref sig .tc .vmem S2x256x1024 .f32) fullShare d)) ∗ (∃ r, prngReg c r) ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ heldAt c guM (V m c main_v32) ∗ heldAt c dnM (V m c main_v33))

def phiAt (c : Dev nD) : ℕ → sProp 𝕄
  | 0 => Pipeline.ΦD ownCells spec0 copied (V m) c
  | _ + 1 => stepPhi m c

/-- The tiles of the results the body leaves at point `t`. -/
def tileAt (c : Dev nD) (t : Fin cfg0.N) : FVec F S512x1024 .f32 :=
  outV (iblk m c 0 t) (iblk m c 1 t) (guW (V m c main_v32)) (dnW (V m c main_v33))

def qkvAt (c : Dev nD) (t : Fin cfg0.N) : FVec F S512x2304 .bf16 :=
  qkvV (projV (normV (iblk m c 0 t) (iblk m c 1 t) (guW (V m c main_v32)) (dnW (V m c main_v33)) (iblk m c 2 t)) (iblk m c 3 t)) (iblk m c 4 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAt m c t
    | ⟨6, _⟩ => qkvAt m c t
  Φ t := phiAt m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = tileAt m c t := by dsimp only [dats]
theorem after_6 (c : Dev nD) (t : Fin cfg0.N) : (dats m 0 c).after 6 t = qkvAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = stepPhi m c from rfl, show (dats m 0 c).Φ t.castSucc = phiAt m c t.val from rfl,
    after_0, after_1, after_2, after_3, after_4, after_5, after_6]
  unfold Dat.owesAt Pipeline.owesWithin
  unfold tileAt qkvAt
  by_cases h : t.val = 0
  · rw [h, body_first c _ _ _ _ _ _ _ _ _ _ _ _ _ _ _ _ _ _ _ _ _ _ _ _ _ _ _ ((firstAt_iff t).mpr h), show phiAt m c 0 = _ from start_eq m c]
    unfold stepPhi
    iintro ⟨⟨⟨Ha, Hy, Hw, Hv, Hs, Hr⟩, Hg, ⟨Hc0, Hc1, Hc2, Hc3⟩, Hu, Hd⟩, ⟨%W, -, Ho⟩, ⟨%d0, H0⟩, ⟨%d1, H1⟩, ⟨%d2, H2⟩, ⟨%d3, H3⟩, ⟨%d4, H4⟩, ⟨%d5, H5⟩, ⟨%d6, H6⟩⟩
    iapply (fetch_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (V m c main_v32) (V m c main_v33) W _)
    isplitl [Hw]; · iexact Hw
    isplitl [Hv]; · iexact Hv
    isplitl [Hs]; · iexact Hs
    isplitl [Hr]; · iexact Hr
    isplitl [Hc0]; · iexact Hc0
    isplitl [Hc1]; · iexact Hc1
    isplitl [Hc2]; · iexact Hc2
    isplitl [Hc3]; · iexact Hc3
    isplitl [Hu]; · iexact Hu
    isplitl [Hd]; · iexact Hd
    isplitl [Ho]; · iexact Ho
    iintro ⟨Hw, Hv, Hs, Hr, Hc0, Hc1, Hc2, Hc3, Hu, Hd, ⟨%W', Ho⟩⟩
    iapply (rest_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (guW (V m c main_v32)) (dnW (V m c main_v33)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Ha]; · iexact Ha
    isplitl [Hy]; · iexact Hy
    isplitl [Hw]; · iexact Hw
    isplitl [Hv]; · iexact Hv
    iintro ⟨H0, H1, H2, H3, H4, H5, H6, Ha, Hy, Hw, Hv⟩
    isplitl [Ha Hy Hw Hv Hs Hr Hg Hc0 Hc1 Hc2 Hc3 Hu Hd]
    · isplitl [Ha Hy Hw Hv Hs Hr]
      · isplitl [Ha]; · iexact Ha
        isplitl [Hy]; · iexact Hy
        isplitl [Hw]; · iexact Hw
        isplitl [Hv]; · iexact Hv
        isplitl [Hs]; · iexact Hs
        iexact Hr
      isplitl [Hg]; · iexact Hg
      isplitl [Hc0 Hc1 Hc2 Hc3]
      · isplitl [Hc0]; · iexact Hc0
        isplitl [Hc1]; · iexact Hc1
        isplitl [Hc2]; · iexact Hc2
        iexact Hc3
      isplitl [Hu]; · iexact Hu
      iexact Hd
    isplitl [Ho]
    · iexists W'; isplitr; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨k, hk⟩ := Nat.exists_eq_succ_of_ne_zero h
    rw [hk, body_later c _ _ _ _ _ _ _ _ _ _ _ _ _ _ _ _ _ _ _ _ _ _ _ _ _ _ _ (fun e => h ((firstAt_iff t).mp e)), show phiAt m c (Nat.succ k) = stepPhi m c from rfl]
    unfold stepPhi
    iintro ⟨⟨⟨Ha, Hy, Hw, Hv, Hs, Hr⟩, Hg, Hc, Hu, Hd⟩, ⟨%W, -, Ho⟩, ⟨%d0, H0⟩, ⟨%d1, H1⟩, ⟨%d2, H2⟩, ⟨%d3, H3⟩, ⟨%d4, H4⟩, ⟨%d5, H5⟩, ⟨%d6, H6⟩⟩
    iapply (rest_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (guW (V m c main_v32)) (dnW (V m c main_v33)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Ha]; · iexact Ha
    isplitl [Hy]; · iexact Hy
    isplitl [Hw]; · iexact Hw
    isplitl [Hv]; · iexact Hv
    iintro ⟨H0, H1, H2, H3, H4, H5, H6, Ha, Hy, Hw, Hv⟩
    isplitl [Ha Hy Hw Hv Hs Hr Hg Hc Hu Hd]
    · isplitl [Ha Hy Hw Hv Hs Hr]
      · isplitl [Ha]; · iexact Ha
        isplitl [Hy]; · iexact Hy
        isplitl [Hw]; · iexact Hw
        isplitl [Hv]; · iexact Hv
        isplitl [Hs]; · iexact Hs
        iexact Hr
      isplitl [Hg]; · iexact Hg
      isplitl [Hc]; · iexact Hc
      isplitl [Hu]; · iexact Hu
      iexact Hd
    isplitl [Ho]
    · iexists W; isplitr; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- The body at every point, as the pipeline's rule wants it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the body leaves after a later point may be forgotten. -/
theorem step_start (c : Dev nD) : stepPhi m c ⊢ (Pipeline.ΦD ownCells spec0 copied (V m) c : sProp 𝕄) := by
  rw [start_eq]
  unfold stepPhi
  iintro ⟨⟨Ha, Hy, Hw, Hv, Hs, Hr⟩, H⟩
  isplitl [Ha Hy Hw Hv Hs Hr]
  · isplitl [Ha]; · iexact Ha
    isplitl [Hy]; · iexact Hy
    isplitl [Hw]; · iexists _; iexact Hw
    isplitl [Hv]; · iexists _; iexact Hv
    isplitl [Hs]; · iexact Hs
    iexact Hr
  iexact H

set_option maxHeartbeats 800000 in
/-- The program up to the call. -/
theorem host_run (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: the arrays end at what the tiles make them, every other buffer as the call found it, no counter left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCells defs₀ Variants.none ownCells_facts copied copied_sub m ρ main
    (hbody := fun c => (body_obligation m c).loose) (hshare := fun c w => (dats m 0 c).share_full (fun _ => rfl) w)
    (howed := fun _ _ => rfl) (V := V m) (hmain := host_run m Variants.none) (hA := A_eq m)
    (hin := fun _ => .rfl) (hout := fun c => step_start m c)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main_quiescent m ρ)

end Cert.Ffn1Ideal.Gen

end
-- ==== Proof.Ffn1Bits.lean ====
/- The kernel and its ideal program are the same text, so the run over any float values is also the kernel's. -/
module

public import proofs.«01_k».proof.Defs
public import proofs.«01_k».proof.Proof.Gen.Ffn1
public import proofs.«01_k».proof.Proof.Ffn1Frame

@[expose] public section

set_option backward.isDefEq.respectTransparency.types false

noncomputable section

namespace Cert.Ffn1Bits

open Idealize.ShloMosaic Idealize.ShloMosaic.TcCoe Idealize.SL.Sem

variable {F : FTy → Type} [FloatOps F]

set_option maxHeartbeats 2000000 in
theorem body_eq : @Cert.Ffn1.defs₀ F _ _ = @Cert.Ffn1Ideal.defs₀ F _ _ := by
  unfold Cert.Ffn1.defs₀ Cert.Ffn1Ideal.defs₀
  refine congrArg Defs.onTc (funext fun l => funext fun a => ?_)
  match l, a with
  | ⟨0, _⟩, (t, s) => rfl

set_option maxHeartbeats 4000000 in
theorem defs_eq : @Cert.Ffn1.defs F _ _ = @Cert.Ffn1Ideal.defs F _ _ :=
  congrArg (Pipeline.defs (Cert.Ffn1Ideal.pcfgs (F := F))) body_eq

set_option maxHeartbeats 2000000 in
theorem main_eq : @Cert.Ffn1.main F _ _ = @Cert.Ffn1Ideal.main F _ _ := rfl

set_option maxHeartbeats 4000000 in
theorem frame : Cert.quiescent_Ffn1 := fun m ρ _ => by
  have h := Cert.Ffn1Ideal.Gen.frame (F := Bits) m ρ
  rw [← defs_eq, ← main_eq] at h
  exact h

end Cert.Ffn1Bits

end
-- ==== Proof.Ffn1Spec.lean ====
module
public import proofs.«01_k».proof.Proof.MergeSpec
@[expose] public section

/-! # The rows of the first layer: the projection's columns and the norms of its heads -/

noncomputable section
open scoped BigOperators
open Idealize.ShloMosaic Cert.MergeSpec

namespace Cert.Ffn1Spec

/-- A head of 64 lanes over the root of its mean square, scaled. -/
def hd (z : Fin 64 → EReal) (g : EReal) (d : Fin 64) : EReal :=
  z d * Ideal.rsqrt (Ideal.div (∑ e, z e * z e) (Ideal.ofBits .f32 0x42800000#32) + Ideal.ofBits .f32 0x358637BD#32) * g

/-- The column a stored column is projected by: the second mixer's query heads are stored group first. -/
def colN (n : ℕ) : ℕ := if 1536 ≤ n ∧ n < 2048 then 1536 + ((n - 1536) / 64 % 2 * 256 + (n - 1536) / 128 * 64 + (n - 1536) % 64) else n

theorem colN_lt {n : ℕ} (h : n < 2304) : colN n < 2304 := by
  unfold colN
  split <;> omega

def col (n : Fin 2304) : Fin 2304 := ⟨colN n.val, colN_lt n.isLt⟩

/-- The lane `e` of the head of a column. -/
def lane (n : Fin 2304) (e : Fin 64) : Fin 2304 := ⟨64 * (n.val / 64) + e.val, by have := n.isLt; have := e.isLt; omega⟩
def inHead (n : Fin 2304) : Fin 64 := ⟨n.val % 64, Nat.mod_lt _ (by decide)⟩

/-- The scale of a column's head. -/
def gainR (ga gk gb gl : Fin 64 → EReal) (n : Fin 2304) : EReal :=
  if n.val < 512 then ga (inHead n) else if n.val < 1024 then gk (inHead n) else if n.val < 2048 then gb (inHead n) else gl (inHead n)

/-- The stored row: the heads of the queries and keys normed, those of the values as they are. -/
def qkvR (Y g : Fin 2304 → EReal) (n : Fin 2304) : EReal :=
  if n.val < 1024 ∨ (1536 ≤ n.val ∧ n.val < 2176) then hd (fun e => Y (lane n e)) (g n) (inHead n) else Y n

end Cert.Ffn1Spec

end
-- ==== Proof.Ffn1Pays.lean ====
module
public import proofs.«01_k».proof.Proof.Ffn1Body
public import proofs.«01_k».proof.Proof.Ffn1Spec
public import Idealize.ShloMosaic.Lib.ValueIdx
public import Idealize.ShloMosaic.Lib.Pointwise
@[expose] public section

/-! # The blocks a grid point of the first layer leaves, row by row -/

set_option maxRecDepth 16384

noncomputable section
open scoped BigOperators
open Idealize.ShloMosaic Idealize.ShloMosaic.TcCoe Idealize.SL.Sem
open Cert.Ffn1Ideal Cert.Ffn1Ideal.Gen Cert.MergeSpec Cert.Ffn1Spec

namespace Cert.Ffn1Pays

/-- The rows of a two-axis array. -/
def rowOf {M N : ℕ} (x : (⟨2, ![M, N]⟩ : Shape).Idx → EReal) (r : Fin M) (j : Fin N) : EReal := x (ix2 r j)

theorem pay27_apply (x : Vec Ideal S512x1024 .f32) (g : Vec Ideal S1x1024 .f32) (r : Fin 512) (k : Fin 1024) :
    k0_pay27 (F := Ideal) x g (ix2 r k) = rms (rowOf x r) (rowOf g 0) k := by
  unfold rms rowOf
  pointwise [k0_pay27, k0_pay26]

theorem pay29_apply (u : FVec Ideal S512x1024 .bf16) (A B : Vec Ideal S1024x256 .bf16) (r : Fin 512) (n : Fin 256) :
    k0_pay29 (F := Ideal) u A B (ix2 r n)
      = dot (rowOf u r) (rowOf A) n * sgm (dot (rowOf u r) (rowOf A) n) * dot (rowOf u r) (rowOf B) n := by
  unfold sgm dot rowOf
  pointwise [k0_pay29]
  simp only [zero_sub]

theorem pay43_apply (x : Vec Ideal S512x1024 .f32) (a : Vec Ideal S512x2816 .bf16) (W : Vec Ideal S2816x1024 .bf16) (r : Fin 512)
    (n : Fin 1024) :
    k0_pay43 (F := Ideal) (k0_pay26 x) (k0_pay41 a W) k0_pay42 (ix2 r n)
      = rowOf x r n + Ideal.ofBits .f32 0x3F000000#32 * dot (rowOf a r) (rowOf W) n := by
  unfold dot rowOf
  pointwise [k0_pay43, k0_pay26, k0_pay41, k0_pay42]

theorem pay44_apply (p q s : FVec Ideal S512x1024 .f32) (g : Vec Ideal S1x1024 .f32) (r : Fin 512) (n : Fin 1024) :
    k0_pay44 (F := Ideal) p q s g (ix2 r n) = rms (rowOf (k0_pay43 (F := Ideal) p q s) r) (rowOf g 0) n := by
  unfold rms rowOf k0_pay44
  generalize k0_pay43 (F := Ideal) p q s = y
  pointwise []

theorem cols_row (W : FVec Ideal S1024x5632 .bf16) (lo : ℕ) (k : Fin 1024) (n : Fin 256) (N : Fin 5632) (h : lo + n.val = N.val) :
    rowOf (colsV W lo) k n = rowOf W k N := by
  unfold rowOf colsV
  refine congrArg W (funext fun a => Fin.ext ?_)
  match a with
  | ⟨0, _⟩ => rfl
  | ⟨1, _⟩ => show (lo + n.val) % 5632 = N.val; rw [h]; exact Nat.mod_eq_of_lt N.isLt

theorem act_row (u : FVec Ideal S512x1024 .bf16) (W : FVec Ideal S1024x5632 .bf16) (r : Fin 512) :
    rowOf (actV u W) r = actR (rowOf u r) (rowOf W) := by
  funext k
  have hk : k.val < 2816 := k.isLt
  unfold rowOf actV
  have e : (Fin.cons (ix2 r k (0 : Fin 2)) (Fin.cons ⟨(ix2 r k (1 : Fin 2)).val % 256, Nat.mod_lt _ (by decide)⟩ fun a => a.elim0) : S512x256.Idx)
      = ix2 r ⟨k.val % 256, Nat.mod_lt _ (by decide)⟩ := funext fun a => by
    match a with
    | ⟨0, _⟩ => rfl
    | ⟨1, _⟩ => rfl
  refine (congrArg _ e).trans ((pay29_apply ..).trans ?_)
  have hg : dot (rowOf u r) (rowOf (colsV W (256 * (k.val / 256)))) ⟨k.val % 256, Nat.mod_lt _ (by decide)⟩ = dot (rowOf u r) (rowOf W) (hidL k) :=
    Finset.sum_congr rfl fun j _ => congrArg (_ * ·) (cols_row W _ j _ _ (by show _ + k.val % 256 = k.val; omega))
  have hu : dot (rowOf u r) (rowOf (colsV W (2816 + 256 * (k.val / 256)))) ⟨k.val % 256, Nat.mod_lt _ (by decide)⟩
      = dot (rowOf u r) (rowOf W) (hidR k) :=
    Finset.sum_congr rfl fun j _ => congrArg (_ * ·) (cols_row W _ j _ _ (by show _ + k.val % 256 = 2816 + k.val; omega))
  show dot (rowOf u r) (rowOf (colsV W (256 * (k.val / 256)))) _ * sgm (dot (rowOf u r) (rowOf (colsV W (256 * (k.val / 256)))) _)
    * dot (rowOf u r) (rowOf (colsV W (2816 + 256 * (k.val / 256)))) _ = _
  rw [hg, hu]
  rfl

theorem out_row (x1 : FVec Ideal S512x1024 .f32) (x2 : FVec Ideal S1x1024 .f32) (W1 : FVec Ideal S1024x5632 .bf16)
    (W2 : FVec Ideal S2816x1024 .bf16) (r : Fin 512) :
    rowOf (outV x1 x2 W1 W2) r = ffnR (rowOf x1 r) (rowOf x2 0) (rowOf W1) (rowOf W2) := by
  have h : rowOf (k0_pay27 (F := Ideal) x1 x2) r = rms (rowOf x1 r) (rowOf x2 0) := funext fun _ => pay27_apply ..
  funext n
  refine (pay43_apply ..).trans ?_
  rw [act_row, h]
  rfl

theorem norm_row (x1 : FVec Ideal S512x1024 .f32) (x2 : FVec Ideal S1x1024 .f32) (W1 : FVec Ideal S1024x5632 .bf16)
    (W2 : FVec Ideal S2816x1024 .bf16) (x5 : FVec Ideal S1x1024 .f32) (r : Fin 512) :
    rowOf (normV x1 x2 W1 W2 x5) r = rms (ffnR (rowOf x1 r) (rowOf x2 0) (rowOf W1) (rowOf W2)) (rowOf x5 0) := by
  rw [← out_row]
  exact funext fun _ => pay44_apply ..

/-! ## The projection -/

theorem prod0_apply (u : FVec Ideal S512x1024 .bf16) (w : FVec Ideal S1024x1024 .bf16) (r : Fin 512) (n : Fin 1024) :
    prod0 u w (ix2 r n) = dot (rowOf u r) (rowOf w) n := by
  unfold dot rowOf
  pointwise [prod0]

theorem prod1_apply (u : FVec Ideal S512x1024 .bf16) (w : FVec Ideal S1024x256 .bf16) (r : Fin 256) (R : Fin 512) (hR : R.val = r.val) (n : Fin 256) :
    prod1 u w (ix2 r n) = dot (rowOf u R) (rowOf w) n := by
  have e : ∀ k, extractStridedSlice S256x1024 ![0, 0] u slices_S512x1024_o0_0_S256x1024 (ix2 r k) = u (ix2 R k) := fun k =>
    congrArg u (funext fun a => Fin.ext (by
      match a with
      | ⟨0, _⟩ => show 0 + r.val = R.val; omega
      | ⟨1, _⟩ => show 0 + k.val = k.val; omega))
  unfold dot rowOf
  simp only [← e]
  unfold prod1
  generalize extractStridedSlice S256x1024 ![0, 0] u slices_S512x1024_o0_0_S256x1024 = z
  pointwise [k0_pay48]

theorem pay49_apply (u : FVec Ideal S512x1024 .bf16) (w : FVec Ideal S1024x256 .bf16) (r : Fin 256) (R : Fin 512) (hR : R.val = 256 + r.val) (n : Fin 256) :
    k0_pay49 (F := Ideal) u w (ix2 r n) = dot (rowOf u R) (rowOf w) n := by
  have e : ∀ k, extractStridedSlice S256x1024 ![256, 0] u slices_S512x1024_o256_0_S256x1024 (ix2 r k) = u (ix2 R k) := fun k =>
    congrArg u (funext fun a => Fin.ext (by
      match a with
      | ⟨0, _⟩ => show 256 + r.val = R.val; omega
      | ⟨1, _⟩ => show 0 + k.val = k.val; omega))
  unfold dot rowOf
  simp only [← e]
  unfold k0_pay49
  generalize extractStridedSlice S256x1024 ![256, 0] u slices_S512x1024_o256_0_S256x1024 = z
  pointwise []

theorem pay50_apply (u : FVec Ideal S512x1024 .bf16) (w : FVec Ideal S1024x512 .bf16) (r n : Fin 512) :
    k0_pay50 (F := Ideal) u w (ix2 r n) = dot (rowOf u r) (rowOf w) n := by
  unfold dot rowOf
  pointwise [k0_pay50]

theorem at2_ix2 {a b : ℕ} (p q : ℕ) (ha : 0 < a) (hb : 0 < b) (P : Fin a) (Q : Fin b) (hp : p = P.val) (hq : q = Q.val) :
    (at2 p q ha hb : (⟨2, ![a, b]⟩ : Shape).Idx) = ix2 P Q := by
  subst hp hq
  refine funext fun z => Fin.ext ?_
  match z with
  | ⟨0, _⟩ => exact Nat.mod_eq_of_lt P.isLt
  | ⟨1, _⟩ => exact Nat.mod_eq_of_lt Q.isLt

theorem emb_1024_0 (w : FVec Ideal S1024x2304 .bf16) (j : Fin 1024) (n : Fin 1024) (N : Fin 2304) (hN : N.val = 0 + n.val) :
    rowOf (fun j => w ((Rect.unit (s := S1024x2304) ![0, 0] S1024x1024.size inb_S1024x2304_S1024x1024_0_0).emb j)) j n = rowOf w j N := by
  refine congrArg w (funext fun a => Fin.ext ?_)
  match a with
  | ⟨0, _⟩ => show 0 + 1 * j.val = j.val; omega
  | ⟨1, _⟩ => show 0 + 1 * n.val = N.val; omega

theorem emb_512_1024 (w : FVec Ideal S1024x2304 .bf16) (j : Fin 1024) (n : Fin 512) (N : Fin 2304) (hN : N.val = 1024 + n.val) :
    rowOf (fun j => w ((Rect.unit (s := S1024x2304) ![0, 1024] S1024x512.size inb_S1024x2304_S1024x512_0_1024).emb j)) j n = rowOf w j N := by
  refine congrArg w (funext fun a => Fin.ext ?_)
  match a with
  | ⟨0, _⟩ => show 0 + 1 * j.val = j.val; omega
  | ⟨1, _⟩ => show 1024 + 1 * n.val = N.val; omega

theorem emb_512_1536 (w : FVec Ideal S1024x2304 .bf16) (j : Fin 1024) (n : Fin 512) (N : Fin 2304) (hN : N.val = 1536 + n.val) :
    rowOf (fun j => w ((Rect.unit (s := S1024x2304) ![0, 1536] S1024x512.size inb_S1024x2304_S1024x512_0_1536).emb j)) j n = rowOf w j N := by
  refine congrArg w (funext fun a => Fin.ext ?_)
  match a with
  | ⟨0, _⟩ => show 0 + 1 * j.val = j.val; omega
  | ⟨1, _⟩ => show 1536 + 1 * n.val = N.val; omega

theorem emb_256_2048 (w : FVec Ideal S1024x2304 .bf16) (j : Fin 1024) (n : Fin 256) (N : Fin 2304) (hN : N.val = 2048 + n.val) :
    rowOf (fun j => w ((Rect.unit (s := S1024x2304) ![0, 2048] S1024x256.size inb_S1024x2304_S1024x256_0_2048).emb j)) j n = rowOf w j N := by
  refine congrArg w (funext fun a => Fin.ext ?_)
  match a with
  | ⟨0, _⟩ => show 0 + 1 * j.val = j.val; omega
  | ⟨1, _⟩ => show 2048 + 1 * n.val = N.val; omega

/-- The projection at a row. -/
theorem proj_row (u : FVec Ideal S512x1024 .bf16) (w : FVec Ideal S1024x2304 .bf16) (r : Fin 512) :
    rowOf (projV u w) r = dot (rowOf u r) (rowOf w) := by
  funext n
  have hr := r.isLt
  have hn := n.isLt
  unfold rowOf projV
  show (if n.val < 1024 then _ else if n.val < 1536 then _ else if n.val < 2048 then _ else if r.val < 256 then _ else _) = _
  by_cases h1 : n.val < 1024
  · rw [if_pos h1]
    refine (congrArg _ (at2_ix2 _ _ _ _ r ⟨n.val, h1⟩ rfl rfl)).trans ((prod0_apply ..).trans ?_)
    exact Finset.sum_congr rfl fun j _ => congrArg (_ * ·) (emb_1024_0 w j _ n (by show n.val = 0 + n.val; omega))
  rw [if_neg h1]
  by_cases h2 : n.val < 1536
  · rw [if_pos h2]
    refine (congrArg _ (at2_ix2 _ _ _ _ r ⟨n.val - 1024, by omega⟩ rfl rfl)).trans ((pay50_apply ..).trans ?_)
    exact Finset.sum_congr rfl fun j _ => congrArg (_ * ·) (emb_512_1024 w j _ n (by show n.val = 1024 + (n.val - 1024); omega))
  rw [if_neg h2]
  by_cases h3 : n.val < 2048
  · rw [if_pos h3]
    refine (congrArg _ (at2_ix2 _ _ _ _ r ⟨n.val - 1536, by omega⟩ rfl rfl)).trans ((pay50_apply ..).trans ?_)
    exact Finset.sum_congr rfl fun j _ => congrArg (_ * ·) (emb_512_1536 w j _ n (by show n.val = 1536 + (n.val - 1536); omega))
  rw [if_neg h3]
  by_cases h4 : r.val < 256
  · rw [if_pos h4]
    refine (congrArg _ (at2_ix2 _ _ _ _ ⟨r.val, h4⟩ ⟨n.val - 2048, by omega⟩ rfl rfl)).trans ((prod1_apply _ _ _ r rfl _).trans ?_)
    exact Finset.sum_congr rfl fun j _ => congrArg (_ * ·) (emb_256_2048 w j _ n (by show n.val = 2048 + (n.val - 2048); omega))
  · rw [if_neg h4]
    refine (congrArg _ (at2_ix2 _ _ _ _ ⟨r.val - 256, by omega⟩ ⟨n.val - 2048, by omega⟩ rfl rfl)).trans
      ((pay49_apply _ _ _ r (by show r.val = 256 + (r.val - 256); omega) _).trans ?_)
    exact Finset.sum_congr rfl fun j _ => congrArg (_ * ·) (emb_256_2048 w j _ n (by show n.val = 2048 + (n.val - 2048); omega))

/-! ## The heads -/

theorem inv64 (x : EReal) : x * Ideal.ofBits .f32 0x3C800000#32 = Ideal.div x (Ideal.ofBits .f32 0x42800000#32) := by
  have h1 : Ideal.ofBits .f32 0x42800000#32 = ((64 : ℝ) : EReal) := by
    simp [Ideal.ofBits, Ideal.ieee, -EReal.coe_mul]; norm_num
  have h2 : Ideal.ofBits .f32 0x3C800000#32 = ((64⁻¹ : ℝ) : EReal) := by
    simp [Ideal.ofBits, Ideal.ieee, -EReal.coe_mul]; norm_num
  rw [h1, h2]
  unfold Ideal.div
  rw [if_neg (by rw [EReal.coe_eq_zero]; norm_num), EReal.coe_inv]

theorem mask_lt (x : Fin 128) : IntOp.cmpi CmpIPredicate.slt (BitVec.ofNat 32 x.val) 64#32 = if x.val < 64 then 1#1 else 0#1 := by
  revert x
  decide +kernel

theorem select_mask (x : Fin 128) (p q : EReal) :
    Scalar.select (IntOp.cmpi CmpIPredicate.slt (BitVec.ofNat 32 x.val) 64#32) p q = if x.val < 64 then p else q := by
  rw [mask_lt]
  by_cases h : x.val < 64
  · rw [if_pos h, if_pos h]; rfl
  · rw [if_neg h, if_neg h]; rfl

theorem sum_lo (f : Fin 128 → EReal) : ∑ x : Fin 128, (if x.val < 64 then f x else 0) = ∑ e : Fin 64, f ⟨e.val, by omega⟩ := by
  refine (Fin.sum_univ_add (a := 64) (b := 64) _).trans ?_
  have h1 : ∀ i : Fin 64, (if (Fin.castAdd 64 i).val < 64 then f (Fin.castAdd 64 i) else 0) = f ⟨i.val, by omega⟩ := fun i => if_pos i.isLt
  have h2 : ∀ i : Fin 64, (if (Fin.natAdd 64 i).val < 64 then f (Fin.natAdd 64 i) else 0) = 0 := fun i =>
    if_neg (by show ¬ 64 + i.val < 64; omega)
  rw [Finset.sum_congr rfl fun i _ => h1 i, Finset.sum_congr rfl fun i _ => h2 i, Finset.sum_const_zero, add_zero]

theorem sum_hi (f : Fin 128 → EReal) : ∑ x : Fin 128, (if x.val < 64 then 0 else f x) = ∑ e : Fin 64, f ⟨64 + e.val, by omega⟩ := by
  refine (Fin.sum_univ_add (a := 64) (b := 64) _).trans ?_
  have h1 : ∀ i : Fin 64, (if (Fin.castAdd 64 i).val < 64 then 0 else f (Fin.castAdd 64 i)) = 0 := fun i => if_pos i.isLt
  have h2 : ∀ i : Fin 64, (if (Fin.natAdd 64 i).val < 64 then 0 else f (Fin.natAdd 64 i)) = f ⟨64 + i.val, by omega⟩ := fun i =>
    if_neg (by show ¬ 64 + i.val < 64; omega)
  rw [Finset.sum_congr rfl fun i _ => h1 i, Finset.sum_congr rfl fun i _ => h2 i, Finset.sum_const_zero, zero_add]

theorem pay54_read (y : Vec Ideal S512x128 .f32) (g : Vec Ideal S1x128 .f32) (r : Fin 512) (c : Fin 128) :
    k0_pay54 (F := Ideal) y g (ix2 r c)
      = rowOf y r c * Ideal.rsqrt ((if c.val < 64 then ∑ x : Fin 128, (if x.val < 64 then rowOf y r x * rowOf y r x else 0)
          else ∑ x : Fin 128, (if x.val < 64 then 0 else rowOf y r x * rowOf y r x)) * Ideal.ofBits .f32 0x3C800000#32
          + Ideal.ofBits .f32 0x358637BD#32) * rowOf g 0 c := by
  simp only [← select_mask]
  unfold rowOf
  pointwise [k0_pay54]

/-- A pair of heads is normed head by head. -/
theorem pay54_apply (y : Vec Ideal S512x128 .f32) (g : Vec Ideal S1x128 .f32) (r : Fin 512) (c : Fin 128) :
    k0_pay54 (F := Ideal) y g (ix2 r c)
      = hd (fun e => rowOf y r ⟨64 * (c.val / 64) + e.val, by have := c.isLt; have := e.isLt; omega⟩) (rowOf g 0 c)
          ⟨c.val % 64, Nat.mod_lt _ (by decide)⟩ := by
  have hc := c.isLt
  refine (pay54_read ..).trans ?_
  rw [inv64]
  unfold hd
  have hl : (⟨64 * (c.val / 64) + c.val % 64, by omega⟩ : Fin 128) = c := Fin.ext (by show 64 * (c.val / 64) + c.val % 64 = c.val; omega)
  show _ = rowOf y r ⟨64 * (c.val / 64) + c.val % 64, _⟩ * _ * _
  rw [hl]
  refine congrArg (fun z => _ * Ideal.rsqrt (Ideal.div z _ + _) * _) ?_
  by_cases h : c.val < 64
  · rw [if_pos h, sum_lo]
    refine Finset.sum_congr rfl fun e _ => ?_
    have e1 : (⟨64 * (c.val / 64) + e.val, by omega⟩ : Fin 128) = ⟨e.val, by omega⟩ := Fin.ext (by show 64 * (c.val / 64) + e.val = e.val; omega)
    exact (congrArg (fun z => rowOf y r z * rowOf y r z) e1).symm
  · rw [if_neg h, sum_hi]
    refine Finset.sum_congr rfl fun e _ => ?_
    have e1 : (⟨64 * (c.val / 64) + e.val, by omega⟩ : Fin 128) = ⟨64 + e.val, by omega⟩ := Fin.ext (by show 64 * (c.val / 64) + e.val = 64 + e.val; omega)
    exact (congrArg (fun z => rowOf y r z * rowOf y r z) e1).symm

theorem blk_row (Y : S512x2304.Idx → EReal) (lo : ℕ) (r : Fin 512) (x : Fin 128) (N : Fin 2304) (hN : N.val = lo + x.val) :
    rowOf (blkV (F := Ideal) (e := .f32) Y lo) r x = rowOf Y r N :=
  congrArg Y (at2_ix2 _ _ _ _ r N rfl hN.symm)

theorem gain_row (g : S1x2304.Idx → EReal) (lo : ℕ) (x : Fin 128) (N : Fin 2304) (hN : N.val = lo + x.val) :
    rowOf (gainV (F := Ideal) g lo) 0 x = rowOf g 0 N :=
  congrArg g (at2_ix2 _ _ _ _ 0 N rfl hN.symm)

/-- The stored row. -/
theorem qkv_row (Y : FVec Ideal S512x2304 .f32) (g : FVec Ideal S1x2304 .f32) (r : Fin 512) :
    rowOf (qkvV Y g) r = qkvR (rowOf Y r) (rowOf g 0) := by
  funext n
  have hn := n.isLt
  unfold rowOf qkvV qkvR
  show (if n.val < 1024 ∨ (1536 ≤ n.val ∧ n.val < 2176) then _ else _) = _
  by_cases h : n.val < 1024 ∨ (1536 ≤ n.val ∧ n.val < 2176)
  · rw [if_pos h, if_pos h]
    refine (congrArg _ (at2_ix2 _ _ _ _ r ⟨n.val % 128, Nat.mod_lt _ (by decide)⟩ rfl rfl)).trans ((pay54_apply ..).trans ?_)
    rw [gain_row g _ _ n (by show n.val = 128 * (n.val / 128) + n.val % 128; omega)]
    have e1 : (⟨n.val % 128 % 64, Nat.mod_lt _ (by decide)⟩ : Fin 64) = inHead n := Fin.ext (by show n.val % 128 % 64 = n.val % 64; omega)
    show hd _ _ ⟨n.val % 128 % 64, _⟩ = _
    rw [e1]
    refine congrArg (fun z => hd z _ _) (funext fun e => ?_)
    have he := e.isLt
    exact blk_row Y _ r _ (lane n e) (by show 64 * (n.val / 64) + e.val = 128 * (n.val / 128) + (64 * (n.val % 128 / 64) + e.val); omega)
  · rw [if_neg h, if_neg h]
    rfl

end Cert.Ffn1Pays

end
-- ==== Proof.Ffn1Host.lean ====
module
public import proofs.«01_k».proof.Proof.Ffn1Frame
public import proofs.«01_k».proof.Proof.Ffn1Pays
public import Idealize.ShloMosaic.Lib.Claim
public import Idealize.ShloMosaic.Lib.Pipeline.Value
public import Idealize.ShloMosaic.Lib.Pointwise
@[expose] public section

/-! # The arrays the first layer is launched with

Each at an index, from the arguments: the rows, the weights, the projection's columns in the stored order, and the scales of the heads
repeated along them.
-/

set_option maxRecDepth 16384

noncomputable section
open scoped BigOperators
open Idealize.ShloMosaic Idealize.ShloMosaic.TcCoe Idealize.SL.Sem
open Cert.Ffn1Ideal Cert.Ffn1Ideal.Gen Cert.MergeSpec Cert.Ffn1Spec Cert.Ffn1Pays

namespace Cert.Ffn1Host

theorem rows_1024 (x : S16x2048x1024.Idx → EReal) (b : Fin 16) (r : Fin 2048) (R : Fin 32768) (hR : R.val = 2048 * b.val + r.val) (n : Fin 1024) :
    (shapeCast S32768x1024 x shapeCasts_S16x2048x1024_S32768x1024 : S32768x1024.Idx → EReal) (ix2 R n) = x (ix3 b r n) := by
  refine shapeCast_apply _ _ _ _ ?_
  rw [Shape.rowMajor_val_three, Shape.rowMajor_val_two]
  show (b.val * 2048 + r.val) * 1024 + n.val = R.val * 1024 + n.val
  omega

theorem scale (x : S1x1024.Idx → EReal) (n : Fin 1024) :
    (shapeCast S1x1024 (shapeCast S1024 x shapeCasts_S1x1024_S1024) shapeCasts_S1024_S1x1024 : S1x1024.Idx → EReal) (ix2 0 n) = x (ix2 0 n) := by
  refine (shapeCast_apply (s := S1024) _ _ (ix2 0 n) (ix1 n) ?_).trans (shapeCast_apply _ _ _ _ ?_)
  · rw [Shape.rowMajor_val_one, Shape.rowMajor_val_two]
    show n.val = 0 * 1024 + n.val
    omega
  · rw [Shape.rowMajor_val_one, Shape.rowMajor_val_two]
    show 0 * 1024 + n.val = n.val
    omega

theorem weight_1024x5632 (x : S1x1024x5632.Idx → EReal) (k : Fin 1024) (n : Fin 5632) :
    (shapeCast S1024x5632 x shapeCasts_S1x1024x5632_S1024x5632 : S1024x5632.Idx → EReal) (ix2 k n) = x (ix3 0 k n) := by
  refine shapeCast_apply _ _ _ _ ?_
  rw [Shape.rowMajor_val_three, Shape.rowMajor_val_two]
  show (0 * 1024 + k.val) * 5632 + n.val = k.val * 5632 + n.val
  omega

theorem weight_2816x1024 (x : S1x2816x1024.Idx → EReal) (k : Fin 2816) (n : Fin 1024) :
    (shapeCast S2816x1024 x shapeCasts_S1x2816x1024_S2816x1024 : S2816x1024.Idx → EReal) (ix2 k n) = x (ix3 0 k n) := by
  refine shapeCast_apply _ _ _ _ ?_
  rw [Shape.rowMajor_val_three, Shape.rowMajor_val_two]
  show (0 * 2816 + k.val) * 1024 + n.val = k.val * 1024 + n.val
  omega

theorem weight_1024x2304 (x : S1x1024x2304.Idx → EReal) (k : Fin 1024) (n : Fin 2304) :
    (shapeCast S1024x2304 x shapeCasts_S1x1024x2304_S1024x2304 : S1024x2304.Idx → EReal) (ix2 k n) = x (ix3 0 k n) := by
  refine shapeCast_apply _ _ _ _ ?_
  rw [Shape.rowMajor_val_three, Shape.rowMajor_val_two]
  show (0 * 1024 + k.val) * 2304 + n.val = k.val * 2304 + n.val
  omega

theorem scale_64 (x : S1x64.Idx → EReal) (d : Fin 64) :
    (shapeCast S1x64 (shapeCast S64 x shapeCasts_S1x64_S64) shapeCasts_S64_S1x64 : S1x64.Idx → EReal) (ix2 0 d) = x (ix2 0 d) := by
  refine (shapeCast_apply (s := S64) _ _ (ix2 0 d) (ix1 d) ?_).trans (shapeCast_apply _ _ _ _ ?_)
  · rw [Shape.rowMajor_val_one, Shape.rowMajor_val_two]
    show d.val = 0 * 64 + d.val
    omega
  · rw [Shape.rowMajor_val_one, Shape.rowMajor_val_two]
    show 0 * 64 + d.val = d.val
    omega

/-! ## The scales of the heads -/

/-- A head's scale, 8 times over. -/
def tile8 (x : S1x64.Idx → EReal) : S512.Idx → EReal :=
  shapeCast S512 (broadcastInDim S8x64 ![0, 1] bcast_S1x64_S8x64_0_1
    (shapeCast S1x64 (shapeCast S64 x shapeCasts_S1x64_S64) shapeCasts_S64_S1x64 : S1x64.Idx → EReal)) shapeCasts_S8x64_S512

theorem tile8_apply (x : S1x64.Idx → EReal) (p : Fin 512) : tile8 x (ix1 p) = x (ix2 0 ⟨p.val % 64, Nat.mod_lt _ (by decide)⟩) := by
  have hp := p.isLt
  unfold tile8
  refine (shapeCast_apply (s := S8x64) _ _ (ix1 p) (ix2 (⟨p.val / 64, by omega⟩ : Fin 8) (⟨p.val % 64, Nat.mod_lt _ (by decide)⟩ : Fin 64)) ?_).trans ?_
  · rw [Shape.rowMajor_val_one, Shape.rowMajor_val_two]
    show p.val / 64 * 64 + p.val % 64 = p.val
    omega
  · refine Eq.trans ?_ (scale_64 x _)
    generalize (shapeCast S1x64 (shapeCast S64 x shapeCasts_S1x64_S64) shapeCasts_S64_S1x64 : S1x64.Idx → EReal) = y
    pointwise []

/-- A head's scale, 2 times over. -/
def tile2 (x : S1x64.Idx → EReal) : S128.Idx → EReal :=
  shapeCast S128 (broadcastInDim S2x64 ![0, 1] bcast_S1x64_S2x64_0_1
    (shapeCast S1x64 (shapeCast S64 x shapeCasts_S1x64_S64) shapeCasts_S64_S1x64 : S1x64.Idx → EReal)) shapeCasts_S2x64_S128

theorem tile2_apply (x : S1x64.Idx → EReal) (p : Fin 128) : tile2 x (ix1 p) = x (ix2 0 ⟨p.val % 64, Nat.mod_lt _ (by decide)⟩) := by
  have hp := p.isLt
  unfold tile2
  refine (shapeCast_apply (s := S2x64) _ _ (ix1 p) (ix2 (⟨p.val / 64, by omega⟩ : Fin 2) (⟨p.val % 64, Nat.mod_lt _ (by decide)⟩ : Fin 64)) ?_).trans ?_
  · rw [Shape.rowMajor_val_one, Shape.rowMajor_val_two]
    show p.val / 64 * 64 + p.val % 64 = p.val
    omega
  · refine Eq.trans ?_ (scale_64 x _)
    generalize (shapeCast S1x64 (shapeCast S64 x shapeCasts_S1x64_S64) shapeCasts_S64_S1x64 : S1x64.Idx → EReal) = y
    pointwise []

/-- The six parts of the scales. -/
def gparts (y0 y1 y2 y3 : S512.Idx → EReal) (y4 y5 : S128.Idx → EReal) : S2304.Idx → EReal :=
  concatenate S2304 0 [⟨S512, y0⟩, ⟨S512, y1⟩, ⟨S512, y2⟩, ⟨S512, y3⟩, ⟨S128, y4⟩, ⟨S128, y5⟩] concatenates_S512_S512_S512_S512_S128_S128_S2304_d0

theorem gparts_0 (y0 y1 y2 y3 : S512.Idx → EReal) (y4 y5 : S128.Idx → EReal) (d : Fin 512) (n : Fin 2304) (hn : n.val = 0 + d.val) :
    gparts y0 y1 y2 y3 y4 y5 (ix1 n) = y0 (ix1 d) := by
  unfold gparts
  refine concatenate_apply_piece (t := S2304) 0 [⟨S512, y0⟩, ⟨S512, y1⟩, ⟨S512, y2⟩, ⟨S512, y3⟩, ⟨S128, y4⟩, ⟨S128, y5⟩] _ _ 0 (by show _ < 6; omega) S512 y0 rfl rfl 0 rfl _ (fun a ha => ?_) ?_
  · match a with
    | ⟨0, _⟩ => exact absurd rfl ha
  · show 0 + d.val = n.val; omega

theorem gparts_1 (y0 y1 y2 y3 : S512.Idx → EReal) (y4 y5 : S128.Idx → EReal) (d : Fin 512) (n : Fin 2304) (hn : n.val = 512 + d.val) :
    gparts y0 y1 y2 y3 y4 y5 (ix1 n) = y1 (ix1 d) := by
  unfold gparts
  refine concatenate_apply_piece (t := S2304) 0 [⟨S512, y0⟩, ⟨S512, y1⟩, ⟨S512, y2⟩, ⟨S512, y3⟩, ⟨S128, y4⟩, ⟨S128, y5⟩] _ _ 1 (by show _ < 6; omega) S512 y1 rfl rfl 512 rfl _ (fun a ha => ?_) ?_
  · match a with
    | ⟨0, _⟩ => exact absurd rfl ha
  · show 512 + d.val = n.val; omega

theorem gparts_3 (y0 y1 y2 y3 : S512.Idx → EReal) (y4 y5 : S128.Idx → EReal) (d : Fin 512) (n : Fin 2304) (hn : n.val = 1536 + d.val) :
    gparts y0 y1 y2 y3 y4 y5 (ix1 n) = y3 (ix1 d) := by
  unfold gparts
  refine concatenate_apply_piece (t := S2304) 0 [⟨S512, y0⟩, ⟨S512, y1⟩, ⟨S512, y2⟩, ⟨S512, y3⟩, ⟨S128, y4⟩, ⟨S128, y5⟩] _ _ 3 (by show _ < 6; omega) S512 y3 rfl rfl 1536 rfl _ (fun a ha => ?_) ?_
  · match a with
    | ⟨0, _⟩ => exact absurd rfl ha
  · show 1536 + d.val = n.val; omega

theorem gparts_4 (y0 y1 y2 y3 : S512.Idx → EReal) (y4 y5 : S128.Idx → EReal) (d : Fin 128) (n : Fin 2304) (hn : n.val = 2048 + d.val) :
    gparts y0 y1 y2 y3 y4 y5 (ix1 n) = y4 (ix1 d) := by
  unfold gparts
  refine concatenate_apply_piece (t := S2304) 0 [⟨S512, y0⟩, ⟨S512, y1⟩, ⟨S512, y2⟩, ⟨S512, y3⟩, ⟨S128, y4⟩, ⟨S128, y5⟩] _ _ 4 (by show _ < 6; omega) S128 y4 rfl rfl 2048 rfl _ (fun a ha => ?_) ?_
  · match a with
    | ⟨0, _⟩ => exact absurd rfl ha
  · show 2048 + d.val = n.val; omega

theorem gparts_apply (xa xk xb xl : S1x64.Idx → EReal) (y2 : S512.Idx → EReal) (y5 : S128.Idx → EReal) (n : Fin 2304)
    (h : n.val < 1024 ∨ (1536 ≤ n.val ∧ n.val < 2176)) :
    gparts (tile8 xa) (tile8 xk) y2 (tile8 xb) (tile2 xl) y5 (ix1 n)
      = gainR (fun d => xa (ix2 0 d)) (fun d => xk (ix2 0 d)) (fun d => xb (ix2 0 d)) (fun d => xl (ix2 0 d)) n := by
  unfold gainR
  by_cases h1 : n.val < 512
  · rw [if_pos h1]
    refine (gparts_0 _ _ _ _ _ _ ⟨n.val, h1⟩ n (by show _ = 0 + n.val; omega)).trans ((tile8_apply ..).trans ?_)
    rfl
  by_cases h2 : n.val < 1024
  · rw [if_neg h1, if_pos h2]
    refine (gparts_1 _ _ _ _ _ _ ⟨n.val - 512, by omega⟩ n (by show _ = 512 + (n.val - 512); omega)).trans ((tile8_apply ..).trans ?_)
    exact congrArg (fun d => xk (ix2 0 d)) (Fin.ext (by show (n.val - 512) % 64 = n.val % 64; omega))
  by_cases h4 : n.val < 2048
  · rw [if_neg h1, if_neg h2, if_pos h4]
    refine (gparts_3 _ _ _ _ _ _ ⟨n.val - 1536, by omega⟩ n (by show _ = 1536 + (n.val - 1536); omega)).trans ((tile8_apply ..).trans ?_)
    exact congrArg (fun d => xb (ix2 0 d)) (Fin.ext (by show (n.val - 1536) % 64 = n.val % 64; omega))
  · rw [if_neg h1, if_neg h2, if_neg h4]
    refine (gparts_4 _ _ _ _ _ _ ⟨n.val - 2048, by omega⟩ n (by show _ = 2048 + (n.val - 2048); omega)).trans ((tile2_apply ..).trans ?_)
    exact congrArg (fun d => xl (ix2 0 d)) (Fin.ext (by show (n.val - 2048) % 64 = n.val % 64; omega))

theorem gain_flat (x : S2304.Idx → EReal) (n : Fin 2304) : (shapeCast S1x2304 x shapeCasts_S2304_S1x2304 : S1x2304.Idx → EReal) (ix2 0 n) = x (ix1 n) := by
  refine shapeCast_apply _ _ _ _ ?_
  rw [Shape.rowMajor_val_one, Shape.rowMajor_val_two]
  show n.val = 0 * 2304 + n.val
  omega

/-! ## The projection's columns -/

/-- The query columns of the second mixer, group first. -/
def qcols (x : S1024x2304.Idx → EReal) : S1024x512.Idx → EReal :=
  shapeCast S1024x512 (transpose S1024x4x2x64 [0, 2, 1, 3] (shapeCast S1024x2x4x64
    (extractStridedSlice S1024x512 ![0, 1536] x slices_S1024x2304_S1024x512_0_1536 : S1024x512.Idx → EReal) shapeCasts_S1024x512_S1024x2x4x64)
    transposes_S1024x2x4x64_S1024x4x2x64_0_2_1_3) shapeCasts_S1024x4x2x64_S1024x512

theorem qcols_apply (x : S1024x2304.Idx → EReal) (k : Fin 1024) (p : Fin 512) (n : Fin 2304)
    (hn : n.val = 1536 + (p.val / 64 % 2 * 256 + p.val / 128 * 64 + p.val % 64)) : qcols x (ix2 k p) = x (ix2 k n) := by
  have hp := p.isLt
  unfold qcols
  refine (shapeCast_apply (s := S1024x4x2x64) _ _ (ix2 k p)
    (ix4 k (⟨p.val / 128, by omega⟩ : Fin 4) (⟨p.val / 64 % 2, by omega⟩ : Fin 2) (⟨p.val % 64, by omega⟩ : Fin 64)) ?_).trans ?_
  · rw [Shape.rowMajor_val_four, Shape.rowMajor_val_two]
    show ((k.val * 4 + p.val / 128) * 2 + p.val / 64 % 2) * 64 + p.val % 64 = k.val * 512 + p.val
    omega
  refine (transpose_apply _ _ _ _ (ix4 k (⟨p.val / 64 % 2, by omega⟩ : Fin 2) (⟨p.val / 128, by omega⟩ : Fin 4) (⟨p.val % 64, by omega⟩ : Fin 64)) ?_).trans ?_
  · intro a
    match a with
    | ⟨0, _⟩ => rfl
    | ⟨1, _⟩ => rfl
    | ⟨2, _⟩ => rfl
    | ⟨3, _⟩ => rfl
  refine (shapeCast_apply (s := S1024x512) _ _ _ (ix2 k (⟨p.val / 64 % 2 * 256 + p.val / 128 * 64 + p.val % 64, by omega⟩ : Fin 512)) ?_).trans ?_
  · rw [Shape.rowMajor_val_four, Shape.rowMajor_val_two]
    show k.val * 512 + (p.val / 64 % 2 * 256 + p.val / 128 * 64 + p.val % 64)
      = ((k.val * 2 + p.val / 64 % 2) * 4 + p.val / 128) * 64 + p.val % 64
    omega
  · refine congrArg x (funext fun a => Fin.ext ?_)
    match a with
    | ⟨0, _⟩ => show 0 + k.val = k.val; omega
    | ⟨1, _⟩ => show 1536 + (p.val / 64 % 2 * 256 + p.val / 128 * 64 + p.val % 64) = n.val; omega

def wparts (y0 : S1024x1536.Idx → EReal) (y1 : S1024x512.Idx → EReal) (y2 : S1024x256.Idx → EReal) : S1024x2304.Idx → EReal :=
  concatenate S1024x2304 1 [⟨S1024x1536, y0⟩, ⟨S1024x512, y1⟩, ⟨S1024x256, y2⟩] concatenates_S1024x1536_S1024x512_S1024x256_S1024x2304_d1

theorem wparts_0 (y0 : S1024x1536.Idx → EReal) (y1 : S1024x512.Idx → EReal) (y2 : S1024x256.Idx → EReal) (k : Fin 1024) (d : Fin 1536)
    (n : Fin 2304) (hn : n.val = 0 + d.val) : wparts y0 y1 y2 (ix2 k n) = y0 (ix2 k d) := by
  unfold wparts
  refine concatenate_apply_piece (t := S1024x2304) 1 [⟨S1024x1536, y0⟩, ⟨S1024x512, y1⟩, ⟨S1024x256, y2⟩] _ _ 0 (by show _ < 3; omega) S1024x1536 y0 rfl rfl 0 rfl _ (fun a ha => ?_) ?_
  · match a with
    | ⟨0, _⟩ => rfl
    | ⟨1, _⟩ => exact absurd rfl ha
  · show 0 + d.val = n.val; omega

theorem wparts_1 (y0 : S1024x1536.Idx → EReal) (y1 : S1024x512.Idx → EReal) (y2 : S1024x256.Idx → EReal) (k : Fin 1024) (d : Fin 512)
    (n : Fin 2304) (hn : n.val = 1536 + d.val) : wparts y0 y1 y2 (ix2 k n) = y1 (ix2 k d) := by
  unfold wparts
  refine concatenate_apply_piece (t := S1024x2304) 1 [⟨S1024x1536, y0⟩, ⟨S1024x512, y1⟩, ⟨S1024x256, y2⟩] _ _ 1 (by show _ < 3; omega) S1024x512 y1 rfl rfl 1536 rfl _ (fun a ha => ?_) ?_
  · match a with
    | ⟨0, _⟩ => rfl
    | ⟨1, _⟩ => exact absurd rfl ha
  · show 1536 + d.val = n.val; omega

theorem wparts_2 (y0 : S1024x1536.Idx → EReal) (y1 : S1024x512.Idx → EReal) (y2 : S1024x256.Idx → EReal) (k : Fin 1024) (d : Fin 256)
    (n : Fin 2304) (hn : n.val = 2048 + d.val) : wparts y0 y1 y2 (ix2 k n) = y2 (ix2 k d) := by
  unfold wparts
  refine concatenate_apply_piece (t := S1024x2304) 1 [⟨S1024x1536, y0⟩, ⟨S1024x512, y1⟩, ⟨S1024x256, y2⟩] _ _ 2 (by show _ < 3; omega) S1024x256 y2 rfl rfl 2048 rfl _ (fun a ha => ?_) ?_
  · match a with
    | ⟨0, _⟩ => rfl
    | ⟨1, _⟩ => exact absurd rfl ha
  · show 2048 + d.val = n.val; omega

/-- The projection with its columns in the stored order. -/
def wIn (x : S1024x2304.Idx → EReal) : S1024x2304.Idx → EReal :=
  wparts (extractStridedSlice S1024x1536 ![0, 0] x slices_S1024x2304_S1024x1536_0_0) (qcols x)
    (extractStridedSlice S1024x256 ![0, 2048] x slices_S1024x2304_S1024x256_0_2048)

theorem wIn_apply (x : S1024x2304.Idx → EReal) (k : Fin 1024) (n : Fin 2304) : wIn x (ix2 k n) = x (ix2 k (col n)) := by
  have hn := n.isLt
  unfold wIn
  by_cases h1 : n.val < 1536
  · refine (wparts_0 _ _ _ k ⟨n.val, h1⟩ n (by show _ = 0 + n.val; omega)).trans ?_
    refine congrArg x (funext fun a => Fin.ext ?_)
    match a with
    | ⟨0, _⟩ => show 0 + k.val = k.val; omega
    | ⟨1, _⟩ => show 0 + n.val = colN n.val; unfold colN; rw [if_neg (by omega)]; omega
  by_cases h2 : n.val < 2048
  · refine (wparts_1 _ _ _ k ⟨n.val - 1536, by omega⟩ n (by show _ = 1536 + (n.val - 1536); omega)).trans ?_
    exact qcols_apply x k _ _ (by show colN n.val = _; unfold colN; rw [if_pos (by omega)])
  · refine (wparts_2 _ _ _ k ⟨n.val - 2048, by omega⟩ n (by show _ = 2048 + (n.val - 2048); omega)).trans ?_
    refine congrArg x (funext fun a => Fin.ext ?_)
    match a with
    | ⟨0, _⟩ => show 0 + k.val = k.val; omega
    | ⟨1, _⟩ => show 2048 + (n.val - 2048) = colN n.val; unfold colN; rw [if_neg (by omega)]; omega

/-! ## The launch's arrays -/

variable (m : (ℓ : Loc nD τ sig) → Buf (Elt Ideal) ℓ)

theorem v0_apply (c : Dev nD) (b : Fin 16) (r : Fin 2048) (R : Fin 32768) (hR : R.val = 2048 * b.val + r.val) (n : Fin 1024) :
    (V m c main_v0 : S32768x1024.Idx → EReal) (ix2 R n) = ((m ((c.tc : Thread nD τ).loc main_arg0)) : S16x2048x1024.Idx → EReal) (ix3 b r n) := by
  have h : (V m c main_v0 : S32768x1024.Idx → EReal) = shapeCast S32768x1024 ((m ((c.tc : Thread nD τ).loc main_arg0)) : S16x2048x1024.Idx → EReal) shapeCasts_S16x2048x1024_S32768x1024 := by
    entry_read
    rfl
  rw [h]
  exact rows_1024 _ b r R hR n

theorem v31_apply (c : Dev nD) (n : Fin 1024) :
    (V m c main_v31 : S1x1024.Idx → EReal) (ix2 0 n) = ((m ((c.tc : Thread nD τ).loc main_arg1)) : S1x1024.Idx → EReal) (ix2 0 n) := by
  have h : (V m c main_v31 : S1x1024.Idx → EReal) = shapeCast S1x1024 (shapeCast S1024 ((m ((c.tc : Thread nD τ).loc main_arg1)) : S1x1024.Idx → EReal) shapeCasts_S1x1024_S1024) shapeCasts_S1024_S1x1024 := by
    entry_read
    rfl
  rw [h]
  exact scale _ n

theorem v35_apply (c : Dev nD) (n : Fin 1024) :
    (V m c main_v35 : S1x1024.Idx → EReal) (ix2 0 n) = ((m ((c.tc : Thread nD τ).loc main_arg4)) : S1x1024.Idx → EReal) (ix2 0 n) := by
  have h : (V m c main_v35 : S1x1024.Idx → EReal) = shapeCast S1x1024 (shapeCast S1024 ((m ((c.tc : Thread nD τ).loc main_arg4)) : S1x1024.Idx → EReal) shapeCasts_S1x1024_S1024) shapeCasts_S1024_S1x1024 := by
    entry_read
    rfl
  rw [h]
  exact scale _ n

theorem v32_apply (c : Dev nD) (k : Fin 1024) (n : Fin 5632) :
    (V m c main_v32 : S1024x5632.Idx → EReal) (ix2 k n) = ((m ((c.tc : Thread nD τ).loc main_arg2)) : S1x1024x5632.Idx → EReal) (ix3 0 k n) := by
  have h : (V m c main_v32 : S1024x5632.Idx → EReal) = shapeCast S1024x5632 ((m ((c.tc : Thread nD τ).loc main_arg2)) : S1x1024x5632.Idx → EReal) shapeCasts_S1x1024x5632_S1024x5632 := by
    entry_read
    rfl
  rw [h]
  exact weight_1024x5632 _ k n

theorem v33_apply (c : Dev nD) (k : Fin 2816) (n : Fin 1024) :
    (V m c main_v33 : S2816x1024.Idx → EReal) (ix2 k n) = ((m ((c.tc : Thread nD τ).loc main_arg3)) : S1x2816x1024.Idx → EReal) (ix3 0 k n) := by
  have h : (V m c main_v33 : S2816x1024.Idx → EReal) = shapeCast S2816x1024 ((m ((c.tc : Thread nD τ).loc main_arg3)) : S1x2816x1024.Idx → EReal) shapeCasts_S1x2816x1024_S2816x1024 := by
    entry_read
    rfl
  rw [h]
  exact weight_2816x1024 _ k n

set_option maxHeartbeats 8000000 in
theorem v29_apply (c : Dev nD) (k : Fin 1024) (n : Fin 2304) :
    (V m c main_v29 : S1024x2304.Idx → EReal) (ix2 k n) = ((m ((c.tc : Thread nD τ).loc main_arg5)) : S1x1024x2304.Idx → EReal) (ix3 0 k (col n)) := by
  have h : (V m c main_v29 : S1024x2304.Idx → EReal)
      = wIn (shapeCast S1024x2304 ((m ((c.tc : Thread nD τ).loc main_arg5)) : S1x1024x2304.Idx → EReal) shapeCasts_S1x1024x2304_S1024x2304) := by
    unfold V hostOps0
    after_results
    rfl
  rw [h]
  exact (wIn_apply ..).trans (weight_1024x2304 ..)

set_option maxHeartbeats 8000000 in
theorem v20_apply (c : Dev nD) (n : Fin 2304) (hn : n.val < 1024 ∨ (1536 ≤ n.val ∧ n.val < 2176)) :
    (V m c main_v20 : S1x2304.Idx → EReal) (ix2 0 n)
      = gainR (fun d => ((m ((c.tc : Thread nD τ).loc main_arg6)) : S1x64.Idx → EReal) (ix2 0 d)) (fun d => ((m ((c.tc : Thread nD τ).loc main_arg7)) : S1x64.Idx → EReal) (ix2 0 d))
          (fun d => ((m ((c.tc : Thread nD τ).loc main_arg8)) : S1x64.Idx → EReal) (ix2 0 d)) (fun d => ((m ((c.tc : Thread nD τ).loc main_arg9)) : S1x64.Idx → EReal) (ix2 0 d)) n := by
  have h : ∃ y2 y5, (V m c main_v20 : S1x2304.Idx → EReal)
      = shapeCast S1x2304 (gparts (tile8 ((m ((c.tc : Thread nD τ).loc main_arg6)) : S1x64.Idx → EReal)) (tile8 ((m ((c.tc : Thread nD τ).loc main_arg7)) : S1x64.Idx → EReal)) y2
          (tile8 ((m ((c.tc : Thread nD τ).loc main_arg8)) : S1x64.Idx → EReal)) (tile2 ((m ((c.tc : Thread nD τ).loc main_arg9)) : S1x64.Idx → EReal)) y5) shapeCasts_S2304_S1x2304 := by
    unfold V hostOps0
    after_results
    exact ⟨_, _, rfl⟩
  obtain ⟨y2, y5, h⟩ := h
  rw [h]
  exact (gain_flat ..).trans (gparts_apply _ _ _ _ _ _ n hn)

end Cert.Ffn1Host

end
-- ==== Proof.Ffn1Ref.lean ====
module
public import proofs.«01_k».proof.Proof.Gen.Ffn1RefIdeal.Read
public import proofs.«01_k».proof.Proof.Ffn1Spec
public import Idealize.ShloMosaic.Lib.Pipeline.Value
public import Idealize.ShloMosaic.Lib.Pointwise
@[expose] public section

/-! # The reference of the first layer, row by row -/

set_option maxRecDepth 16384

noncomputable section
open scoped BigOperators
open Idealize.ShloMosaic Idealize.ShloMosaic.TcCoe Idealize.SL.Sem
open Cert.Ffn1RefIdeal Cert.Ffn1RefIdeal.Gen Cert.Ffn1RefIdeal.Read Cert.MergeSpec Cert.Ffn1Spec

namespace Cert.Ffn1Ref

variable (x0 : S16x2048x1024.Idx → EReal) (x1 : S1x1024.Idx → EReal) (x2 : S1x1024x5632.Idx → EReal) (x3 : S1x2816x1024.Idx → EReal)
  (x4 : S1x1024.Idx → EReal) (x5 : S1x1024x2304.Idx → EReal) (x6 x7 x8 x9 : S1x64.Idx → EReal)

/-- A row of a three-axis array. -/
def row3 {A B N : ℕ} (x : (⟨3, ![A, B, N]⟩ : Shape).Idx → EReal) (b : Fin A) (r : Fin B) (j : Fin N) : EReal := x (ix3 b r j)
/-- The row of a one-row array. -/
def row1 {N : ℕ} (x : (⟨2, ![1, N]⟩ : Shape).Idx → EReal) (j : Fin N) : EReal := x (ix2 0 j)

theorem v13_row (b : Fin 16) (r : Fin 2048) : row3 (val_main_v13 (F := Ideal) x0 x1) b r = rms (row3 x0 b r) (row1 x1) := by
  funext k
  unfold row3 row1 rms
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

theorem v16_row (b : Fin 16) (r : Fin 2048) : row3 (val_main_v16 (F := Ideal) x0 x1 x2) b r
    = dot (row3 (val_main_v13 (F := Ideal) x0 x1) b r) (row3 x2 0) := by
  funext k
  unfold row3 dot val_main_v16
  generalize val_main_v13 (F := Ideal) x0 x1 = y
  pointwise [val_main_v14]

theorem v26_row (b : Fin 16) (r : Fin 2048) (k : Fin 2816) : row3 (val_main_v26 (F := Ideal) x0 x1 x2) b r k
    = row3 (val_main_v16 (F := Ideal) x0 x1 x2) b r (hidL k) * sgm (row3 (val_main_v16 (F := Ideal) x0 x1 x2) b r (hidL k))
      * row3 (val_main_v16 (F := Ideal) x0 x1 x2) b r (hidR k) := by
  unfold row3 sgm val_main_v26 val_main_v25 val_main_v24 val_main_v22 val_main_v20 val_main_v19 val_main_v18 val_main_v17
  generalize val_main_v16 (F := Ideal) x0 x1 x2 = y
  pointwise [val_main_v23, val_main_v21, val_main_cst_2, val_main_cst_3]
  rfl

/-- The row after the feed-forward layer. -/
theorem v30_row (b : Fin 16) (r : Fin 2048) : row3 (val_main_v30 (F := Ideal) x0 x1 x2 x3) b r
    = ffnR (row3 x0 b r) (row1 x1) (row3 x2 0) (row3 x3 0) := by
  have ha : actR (rms (row3 x0 b r) (row1 x1)) (row3 x2 0) = row3 (val_main_v26 (F := Ideal) x0 x1 x2) b r := by
    funext k
    rw [v26_row, v16_row, v13_row]
    rfl
  funext n
  unfold ffnR
  rw [ha]
  unfold row3 dot val_main_v30 val_main_v29 val_main_v27
  generalize val_main_v26 (F := Ideal) x0 x1 x2 = y
  pointwise [val_main_v28, val_main_v15, val_main_cst_4]

theorem v44_row (b : Fin 16) (r : Fin 2048) : row3 (val_main_v44 (F := Ideal) x0 x1 x2 x3 x4) b r
    = rms (row3 (val_main_v30 (F := Ideal) x0 x1 x2 x3) b r) (row1 x4) := by
  funext k
  unfold row3 row1 rms val_main_v44 val_main_v41 val_main_v40 val_main_v39 val_main_v38 val_main_v36 val_main_v34 val_main_v33 val_main_v32
  generalize val_main_v30 (F := Ideal) x0 x1 x2 x3 = y
  pointwise [val_main_v43, val_main_v42, val_main_v37, val_main_v35, val_main_v31, val_main_cst_5, val_main_cst_6, val_main_cst_7]

/-- The projected row. -/
theorem v46_row (b : Fin 16) (r : Fin 2048) : row3 (val_main_v46 (F := Ideal) x0 x1 x2 x3 x4 x5) b r
    = dot (rms (ffnR (row3 x0 b r) (row1 x1) (row3 x2 0) (row3 x3 0)) (row1 x4)) (row3 x5 0) := by
  rw [← v30_row, ← v44_row]
  funext k
  unfold row3 dot val_main_v46
  generalize val_main_v44 (F := Ideal) x0 x1 x2 x3 x4 = y
  pointwise [val_main_v45]

/-! ## The heads -/

theorem v53_at (b : Fin 16) (r : Fin 2048) (h : Fin 8) (d : Fin 64) (n : Fin 2304) (hn : n.val = 0 + (h.val * 64 + d.val)) :
    val_main_v53 (F := Ideal) x0 x1 x2 x3 x4 x5 (ix4 b r h d) = row3 (val_main_v46 (F := Ideal) x0 x1 x2 x3 x4 x5) b r n := by
  unfold row3 val_main_v53 val_main_v47
  generalize val_main_v46 (F := Ideal) x0 x1 x2 x3 x4 x5 = y
  have hd := d.isLt
  have hh := h.isLt
  refine (shapeCast_apply (s := S16x2048x512) (t := S16x2048x8x64) _ _ (ix4 b r h d) (ix3 b r (⟨h.val * 64 + d.val, by omega⟩ : Fin 512)) ?_).trans ?_
  · rw [Shape.rowMajor_val_three, Shape.rowMajor_val_four]
    show (b.val * 2048 + r.val) * 512 + (h.val * 64 + d.val) = ((b.val * 2048 + r.val) * 8 + h.val) * 64 + d.val
    omega
  · refine congrArg y (funext fun a => Fin.ext ?_)
    match a with
    | ⟨0, _⟩ => show 0 + b.val = b.val; omega
    | ⟨1, _⟩ => show 0 + r.val = r.val; omega
    | ⟨2, _⟩ => show 0 + (h.val * 64 + d.val) = n.val; omega

theorem v67_at (b : Fin 16) (r : Fin 2048) (h : Fin 8) (d : Fin 64) :
    val_main_v67 (F := Ideal) x0 x1 x2 x3 x4 x5 x6 (ix4 b r h d) = hd (fun e => val_main_v53 (F := Ideal) x0 x1 x2 x3 x4 x5 (ix4 b r h e)) (row1 x6 d) d := by
  unfold hd row1 val_main_v67 val_main_v64 val_main_v63 val_main_v62 val_main_v61 val_main_v59 val_main_v57 val_main_v56 val_main_v55
  generalize val_main_v53 (F := Ideal) x0 x1 x2 x3 x4 x5 = y
  pointwise [val_main_v66, val_main_v65, val_main_v60, val_main_v58, val_main_v54, val_main_cst_8, val_main_cst_9, val_main_cst_10]

theorem v68_at (b : Fin 16) (r : Fin 2048) (h : Fin 8) (d : Fin 64) (p : Fin 512) (hp : p.val = h.val * 64 + d.val) :
    val_main_v68 (F := Ideal) x0 x1 x2 x3 x4 x5 x6 (ix3 b r p) = val_main_v67 (F := Ideal) x0 x1 x2 x3 x4 x5 x6 (ix4 b r h d) := by
  unfold val_main_v68
  generalize val_main_v67 (F := Ideal) x0 x1 x2 x3 x4 x5 x6 = y
  refine shapeCast_apply (s := S16x2048x8x64) (t := S16x2048x512) _ _ (ix3 b r p) (ix4 b r h d) ?_
  rw [Shape.rowMajor_val_three, Shape.rowMajor_val_four]
  show ((b.val * 2048 + r.val) * 8 + h.val) * 64 + d.val = (b.val * 2048 + r.val) * 512 + p.val
  omega

theorem v69_at (b : Fin 16) (r : Fin 2048) (h : Fin 8) (d : Fin 64) (n : Fin 2304) (hn : n.val = 512 + (h.val * 64 + d.val)) :
    val_main_v69 (F := Ideal) x0 x1 x2 x3 x4 x5 (ix4 b r h d) = row3 (val_main_v46 (F := Ideal) x0 x1 x2 x3 x4 x5) b r n := by
  unfold row3 val_main_v69 val_main_v48
  generalize val_main_v46 (F := Ideal) x0 x1 x2 x3 x4 x5 = y
  have hd := d.isLt
  have hh := h.isLt
  refine (shapeCast_apply (s := S16x2048x512) (t := S16x2048x8x64) _ _ (ix4 b r h d) (ix3 b r (⟨h.val * 64 + d.val, by omega⟩ : Fin 512)) ?_).trans ?_
  · rw [Shape.rowMajor_val_three, Shape.rowMajor_val_four]
    show (b.val * 2048 + r.val) * 512 + (h.val * 64 + d.val) = ((b.val * 2048 + r.val) * 8 + h.val) * 64 + d.val
    omega
  · refine congrArg y (funext fun a => Fin.ext ?_)
    match a with
    | ⟨0, _⟩ => show 0 + b.val = b.val; omega
    | ⟨1, _⟩ => show 0 + r.val = r.val; omega
    | ⟨2, _⟩ => show 512 + (h.val * 64 + d.val) = n.val; omega

theorem v83_at (b : Fin 16) (r : Fin 2048) (h : Fin 8) (d : Fin 64) :
    val_main_v83 (F := Ideal) x0 x1 x2 x3 x4 x5 x7 (ix4 b r h d) = hd (fun e => val_main_v69 (F := Ideal) x0 x1 x2 x3 x4 x5 (ix4 b r h e)) (row1 x7 d) d := by
  unfold hd row1 val_main_v83 val_main_v80 val_main_v79 val_main_v78 val_main_v77 val_main_v75 val_main_v73 val_main_v72 val_main_v71
  generalize val_main_v69 (F := Ideal) x0 x1 x2 x3 x4 x5 = y
  pointwise [val_main_v82, val_main_v81, val_main_v76, val_main_v74, val_main_v70, val_main_cst_11, val_main_cst_12, val_main_cst_13]

theorem v84_at (b : Fin 16) (r : Fin 2048) (h : Fin 8) (d : Fin 64) (p : Fin 512) (hp : p.val = h.val * 64 + d.val) :
    val_main_v84 (F := Ideal) x0 x1 x2 x3 x4 x5 x7 (ix3 b r p) = val_main_v83 (F := Ideal) x0 x1 x2 x3 x4 x5 x7 (ix4 b r h d) := by
  unfold val_main_v84
  generalize val_main_v83 (F := Ideal) x0 x1 x2 x3 x4 x5 x7 = y
  refine shapeCast_apply (s := S16x2048x8x64) (t := S16x2048x512) _ _ (ix3 b r p) (ix4 b r h d) ?_
  rw [Shape.rowMajor_val_three, Shape.rowMajor_val_four]
  show ((b.val * 2048 + r.val) * 8 + h.val) * 64 + d.val = (b.val * 2048 + r.val) * 512 + p.val
  omega

theorem v85_at (b : Fin 16) (r : Fin 2048) (h : Fin 2) (g : Fin 4) (d : Fin 64) (n : Fin 2304) (hn : n.val = 1536 + (h.val * 256 + g.val * 64 + d.val)) :
    val_main_v85 (F := Ideal) x0 x1 x2 x3 x4 x5 (ix5 b r h g d) = row3 (val_main_v46 (F := Ideal) x0 x1 x2 x3 x4 x5) b r n := by
  unfold row3 val_main_v85 val_main_v50
  generalize val_main_v46 (F := Ideal) x0 x1 x2 x3 x4 x5 = y
  have hd := d.isLt
  have hh := h.isLt
  have hg := g.isLt
  refine (shapeCast_apply (s := S16x2048x512) (t := S16x2048x2x4x64) _ _ (ix5 b r h g d) (ix3 b r (⟨h.val * 256 + g.val * 64 + d.val, by omega⟩ : Fin 512)) ?_).trans ?_
  · rw [Shape.rowMajor_val_three, Shape.rowMajor_val_five]
    show (b.val * 2048 + r.val) * 512 + (h.val * 256 + g.val * 64 + d.val) = ((((b.val * 2048 + r.val) * 2 + h.val) * 4 + g.val) * 64 + d.val)
    omega
  · refine congrArg y (funext fun a => Fin.ext ?_)
    match a with
    | ⟨0, _⟩ => show 0 + b.val = b.val; omega
    | ⟨1, _⟩ => show 0 + r.val = r.val; omega
    | ⟨2, _⟩ => show 1536 + (h.val * 256 + g.val * 64 + d.val) = n.val; omega

theorem v99_at (b : Fin 16) (r : Fin 2048) (h : Fin 2) (g : Fin 4) (d : Fin 64) :
    val_main_v99 (F := Ideal) x0 x1 x2 x3 x4 x5 x8 (ix5 b r h g d) = hd (fun e => val_main_v85 (F := Ideal) x0 x1 x2 x3 x4 x5 (ix5 b r h g e)) (row1 x8 d) d := by
  unfold hd row1 val_main_v99 val_main_v96 val_main_v95 val_main_v94 val_main_v93 val_main_v91 val_main_v89 val_main_v88 val_main_v87
  generalize val_main_v85 (F := Ideal) x0 x1 x2 x3 x4 x5 = y
  pointwise [val_main_v98, val_main_v97, val_main_v92, val_main_v90, val_main_v86, val_main_cst_14, val_main_cst_15, val_main_cst_16]

theorem v117_at (b : Fin 16) (r : Fin 2048) (h : Fin 2) (g : Fin 4) (d : Fin 64) (p : Fin 512) (hp : p.val = g.val * 128 + h.val * 64 + d.val) :
    val_main_v117 (F := Ideal) x0 x1 x2 x3 x4 x5 x8 (ix3 b r p) = val_main_v99 (F := Ideal) x0 x1 x2 x3 x4 x5 x8 (ix5 b r h g d) := by
  unfold val_main_v117 val_main_v116
  generalize val_main_v99 (F := Ideal) x0 x1 x2 x3 x4 x5 x8 = y
  refine (shapeCast_apply (s := S16x2048x4x2x64) (t := S16x2048x512) _ _ (ix3 b r p) (ix5 b r g h d) ?_).trans ?_
  · rw [Shape.rowMajor_val_three, Shape.rowMajor_val_five]
    show ((((b.val * 2048 + r.val) * 4 + g.val) * 2 + h.val) * 64 + d.val) = (b.val * 2048 + r.val) * 512 + p.val
    omega
  · pointwise []

theorem v100_at (b : Fin 16) (r : Fin 2048) (h : Fin 2) (d : Fin 64) (n : Fin 2304) (hn : n.val = 2048 + (h.val * 64 + d.val)) :
    val_main_v100 (F := Ideal) x0 x1 x2 x3 x4 x5 (ix4 b r h d) = row3 (val_main_v46 (F := Ideal) x0 x1 x2 x3 x4 x5) b r n := by
  unfold row3 val_main_v100 val_main_v51
  generalize val_main_v46 (F := Ideal) x0 x1 x2 x3 x4 x5 = y
  have hd := d.isLt
  have hh := h.isLt
  refine (shapeCast_apply (s := S16x2048x128) (t := S16x2048x2x64) _ _ (ix4 b r h d) (ix3 b r (⟨h.val * 64 + d.val, by omega⟩ : Fin 128)) ?_).trans ?_
  · rw [Shape.rowMajor_val_three, Shape.rowMajor_val_four]
    show (b.val * 2048 + r.val) * 128 + (h.val * 64 + d.val) = ((b.val * 2048 + r.val) * 2 + h.val) * 64 + d.val
    omega
  · refine congrArg y (funext fun a => Fin.ext ?_)
    match a with
    | ⟨0, _⟩ => show 0 + b.val = b.val; omega
    | ⟨1, _⟩ => show 0 + r.val = r.val; omega
    | ⟨2, _⟩ => show 2048 + (h.val * 64 + d.val) = n.val; omega

theorem v114_at (b : Fin 16) (r : Fin 2048) (h : Fin 2) (d : Fin 64) :
    val_main_v114 (F := Ideal) x0 x1 x2 x3 x4 x5 x9 (ix4 b r h d) = hd (fun e => val_main_v100 (F := Ideal) x0 x1 x2 x3 x4 x5 (ix4 b r h e)) (row1 x9 d) d := by
  unfold hd row1 val_main_v114 val_main_v111 val_main_v110 val_main_v109 val_main_v108 val_main_v106 val_main_v104 val_main_v103 val_main_v102
  generalize val_main_v100 (F := Ideal) x0 x1 x2 x3 x4 x5 = y
  pointwise [val_main_v113, val_main_v112, val_main_v107, val_main_v105, val_main_v101, val_main_cst_17, val_main_cst_18, val_main_cst_19]

theorem v115_at (b : Fin 16) (r : Fin 2048) (h : Fin 2) (d : Fin 64) (p : Fin 128) (hp : p.val = h.val * 64 + d.val) :
    val_main_v115 (F := Ideal) x0 x1 x2 x3 x4 x5 x9 (ix3 b r p) = val_main_v114 (F := Ideal) x0 x1 x2 x3 x4 x5 x9 (ix4 b r h d) := by
  unfold val_main_v115
  generalize val_main_v114 (F := Ideal) x0 x1 x2 x3 x4 x5 x9 = y
  refine shapeCast_apply (s := S16x2048x2x64) (t := S16x2048x128) _ _ (ix3 b r p) (ix4 b r h d) ?_
  rw [Shape.rowMajor_val_three, Shape.rowMajor_val_four]
  show ((b.val * 2048 + r.val) * 2 + h.val) * 64 + d.val = (b.val * 2048 + r.val) * 128 + p.val
  omega

/-! ## The stored columns -/

variable (y0 y1 y2 y3 : S16x2048x512.Idx → EReal) (y4 y5 : S16x2048x128.Idx → EReal)

/-- The six parts of the stored row. -/
def parts : S16x2048x2304.Idx → EReal :=
  concatenate S16x2048x2304 2 [⟨S16x2048x512, y0⟩, ⟨S16x2048x512, y1⟩, ⟨S16x2048x512, y2⟩, ⟨S16x2048x512, y3⟩, ⟨S16x2048x128, y4⟩, ⟨S16x2048x128, y5⟩]
    concatenates_S16x2048x512_S16x2048x512_S16x2048x512_S16x2048x512_S16x2048x128_S16x2048x128_S16x2048x2304_d2

theorem parts_0 (b : Fin 16) (r : Fin 2048) (d : Fin 512) (n : Fin 2304) (hn : n.val = 0 + d.val) :
    parts y0 y1 y2 y3 y4 y5 (ix3 b r n) = y0 (ix3 b r d) := by
  unfold parts
  refine concatenate_apply_piece (t := S16x2048x2304) 2 [⟨S16x2048x512, y0⟩, ⟨S16x2048x512, y1⟩, ⟨S16x2048x512, y2⟩, ⟨S16x2048x512, y3⟩, ⟨S16x2048x128, y4⟩, ⟨S16x2048x128, y5⟩] _ _ 0 (by show _ < 6; omega) S16x2048x512 y0 rfl rfl 0 rfl _ (fun a ha => ?_) ?_
  · match a with
    | ⟨0, _⟩ => rfl
    | ⟨1, _⟩ => rfl
    | ⟨2, _⟩ => exact absurd rfl ha
  · show 0 + d.val = n.val; omega

theorem parts_1 (b : Fin 16) (r : Fin 2048) (d : Fin 512) (n : Fin 2304) (hn : n.val = 512 + d.val) :
    parts y0 y1 y2 y3 y4 y5 (ix3 b r n) = y1 (ix3 b r d) := by
  unfold parts
  refine concatenate_apply_piece (t := S16x2048x2304) 2 [⟨S16x2048x512, y0⟩, ⟨S16x2048x512, y1⟩, ⟨S16x2048x512, y2⟩, ⟨S16x2048x512, y3⟩, ⟨S16x2048x128, y4⟩, ⟨S16x2048x128, y5⟩] _ _ 1 (by show _ < 6; omega) S16x2048x512 y1 rfl rfl 512 rfl _ (fun a ha => ?_) ?_
  · match a with
    | ⟨0, _⟩ => rfl
    | ⟨1, _⟩ => rfl
    | ⟨2, _⟩ => exact absurd rfl ha
  · show 512 + d.val = n.val; omega

theorem parts_2 (b : Fin 16) (r : Fin 2048) (d : Fin 512) (n : Fin 2304) (hn : n.val = 1024 + d.val) :
    parts y0 y1 y2 y3 y4 y5 (ix3 b r n) = y2 (ix3 b r d) := by
  unfold parts
  refine concatenate_apply_piece (t := S16x2048x2304) 2 [⟨S16x2048x512, y0⟩, ⟨S16x2048x512, y1⟩, ⟨S16x2048x512, y2⟩, ⟨S16x2048x512, y3⟩, ⟨S16x2048x128, y4⟩, ⟨S16x2048x128, y5⟩] _ _ 2 (by show _ < 6; omega) S16x2048x512 y2 rfl rfl 1024 rfl _ (fun a ha => ?_) ?_
  · match a with
    | ⟨0, _⟩ => rfl
    | ⟨1, _⟩ => rfl
    | ⟨2, _⟩ => exact absurd rfl ha
  · show 1024 + d.val = n.val; omega

theorem parts_3 (b : Fin 16) (r : Fin 2048) (d : Fin 512) (n : Fin 2304) (hn : n.val = 1536 + d.val) :
    parts y0 y1 y2 y3 y4 y5 (ix3 b r n) = y3 (ix3 b r d) := by
  unfold parts
  refine concatenate_apply_piece (t := S16x2048x2304) 2 [⟨S16x2048x512, y0⟩, ⟨S16x2048x512, y1⟩, ⟨S16x2048x512, y2⟩, ⟨S16x2048x512, y3⟩, ⟨S16x2048x128, y4⟩, ⟨S16x2048x128, y5⟩] _ _ 3 (by show _ < 6; omega) S16x2048x512 y3 rfl rfl 1536 rfl _ (fun a ha => ?_) ?_
  · match a with
    | ⟨0, _⟩ => rfl
    | ⟨1, _⟩ => rfl
    | ⟨2, _⟩ => exact absurd rfl ha
  · show 1536 + d.val = n.val; omega

theorem parts_4 (b : Fin 16) (r : Fin 2048) (d : Fin 128) (n : Fin 2304) (hn : n.val = 2048 + d.val) :
    parts y0 y1 y2 y3 y4 y5 (ix3 b r n) = y4 (ix3 b r d) := by
  unfold parts
  refine concatenate_apply_piece (t := S16x2048x2304) 2 [⟨S16x2048x512, y0⟩, ⟨S16x2048x512, y1⟩, ⟨S16x2048x512, y2⟩, ⟨S16x2048x512, y3⟩, ⟨S16x2048x128, y4⟩, ⟨S16x2048x128, y5⟩] _ _ 4 (by show _ < 6; omega) S16x2048x128 y4 rfl rfl 2048 rfl _ (fun a ha => ?_) ?_
  · match a with
    | ⟨0, _⟩ => rfl
    | ⟨1, _⟩ => rfl
    | ⟨2, _⟩ => exact absurd rfl ha
  · show 2048 + d.val = n.val; omega

theorem parts_5 (b : Fin 16) (r : Fin 2048) (d : Fin 128) (n : Fin 2304) (hn : n.val = 2176 + d.val) :
    parts y0 y1 y2 y3 y4 y5 (ix3 b r n) = y5 (ix3 b r d) := by
  unfold parts
  refine concatenate_apply_piece (t := S16x2048x2304) 2 [⟨S16x2048x512, y0⟩, ⟨S16x2048x512, y1⟩, ⟨S16x2048x512, y2⟩, ⟨S16x2048x512, y3⟩, ⟨S16x2048x128, y4⟩, ⟨S16x2048x128, y5⟩] _ _ 5 (by show _ < 6; omega) S16x2048x128 y5 rfl rfl 2176 rfl _ (fun a ha => ?_) ?_
  · match a with
    | ⟨0, _⟩ => rfl
    | ⟨1, _⟩ => rfl
    | ⟨2, _⟩ => exact absurd rfl ha
  · show 2176 + d.val = n.val; omega

theorem v118_parts : val_main_v118 (F := Ideal) x0 x1 x2 x3 x4 x5 x6 x7 x8 x9
    = parts (val_main_v68 (F := Ideal) x0 x1 x2 x3 x4 x5 x6) (val_main_v84 (F := Ideal) x0 x1 x2 x3 x4 x5 x7) (val_main_v49 (F := Ideal) x0 x1 x2 x3 x4 x5)
        (val_main_v117 (F := Ideal) x0 x1 x2 x3 x4 x5 x8) (val_main_v115 (F := Ideal) x0 x1 x2 x3 x4 x5 x9) (val_main_v52 (F := Ideal) x0 x1 x2 x3 x4 x5) := rfl

theorem v49_at (b : Fin 16) (r : Fin 2048) (d : Fin 512) (n : Fin 2304) (hn : n.val = 1024 + d.val) :
    val_main_v49 (F := Ideal) x0 x1 x2 x3 x4 x5 (ix3 b r d) = row3 (val_main_v46 (F := Ideal) x0 x1 x2 x3 x4 x5) b r n := by
  unfold row3 val_main_v49
  generalize val_main_v46 (F := Ideal) x0 x1 x2 x3 x4 x5 = y
  refine congrArg y (funext fun a => Fin.ext ?_)
  match a with
  | ⟨0, _⟩ => show 0 + b.val = b.val; omega
  | ⟨1, _⟩ => show 0 + r.val = r.val; omega
  | ⟨2, _⟩ => show 1024 + d.val = n.val; omega

theorem v52_at (b : Fin 16) (r : Fin 2048) (d : Fin 128) (n : Fin 2304) (hn : n.val = 2176 + d.val) :
    val_main_v52 (F := Ideal) x0 x1 x2 x3 x4 x5 (ix3 b r d) = row3 (val_main_v46 (F := Ideal) x0 x1 x2 x3 x4 x5) b r n := by
  unfold row3 val_main_v52
  generalize val_main_v46 (F := Ideal) x0 x1 x2 x3 x4 x5 = y
  refine congrArg y (funext fun a => Fin.ext ?_)
  match a with
  | ⟨0, _⟩ => show 0 + b.val = b.val; omega
  | ⟨1, _⟩ => show 0 + r.val = r.val; omega
  | ⟨2, _⟩ => show 2176 + d.val = n.val; omega

theorem colN_id (n : ℕ) (h : n < 1536 ∨ 2048 ≤ n) : colN n = n := by
  unfold colN
  rw [if_neg (by omega)]

theorem colN_q (g h d : ℕ) (hg : g < 4) (hh : h < 2) (hd : d < 64) : colN (1536 + (g * 128 + h * 64 + d)) = 1536 + (h * 256 + g * 64 + d) := by
  unfold colN
  rw [if_pos (by omega)]
  omega

theorem v118_row (b : Fin 16) (r : Fin 2048) (n : Fin 2304) : val_main_v118 (F := Ideal) x0 x1 x2 x3 x4 x5 x6 x7 x8 x9 (ix3 b r n)
    = qkvR (fun n => row3 (val_main_v46 (F := Ideal) x0 x1 x2 x3 x4 x5) b r (col n)) (gainR (row1 x6) (row1 x7) (row1 x8) (row1 x9)) n := by
  rw [v118_parts]
  have hn := n.isLt
  unfold qkvR gainR
  by_cases h1 : n.val < 512
  · rw [if_pos (by omega), if_pos h1]
    refine (parts_0 _ _ _ _ _ _ b r ⟨n.val, h1⟩ n (by show _ = 0 + n.val; omega)).trans ?_
    refine (v68_at _ _ _ _ _ _ _ b r ⟨n.val / 64, by omega⟩ (inHead n) _ (by show n.val = n.val / 64 * 64 + n.val % 64; omega)).trans ?_
    refine (v67_at _ _ _ _ _ _ _ b r _ _).trans (congrArg (fun z => hd z _ _) (funext fun e => ?_))
    have he := e.isLt
    exact v53_at _ _ _ _ _ _ b r _ e _ (by show colN (64 * (n.val / 64) + e.val) = 0 + (n.val / 64 * 64 + e.val); rw [colN_id _ (by omega)]; omega)
  by_cases h2 : n.val < 1024
  · rw [if_pos (by omega), if_neg h1, if_pos h2]
    refine (parts_1 _ _ _ _ _ _ b r ⟨n.val - 512, by omega⟩ n (by show _ = 512 + (n.val - 512); omega)).trans ?_
    refine (v84_at _ _ _ _ _ _ _ b r ⟨(n.val - 512) / 64, by omega⟩ (inHead n) _ (by show n.val - 512 = (n.val - 512) / 64 * 64 + n.val % 64; omega)).trans ?_
    refine (v83_at _ _ _ _ _ _ _ b r _ _).trans (congrArg (fun z => hd z _ _) (funext fun e => ?_))
    have he := e.isLt
    exact v69_at _ _ _ _ _ _ b r _ e _ (by show colN (64 * (n.val / 64) + e.val) = 512 + ((n.val - 512) / 64 * 64 + e.val); rw [colN_id _ (by omega)]; omega)
  by_cases h3 : n.val < 1536
  · rw [if_neg (by omega)]
    refine (parts_2 _ _ _ _ _ _ b r ⟨n.val - 1024, by omega⟩ n (by show _ = 1024 + (n.val - 1024); omega)).trans ?_
    refine v49_at _ _ _ _ _ _ b r _ _ ?_
    show colN n.val = 1024 + (n.val - 1024)
    rw [colN_id _ (by omega)]; omega
  by_cases h4 : n.val < 2048
  · rw [if_pos (by omega), if_neg h1, if_neg h2, if_pos h4]
    refine (parts_3 _ _ _ _ _ _ b r ⟨n.val - 1536, by omega⟩ n (by show _ = 1536 + (n.val - 1536); omega)).trans ?_
    refine (v117_at _ _ _ _ _ _ _ b r ⟨(n.val - 1536) / 64 % 2, by omega⟩ ⟨(n.val - 1536) / 128, by omega⟩ (inHead n) _
      (by show n.val - 1536 = (n.val - 1536) / 128 * 128 + (n.val - 1536) / 64 % 2 * 64 + n.val % 64; omega)).trans ?_
    refine (v99_at _ _ _ _ _ _ _ b r _ _ _).trans (congrArg (fun z => hd z _ _) (funext fun e => ?_))
    have he := e.isLt
    refine v85_at _ _ _ _ _ _ b r _ _ e _ ?_
    show colN (64 * (n.val / 64) + e.val) = 1536 + ((n.val - 1536) / 64 % 2 * 256 + (n.val - 1536) / 128 * 64 + e.val)
    rw [← colN_q _ _ _ (by omega) (by omega) he]
    refine congrArg colN ?_
    omega
  by_cases h5 : n.val < 2176
  · rw [if_pos (by omega), if_neg h1, if_neg h2, if_neg h4]
    refine (parts_4 _ _ _ _ _ _ b r ⟨n.val - 2048, by omega⟩ n (by show _ = 2048 + (n.val - 2048); omega)).trans ?_
    refine (v115_at _ _ _ _ _ _ _ b r ⟨(n.val - 2048) / 64, by omega⟩ (inHead n) _ (by show n.val - 2048 = (n.val - 2048) / 64 * 64 + n.val % 64; omega)).trans ?_
    refine (v114_at _ _ _ _ _ _ _ b r _ _).trans (congrArg (fun z => hd z _ _) (funext fun e => ?_))
    have he := e.isLt
    exact v100_at _ _ _ _ _ _ b r _ e _ (by show colN (64 * (n.val / 64) + e.val) = 2048 + ((n.val - 2048) / 64 * 64 + e.val); rw [colN_id _ (by omega)]; omega)
  · rw [if_neg (by omega)]
    refine (parts_5 _ _ _ _ _ _ b r ⟨n.val - 2176, by omega⟩ n (by show _ = 2176 + (n.val - 2176); omega)).trans ?_
    refine v52_at _ _ _ _ _ _ b r _ _ ?_
    show colN n.val = 2176 + (n.val - 2176)
    rw [colN_id _ (by omega)]; omega

/-- The reference's first result at a row. -/
theorem ref_tile (b : Fin 16) (r : Fin 2048) (R : Fin 32768) (hR : R.val = 2048 * b.val + r.val) (n : Fin 1024) :
    val_main_v119 (F := Ideal) x0 x1 x2 x3 (ix2 R n) = ffnR (row3 x0 b r) (row1 x1) (row3 x2 0) (row3 x3 0) n := by
  rw [← v30_row]
  unfold val_main_v119 row3
  generalize val_main_v30 (F := Ideal) x0 x1 x2 x3 = y
  refine shapeCast_apply _ _ _ _ ?_
  rw [Shape.rowMajor_val_three, Shape.rowMajor_val_two]
  show (b.val * 2048 + r.val) * 1024 + n.val = R.val * 1024 + n.val
  omega

/-- The reference's second result at a row. -/
theorem ref_qkv (b : Fin 16) (r : Fin 2048) (R : Fin 32768) (hR : R.val = 2048 * b.val + r.val) (n : Fin 2304) :
    val_main_v121 (F := Ideal) x0 x1 x2 x3 x4 x5 x6 x7 x8 x9 (ix2 R n)
    = qkvR (fun n => dot (rms (ffnR (row3 x0 b r) (row1 x1) (row3 x2 0) (row3 x3 0)) (row1 x4)) (row3 x5 0) (col n))
        (gainR (row1 x6) (row1 x7) (row1 x8) (row1 x9)) n := by
  rw [← v46_row, ← v118_row]
  unfold val_main_v121 val_main_v120
  generalize val_main_v118 (F := Ideal) x0 x1 x2 x3 x4 x5 x6 x7 x8 x9 = y
  refine shapeCast_apply (s := S16x2048x2304) (t := S32768x2304) y _ (ix2 R n) (ix3 b r n) ?_
  rw [Shape.rowMajor_val_three, Shape.rowMajor_val_two]
  show (b.val * 2048 + r.val) * 2304 + n.val = R.val * 2304 + n.val
  omega

end Cert.Ffn1Ref

end
-- ==== Proof.Ffn1Value.lean ====
module
public import proofs.«01_k».proof.Proof.Ffn1Host
public import proofs.«01_k».proof.Proof.Ffn1Ref
@[expose] public section

/-! # The two arrays the first layer leaves, and the reference's

Grid point `t` reads rows `512 * t` to `512 * t + 511` of the residual and the whole of the weights, and writes the same rows of the
residual after the layer and of the stored projection.
-/

set_option maxRecDepth 16384

noncomputable section
open scoped BigOperators
open Idealize.ShloMosaic Idealize.ShloMosaic.TcCoe Idealize.SL.Sem
open Idealize.ShloMosaic.Pipeline (Dat)
open Cert.Ffn1Ideal Cert.Ffn1Ideal.Gen Cert.MergeSpec Cert.Ffn1Spec Cert.Ffn1Pays Cert.Ffn1Host
open Cert.Ffn1Ref (row3 row1)

namespace Cert.Ffn1Value

variable (m : (ℓ : Loc nD τ sig) → Buf (Elt Ideal) ℓ)

theorem N_lt (t : Fin cfg0.N) : t.val < 64 := t.isLt

theorem idx_rows : ∀ t : Fin cfg0.N, (win0_0.index t 0 = t.val ∧ win0_0.index t 1 = 0) ∧ (win0_5.index t 0 = t.val ∧ win0_5.index t 1 = 0)
    ∧ (win0_6.index t 0 = t.val ∧ win0_6.index t 1 = 0) :=
  (by decide +kernel : ∀ t : Fin grid0.N, _)

theorem idx_whole : ∀ t : Fin cfg0.N, (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0) :=
  (by decide +kernel : ∀ t : Fin grid0.N, _)

/-- Row `r` of grid point `t`'s block, in the whole array. -/
def rowAt (t : Fin cfg0.N) (r : Fin 512) : Fin 32768 := ⟨512 * t.val + r.val, by have := N_lt t; have := r.isLt; omega⟩

theorem block_0 (c : Dev nD) (t : Fin cfg0.N) (r : Fin 512) (n : Fin 1024) :
    (iblk m c 0 t : S512x1024.Idx → EReal) (ix2 r n) = (V m c main_v0 : S32768x1024.Idx → EReal) (ix2 (rowAt t r) n) := by
  show V m c main_v0 _ = V m c main_v0 _
  refine congrArg _ (funext fun a => Fin.ext ?_)
  obtain ⟨⟨h0, h1⟩, -, -⟩ := idx_rows t
  match a with
  | ⟨0, _⟩ => show win0_0.index t 0 * 512 + 1 * r.val = 512 * t.val + r.val; omega
  | ⟨1, _⟩ => show win0_0.index t 1 * 1024 + 1 * n.val = n.val; omega

theorem block_1 (c : Dev nD) (t : Fin cfg0.N) : (iblk m c 1 t : S1x1024.Idx → EReal) = (V m c main_v31 : S1x1024.Idx → EReal) := by
  funext y
  show V m c main_v31 _ = V m c main_v31 y
  refine congrArg _ (funext fun a => Fin.ext ?_)
  obtain ⟨⟨h0, h1⟩, -, -, -⟩ := idx_whole t
  match a with
  | ⟨0, _⟩ => show win0_1.index t 0 * 1 + 1 * (y 0).val = (y 0).val; omega
  | ⟨1, _⟩ => show win0_1.index t 1 * 1024 + 1 * (y 1).val = (y 1).val; omega

theorem block_2 (c : Dev nD) (t : Fin cfg0.N) : (iblk m c 2 t : S1x1024.Idx → EReal) = (V m c main_v35 : S1x1024.Idx → EReal) := by
  funext y
  show V m c main_v35 _ = V m c main_v35 y
  refine congrArg _ (funext fun a => Fin.ext ?_)
  obtain ⟨-, ⟨h0, h1⟩, -, -⟩ := idx_whole t
  match a with
  | ⟨0, _⟩ => show win0_2.index t 0 * 1 + 1 * (y 0).val = (y 0).val; omega
  | ⟨1, _⟩ => show win0_2.index t 1 * 1024 + 1 * (y 1).val = (y 1).val; omega

theorem block_3 (c : Dev nD) (t : Fin cfg0.N) : (iblk m c 3 t : S1024x2304.Idx → EReal) = (V m c main_v29 : S1024x2304.Idx → EReal) := by
  funext y
  show V m c main_v29 _ = V m c main_v29 y
  refine congrArg _ (funext fun a => Fin.ext ?_)
  obtain ⟨-, -, ⟨h0, h1⟩, -⟩ := idx_whole t
  match a with
  | ⟨0, _⟩ => show win0_3.index t 0 * 1024 + 1 * (y 0).val = (y 0).val; omega
  | ⟨1, _⟩ => show win0_3.index t 1 * 2304 + 1 * (y 1).val = (y 1).val; omega

theorem block_4 (c : Dev nD) (t : Fin cfg0.N) : (iblk m c 4 t : S1x2304.Idx → EReal) = (V m c main_v20 : S1x2304.Idx → EReal) := by
  funext y
  show V m c main_v20 _ = V m c main_v20 y
  refine congrArg _ (funext fun a => Fin.ext ?_)
  obtain ⟨-, -, -, ⟨h0, h1⟩⟩ := idx_whole t
  match a with
  | ⟨0, _⟩ => show win0_4.index t 0 * 1 + 1 * (y 0).val = (y 0).val; omega
  | ⟨1, _⟩ => show win0_4.index t 1 * 2304 + 1 * (y 1).val = (y 1).val; omega

/-- The residual after the layer at a row, from the arguments. -/
def hRow (c : Dev nD) (b : Fin 16) (r : Fin 2048) : Fin 1024 → EReal :=
  ffnR (row3 (A := 16) (B := 2048) (m ((c.tc : Thread nD τ).loc main_arg0)) b r) (row1 (m ((c.tc : Thread nD τ).loc main_arg1))) (row3 (A := 1) (B := 1024) (m ((c.tc : Thread nD τ).loc main_arg2)) 0) (row3 (A := 1) (B := 2816) (m ((c.tc : Thread nD τ).loc main_arg3)) 0)

/-- The scales of the heads, from the arguments. -/
def gains (c : Dev nD) : Fin 2304 → EReal :=
  gainR (row1 (m ((c.tc : Thread nD τ).loc main_arg6))) (row1 (m ((c.tc : Thread nD τ).loc main_arg7))) (row1 (m ((c.tc : Thread nD τ).loc main_arg8))) (row1 (m ((c.tc : Thread nD τ).loc main_arg9)))

/-- The stored projection at a row, from the arguments. -/
def qRow (c : Dev nD) (b : Fin 16) (r : Fin 2048) : Fin 2304 → EReal :=
  qkvR (fun n => dot (rms (hRow m c b r) (row1 (m ((c.tc : Thread nD τ).loc main_arg4)))) (row3 (A := 1) (B := 1024) (m ((c.tc : Thread nD τ).loc main_arg5)) 0) (col n)) (gains m c)

def rowB (R : Fin 32768) : Fin 16 := ⟨R.val / 2048, by have := R.isLt; omega⟩
def rowR (R : Fin 32768) : Fin 2048 := ⟨R.val % 2048, Nat.mod_lt _ (by decide)⟩
theorem row_split (R : Fin 32768) : R.val = 2048 * (rowB R).val + (rowR R).val := by
  show R.val = 2048 * (R.val / 2048) + R.val % 2048
  omega

/-- The arrays the program leaves, index by index. -/
def final0 (c : Dev nD) : S32768x1024.Idx → EReal := fun i => hRow m c (rowB (i 0)) (rowR (i 0)) (i 1)
def final1 (c : Dev nD) : S32768x2304.Idx → EReal := fun i => qRow m c (rowB (i 0)) (rowR (i 0)) (i 1)

/-- Only the scales of the normed heads are read. -/
theorem qkvR_congr (Y g g' : Fin 2304 → EReal) (h : ∀ n : Fin 2304, (n.val < 1024 ∨ (1536 ≤ n.val ∧ n.val < 2176)) → g n = g' n) :
    qkvR Y g = qkvR Y g' := by
  funext n
  unfold qkvR
  split
  · rename_i hn
    rw [h n hn]
  · rfl

section Rows
variable (c : Dev nD) (t : Fin cfg0.N) (r : Fin 512)

theorem e0 : rowOf (iblk m c 0 t : S512x1024.Idx → EReal) r = row3 (A := 16) (B := 2048) (m ((c.tc : Thread nD τ).loc main_arg0)) (rowB (rowAt t r)) (rowR (rowAt t r)) :=
  funext fun n => (block_0 m c t r n).trans (v0_apply m c _ _ _ (row_split (rowAt t r)) n)
theorem e1 : rowOf (iblk m c 1 t : S1x1024.Idx → EReal) 0 = row1 (m ((c.tc : Thread nD τ).loc main_arg1)) :=
  funext fun n => (congrFun (block_1 m c t) _).trans (v31_apply m c n)
theorem e2 : rowOf (iblk m c 2 t : S1x1024.Idx → EReal) 0 = row1 (m ((c.tc : Thread nD τ).loc main_arg4)) :=
  funext fun n => (congrFun (block_2 m c t) _).trans (v35_apply m c n)
theorem e3 : rowOf (iblk m c 3 t : S1024x2304.Idx → EReal) = fun k n => row3 (A := 1) (B := 1024) (m ((c.tc : Thread nD τ).loc main_arg5)) 0 k (col n) :=
  funext fun k => funext fun n => (congrFun (block_3 m c t) _).trans (v29_apply m c k n)
theorem e4 (n : Fin 2304) (hn : n.val < 1024 ∨ (1536 ≤ n.val ∧ n.val < 2176)) : rowOf (iblk m c 4 t : S1x2304.Idx → EReal) 0 n = gains m c n :=
  (congrFun (block_4 m c t) _).trans (v20_apply m c n hn)
theorem eg : rowOf (guW (V m c main_v32) : S1024x5632.Idx → EReal) = row3 (A := 1) (B := 1024) (m ((c.tc : Thread nD τ).loc main_arg2)) 0 :=
  funext fun k => funext fun n => v32_apply m c k n
theorem ed : rowOf (dnW (V m c main_v33) : S2816x1024.Idx → EReal) = row3 (A := 1) (B := 2816) (m ((c.tc : Thread nD τ).loc main_arg3)) 0 :=
  funext fun k => funext fun n => v33_apply m c k n

/-- What grid point `t` leaves in row `r` of its block of the residual. -/
theorem tile_row : rowOf (tileAt m c t : S512x1024.Idx → EReal) r = hRow m c (rowB (rowAt t r)) (rowR (rowAt t r)) := by
  refine (out_row ..).trans ?_
  rw [e0, e1, eg, ed]
  rfl

/-- What grid point `t` leaves in row `r` of its block of the projection. -/
theorem qkv_tile_row : rowOf (qkvAt m c t : S512x2304.Idx → EReal) r = qRow m c (rowB (rowAt t r)) (rowR (rowAt t r)) := by
  refine (qkv_row _ _ r).trans ?_
  refine (qkvR_congr _ _ (gains m c) (e4 m c t)).trans ?_
  unfold qRow
  refine congrArg (fun Y => qkvR Y (gains m c)) ?_
  refine (proj_row _ _ r).trans ?_
  rw [norm_row, e0, e1, e2, e3, eg, ed]
  rfl

end Rows

theorem flushed_eq5 (c : Dev nD) (t : Fin cfg0.N) (_h : (cfg0.win 5).flush t = true) :
    (dats m 0 c).flushed 5 t = ((cfg0.win 5).blk t).view.read (Elt Ideal) (final0 m c) := by
  show (cfg0.win 5).cut (grid0.coords t) ((dats m 0 c).after 5 t) = _
  rw [after_5]
  funext y
  obtain ⟨-, ⟨h0, h1⟩, -⟩ := idx_rows t
  have e : ((cfg0.win 5).blk t).view.emb y = ix2 (rowAt t (y 0)) (y 1) := funext fun a => Fin.ext (by
    match a with
    | ⟨0, _⟩ => show win0_5.index t 0 * 512 + 1 * (y 0).val = 512 * t.val + (y 0).val; omega
    | ⟨1, _⟩ => show win0_5.index t 1 * 1024 + 1 * (y 1).val = (y 1).val; omega)
  show _ = final0 m c (((cfg0.win 5).blk t).view.emb y)
  rw [e]
  exact (congrArg (tileAt m c t : S512x1024.Idx → EReal) (eq_ix2 (n0 := 512) (n1 := 1024) y)).trans (congrFun (tile_row m c t (y 0)) (y 1))

theorem mem_blk5 (t : Fin cfg0.N) (i : S32768x1024.Idx) (h : t.val = (i 0).val / 512) : i ∈ ((cfg0.win 5).blk t).view.set := by
  show i ∈ ((View.whole main_v36_0).slice (win0_5.rect t)).set
  rw [View.set_slice_whole, Rect.mem_set_unit]
  obtain ⟨-, ⟨h0, h1⟩, -⟩ := idx_rows t
  have g1 : (i 1).val < 1024 := (i 1).isLt
  intro a
  match a with
  | ⟨0, _⟩ => show win0_5.index t 0 * 512 ≤ (i 0).val ∧ (i 0).val < win0_5.index t 0 * 512 + 512; omega
  | ⟨1, _⟩ => show win0_5.index t 1 * 1024 ≤ (i 1).val ∧ (i 1).val < win0_5.index t 1 * 1024 + 1024; omega

theorem arr_eq5 (c : Dev nD) : (dats m 0 c).arrAt 5 cfg0.N = final0 m c :=
  (dats m 0 c).arrAt_eq_of_cover 5 (final0 m c) (flushed_eq5 m c)
    (fun i => ⟨⟨(i 0).val / 512, by have h : (i 0).val < 32768 := (i 0).isLt; show (i 0).val / 512 < 64; omega⟩, flush0_5 _, mem_blk5 _ i rfl⟩)

theorem flushed_eq6 (c : Dev nD) (t : Fin cfg0.N) (_h : (cfg0.win 6).flush t = true) :
    (dats m 0 c).flushed 6 t = ((cfg0.win 6).blk t).view.read (Elt Ideal) (final1 m c) := by
  show (cfg0.win 6).cut (grid0.coords t) ((dats m 0 c).after 6 t) = _
  rw [after_6]
  funext y
  obtain ⟨-, -, ⟨h0, h1⟩⟩ := idx_rows t
  have e : ((cfg0.win 6).blk t).view.emb y = ix2 (rowAt t (y 0)) (y 1) := funext fun a => Fin.ext (by
    match a with
    | ⟨0, _⟩ => show win0_6.index t 0 * 512 + 1 * (y 0).val = 512 * t.val + (y 0).val; omega
    | ⟨1, _⟩ => show win0_6.index t 1 * 2304 + 1 * (y 1).val = (y 1).val; omega)
  show _ = final1 m c (((cfg0.win 6).blk t).view.emb y)
  rw [e]
  exact (congrArg (qkvAt m c t : S512x2304.Idx → EReal) (eq_ix2 (n0 := 512) (n1 := 2304) y)).trans (congrFun (qkv_tile_row m c t (y 0)) (y 1))

theorem mem_blk6 (t : Fin cfg0.N) (i : S32768x2304.Idx) (h : t.val = (i 0).val / 512) : i ∈ ((cfg0.win 6).blk t).view.set := by
  show i ∈ ((View.whole main_v36_1).slice (win0_6.rect t)).set
  rw [View.set_slice_whole, Rect.mem_set_unit]
  obtain ⟨-, -, ⟨h0, h1⟩⟩ := idx_rows t
  have g1 : (i 1).val < 2304 := (i 1).isLt
  intro a
  match a with
  | ⟨0, _⟩ => show win0_6.index t 0 * 512 ≤ (i 0).val ∧ (i 0).val < win0_6.index t 0 * 512 + 512; omega
  | ⟨1, _⟩ => show win0_6.index t 1 * 2304 ≤ (i 1).val ∧ (i 1).val < win0_6.index t 1 * 2304 + 2304; omega

theorem arr_eq6 (c : Dev nD) : (dats m 0 c).arrAt 6 cfg0.N = final1 m c :=
  (dats m 0 c).arrAt_eq_of_cover 6 (final1 m c) (flushed_eq6 m c)
    (fun i => ⟨⟨(i 0).val / 512, by have h : (i 0).val < 32768 := (i 0).isLt; show (i 0).val / 512 < 64; omega⟩, flush0_6 _, mem_blk6 _ i rfl⟩)

/-- The run, with the results named. -/
theorem run_result (ρ : Dev nD → PrngReg) : θ_run defs (onTc (τ := τ) (main (F := Ideal))) ⟨m, fun _ => 0, ρ⟩ fun r => ∀ c : Dev nD,
      r.2.mem ((c.tc : Thread nD τ).loc main_v36_0) = final0 m c
      ∧ r.2.mem ((c.tc : Thread nD τ).loc main_v36_1) = final1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 5).trans (arr_eq5 m c), ((h c).1 6).trans (arr_eq6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

/-- The reference's arrays, of the same arguments. -/
theorem ref_eq0 (c : Dev nD) : Cert.Ffn1RefIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) = final0 m c := by
  funext i
  refine (congrArg _ (eq_ix2 (n0 := 32768) (n1 := 1024) i)).trans ?_
  exact Cert.Ffn1Ref.ref_tile _ _ _ _ _ _ (i 0) (row_split (i 0)) (i 1)

theorem ref_eq1 (c : Dev nD) : Cert.Ffn1RefIdeal.Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = final1 m c := by
  funext i
  refine (congrArg _ (eq_ix2 (n0 := 32768) (n1 := 2304) i)).trans ?_
  exact Cert.Ffn1Ref.ref_qkv _ _ _ _ _ _ _ _ _ _ _ _ (i 0) (row_split (i 0)) (i 1)

end Cert.Ffn1Value

end
-- ==== Proof.lean ====
module

public import proofs.«01_k».proof.Defs
public import proofs.«01_k».proof.Proof.Gen.MixerA
public import proofs.«01_k».proof.Proof.Gen.MixerA.Frame
public import proofs.«01_k».proof.Proof.Gen.MixerAIdeal
public import proofs.«01_k».proof.Proof.Gen.MixerAIdeal.Value
public import proofs.«01_k».proof.Proof.Gen.MixerARefIdeal
public import proofs.«01_k».proof.Proof.Gen.MixerARefIdeal.Read
public import proofs.«01_k».proof.Proof.Gen.Pre_finite_scores
public import proofs.«01_k».proof.Proof.MixerAEq
public import Idealize.ShloMosaic.Adequacy
public import Idealize.ShloMosaic.Init
public import proofs.«01_k».proof.Proof.Gen.Merge
public import proofs.«01_k».proof.Proof.Gen.MergeIdeal
public import proofs.«01_k».proof.Proof.Gen.MergeRefIdeal
public import proofs.«01_k».proof.Proof.MergeBits
public import proofs.«01_k».proof.Proof.MergeValue
public import proofs.«01_k».proof.Proof.Gen.Ffn1
public import proofs.«01_k».proof.Proof.Gen.Ffn1Ideal
public import proofs.«01_k».proof.Proof.Gen.Ffn1Ideal.Frame
public import proofs.«01_k».proof.Proof.Gen.Ffn1Ideal.Skeleton
public import proofs.«01_k».proof.Proof.Gen.Ffn1RefIdeal
public import proofs.«01_k».proof.Proof.Gen.Ffn1RefIdeal.Read
public import proofs.«01_k».proof.Proof.Ffn1Bits
public import proofs.«01_k».proof.Proof.Ffn1Value

@[expose] public section

noncomputable section

namespace Cert.Proof

open Idealize.ShloMosaic Idealize.SL.Sem

theorem frame_MixerA : Cert.quiescent_MixerA := fun m ρ _ => Cert.MixerA.Gen.frame m ρ
theorem frame_MixerAIdeal : Cert.quiescent_MixerAIdeal := fun m ρ _ => Cert.MixerAIdeal.Gen.frame m ρ
theorem frame_MixerAIdeal_pre : Cert.quiescent_MixerAIdeal_pre_finite_scores := fun m ρ _ => Cert.MixerAIdeal.Gen.frame m ρ
theorem frame_MixerARefIdeal : Cert.quiescent_MixerARefIdeal := fun m ρ _ =>
  (θ_run Cert.MixerARefIdeal.defs _ _).mono (fun r h => ⟨fun c => (h c).2, sem_eq_zero_of_no_sems rfl r.2⟩) (Cert.MixerARefIdeal.Value.run m ρ)
theorem frame_MixerARefIdeal_pre : Cert.quiescent_MixerARefIdeal_pre_finite_scores := fun m ρ _ =>
  (θ_run Cert.MixerARefIdeal.defs _ _).mono (fun r h => ⟨fun c => (h c).2, sem_eq_zero_of_no_sems rfl r.2⟩) (Cert.MixerARefIdeal.Value.run m ρ)
theorem preserves_MixerA : Cert.preserves_MixerA_MixerAIdeal :=
  ⟨IdealRules.named_const.statement Cert.MixerAIdeal.κ "q_scale" .f32 0x3E38AA3B#32 _ rfl,
   IdealRules.named_const.statement Cert.MixerAIdeal.κ "log2e" .f32 0x3FB8AA3B#32 _ rfl⟩

theorem algebraic_MixerA : Cert.algebraic_MixerAIdeal_MixerARefIdeal_pre_finite_scores := by
  intro m g m' g' hp hargs
  refine ⟨fun c => Cert.MixerAValue.final m c, ?_, ?_⟩
  · exact (θ_run Cert.MixerAIdeal.defs _ _).mono (fun r h c => ⟨(h c).1.trans (Cert.MixerAValue.arr_eq m c), (h c).2⟩)
      (Cert.MixerAIdeal.Value.run_blocks m g)
  · refine (θ_run Cert.MixerARefIdeal.defs _ _).mono (fun r h c => ⟨(h c).1.trans ?_, (h c).2⟩) (Cert.MixerARefIdeal.Value.run m' g')
    obtain ⟨h0, h1, h2, -, h4⟩ := hargs c
    obtain ⟨f0, f1, f4⟩ := Cert.MixerAEq.finite m c hp
    rw [Cert.MixerARefIdeal.Read.val_main_v52_eq, h0, h1, h2, h4]
    exact (Cert.MixerAEq.final_eq m c _ _ _ f0 f1 f4).symm

theorem frame_Merge : Cert.quiescent_Merge := Cert.MergeBits.frame

theorem frame_MergeIdeal : Cert.quiescent_MergeIdeal := fun m ρ _ => Cert.MergeIdeal.Gen.frame m ρ

theorem frame_MergeRefIdeal : Cert.quiescent_MergeRefIdeal := fun m ρ _ =>
  (θ_run Cert.MergeRefIdeal.defs _ _).mono (fun r h => ⟨fun c => (h c).2, sem_eq_zero_of_no_sems rfl r.2⟩) (Cert.MergeRefIdeal.Value.run m ρ)

theorem preserves_Merge : Cert.preserves_Merge_MergeIdeal := trivial

theorem algebraic_Merge : Cert.algebraic_MergeIdeal_MergeRefIdeal := by
  intro m g m' g' _ hargs
  refine ⟨fun c => Cert.MergeValue.final m c, Cert.MergeValue.run_result m g, ?_⟩
  refine (θ_run Cert.MergeRefIdeal.defs _ _).mono (fun r h c => ⟨(h c).1.trans ?_, (h c).2⟩) (Cert.MergeRefIdeal.Value.run m' g')
  obtain ⟨h0, h1, h2, h3, h4, h5, h6, h7, h8, h9, h10, h11, h12, h13, h14⟩ := hargs c
  rw [Cert.MergeRefIdeal.Read.val_main_v92_eq]
  refine Eq.trans ?_ (Cert.MergeValue.ref_eq m c)
  rw [← h0, ← h1, ← h2, ← h3, ← h4, ← h5, ← h6, ← h7, ← h8, ← h9, ← h10, ← h11, ← h12, ← h13, ← h14]

theorem frame_Ffn1 : Cert.quiescent_Ffn1 := Cert.Ffn1Bits.frame

theorem frame_Ffn1Ideal : Cert.quiescent_Ffn1Ideal := fun m ρ _ => Cert.Ffn1Ideal.Gen.frame m ρ

theorem frame_Ffn1RefIdeal : Cert.quiescent_Ffn1RefIdeal := fun m ρ _ =>
  (θ_run Cert.Ffn1RefIdeal.defs _ _).mono (fun r h => ⟨fun c => (h c).2.2, sem_eq_zero_of_no_sems rfl r.2⟩) (Cert.Ffn1RefIdeal.Value.run m ρ)

theorem preserves_Ffn1 : Cert.preserves_Ffn1_Ffn1Ideal := trivial

theorem algebraic_Ffn1 : Cert.algebraic_Ffn1Ideal_Ffn1RefIdeal := by
  intro m g m' g' _ hargs
  refine ⟨fun c => Cert.Ffn1Value.final0 m c, fun c => Cert.Ffn1Value.final1 m c, Cert.Ffn1Value.run_result m g, ?_⟩
  refine (θ_run Cert.Ffn1RefIdeal.defs _ _).mono (fun r h c => ⟨(h c).1.trans ?_, (h c).2.1.trans ?_, (h c).2.2⟩)
    (Cert.Ffn1RefIdeal.Value.run m' g')
  · obtain ⟨h0, h1, h2, h3, -⟩ := hargs c
    rw [Cert.Ffn1RefIdeal.Read.val_main_v119_eq]
    refine Eq.trans ?_ (Cert.Ffn1Value.ref_eq0 m c)
    rw [← h0, ← h1, ← h2, ← h3]
  · obtain ⟨h0, h1, h2, h3, h4, h5, h6, h7, h8, h9⟩ := hargs c
    rw [Cert.Ffn1RefIdeal.Read.val_main_v121_eq]
    refine Eq.trans ?_ (Cert.Ffn1Value.ref_eq1 m c)
    rw [← h0, ← h1, ← h2, ← h3, ← h4, ← h5, ← h6, ← h7, ← h8, ← h9]

theorem claim : Cert.Claim :=
  ⟨Cert.MixerA.Gen.facts, Cert.MixerAIdeal.Gen.facts, Cert.MixerARefIdeal.Gen.facts, Cert.Merge.Gen.facts, Cert.MergeIdeal.Gen.facts,
    Cert.MergeRefIdeal.Gen.facts, Cert.Ffn1.Gen.facts, Cert.Ffn1Ideal.Gen.facts, Cert.Ffn1RefIdeal.Gen.facts, Cert.Pre_finite_scores.Gen.facts,
    frame_MixerA, frame_MixerAIdeal, frame_MixerAIdeal_pre, frame_MixerARefIdeal, frame_MixerARefIdeal_pre,
    frame_Merge, frame_MergeIdeal, frame_MergeRefIdeal,
    frame_Ffn1, frame_Ffn1Ideal, frame_Ffn1RefIdeal,
    preserves_MixerA, algebraic_MixerA, preserves_Merge, algebraic_Merge, preserves_Ffn1, algebraic_Ffn1⟩

end Cert.Proof

end
